-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x1536 : Shape := ⟨3, ![12, 128, 1536]⟩
abbrev S1536x4608 : Shape := ⟨2, ![1536, 4608]⟩
abbrev S1536 : Shape := ⟨1, ![1536]⟩
abbrev S2x1536 : Shape := ⟨2, ![2, 1536]⟩
abbrev S12x128x4608 : Shape := ⟨3, ![12, 128, 4608]⟩
abbrev S12x1536 : Shape := ⟨2, ![12, 1536]⟩
abbrev S12x128 : Shape := ⟨2, ![12, 128]⟩
abbrev S1x1536 : Shape := ⟨2, ![1, 1536]⟩
abbrev S2x128x1536 : Shape := ⟨3, ![2, 128, 1536]⟩
abbrev S2x128x4608 : Shape := ⟨3, ![2, 128, 4608]⟩
abbrev S24x136x128 : Shape := ⟨3, ![24, 136, 128]⟩
abbrev S2x128x128 : Shape := ⟨3, ![2, 128, 128]⟩
abbrev S800x128 : Shape := ⟨2, ![800, 128]⟩
abbrev S24x32x128 : Shape := ⟨3, ![24, 32, 128]⟩
abbrev S144x128 : Shape := ⟨2, ![144, 128]⟩
abbrev S4x8x1536 : Shape := ⟨3, ![4, 8, 1536]⟩
abbrev S8x128 : Shape := ⟨2, ![8, 128]⟩
abbrev S4x128 : Shape := ⟨2, ![4, 128]⟩
abbrev S1x128 : Shape := ⟨2, ![1, 128]⟩
abbrev S128x128 : Shape := ⟨2, ![128, 128]⟩
abbrev S1x128x128 : Shape := ⟨3, ![1, 128, 128]⟩
abbrev S1x1x128 : Shape := ⟨3, ![1, 1, 128]⟩
abbrev S1x32x128 : Shape := ⟨3, ![1, 32, 128]⟩
abbrev S32x128 : Shape := ⟨2, ![32, 128]⟩
abbrev S4x8x128 : Shape := ⟨3, ![4, 8, 128]⟩
abbrev S1x8x128 : Shape := ⟨3, ![1, 8, 128]⟩
abbrev S8 : Shape := ⟨1, ![8]⟩
abbrev S8x1 : Shape := ⟨2, ![8, 1]⟩
abbrev S256x4608 : Shape := ⟨2, ![256, 4608]⟩
abbrev S256x256 : Shape := ⟨2, ![256, 256]⟩
abbrev S1x8x1536 : Shape := ⟨3, ![1, 8, 1536]⟩
abbrev S8x1536 : Shape := ⟨2, ![8, 1536]⟩

abbrev nBuf : Space → Nat
  | .hbm => 22
  | .vmem => 39
  | .smem => 0
  | _ => 0

abbrev bufTy : (tb : Table) → Fin (tcTables nBuf tb) → BufTy
  | .hbm, ⟨0, _⟩ => ⟨S12x128x1536, .bf16⟩
  | .hbm, ⟨1, _⟩ => ⟨S1536x4608, .fp8e4m3⟩
  | .hbm, ⟨2, _⟩ => ⟨S1536, .f32⟩
  | .hbm, ⟨3, _⟩ => ⟨S1536, .f32⟩
  | .hbm, ⟨4, _⟩ => ⟨S1536, .f32⟩
  | .hbm, ⟨5, _⟩ => ⟨S2x1536, .f32⟩
  | .hbm, ⟨6, _⟩ => ⟨S12x128x4608, .bf16⟩
  | .hbm, ⟨7, _⟩ => ⟨S12x128x1536, .f32⟩
  | .hbm, ⟨8, _⟩ => ⟨S12x1536, .f32⟩
  | .hbm, ⟨9, _⟩ => ⟨S12x128x1536, .fp8e5m2⟩
  | .hbm, ⟨10, _⟩ => ⟨S12x128, .f32⟩
  | .hbm, ⟨11, _⟩ => ⟨S12x1536, .f32⟩
  | .hbm, ⟨12, _⟩ => ⟨S1x1536, .f32⟩
  | .hbm, ⟨13, _⟩ => ⟨S1x1536, .f32⟩
  | .hbm, ⟨14, _⟩ => ⟨S1x1536, .f32⟩
  | .hbm, ⟨15, _⟩ => ⟨S12x128x1536, .bf16⟩
  | .hbm, ⟨16, _⟩ => ⟨S12x1536, .f32⟩
  | .hbm, ⟨17, _⟩ => ⟨S1x1536, .f32⟩
  | .hbm, ⟨18, _⟩ => ⟨S1x1536, .f32⟩
  | .hbm, ⟨19, _⟩ => ⟨S2x1536, .f32⟩
  | .hbm, ⟨20, _⟩ => ⟨S12x128x4608, .fp8e5m2⟩
  | .hbm, ⟨21, _⟩ => ⟨S12x128, .f32⟩
  | .local _ .vmem, ⟨0, _⟩ => ⟨S2x128x1536, .bf16⟩
  | .local _ .vmem, ⟨1, _⟩ => ⟨S2x128x1536, .bf16⟩
  | .local _ .vmem, ⟨2, _⟩ => ⟨S1536x4608, .fp8e4m3⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S2x1536, .f32⟩
  | .local _ .vmem, ⟨7, _⟩ => ⟨S2x128x4608, .bf16⟩
  | .local _ .vmem, ⟨8, _⟩ => ⟨S2x128x4608, .bf16⟩
  | .local _ .vmem, ⟨9, _⟩ => ⟨S2x128x1536, .f32⟩
  | .local _ .vmem, ⟨10, _⟩ => ⟨S2x128x1536, .f32⟩
  | .local _ .vmem, ⟨11, _⟩ => ⟨S12x1536, .f32⟩
  | .local _ .vmem, ⟨12, _⟩ => ⟨S2x128x1536, .fp8e5m2⟩
  | .local _ .vmem, ⟨13, _⟩ => ⟨S2x128x1536, .fp8e5m2⟩
  | .local _ .vmem, ⟨14, _⟩ => ⟨S12x128, .f32⟩
  | .local _ .vmem, ⟨15, _⟩ => ⟨S12x1536, .f32⟩
  | .local _ .vmem, ⟨16, _⟩ => ⟨S2x128x1536, .bf16⟩
  | .local _ .vmem, ⟨17, _⟩ => ⟨S2x128x1536, .bf16⟩
  | .local _ .vmem, ⟨18, _⟩ => ⟨S12x1536, .f32⟩
  | .local _ .vmem, ⟨19, _⟩ => ⟨S1x1536, .f32⟩
  | .local _ .vmem, ⟨20, _⟩ => ⟨S1x1536, .f32⟩
  | .local _ .vmem, ⟨21, _⟩ => ⟨S2x1536, .f32⟩
  | .local _ .vmem, ⟨22, _⟩ => ⟨S2x128x4608, .fp8e5m2⟩
  | .local _ .vmem, ⟨23, _⟩ => ⟨S2x128x4608, .fp8e5m2⟩
  | .local _ .vmem, ⟨24, _⟩ => ⟨S12x128, .f32⟩
  | .local _ .vmem, ⟨25, _⟩ => ⟨S24x136x128, .f32⟩
  | .local _ .vmem, ⟨26, _⟩ => ⟨S2x128x128, .f32⟩
  | .local _ .vmem, ⟨27, _⟩ => ⟨S2x128x128, .f32⟩
  | .local _ .vmem, ⟨28, _⟩ => ⟨S800x128, .f32⟩
  | .local _ .vmem, ⟨29, _⟩ => ⟨S800x128, .f32⟩
  | .local _ .vmem, ⟨30, _⟩ => ⟨S800x128, .f32⟩
  | .local _ .vmem, ⟨31, _⟩ => ⟨S800x128, .f32⟩
  | .local _ .vmem, ⟨32, _⟩ => ⟨S24x32x128, .f32⟩
  | .local _ .vmem, ⟨33, _⟩ => ⟨S24x32x128, .f32⟩
  | .local _ .vmem, ⟨34, _⟩ => ⟨S24x32x128, .f32⟩
  | .local _ .vmem, ⟨35, _⟩ => ⟨S2x128x1536, .f32⟩
  | .local _ .vmem, ⟨36, _⟩ => ⟨S144x128, .f32⟩
  | .local _ .vmem, ⟨37, _⟩ => ⟨S144x128, .f32⟩
  | .local _ .vmem, ⟨38, _⟩ => ⟨S4x8x1536, .f32⟩
  | _, _ => ⟨S12x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_scratch11 : Ref sig .tc := ⟨.vmem, 36, rfl⟩
abbrev cc0_scratch12 : Ref sig .tc := ⟨.vmem, 37, rfl⟩
abbrev cc0_scratch13 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24

abbrev nD : Nat := 1
abbrev τ : Topo := Topo.v7x

variable {F : FTy → Type} [FloatOps F]

abbrev grid0 : Pipeline.Grid := ⟨1, ![6], ![false]⟩

def k0_off1 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v5 : Index := Scalar.indexCast v4
  let c0 : Index := 0#32
  ![v5.toNat, 0]
def k0_off2 (i : grid0.Coords) (c0_i32_5 : BitVec 32) : Fin 2 → Nat :=
  let arg0 : BitVec 32 := BitVec.ofNat 32 (i 0).val
  let c24_i32 : BitVec 32 := 24#32
  let v13 : BitVec 32 := Scalar.muli arg0 c24_i32
  let v14 : BitVec 32 := Scalar.addi v13 c0_i32_5
  let v15 : Index := Scalar.indexCast v14
  let c0_6 : Index := 0#32
  ![v15.toNat, 0]
@[reducible] def k0_t1_loop : Scf.Loop 32 :=
  let c0_i32_242 : BitVec 32 := 0#32
  let c4_i32_243 : BitVec 32 := 4#32
  let v311 : BitVec 32 := Scalar.addi c0_i32_242 c4_i32_243
  let c1_i32_244 : BitVec 32 := 1#32
  ⟨c0_i32_242, v311, c1_i32_244⟩
def k0_mult1 (k0_t1 : Fin k0_t1_loop.trips) : BitVec 32 :=
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  v336
def k0_off3 (k0_t1 : Fin k0_t1_loop.trips) : Fin 3 → Nat :=
  let c0_275 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v344 : Index := Scalar.indexCast v337
  let c0_276 : Index := 0#32
  ![0, v344.toNat, 0]
def k0_off4 (k0_t1 : Fin k0_t1_loop.trips) : Fin 3 → Nat :=
  let c0_277 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v348 : Index := Scalar.indexCast v337
  let c0_278 : Index := 0#32
  ![0, v348.toNat, 0]
def k0_off5 (k0_t1 : Fin k0_t1_loop.trips) : Fin 3 → Nat :=
  let c0_279 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v352 : Index := Scalar.indexCast v337
  let c0_280 : Index := 0#32
  ![0, v352.toNat, 0]
def k0_off6 (k0_t1 : Fin k0_t1_loop.trips) : Fin 3 → Nat :=
  let c0_281 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v356 : Index := Scalar.indexCast v337
  let c1536 : Index := 1536#32
  ![0, v356.toNat, 1536]
def k0_off7 (k0_t1 : Fin k0_t1_loop.trips) : Fin 3 → Nat :=
  let c0_282 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v360 : Index := Scalar.indexCast v337
  let c3072 : Index := 3072#32
  ![0, v360.toNat, 3072]
def k0_off8 (k0_t1 : Fin k0_t1_loop.trips) : Fin 3 → Nat :=
  let c0_284 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_283 : BitVec 32 := 8#32
  let v364 : BitVec 32 := Scalar.addi v337 c8_i32_283
  let v365 : Index := Scalar.indexCast v364
  let c0_285 : Index := 0#32
  ![0, v365.toNat, 0]
def k0_off9 (k0_t1 : Fin k0_t1_loop.trips) : Fin 3 → Nat :=
  let c0_288 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_286 : BitVec 32 := 8#32
  let v368 : BitVec 32 := Scalar.addi v337 c8_i32_286
  let c1_i32_287 : BitVec 32 := 1#32
  let v369 : BitVec 32 := Scalar.subi v368 c1_i32_287
  let v370 : Index := Scalar.indexCast v369
  let c0_289 : Index := 0#32
  ![0, v370.toNat, 0]
def k0_off10 (k0_t1 : Fin k0_t1_loop.trips) : Fin 3 → Nat :=
  let c1_326 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v470 : Index := Scalar.indexCast v337
  let c0_327 : Index := 0#32
  ![1, v470.toNat, 0]
def k0_off11 (k0_t1 : Fin k0_t1_loop.trips) : Fin 3 → Nat :=
  let c1_328 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v474 : Index := Scalar.indexCast v337
  let c0_329 : Index := 0#32
  ![1, v474.toNat, 0]
def k0_off12 (k0_t1 : Fin k0_t1_loop.trips) : Fin 3 → Nat :=
  let c1_330 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v478 : Index := Scalar.indexCast v337
  let c0_331 : Index := 0#32
  ![1, v478.toNat, 0]
def k0_off13 (k0_t1 : Fin k0_t1_loop.trips) : Fin 3 → Nat :=
  let c1_332 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v482 : Index := Scalar.indexCast v337
  let c1536_333 : Index := 1536#32
  ![1, v482.toNat, 1536]
def k0_off14 (k0_t1 : Fin k0_t1_loop.trips) : Fin 3 → Nat :=
  let c1_334 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v486 : Index := Scalar.indexCast v337
  let c3072_335 : Index := 3072#32
  ![1, v486.toNat, 3072]
def k0_off15 (k0_t1 : Fin k0_t1_loop.trips) : Fin 3 → Nat :=
  let c12_337 : Index := 12#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_336 : BitVec 32 := 8#32
  let v490 : BitVec 32 := Scalar.addi v337 c8_i32_336
  let v491 : Index := Scalar.indexCast v490
  let c0_338 : Index := 0#32
  ![12, v491.toNat, 0]
def k0_off16 (k0_t1 : Fin k0_t1_loop.trips) : Fin 3 → Nat :=
  let c12_341 : Index := 12#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_339 : BitVec 32 := 8#32
  let v494 : BitVec 32 := Scalar.addi v337 c8_i32_339
  let c1_i32_340 : BitVec 32 := 1#32
  let v495 : BitVec 32 := Scalar.subi v494 c1_i32_340
  let v496 : Index := Scalar.indexCast v495
  let c0_342 : Index := 0#32
  ![12, v496.toNat, 0]
def k0_off17 (k0_t1 : Fin k0_t1_loop.trips) : Fin 3 → Nat :=
  let c0_400 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v616 : Index := Scalar.indexCast v337
  let c128_401 : Index := 128#32
  ![0, v616.toNat, 128]
def k0_off18 (k0_t1 : Fin k0_t1_loop.trips) : Fin 3 → Nat :=
  let c0_404 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v624 : Index := Scalar.indexCast v337
  let c128_405 : Index := 128#32
  ![0, v624.toNat, 128]
def k0_off19 (k0_t1 : Fin k0_t1_loop.trips) : Fin 3 → Nat :=
  let c0_406 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v628 : Index := Scalar.indexCast v337
  let c1664 : Index := 1664#32
  ![0, v628.toNat, 1664]
def k0_off20 (k0_t1 : Fin k0_t1_loop.trips) : Fin 3 → Nat :=
  let c0_407 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v632 : Index := Scalar.indexCast v337
  let c3200 : Index := 3200#32
  ![0, v632.toNat, 3200]
def k0_off21 (k0_t1 : Fin k0_t1_loop.trips) : Fin 3 → Nat :=
  let c1_409 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_408 : BitVec 32 := 8#32
  let v636 : BitVec 32 := Scalar.addi v337 c8_i32_408
  let v637 : Index := Scalar.indexCast v636
  let c0_410 : Index := 0#32
  ![1, v637.toNat, 0]
def k0_off22 (k0_t1 : Fin k0_t1_loop.trips) : Fin 3 → Nat :=
  let c1_413 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_411 : BitVec 32 := 8#32
  let v640 : BitVec 32 := Scalar.addi v337 c8_i32_411
  let c1_i32_412 : BitVec 32 := 1#32
  let v641 : BitVec 32 := Scalar.subi v640 c1_i32_412
  let v642 : Index := Scalar.indexCast v641
  let c0_414 : Index := 0#32
  ![1, v642.toNat, 0]
def k0_off23 (k0_t1 : Fin k0_t1_loop.trips) : Fin 3 → Nat :=
  let c1_452 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v742 : Index := Scalar.indexCast v337
  let c128_453 : Index := 128#32
  ![1, v742.toNat, 128]
def k0_off24 (k0_t1 : Fin k0_t1_loop.trips) : Fin 3 → Nat :=
  let c1_456 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v750 : Index := Scalar.indexCast v337
  let c128_457 : Index := 128#32
  ![1, v750.toNat, 128]
def k0_off25 (k0_t1 : Fin k0_t1_loop.trips) : Fin 3 → Nat :=
  let c1_458 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v754 : Index := Scalar.indexCast v337
  let c1664_459 : Index := 1664#32
  ![1, v754.toNat, 1664]
def k0_off26 (k0_t1 : Fin k0_t1_loop.trips) : Fin 3 → Nat :=
  let c1_460 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v758 : Index := Scalar.indexCast v337
  let c3200_461 : Index := 3200#32
  ![1, v758.toNat, 3200]
def k0_off27 (k0_t1 : Fin k0_t1_loop.trips) : Fin 3 → Nat :=
  let c13_463 : Index := 13#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_462 : BitVec 32 := 8#32
  let v762 : BitVec 32 := Scalar.addi v337 c8_i32_462
  let v763 : Index := Scalar.indexCast v762
  let c0_464 : Index := 0#32
  ![13, v763.toNat, 0]
def k0_off28 (k0_t1 : Fin k0_t1_loop.trips) : Fin 3 → Nat :=
  let c13_467 : Index := 13#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_465 : BitVec 32 := 8#32
  let v766 : BitVec 32 := Scalar.addi v337 c8_i32_465
  let c1_i32_466 : BitVec 32 := 1#32
  let v767 : BitVec 32 := Scalar.subi v766 c1_i32_466
  let v768 : Index := Scalar.indexCast v767
  let c0_468 : Index := 0#32
  ![13, v768.toNat, 0]
def k0_off29 (k0_t1 : Fin k0_t1_loop.trips) : Fin 3 → Nat :=
  let c0_526 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v888 : Index := Scalar.indexCast v337
  let c256_527 : Index := 256#32
  ![0, v888.toNat, 256]
def k0_off30 (k0_t1 : Fin k0_t1_loop.trips) : Fin 3 → Nat :=
  let c0_530 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v896 : Index := Scalar.indexCast v337
  let c256_531 : Index := 256#32
  ![0, v896.toNat, 256]
def k0_off31 (k0_t1 : Fin k0_t1_loop.trips) : Fin 3 → Nat :=
  let c0_532 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v900 : Index := Scalar.indexCast v337
  let c1792 : Index := 1792#32
  ![0, v900.toNat, 1792]
def k0_off32 (k0_t1 : Fin k0_t1_loop.trips) : Fin 3 → Nat :=
  let c0_533 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v904 : Index := Scalar.indexCast v337
  let c3328 : Index := 3328#32
  ![0, v904.toNat, 3328]
def k0_off33 (k0_t1 : Fin k0_t1_loop.trips) : Fin 3 → Nat :=
  let c2_535 : Index := 2#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_534 : BitVec 32 := 8#32
  let v908 : BitVec 32 := Scalar.addi v337 c8_i32_534
  let v909 : Index := Scalar.indexCast v908
  let c0_536 : Index := 0#32
  ![2, v909.toNat, 0]
def k0_off34 (k0_t1 : Fin k0_t1_loop.trips) : Fin 3 → Nat :=
  let c2_539 : Index := 2#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_537 : BitVec 32 := 8#32
  let v912 : BitVec 32 := Scalar.addi v337 c8_i32_537
  let c1_i32_538 : BitVec 32 := 1#32
  let v913 : BitVec 32 := Scalar.subi v912 c1_i32_538
  let v914 : Index := Scalar.indexCast v913
  let c0_540 : Index := 0#32
  ![2, v914.toNat, 0]
def k0_off35 (k0_t1 : Fin k0_t1_loop.trips) : Fin 3 → Nat :=
  let c1_578 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1014 : Index := Scalar.indexCast v337
  let c256_579 : Index := 256#32
  ![1, v1014.toNat, 256]
def k0_off36 (k0_t1 : Fin k0_t1_loop.trips) : Fin 3 → Nat :=
  let c1_582 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1022 : Index := Scalar.indexCast v337
  let c256_583 : Index := 256#32
  ![1, v1022.toNat, 256]
def k0_off37 (k0_t1 : Fin k0_t1_loop.trips) : Fin 3 → Nat :=
  let c1_584 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1026 : Index := Scalar.indexCast v337
  let c1792_585 : Index := 1792#32
  ![1, v1026.toNat, 1792]
def k0_off38 (k0_t1 : Fin k0_t1_loop.trips) : Fin 3 → Nat :=
  let c1_586 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1030 : Index := Scalar.indexCast v337
  let c3328_587 : Index := 3328#32
  ![1, v1030.toNat, 3328]
def k0_off39 (k0_t1 : Fin k0_t1_loop.trips) : Fin 3 → Nat :=
  let c14_589 : Index := 14#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_588 : BitVec 32 := 8#32
  let v1034 : BitVec 32 := Scalar.addi v337 c8_i32_588
  let v1035 : Index := Scalar.indexCast v1034
  let c0_590 : Index := 0#32
  ![14, v1035.toNat, 0]
def k0_off40 (k0_t1 : Fin k0_t1_loop.trips) : Fin 3 → Nat :=
  let c14_593 : Index := 14#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_591 : BitVec 32 := 8#32
  let v1038 : BitVec 32 := Scalar.addi v337 c8_i32_591
  let c1_i32_592 : BitVec 32 := 1#32
  let v1039 : BitVec 32 := Scalar.subi v1038 c1_i32_592
  let v1040 : Index := Scalar.indexCast v1039
  let c0_594 : Index := 0#32
  ![14, v1040.toNat, 0]
def k0_off41 (k0_t1 : Fin k0_t1_loop.trips) : Fin 3 → Nat :=
  let c0_652 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1160 : Index := Scalar.indexCast v337
  let c384_653 : Index := 384#32
  ![0, v1160.toNat, 384]
def k0_off42 (k0_t1 : Fin k0_t1_loop.trips) : Fin 3 → Nat :=
  let c0_656 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1168 : Index := Scalar.indexCast v337
  let c384_657 : Index := 384#32
  ![0, v1168.toNat, 384]
def k0_off43 (k0_t1 : Fin k0_t1_loop.trips) : Fin 3 → Nat :=
  let c0_658 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1172 : Index := Scalar.indexCast v337
  let c1920 : Index := 1920#32
  ![0, v1172.toNat, 1920]
def k0_off44 (k0_t1 : Fin k0_t1_loop.trips) : Fin 3 → Nat :=
  let c0_659 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1176 : Index := Scalar.indexCast v337
  let c3456 : Index := 3456#32
  ![0, v1176.toNat, 3456]
def k0_off45 (k0_t1 : Fin k0_t1_loop.trips) : Fin 3 → Nat :=
  let c3_661 : Index := 3#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_660 : BitVec 32 := 8#32
  let v1180 : BitVec 32 := Scalar.addi v337 c8_i32_660
  let v1181 : Index := Scalar.indexCast v1180
  let c0_662 : Index := 0#32
  ![3, v1181.toNat, 0]
def k0_off46 (k0_t1 : Fin k0_t1_loop.trips) : Fin 3 → Nat :=
  let c3_665 : Index := 3#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_663 : BitVec 32 := 8#32
  let v1184 : BitVec 32 := Scalar.addi v337 c8_i32_663
  let c1_i32_664 : BitVec 32 := 1#32
  let v1185 : BitVec 32 := Scalar.subi v1184 c1_i32_664
  let v1186 : Index := Scalar.indexCast v1185
  let c0_666 : Index := 0#32
  ![3, v1186.toNat, 0]
def k0_off47 (k0_t1 : Fin k0_t1_loop.trips) : Fin 3 → Nat :=
  let c1_704 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1286 : Index := Scalar.indexCast v337
  let c384_705 : Index := 384#32
  ![1, v1286.toNat, 384]
def k0_off48 (k0_t1 : Fin k0_t1_loop.trips) : Fin 3 → Nat :=
  let c1_708 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1294 : Index := Scalar.indexCast v337
  let c384_709 : Index := 384#32
  ![1, v1294.toNat, 384]
def k0_off49 (k0_t1 : Fin k0_t1_loop.trips) : Fin 3 → Nat :=
  let c1_710 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1298 : Index := Scalar.indexCast v337
  let c1920_711 : Index := 1920#32
  ![1, v1298.toNat, 1920]
def k0_off50 (k0_t1 : Fin k0_t1_loop.trips) : Fin 3 → Nat :=
  let c1_712 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1302 : Index := Scalar.indexCast v337
  let c3456_713 : Index := 3456#32
  ![1, v1302.toNat, 3456]
def k0_off51 (k0_t1 : Fin k0_t1_loop.trips) : Fin 3 → Nat :=
  let c15_715 : Index := 15#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_714 : BitVec 32 := 8#32
  let v1306 : BitVec 32 := Scalar.addi v337 c8_i32_714
  let v1307 : Index := Scalar.indexCast v1306
  let c0_716 : Index := 0#32
  ![15, v1307.toNat, 0]
def k0_off52 (k0_t1 : Fin k0_t1_loop.trips) : Fin 3 → Nat :=
  let c15_719 : Index := 15#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_717 : BitVec 32 := 8#32
  let v1310 : BitVec 32 := Scalar.addi v337 c8_i32_717
  let c1_i32_718 : BitVec 32 := 1#32
  let v1311 : BitVec 32 := Scalar.subi v1310 c1_i32_718
  let v1312 : Index := Scalar.indexCast v1311
  let c0_720 : Index := 0#32
  ![15, v1312.toNat, 0]
def k0_off53 (k0_t1 : Fin k0_t1_loop.trips) : Fin 3 → Nat :=
  let c0_778 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1432 : Index := Scalar.indexCast v337
  let c512_779 : Index := 512#32
  ![0, v1432.toNat, 512]
def k0_off54 (k0_t1 : Fin k0_t1_loop.trips) : Fin 3 → Nat :=
  let c0_782 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1440 : Index := Scalar.indexCast v337
  let c512_783 : Index := 512#32
  ![0, v1440.toNat, 512]
def k0_off55 (k0_t1 : Fin k0_t1_loop.trips) : Fin 3 → Nat :=
  let c0_784 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1444 : Index := Scalar.indexCast v337
  let c2048 : Index := 2048#32
  ![0, v1444.toNat, 2048]
def k0_off56 (k0_t1 : Fin k0_t1_loop.trips) : Fin 3 → Nat :=
  let c0_785 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1448 : Index := Scalar.indexCast v337
  let c3584 : Index := 3584#32
  ![0, v1448.toNat, 3584]
def k0_off57 (k0_t1 : Fin k0_t1_loop.trips) : Fin 3 → Nat :=
  let c4_787 : Index := 4#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_786 : BitVec 32 := 8#32
  let v1452 : BitVec 32 := Scalar.addi v337 c8_i32_786
  let v1453 : Index := Scalar.indexCast v1452
  let c0_788 : Index := 0#32
  ![4, v1453.toNat, 0]
def k0_off58 (k0_t1 : Fin k0_t1_loop.trips) : Fin 3 → Nat :=
  let c4_791 : Index := 4#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_789 : BitVec 32 := 8#32
  let v1456 : BitVec 32 := Scalar.addi v337 c8_i32_789
  let c1_i32_790 : BitVec 32 := 1#32
  let v1457 : BitVec 32 := Scalar.subi v1456 c1_i32_790
  let v1458 : Index := Scalar.indexCast v1457
  let c0_792 : Index := 0#32
  ![4, v1458.toNat, 0]
def k0_off59 (k0_t1 : Fin k0_t1_loop.trips) : Fin 3 → Nat :=
  let c1_830 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1558 : Index := Scalar.indexCast v337
  let c512_831 : Index := 512#32
  ![1, v1558.toNat, 512]
def k0_off60 (k0_t1 : Fin k0_t1_loop.trips) : Fin 3 → Nat :=
  let c1_834 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1566 : Index := Scalar.indexCast v337
  let c512_835 : Index := 512#32
  ![1, v1566.toNat, 512]
def k0_off61 (k0_t1 : Fin k0_t1_loop.trips) : Fin 3 → Nat :=
  let c1_836 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1570 : Index := Scalar.indexCast v337
  let c2048_837 : Index := 2048#32
  ![1, v1570.toNat, 2048]
def k0_off62 (k0_t1 : Fin k0_t1_loop.trips) : Fin 3 → Nat :=
  let c1_838 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1574 : Index := Scalar.indexCast v337
  let c3584_839 : Index := 3584#32
  ![1, v1574.toNat, 3584]
def k0_off63 (k0_t1 : Fin k0_t1_loop.trips) : Fin 3 → Nat :=
  let c16_841 : Index := 16#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_840 : BitVec 32 := 8#32
  let v1578 : BitVec 32 := Scalar.addi v337 c8_i32_840
  let v1579 : Index := Scalar.indexCast v1578
  let c0_842 : Index := 0#32
  ![16, v1579.toNat, 0]
def k0_off64 (k0_t1 : Fin k0_t1_loop.trips) : Fin 3 → Nat :=
  let c16_845 : Index := 16#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_843 : BitVec 32 := 8#32
  let v1582 : BitVec 32 := Scalar.addi v337 c8_i32_843
  let c1_i32_844 : BitVec 32 := 1#32
  let v1583 : BitVec 32 := Scalar.subi v1582 c1_i32_844
  let v1584 : Index := Scalar.indexCast v1583
  let c0_846 : Index := 0#32
  ![16, v1584.toNat, 0]
def k0_off65 (k0_t1 : Fin k0_t1_loop.trips) : Fin 3 → Nat :=
  let c0_904 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1704 : Index := Scalar.indexCast v337
  let c640_905 : Index := 640#32
  ![0, v1704.toNat, 640]
def k0_off66 (k0_t1 : Fin k0_t1_loop.trips) : Fin 3 → Nat :=
  let c0_908 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1712 : Index := Scalar.indexCast v337
  let c640_909 : Index := 640#32
  ![0, v1712.toNat, 640]
def k0_off67 (k0_t1 : Fin k0_t1_loop.trips) : Fin 3 → Nat :=
  let c0_910 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1716 : Index := Scalar.indexCast v337
  let c2176 : Index := 2176#32
  ![0, v1716.toNat, 2176]
def k0_off68 (k0_t1 : Fin k0_t1_loop.trips) : Fin 3 → Nat :=
  let c0_911 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1720 : Index := Scalar.indexCast v337
  let c3712 : Index := 3712#32
  ![0, v1720.toNat, 3712]
def k0_off69 (k0_t1 : Fin k0_t1_loop.trips) : Fin 3 → Nat :=
  let c5_913 : Index := 5#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_912 : BitVec 32 := 8#32
  let v1724 : BitVec 32 := Scalar.addi v337 c8_i32_912
  let v1725 : Index := Scalar.indexCast v1724
  let c0_914 : Index := 0#32
  ![5, v1725.toNat, 0]
def k0_off70 (k0_t1 : Fin k0_t1_loop.trips) : Fin 3 → Nat :=
  let c5_917 : Index := 5#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_915 : BitVec 32 := 8#32
  let v1728 : BitVec 32 := Scalar.addi v337 c8_i32_915
  let c1_i32_916 : BitVec 32 := 1#32
  let v1729 : BitVec 32 := Scalar.subi v1728 c1_i32_916
  let v1730 : Index := Scalar.indexCast v1729
  let c0_918 : Index := 0#32
  ![5, v1730.toNat, 0]
def k0_off71 (k0_t1 : Fin k0_t1_loop.trips) : Fin 3 → Nat :=
  let c1_956 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1830 : Index := Scalar.indexCast v337
  let c640_957 : Index := 640#32
  ![1, v1830.toNat, 640]
def k0_off72 (k0_t1 : Fin k0_t1_loop.trips) : Fin 3 → Nat :=
  let c1_960 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1838 : Index := Scalar.indexCast v337
  let c640_961 : Index := 640#32
  ![1, v1838.toNat, 640]
def k0_off73 (k0_t1 : Fin k0_t1_loop.trips) : Fin 3 → Nat :=
  let c1_962 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1842 : Index := Scalar.indexCast v337
  let c2176_963 : Index := 2176#32
  ![1, v1842.toNat, 2176]
def k0_off74 (k0_t1 : Fin k0_t1_loop.trips) : Fin 3 → Nat :=
  let c1_964 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1846 : Index := Scalar.indexCast v337
  let c3712_965 : Index := 3712#32
  ![1, v1846.toNat, 3712]
def k0_off75 (k0_t1 : Fin k0_t1_loop.trips) : Fin 3 → Nat :=
  let c17_967 : Index := 17#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_966 : BitVec 32 := 8#32
  let v1850 : BitVec 32 := Scalar.addi v337 c8_i32_966
  let v1851 : Index := Scalar.indexCast v1850
  let c0_968 : Index := 0#32
  ![17, v1851.toNat, 0]
def k0_off76 (k0_t1 : Fin k0_t1_loop.trips) : Fin 3 → Nat :=
  let c17_971 : Index := 17#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_969 : BitVec 32 := 8#32
  let v1854 : BitVec 32 := Scalar.addi v337 c8_i32_969
  let c1_i32_970 : BitVec 32 := 1#32
  let v1855 : BitVec 32 := Scalar.subi v1854 c1_i32_970
  let v1856 : Index := Scalar.indexCast v1855
  let c0_972 : Index := 0#32
  ![17, v1856.toNat, 0]
def k0_off77 (k0_t1 : Fin k0_t1_loop.trips) : Fin 3 → Nat :=
  let c0_1030 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1976 : Index := Scalar.indexCast v337
  let c768_1031 : Index := 768#32
  ![0, v1976.toNat, 768]
def k0_off78 (k0_t1 : Fin k0_t1_loop.trips) : Fin 3 → Nat :=
  let c0_1034 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1984 : Index := Scalar.indexCast v337
  let c768_1035 : Index := 768#32
  ![0, v1984.toNat, 768]
def k0_off79 (k0_t1 : Fin k0_t1_loop.trips) : Fin 3 → Nat :=
  let c0_1036 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1988 : Index := Scalar.indexCast v337
  let c2304 : Index := 2304#32
  ![0, v1988.toNat, 2304]
def k0_off80 (k0_t1 : Fin k0_t1_loop.trips) : Fin 3 → Nat :=
  let c0_1037 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v1992 : Index := Scalar.indexCast v337
  let c3840 : Index := 3840#32
  ![0, v1992.toNat, 3840]
def k0_off81 (k0_t1 : Fin k0_t1_loop.trips) : Fin 3 → Nat :=
  let c6_1039 : Index := 6#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1038 : BitVec 32 := 8#32
  let v1996 : BitVec 32 := Scalar.addi v337 c8_i32_1038
  let v1997 : Index := Scalar.indexCast v1996
  let c0_1040 : Index := 0#32
  ![6, v1997.toNat, 0]
def k0_off82 (k0_t1 : Fin k0_t1_loop.trips) : Fin 3 → Nat :=
  let c6_1043 : Index := 6#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1041 : BitVec 32 := 8#32
  let v2000 : BitVec 32 := Scalar.addi v337 c8_i32_1041
  let c1_i32_1042 : BitVec 32 := 1#32
  let v2001 : BitVec 32 := Scalar.subi v2000 c1_i32_1042
  let v2002 : Index := Scalar.indexCast v2001
  let c0_1044 : Index := 0#32
  ![6, v2002.toNat, 0]
def k0_off83 (k0_t1 : Fin k0_t1_loop.trips) : Fin 3 → Nat :=
  let c1_1082 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2102 : Index := Scalar.indexCast v337
  let c768_1083 : Index := 768#32
  ![1, v2102.toNat, 768]
def k0_off84 (k0_t1 : Fin k0_t1_loop.trips) : Fin 3 → Nat :=
  let c1_1086 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2110 : Index := Scalar.indexCast v337
  let c768_1087 : Index := 768#32
  ![1, v2110.toNat, 768]
def k0_off85 (k0_t1 : Fin k0_t1_loop.trips) : Fin 3 → Nat :=
  let c1_1088 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2114 : Index := Scalar.indexCast v337
  let c2304_1089 : Index := 2304#32
  ![1, v2114.toNat, 2304]
def k0_off86 (k0_t1 : Fin k0_t1_loop.trips) : Fin 3 → Nat :=
  let c1_1090 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2118 : Index := Scalar.indexCast v337
  let c3840_1091 : Index := 3840#32
  ![1, v2118.toNat, 3840]
def k0_off87 (k0_t1 : Fin k0_t1_loop.trips) : Fin 3 → Nat :=
  let c18_1093 : Index := 18#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1092 : BitVec 32 := 8#32
  let v2122 : BitVec 32 := Scalar.addi v337 c8_i32_1092
  let v2123 : Index := Scalar.indexCast v2122
  let c0_1094 : Index := 0#32
  ![18, v2123.toNat, 0]
def k0_off88 (k0_t1 : Fin k0_t1_loop.trips) : Fin 3 → Nat :=
  let c18_1097 : Index := 18#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1095 : BitVec 32 := 8#32
  let v2126 : BitVec 32 := Scalar.addi v337 c8_i32_1095
  let c1_i32_1096 : BitVec 32 := 1#32
  let v2127 : BitVec 32 := Scalar.subi v2126 c1_i32_1096
  let v2128 : Index := Scalar.indexCast v2127
  let c0_1098 : Index := 0#32
  ![18, v2128.toNat, 0]
def k0_off89 (k0_t1 : Fin k0_t1_loop.trips) : Fin 3 → Nat :=
  let c0_1156 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2248 : Index := Scalar.indexCast v337
  let c896_1157 : Index := 896#32
  ![0, v2248.toNat, 896]
def k0_off90 (k0_t1 : Fin k0_t1_loop.trips) : Fin 3 → Nat :=
  let c0_1160 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2256 : Index := Scalar.indexCast v337
  let c896_1161 : Index := 896#32
  ![0, v2256.toNat, 896]
def k0_off91 (k0_t1 : Fin k0_t1_loop.trips) : Fin 3 → Nat :=
  let c0_1162 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2260 : Index := Scalar.indexCast v337
  let c2432 : Index := 2432#32
  ![0, v2260.toNat, 2432]
def k0_off92 (k0_t1 : Fin k0_t1_loop.trips) : Fin 3 → Nat :=
  let c0_1163 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2264 : Index := Scalar.indexCast v337
  let c3968 : Index := 3968#32
  ![0, v2264.toNat, 3968]
def k0_off93 (k0_t1 : Fin k0_t1_loop.trips) : Fin 3 → Nat :=
  let c7_1165 : Index := 7#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1164 : BitVec 32 := 8#32
  let v2268 : BitVec 32 := Scalar.addi v337 c8_i32_1164
  let v2269 : Index := Scalar.indexCast v2268
  let c0_1166 : Index := 0#32
  ![7, v2269.toNat, 0]
def k0_off94 (k0_t1 : Fin k0_t1_loop.trips) : Fin 3 → Nat :=
  let c7_1169 : Index := 7#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1167 : BitVec 32 := 8#32
  let v2272 : BitVec 32 := Scalar.addi v337 c8_i32_1167
  let c1_i32_1168 : BitVec 32 := 1#32
  let v2273 : BitVec 32 := Scalar.subi v2272 c1_i32_1168
  let v2274 : Index := Scalar.indexCast v2273
  let c0_1170 : Index := 0#32
  ![7, v2274.toNat, 0]
def k0_off95 (k0_t1 : Fin k0_t1_loop.trips) : Fin 3 → Nat :=
  let c1_1208 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2374 : Index := Scalar.indexCast v337
  let c896_1209 : Index := 896#32
  ![1, v2374.toNat, 896]
def k0_off96 (k0_t1 : Fin k0_t1_loop.trips) : Fin 3 → Nat :=
  let c1_1212 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2382 : Index := Scalar.indexCast v337
  let c896_1213 : Index := 896#32
  ![1, v2382.toNat, 896]
def k0_off97 (k0_t1 : Fin k0_t1_loop.trips) : Fin 3 → Nat :=
  let c1_1214 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2386 : Index := Scalar.indexCast v337
  let c2432_1215 : Index := 2432#32
  ![1, v2386.toNat, 2432]
def k0_off98 (k0_t1 : Fin k0_t1_loop.trips) : Fin 3 → Nat :=
  let c1_1216 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2390 : Index := Scalar.indexCast v337
  let c3968_1217 : Index := 3968#32
  ![1, v2390.toNat, 3968]
def k0_off99 (k0_t1 : Fin k0_t1_loop.trips) : Fin 3 → Nat :=
  let c19_1219 : Index := 19#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1218 : BitVec 32 := 8#32
  let v2394 : BitVec 32 := Scalar.addi v337 c8_i32_1218
  let v2395 : Index := Scalar.indexCast v2394
  let c0_1220 : Index := 0#32
  ![19, v2395.toNat, 0]
def k0_off100 (k0_t1 : Fin k0_t1_loop.trips) : Fin 3 → Nat :=
  let c19_1223 : Index := 19#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1221 : BitVec 32 := 8#32
  let v2398 : BitVec 32 := Scalar.addi v337 c8_i32_1221
  let c1_i32_1222 : BitVec 32 := 1#32
  let v2399 : BitVec 32 := Scalar.subi v2398 c1_i32_1222
  let v2400 : Index := Scalar.indexCast v2399
  let c0_1224 : Index := 0#32
  ![19, v2400.toNat, 0]
def k0_off101 (k0_t1 : Fin k0_t1_loop.trips) : Fin 3 → Nat :=
  let c0_1282 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2520 : Index := Scalar.indexCast v337
  let c1024_1283 : Index := 1024#32
  ![0, v2520.toNat, 1024]
def k0_off102 (k0_t1 : Fin k0_t1_loop.trips) : Fin 3 → Nat :=
  let c0_1286 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2528 : Index := Scalar.indexCast v337
  let c1024_1287 : Index := 1024#32
  ![0, v2528.toNat, 1024]
def k0_off103 (k0_t1 : Fin k0_t1_loop.trips) : Fin 3 → Nat :=
  let c0_1288 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2532 : Index := Scalar.indexCast v337
  let c2560 : Index := 2560#32
  ![0, v2532.toNat, 2560]
def k0_off104 (k0_t1 : Fin k0_t1_loop.trips) : Fin 3 → Nat :=
  let c0_1289 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2536 : Index := Scalar.indexCast v337
  let c4096 : Index := 4096#32
  ![0, v2536.toNat, 4096]
def k0_off105 (k0_t1 : Fin k0_t1_loop.trips) : Fin 3 → Nat :=
  let c8_1291 : Index := 8#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1290 : BitVec 32 := 8#32
  let v2540 : BitVec 32 := Scalar.addi v337 c8_i32_1290
  let v2541 : Index := Scalar.indexCast v2540
  let c0_1292 : Index := 0#32
  ![8, v2541.toNat, 0]
def k0_off106 (k0_t1 : Fin k0_t1_loop.trips) : Fin 3 → Nat :=
  let c8_1295 : Index := 8#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1293 : BitVec 32 := 8#32
  let v2544 : BitVec 32 := Scalar.addi v337 c8_i32_1293
  let c1_i32_1294 : BitVec 32 := 1#32
  let v2545 : BitVec 32 := Scalar.subi v2544 c1_i32_1294
  let v2546 : Index := Scalar.indexCast v2545
  let c0_1296 : Index := 0#32
  ![8, v2546.toNat, 0]
def k0_off107 (k0_t1 : Fin k0_t1_loop.trips) : Fin 3 → Nat :=
  let c1_1334 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2646 : Index := Scalar.indexCast v337
  let c1024_1335 : Index := 1024#32
  ![1, v2646.toNat, 1024]
def k0_off108 (k0_t1 : Fin k0_t1_loop.trips) : Fin 3 → Nat :=
  let c1_1338 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2654 : Index := Scalar.indexCast v337
  let c1024_1339 : Index := 1024#32
  ![1, v2654.toNat, 1024]
def k0_off109 (k0_t1 : Fin k0_t1_loop.trips) : Fin 3 → Nat :=
  let c1_1340 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2658 : Index := Scalar.indexCast v337
  let c2560_1341 : Index := 2560#32
  ![1, v2658.toNat, 2560]
def k0_off110 (k0_t1 : Fin k0_t1_loop.trips) : Fin 3 → Nat :=
  let c1_1342 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2662 : Index := Scalar.indexCast v337
  let c4096_1343 : Index := 4096#32
  ![1, v2662.toNat, 4096]
def k0_off111 (k0_t1 : Fin k0_t1_loop.trips) : Fin 3 → Nat :=
  let c20_1345 : Index := 20#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1344 : BitVec 32 := 8#32
  let v2666 : BitVec 32 := Scalar.addi v337 c8_i32_1344
  let v2667 : Index := Scalar.indexCast v2666
  let c0_1346 : Index := 0#32
  ![20, v2667.toNat, 0]
def k0_off112 (k0_t1 : Fin k0_t1_loop.trips) : Fin 3 → Nat :=
  let c20_1349 : Index := 20#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1347 : BitVec 32 := 8#32
  let v2670 : BitVec 32 := Scalar.addi v337 c8_i32_1347
  let c1_i32_1348 : BitVec 32 := 1#32
  let v2671 : BitVec 32 := Scalar.subi v2670 c1_i32_1348
  let v2672 : Index := Scalar.indexCast v2671
  let c0_1350 : Index := 0#32
  ![20, v2672.toNat, 0]
def k0_off113 (k0_t1 : Fin k0_t1_loop.trips) : Fin 3 → Nat :=
  let c0_1408 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2792 : Index := Scalar.indexCast v337
  let c1152_1409 : Index := 1152#32
  ![0, v2792.toNat, 1152]
def k0_off114 (k0_t1 : Fin k0_t1_loop.trips) : Fin 3 → Nat :=
  let c0_1412 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2800 : Index := Scalar.indexCast v337
  let c1152_1413 : Index := 1152#32
  ![0, v2800.toNat, 1152]
def k0_off115 (k0_t1 : Fin k0_t1_loop.trips) : Fin 3 → Nat :=
  let c0_1414 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2804 : Index := Scalar.indexCast v337
  let c2688 : Index := 2688#32
  ![0, v2804.toNat, 2688]
def k0_off116 (k0_t1 : Fin k0_t1_loop.trips) : Fin 3 → Nat :=
  let c0_1415 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2808 : Index := Scalar.indexCast v337
  let c4224 : Index := 4224#32
  ![0, v2808.toNat, 4224]
def k0_off117 (k0_t1 : Fin k0_t1_loop.trips) : Fin 3 → Nat :=
  let c9_1417 : Index := 9#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1416 : BitVec 32 := 8#32
  let v2812 : BitVec 32 := Scalar.addi v337 c8_i32_1416
  let v2813 : Index := Scalar.indexCast v2812
  let c0_1418 : Index := 0#32
  ![9, v2813.toNat, 0]
def k0_off118 (k0_t1 : Fin k0_t1_loop.trips) : Fin 3 → Nat :=
  let c9_1421 : Index := 9#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1419 : BitVec 32 := 8#32
  let v2816 : BitVec 32 := Scalar.addi v337 c8_i32_1419
  let c1_i32_1420 : BitVec 32 := 1#32
  let v2817 : BitVec 32 := Scalar.subi v2816 c1_i32_1420
  let v2818 : Index := Scalar.indexCast v2817
  let c0_1422 : Index := 0#32
  ![9, v2818.toNat, 0]
def k0_off119 (k0_t1 : Fin k0_t1_loop.trips) : Fin 3 → Nat :=
  let c1_1460 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2918 : Index := Scalar.indexCast v337
  let c1152_1461 : Index := 1152#32
  ![1, v2918.toNat, 1152]
def k0_off120 (k0_t1 : Fin k0_t1_loop.trips) : Fin 3 → Nat :=
  let c1_1464 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2926 : Index := Scalar.indexCast v337
  let c1152_1465 : Index := 1152#32
  ![1, v2926.toNat, 1152]
def k0_off121 (k0_t1 : Fin k0_t1_loop.trips) : Fin 3 → Nat :=
  let c1_1466 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2930 : Index := Scalar.indexCast v337
  let c2688_1467 : Index := 2688#32
  ![1, v2930.toNat, 2688]
def k0_off122 (k0_t1 : Fin k0_t1_loop.trips) : Fin 3 → Nat :=
  let c1_1468 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v2934 : Index := Scalar.indexCast v337
  let c4224_1469 : Index := 4224#32
  ![1, v2934.toNat, 4224]
def k0_off123 (k0_t1 : Fin k0_t1_loop.trips) : Fin 3 → Nat :=
  let c21_1471 : Index := 21#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1470 : BitVec 32 := 8#32
  let v2938 : BitVec 32 := Scalar.addi v337 c8_i32_1470
  let v2939 : Index := Scalar.indexCast v2938
  let c0_1472 : Index := 0#32
  ![21, v2939.toNat, 0]
def k0_off124 (k0_t1 : Fin k0_t1_loop.trips) : Fin 3 → Nat :=
  let c21_1475 : Index := 21#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1473 : BitVec 32 := 8#32
  let v2942 : BitVec 32 := Scalar.addi v337 c8_i32_1473
  let c1_i32_1474 : BitVec 32 := 1#32
  let v2943 : BitVec 32 := Scalar.subi v2942 c1_i32_1474
  let v2944 : Index := Scalar.indexCast v2943
  let c0_1476 : Index := 0#32
  ![21, v2944.toNat, 0]
def k0_off125 (k0_t1 : Fin k0_t1_loop.trips) : Fin 3 → Nat :=
  let c0_1534 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3064 : Index := Scalar.indexCast v337
  let c1280_1535 : Index := 1280#32
  ![0, v3064.toNat, 1280]
def k0_off126 (k0_t1 : Fin k0_t1_loop.trips) : Fin 3 → Nat :=
  let c0_1538 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3072 : Index := Scalar.indexCast v337
  let c1280_1539 : Index := 1280#32
  ![0, v3072.toNat, 1280]
def k0_off127 (k0_t1 : Fin k0_t1_loop.trips) : Fin 3 → Nat :=
  let c0_1540 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3076 : Index := Scalar.indexCast v337
  let c2816 : Index := 2816#32
  ![0, v3076.toNat, 2816]
def k0_off128 (k0_t1 : Fin k0_t1_loop.trips) : Fin 3 → Nat :=
  let c0_1541 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3080 : Index := Scalar.indexCast v337
  let c4352 : Index := 4352#32
  ![0, v3080.toNat, 4352]
def k0_off129 (k0_t1 : Fin k0_t1_loop.trips) : Fin 3 → Nat :=
  let c10_1543 : Index := 10#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1542 : BitVec 32 := 8#32
  let v3084 : BitVec 32 := Scalar.addi v337 c8_i32_1542
  let v3085 : Index := Scalar.indexCast v3084
  let c0_1544 : Index := 0#32
  ![10, v3085.toNat, 0]
def k0_off130 (k0_t1 : Fin k0_t1_loop.trips) : Fin 3 → Nat :=
  let c10_1547 : Index := 10#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1545 : BitVec 32 := 8#32
  let v3088 : BitVec 32 := Scalar.addi v337 c8_i32_1545
  let c1_i32_1546 : BitVec 32 := 1#32
  let v3089 : BitVec 32 := Scalar.subi v3088 c1_i32_1546
  let v3090 : Index := Scalar.indexCast v3089
  let c0_1548 : Index := 0#32
  ![10, v3090.toNat, 0]
def k0_off131 (k0_t1 : Fin k0_t1_loop.trips) : Fin 3 → Nat :=
  let c1_1586 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3190 : Index := Scalar.indexCast v337
  let c1280_1587 : Index := 1280#32
  ![1, v3190.toNat, 1280]
def k0_off132 (k0_t1 : Fin k0_t1_loop.trips) : Fin 3 → Nat :=
  let c1_1590 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3198 : Index := Scalar.indexCast v337
  let c1280_1591 : Index := 1280#32
  ![1, v3198.toNat, 1280]
def k0_off133 (k0_t1 : Fin k0_t1_loop.trips) : Fin 3 → Nat :=
  let c1_1592 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3202 : Index := Scalar.indexCast v337
  let c2816_1593 : Index := 2816#32
  ![1, v3202.toNat, 2816]
def k0_off134 (k0_t1 : Fin k0_t1_loop.trips) : Fin 3 → Nat :=
  let c1_1594 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3206 : Index := Scalar.indexCast v337
  let c4352_1595 : Index := 4352#32
  ![1, v3206.toNat, 4352]
def k0_off135 (k0_t1 : Fin k0_t1_loop.trips) : Fin 3 → Nat :=
  let c22_1597 : Index := 22#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1596 : BitVec 32 := 8#32
  let v3210 : BitVec 32 := Scalar.addi v337 c8_i32_1596
  let v3211 : Index := Scalar.indexCast v3210
  let c0_1598 : Index := 0#32
  ![22, v3211.toNat, 0]
def k0_off136 (k0_t1 : Fin k0_t1_loop.trips) : Fin 3 → Nat :=
  let c22_1601 : Index := 22#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1599 : BitVec 32 := 8#32
  let v3214 : BitVec 32 := Scalar.addi v337 c8_i32_1599
  let c1_i32_1600 : BitVec 32 := 1#32
  let v3215 : BitVec 32 := Scalar.subi v3214 c1_i32_1600
  let v3216 : Index := Scalar.indexCast v3215
  let c0_1602 : Index := 0#32
  ![22, v3216.toNat, 0]
def k0_off137 (k0_t1 : Fin k0_t1_loop.trips) : Fin 3 → Nat :=
  let c0_1660 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3336 : Index := Scalar.indexCast v337
  let c1408_1661 : Index := 1408#32
  ![0, v3336.toNat, 1408]
def k0_off138 (k0_t1 : Fin k0_t1_loop.trips) : Fin 3 → Nat :=
  let c0_1664 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3344 : Index := Scalar.indexCast v337
  let c1408_1665 : Index := 1408#32
  ![0, v3344.toNat, 1408]
def k0_off139 (k0_t1 : Fin k0_t1_loop.trips) : Fin 3 → Nat :=
  let c0_1666 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3348 : Index := Scalar.indexCast v337
  let c2944 : Index := 2944#32
  ![0, v3348.toNat, 2944]
def k0_off140 (k0_t1 : Fin k0_t1_loop.trips) : Fin 3 → Nat :=
  let c0_1667 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3352 : Index := Scalar.indexCast v337
  let c4480 : Index := 4480#32
  ![0, v3352.toNat, 4480]
def k0_off141 (k0_t1 : Fin k0_t1_loop.trips) : Fin 3 → Nat :=
  let c11_1669 : Index := 11#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1668 : BitVec 32 := 8#32
  let v3356 : BitVec 32 := Scalar.addi v337 c8_i32_1668
  let v3357 : Index := Scalar.indexCast v3356
  let c0_1670 : Index := 0#32
  ![11, v3357.toNat, 0]
def k0_off142 (k0_t1 : Fin k0_t1_loop.trips) : Fin 3 → Nat :=
  let c11_1673 : Index := 11#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1671 : BitVec 32 := 8#32
  let v3360 : BitVec 32 := Scalar.addi v337 c8_i32_1671
  let c1_i32_1672 : BitVec 32 := 1#32
  let v3361 : BitVec 32 := Scalar.subi v3360 c1_i32_1672
  let v3362 : Index := Scalar.indexCast v3361
  let c0_1674 : Index := 0#32
  ![11, v3362.toNat, 0]
def k0_off143 (k0_t1 : Fin k0_t1_loop.trips) : Fin 3 → Nat :=
  let c1_1712 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3462 : Index := Scalar.indexCast v337
  let c1408_1713 : Index := 1408#32
  ![1, v3462.toNat, 1408]
def k0_off144 (k0_t1 : Fin k0_t1_loop.trips) : Fin 3 → Nat :=
  let c1_1716 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3470 : Index := Scalar.indexCast v337
  let c1408_1717 : Index := 1408#32
  ![1, v3470.toNat, 1408]
def k0_off145 (k0_t1 : Fin k0_t1_loop.trips) : Fin 3 → Nat :=
  let c1_1718 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3474 : Index := Scalar.indexCast v337
  let c2944_1719 : Index := 2944#32
  ![1, v3474.toNat, 2944]
def k0_off146 (k0_t1 : Fin k0_t1_loop.trips) : Fin 3 → Nat :=
  let c1_1720 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v3478 : Index := Scalar.indexCast v337
  let c4480_1721 : Index := 4480#32
  ![1, v3478.toNat, 4480]
def k0_off147 (k0_t1 : Fin k0_t1_loop.trips) : Fin 3 → Nat :=
  let c23_1723 : Index := 23#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1722 : BitVec 32 := 8#32
  let v3482 : BitVec 32 := Scalar.addi v337 c8_i32_1722
  let v3483 : Index := Scalar.indexCast v3482
  let c0_1724 : Index := 0#32
  ![23, v3483.toNat, 0]
def k0_off148 (k0_t1 : Fin k0_t1_loop.trips) : Fin 3 → Nat :=
  let c23_1727 : Index := 23#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let c8_i32_1725 : BitVec 32 := 8#32
  let v3486 : BitVec 32 := Scalar.addi v337 c8_i32_1725
  let c1_i32_1726 : BitVec 32 := 1#32
  let v3487 : BitVec 32 := Scalar.subi v3486 c1_i32_1726
  let v3488 : Index := Scalar.indexCast v3487
  let c0_1728 : Index := 0#32
  ![23, v3488.toNat, 0]
def k0_mult2 (i : grid0.Coords) : BitVec 32 :=
  let arg0 : BitVec 32 := BitVec.ofNat 32 (i 0).val
  let c24_i32_1778 : BitVec 32 := 24#32
  let v3602 : BitVec 32 := Scalar.muli arg0 c24_i32_1778
  let c0_i32_1779 : BitVec 32 := 0#32
  let v3603 : BitVec 32 := Scalar.addi v3602 c0_i32_1779
  v3603
def k0_off149 (i : grid0.Coords) (c0_i32_1779 : BitVec 32) : Fin 2 → Nat :=
  let arg0 : BitVec 32 := BitVec.ofNat 32 (i 0).val
  let c24_i32_1778 : BitVec 32 := 24#32
  let v3602 : BitVec 32 := Scalar.muli arg0 c24_i32_1778
  let v3603 : BitVec 32 := Scalar.addi v3602 c0_i32_1779
  let v3604 : BitVec 32 := v3603
  let v3605 : Index := Scalar.indexCast v3604
  let c0_1780 : Index := 0#32
  ![v3605.toNat, 0]
def k0_mult3 (i : grid0.Coords) : BitVec 32 :=
  let arg0 : BitVec 32 := BitVec.ofNat 32 (i 0).val
  let c24_i32_2010 : BitVec 32 := 24#32
  let v3899 : BitVec 32 := Scalar.muli arg0 c24_i32_2010
  let c8_i32_2011 : BitVec 32 := 8#32
  let v3900 : BitVec 32 := Scalar.addi v3899 c8_i32_2011
  v3900
def k0_mult4 (i : grid0.Coords) : BitVec 32 :=
  let arg0 : BitVec 32 := BitVec.ofNat 32 (i 0).val
  let c24_i32_2242 : BitVec 32 := 24#32
  let v4196 : BitVec 32 := Scalar.muli arg0 c24_i32_2242
  let c16_i32_2243 : BitVec 32 := 16#32
  let v4197 : BitVec 32 := Scalar.addi v4196 c16_i32_2243
  v4197
def k0_off150 (k0_t1 : Fin k0_t1_loop.trips) (c0_i32_2973 : BitVec 32) : Fin 3 → Nat :=
  let c0_2974 : Index := 0#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v5157 : BitVec 32 := Scalar.addi v337 c0_i32_2973
  let v5158 : Index := Scalar.indexCast v5157
  let c0_2975 : Index := 0#32
  ![0, v5158.toNat, 0]
def k0_off151 (k0_t1 : Fin k0_t1_loop.trips) (c0_i32_3757 : BitVec 32) : Fin 3 → Nat :=
  let c1_3758 : Index := 1#32
  let c96_i32 : BitVec 32 := 96#32
  let c0_i32_242 : BitVec 32 := 0#32
  let c1_i32_244 : BitVec 32 := 1#32
  let arg34 : BitVec 32 := Scf.iv c0_i32_242 c1_i32_244 k0_t1
  let c32_i32 : BitVec 32 := 32#32
  let v335 : BitVec 32 := Scalar.muli arg34 c32_i32
  let v336 : BitVec 32 := Scalar.subi c96_i32 v335
  let v337 : BitVec 32 := v336
  let v6334 : BitVec 32 := Scalar.addi v337 c0_i32_3757
  let v6335 : Index := Scalar.indexCast v6334
  let c0_3759 : Index := 0#32
  ![1, v6335.toNat, 0]
@[reducible] def k0_t2_loop : Scf.Loop 32 :=
  let c0_i32_261 : BitVec 32 := 0#32
  let c6_i32_262 : BitVec 32 := 6#32
  let v331 : BitVec 32 := Scalar.addi c0_i32_261 c6_i32_262
  let c1_i32_263 : BitVec 32 := 1#32
  ⟨c0_i32_261, v331, c1_i32_263⟩
def k0_mult5 (k0_t2 : Fin k0_t2_loop.trips) : BitVec 32 :=
  let c0_i32_261 : BitVec 32 := 0#32
  let c1_i32_263 : BitVec 32 := 1#32
  let arg34 : BitVec 32 := Scf.iv c0_i32_261 c1_i32_263 k0_t2
  let c256_i32 : BitVec 32 := 256#32
  let v335 : BitVec 32 := Scalar.muli arg34 c256_i32
  v335
def k0_off152 (k0_t2 : Fin k0_t2_loop.trips) : Fin 2 → Nat :=
  let c0_i32_261 : BitVec 32 := 0#32
  let c1_i32_263 : BitVec 32 := 1#32
  let arg34 : BitVec 32 := Scf.iv c0_i32_261 c1_i32_263 k0_t2
  let c256_i32 : BitVec 32 := 256#32
  let v335 : BitVec 32 := Scalar.muli arg34 c256_i32
  let v336 : BitVec 32 := v335
  let v337 : Index := Scalar.indexCast v336
  let c0_267 : Index := 0#32
  ![v337.toNat, 0]
def k0_mult6 (k0_t2 : Fin k0_t2_loop.trips) : BitVec 32 :=
  let c0_i32_261 : BitVec 32 := 0#32
  let c1_i32_263 : BitVec 32 := 1#32
  let arg34 : BitVec 32 := Scf.iv c0_i32_261 c1_i32_263 k0_t2
  let c256_i32 : BitVec 32 := 256#32
  let v335 : BitVec 32 := Scalar.muli arg34 c256_i32
  let v336 : BitVec 32 := v335
  let c0_i32_268 : BitVec 32 := 0#32
  let v340 : BitVec 32 := Scalar.addi v336 c0_i32_268
  v340
def k0_off153 (k0_t2 : Fin k0_t2_loop.trips) (c0_i32_268 : BitVec 32) : Fin 2 → Nat :=
  let c0_269 : Index := 0#32
  let c0_i32_261 : BitVec 32 := 0#32
  let c1_i32_263 : BitVec 32 := 1#32
  let arg34 : BitVec 32 := Scf.iv c0_i32_261 c1_i32_263 k0_t2
  let c256_i32 : BitVec 32 := 256#32
  let v335 : BitVec 32 := Scalar.muli arg34 c256_i32
  let v336 : BitVec 32 := v335
  let v340 : BitVec 32 := Scalar.addi v336 c0_i32_268
  let v341 : BitVec 32 := v340
  let v342 : Index := Scalar.indexCast v341
  ![0, v342.toNat]
def k0_off154 (k0_t2 : Fin k0_t2_loop.trips) (c0_i32_268 : BitVec 32) : Fin 3 → Nat :=
  let c0_273 : Index := 0#32
  let c0_274 : Index := 0#32
  let c0_i32_261 : BitVec 32 := 0#32
  let c1_i32_263 : BitVec 32 := 1#32
  let arg34 : BitVec 32 := Scf.iv c0_i32_261 c1_i32_263 k0_t2
  let c256_i32 : BitVec 32 := 256#32
  let v335 : BitVec 32 := Scalar.muli arg34 c256_i32
  let v336 : BitVec 32 := v335
  let v340 : BitVec 32 := Scalar.addi v336 c0_i32_268
  let v341 : BitVec 32 := v340
  let v351 : Index := Scalar.indexCast v341
  ![0, 0, v351.toNat]
def k0_off155 (k0_t2 : Fin k0_t2_loop.trips) (c0_i32_268 : BitVec 32) : Fin 3 → Nat :=
  let c1_280 : Index := 1#32
  let c0_281 : Index := 0#32
  let c0_i32_261 : BitVec 32 := 0#32
  let c1_i32_263 : BitVec 32 := 1#32
  let arg34 : BitVec 32 := Scf.iv c0_i32_261 c1_i32_263 k0_t2
  let c256_i32 : BitVec 32 := 256#32
  let v335 : BitVec 32 := Scalar.muli arg34 c256_i32
  let v336 : BitVec 32 := v335
  let v340 : BitVec 32 := Scalar.addi v336 c0_i32_268
  let v341 : BitVec 32 := v340
  let v366 : Index := Scalar.indexCast v341
  ![1, 0, v366.toNat]
def k0_mult7 (k0_t2 : Fin k0_t2_loop.trips) : BitVec 32 :=
  let c0_i32_261 : BitVec 32 := 0#32
  let c1_i32_263 : BitVec 32 := 1#32
  let arg34 : BitVec 32 := Scf.iv c0_i32_261 c1_i32_263 k0_t2
  let c256_i32 : BitVec 32 := 256#32
  let v335 : BitVec 32 := Scalar.muli arg34 c256_i32
  let v336 : BitVec 32 := v335
  let c128_i32 : BitVec 32 := 128#32
  let v375 : BitVec 32 := Scalar.addi v336 c128_i32
  v375
def k0_cond2 (i : grid0.Coords) : BitVec 1 :=
  let arg0 : BitVec 32 := BitVec.ofNat 32 (i 0).val
  let c5_i32_265 : BitVec 32 := 5#32
  let v332 : BitVec 1 := Scalar.cmpi .eq arg0 c5_i32_265
  let v333 : BitVec 32 := Scalar.extui v332
  let c0_i32_266 : BitVec 32 := 0#32
  let v334 : BitVec 1 := Scalar.cmpi .ne v333 c0_i32_266
  v334

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x128x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x128x1536 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S12x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S12x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x128x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S12x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2x128x4608 .fp8e5m2 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S12x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S12x128x1536 : Shape := ⟨3, ![12, 128, 1536]⟩
abbrev S1536x4608 : Shape := ⟨2, ![1536, 4608]⟩
abbrev S1536 : Shape := ⟨1, ![1536]⟩
abbrev S2x1536 : Shape := ⟨2, ![2, 1536]⟩
abbrev S12x128x4608 : Shape := ⟨3, ![12, 128, 4608]⟩
abbrev S12x1536 : Shape := ⟨2, ![12, 1536]⟩
abbrev S12x128 : Shape := ⟨2, ![12, 128]⟩
abbrev S1x1536 : Shape := ⟨2, ![1, 1536]⟩
abbrev S12x128x1 : Shape := ⟨3, ![12, 128, 1]⟩
abbrev S12x1x1536 : Shape := ⟨3, ![12, 1, 1536]⟩
abbrev S12x127x1536 : Shape := ⟨3, ![12, 127, 1536]⟩
abbrev S1x1x1536 : Shape := ⟨3, ![1, 1, 1536]⟩
abbrev S1536x1536 : Shape := ⟨2, ![1536, 1536]⟩

abbrev nBuf : Space → Nat
  | .hbm => 19
  | .vmem => 23
  | .smem => 0
  | _ => 0

abbrev bufTy : (tb : Table) → Fin (tcTables nBuf tb) → BufTy
  | .hbm, ⟨0, _⟩ => ⟨S12x128x1536, .bf16⟩
  | .hbm, ⟨1, _⟩ => ⟨S1536x4608, .fp8e4m3⟩
  | .hbm, ⟨2, _⟩ => ⟨S1536, .f32⟩
  | .hbm, ⟨3, _⟩ => ⟨S1536, .f32⟩
  | .hbm, ⟨4, _⟩ => ⟨S1536, .f32⟩
  | .hbm, ⟨5, _⟩ => ⟨S2x1536, .f32⟩
  | .hbm, ⟨6, _⟩ => ⟨S12x128x4608, .bf16⟩
  | .hbm, ⟨7, _⟩ => ⟨S12x128x1536, .f32⟩
  | .hbm, ⟨8, _⟩ => ⟨S12x1536, .f32⟩
  | .hbm, ⟨9, _⟩ => ⟨S12x128x1536, .fp8e5m2⟩
  | .hbm, ⟨10, _⟩ => ⟨S12x128, .f32⟩
  | .hbm, ⟨11, _⟩ => ⟨S12x1536, .f32⟩
  | .hbm, ⟨12, _⟩ => ⟨S12x128x1536, .bf16⟩
  | .hbm, ⟨13, _⟩ => ⟨S12x1536, .f32⟩
  | .hbm, ⟨14, _⟩ => ⟨S1x1536, .f32⟩
  | .hbm, ⟨15, _⟩ => ⟨S1x1536, .f32⟩
  | .hbm, ⟨16, _⟩ => ⟨S2x1536, .f32⟩
  | .hbm, ⟨17, _⟩ => ⟨S12x128x4608, .fp8e5m2⟩
  | .hbm, ⟨18, _⟩ => ⟨S12x128, .f32⟩
  | .local _ .vmem, ⟨0, _⟩ => ⟨S12x128x1536, .bf16⟩
  | .local _ .vmem, ⟨1, _⟩ => ⟨S1536x4608, .fp8e4m3⟩
  | .local _ .vmem, ⟨2, _⟩ => ⟨S1536, .f32⟩
  | .local _ .vmem, ⟨3, _⟩ => ⟨S1536, .f32⟩
  | .local _ .vmem, ⟨4, _⟩ => ⟨S1536, .f32⟩
  | .local _ .vmem, ⟨5, _⟩ => ⟨S2x1536, .f32⟩
  | .local _ .vmem, ⟨6, _⟩ => ⟨S12x128x4608, .bf16⟩
  | .local _ .vmem, ⟨7, _⟩ => ⟨S12x128x1536, .f32⟩
  | .local _ .vmem, ⟨8, _⟩ => ⟨S12x1536, .f32⟩
  | .local _ .vmem, ⟨9, _⟩ => ⟨S12x128x1536, .fp8e5m2⟩
  | .local _ .vmem, ⟨10, _⟩ => ⟨S12x128, .f32⟩
  | .local _ .vmem, ⟨11, _⟩ => ⟨S12x1536, .f32⟩
  | .local _ .vmem, ⟨12, _⟩ => ⟨S12x128x1536, .bf16⟩
  | .local _ .vmem, ⟨13, _⟩ => ⟨S12x1536, .f32⟩
  | .local _ .vmem, ⟨14, _⟩ => ⟨S1x1536, .f32⟩
  | .local _ .vmem, ⟨15, _⟩ => ⟨S1x1536, .f32⟩
  | .local _ .vmem, ⟨16, _⟩ => ⟨S2x1536, .f32⟩
  | .local _ .vmem, ⟨17, _⟩ => ⟨S12x128x4608, .fp8e5m2⟩
  | .local _ .vmem, ⟨18, _⟩ => ⟨S12x128, .f32⟩
  | .local _ .vmem, ⟨19, _⟩ => ⟨S12x128x1536, .f32⟩
  | .local _ .vmem, ⟨20, _⟩ => ⟨S12x128x1536, .f32⟩
  | .local _ .vmem, ⟨21, _⟩ => ⟨S12x128x1536, .f32⟩
  | .local _ .vmem, ⟨22, _⟩ => ⟨S12x128x1536, .f32⟩
  | _, _ => ⟨S12x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v69 : BitVec 32 := Scalar.addi c0_i32 c128_i32
  let c1_i32 : BitVec 32 := 1#32
  ⟨c0_i32, v69, c1_i32⟩
def k0_off1 (k0_t1 : Fin k0_t1_loop.trips) : Fin 3 → Nat :=
  let c0_68 : Index := 0#32
  let c127_i32 : BitVec 32 := 127#32
  let c0_i32 : BitVec 32 := 0#32
  let c1_i32 : BitVec 32 := 1#32
  let arg23 : BitVec 32 := Scf.iv c0_i32 c1_i32 k0_t1
  let v136 : BitVec 32 := Scalar.subi c127_i32 arg23
  let v137 : Index := Scalar.indexCast v136
  let c0_69 : Index := 0#32
  ![0, v137.toNat, 0]
abbrev stage0_0 : Fin 1 → Memref sig .tc .vmem S12x128x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x128x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x128x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128x1536 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x128x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S12x128x4608 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S12x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Mem.lean ====
/- Programs over named buffers: what they are when run on buffers that lie somewhere, what they do to the buffers' contents,
   and that they do it when run. -/
module

public import Idealize.ShloMosaic.Lib.Pipeline.FrameBody
public import Idealize.ShloMosaic.Lib.Tactic

@[expose] public section
noncomputable section

namespace Cert.Mem
open Idealize.ShloMosaic Idealize.ShloMosaic.TcCoe Idealize.ShloMosaic.Tactic Idealize.SL
open Idealize.SL.RA Idealize.SL.BI
open scoped Idealize.SL.BI
open Idealize.SL.BI.BIBase Idealize.SL.BI.Laws Idealize.SL.ProofMode Idealize.SL.Sem Idealize.ShloMosaic.Rounds

/-- A loop written out, and what follows it: the trips `0, …, n-1` in turn. -/
def loopK.{v} {E : Type → Type v} {α : Type} : (n : ℕ) → (∀ k, k < n → Prog E PUnit) → Prog E α → Prog E α
  | 0, _, p => p
  | n + 1, f, p => (f 0 (by omega)).bind fun _ => loopK n (fun k h => f (k + 1) (by omega)) p

/-- A loop written out that carries a value, and what follows it. -/
def loopS.{v} {E : Type → Type v} {S α : Type} : (n : ℕ) → (∀ k, k < n → S → Prog E S) → S → (S → Prog E α) → Prog E α
  | 0, _, s, p => p s
  | n + 1, f, s, p => (f 0 (by omega) s).bind fun s => loopS n (fun k h => f (k + 1) (by omega)) s p

section
variable {B : Type} (sig : RefSig) (sh : B → Shape) (et : B → EltTy) (out : B → Bool)

/-- A memory operation of a program, on a buffer by name: only the outputs and the scratch buffers are stored to. -/
inductive Op (F : FTy → Type) : Type → Type
  | ld (b : B) (r : LoadRect (sh b)) (h : 0 < r.shape.numel) : Op F (r.shape.Idx → Elt F (et b))
  | st (b : B) (ho : out b = true) (r : Rect (sh b)) (h : 0 < r.shape.numel) (v : r.shape.Idx → Elt F (et b))
      (hx : ∀ m : Memref sig .tc .vmem (sh b) (et b), m.IsWhole → (m.access r).Stores Finset.univ) : Op F PUnit

/-- Programs over the buffers' names. -/
abbrev Cmd (F : FTy → Type) (α : Type) := Prog (Op sig sh et out F) α

end

variable {B : Type} {nD : Nat} {τ : Topo} {sig : RefSig} {Λ₀ : Labels} {sh : B → Shape} {et : B → EltTy} {out : B → Bool}
variable {F : FTy → Type}

/-- Programs of a core. -/
abbrev PR (nD : Nat) (τ : Topo) (sig : RefSig) (Λ₀ : Labels) (F : FTy → Type) (α : Type) := Prog (TpuEff nD τ sig (Elt F) Λ₀ .tc) α

/-- A load through a rectangle. -/
abbrev ld (b : B) (r : LoadRect (sh b)) (h : 0 < r.shape.numel) : Cmd sig sh et out F (r.shape.Idx → Elt F (et b)) := .op (.ld b r h) .ret

/-- A store through a rectangle, after the load of what is overwritten. -/
abbrev st (b : B) (r : Rect (sh b)) (h : 0 < r.shape.numel) (v : r.shape.Idx → Elt F (et b))
    (hx : ∀ m : Memref sig .tc .vmem (sh b) (et b), m.IsWhole → (m.access r).Stores Finset.univ) (ho : out b = true := by rfl) : Cmd sig sh et out F PUnit :=
  .op (.st b ho r h v hx) .ret

section
variable (M : ∀ b : B, Memref sig .tc .vmem (sh b) (et b)) (W : ∀ b, (M b).IsWhole)

/-- One operation on buffers that lie somewhere. -/
def opPR {α : Type} : Op sig sh et out F α → PR nD τ sig Λ₀ F α
  | .ld b r h => Prog.lift (.load (M b) r (View.loadsAt_vmem h))
  | .st b _ r h v hx => .op (.load (M b) r.toLoadRect (View.loadsAt_vmem h)) fun _ => Prog.lift (.store (M b) r v Finset.univ (hx _ (W b)) (.inl rfl))

/-- A program on buffers that lie somewhere. -/
def toPR {α : Type} : Cmd sig sh et out F α → PR nD τ sig Λ₀ F α
  | .ret a => .ret a
  | .op e k => (opPR M W e).bind fun x => toPR (k x)

theorem bind_assoc' {α β γ : Type} (p : PR nD τ sig Λ₀ F α) (k : α → PR nD τ sig Λ₀ F β) (l : β → PR nD τ sig Λ₀ F γ) : (p.bind k).bind l = p.bind fun x => (k x).bind l := by
  induction p with
  | ret a => rfl
  | op e k' ih => simp only [Prog.bind]; congr 1; funext x; exact ih x

theorem toPR_bind {α β : Type} (p : Cmd sig sh et out F α) (k : α → Cmd sig sh et out F β) : (toPR M W (p.bind k) : PR nD τ sig Λ₀ F _) = (toPR M W p).bind fun x => toPR M W (k x) := by
  induction p with
  | ret a => rfl
  | op e k' ih =>
    simp only [Prog.bind, toPR]
    rw [funext ih]
    exact (bind_assoc' _ _ _).symm

theorem toPR_loopK {α : Type} (n : ℕ) (f : ∀ k, k < n → Cmd sig sh et out F PUnit) (p : Cmd sig sh et out F α) :
    (toPR M W (loopK n f p) : PR nD τ sig Λ₀ F _) = loopK n (fun k h => toPR M W (f k h)) (toPR M W p) := by
  induction n with
  | zero => rfl
  | succ n ih => simp only [loopK, toPR_bind, ih]

theorem toPR_loopS {S α : Type} (n : ℕ) (f : ∀ k, k < n → S → Cmd sig sh et out F S) (s : S) (p : S → Cmd sig sh et out F α) :
    (toPR M W (loopS n f s p) : PR nD τ sig Λ₀ F _) = loopS n (fun k h s => toPR M W (f k h s)) s fun s => toPR M W (p s) := by
  induction n generalizing s with
  | zero => rfl
  | succ n ih => simp only [loopS, toPR_bind, ih]

theorem toPR_forFrom {S : Type} {n : ℕ} (f : Fin n → S → Cmd sig sh et out F S) (l : List (Fin n)) (u : S) :
    (toPR M W (Scf.forFrom f l u) : PR nD τ sig Λ₀ F _) = Scf.forFrom (fun t u => toPR M W (f t u)) l u := by
  induction l generalizing u with
  | nil => rfl
  | cons t l ih =>
    exact (toPR_bind M W (f t u) _).trans (congrArg (Prog.bind _) (funext fun u => ih u))

theorem toPR_for {S : Type} (l : Scf.Loop 32) (ok : l.OK) (u : S) (f : Fin l.trips → S → Cmd sig sh et out F S) :
    (toPR M W (Scf.Loop.for l ok u f) : PR nD τ sig Λ₀ F _) = Scf.Loop.for l ok u fun t u => toPR M W (f t u) := by
  simp only [Scf.for_eq]; exact toPR_forFrom M W f _ _

end

/-- The buffers' contents. -/
abbrev St (sh : B → Shape) (et : B → EltTy) (F : FTy → Type) := ∀ b : B, (sh b).Idx → Elt F (et b)

open Classical in
/-- Contents with a rectangle overwritten. -/
def upd {s : Shape} {α : Type} (X : s.Idx → α) (r : Rect s) (w : r.shape.Idx → α) : s.Idx → α :=
  fun y => if h : ∃ x, r.emb x = y then w h.choose else X y

theorem upd_emb {s : Shape} {α : Type} (X : s.Idx → α) (r : Rect s) (w : r.shape.Idx → α) (x : r.shape.Idx) : upd X r w (r.emb x) = w x := by
  have h : ∃ x', r.emb x' = r.emb x := ⟨x, rfl⟩
  rw [upd, dif_pos h, r.emb.injective h.choose_spec]

theorem upd_of_not {s : Shape} {α : Type} (X : s.Idx → α) (r : Rect s) (w : r.shape.Idx → α) {y : s.Idx} (h : ¬ ∃ x, r.emb x = y) : upd X r w y = X y :=
  dif_neg h

variable [DecidableEq B]

/-- What one operation returns and leaves. -/
def evOp {α : Type} : Op sig sh et out F α → St sh et F → α × St sh et F
  | .ld b r _, s => (fun x => s b (r.idx x), s)
  | .st b _ r _ v _, s => (⟨⟩, Function.update s b (upd (s b) r v))

/-- What a program returns and leaves. -/
def ev {α : Type} : Cmd sig sh et out F α → St sh et F → α × St sh et F
  | .ret a, s => (a, s)
  | .op e k, s => ev (k (evOp e s).1) (evOp e s).2

theorem ev_bind {α β : Type} (p : Cmd sig sh et out F α) (k : α → Cmd sig sh et out F β) (s : St sh et F) : ev (p.bind k) s = ev (k (ev p s).1) (ev p s).2 := by
  induction p generalizing s with
  | ret a => rfl
  | op e k' ih => simp only [Prog.bind, ev, ih]

/-- A program leaves the inputs' blocks as they are. -/
theorem ev_in {α : Type} (p : Cmd sig sh et out F α) (s : St sh et F) (b : B) (h : out b = false) : (ev p s).2 b = s b := by
  induction p generalizing s with
  | ret a => rfl
  | op e k ih =>
    rw [ev, ih]
    cases e with
    | ld b' r h' => rfl
    | st b' ho r h' v hx =>
      exact Function.update_of_ne (by rintro rfl; simp [h] at ho) _ _

variable [Fintype B]
variable (M : ∀ b : B, Memref sig .tc .vmem (sh b) (et b)) (W : ∀ b, (M b).IsWhole)

local notation "𝕄" => MT nD τ sig Unit (Elt F) ℕ (UR sig nD τ) ℕ

/-- A core owns the buffers at contents. -/
def Own (c : Dev nD) (s : St sh et F) : sProp 𝕄 := bigSep Finset.univ fun b : B => ownsTc c (M b) fullShare (s b)

theorem own_take (c : Dev nD) (s : St sh et F) (b : B) :
    (Own M c s : sProp 𝕄) = iprop(ownsTc c (M b) fullShare (s b) ∗ bigSep (Finset.univ.erase b) fun b : B => ownsTc c (M b) fullShare (s b)) :=
  bigSep_erase (Finset.mem_univ b)

theorem own_put (c : Dev nD) (s : St sh et F) (b : B) (X : (sh b).Idx → Elt F (et b)) :
    (Own M c (Function.update s b X) : sProp 𝕄) = iprop(ownsTc c (M b) fullShare X ∗ bigSep (Finset.univ.erase b) fun b : B => ownsTc c (M b) fullShare (s b)) := by
  rw [own_take M c _ b, Function.update_self]
  congr 1
  refine bigSep_congr fun b' hb' => ?_
  rw [Function.update_of_ne (Finset.ne_of_mem_erase hb')]

theorem read_upd {sp : Space} {sh : Shape} {e : EltTy} (m : Memref sig .tc sp sh e) (r : Rect sh) (f : m.view.ty.Contents (Elt F)) (v : r.shape.Idx → Elt F e) :
    m.view.read (Elt F) ((m.access r).write (Elt F) f v Finset.univ) = upd (m.view.read (Elt F) f) r v := by
  funext y
  by_cases h : ∃ x, r.emb x = y
  · obtain ⟨x, rfl⟩ := h
    rw [upd_emb]
    exact View.read_slice_write_emb r f v (Finset.mem_univ x)
  · rw [upd_of_not _ _ _ h]
    refine View.read_slice_write_of_not_mem r f v _ fun hm => h ?_
    obtain ⟨x, -, hx⟩ := Finset.mem_map.1 hm
    exact ⟨x, hx⟩

variable (defs : Defs nD τ sig (Elt F) Λ₀) (𝒱 : Variants)

/-- A program run on owned buffers returns and leaves what it evaluates to. -/
theorem den (c : Dev nD) (E : Set ℕ) {α : Type} (p : Cmd sig sh et out F α) (s : St sh et F) (Q : α → sProp 𝕄) :
    (iprop(Own M c s ∗ (Own M c (ev p s).2 -∗ Q (ev p s).1)) : sProp 𝕄) ⊢ wp frame (wpE defs 𝒱 (c : Thread nD τ) none) E (toPR M W p) Q := by
  induction p generalizing s with
  | ret a =>
    rw [toPR, wp_ret]
    show iprop(Own M c s ∗ (Own M c s -∗ Q a)) ⊢ _
    iintro ⟨H, K⟩
    imodintro
    iapply K
    iexact H
  | op e k ih =>
    cases e with
    | ld b r h =>
      rw [own_take M c s b]
      unfold ownsTc owns
      iintro ⟨⟨⟨%f, %hf, H⟩, R⟩, K⟩
      iapply (wp_load 𝒱 (c : Thread nD τ) none E (m := M b) (r := r) (hl := View.loadsAt_vmem h) (k := fun x => toPR M W (k x)) (S := (M b).view.set) (f := f) (View.setOn_subset_set _ _)) $$ H
      iintro H
      have e : (M b).view.readAt (Elt F) r f = fun x => s b (r.idx x) := by rw [← hf]; rfl
      rw [e]
      iapply ih (fun x => s b (r.idx x)) s
      isplitr [K]
      · rw [own_take M c s b]
        unfold ownsTc owns
        isplitl [H]
        · iexists f
          isplitr
          · ipureintro; exact hf
          · iexact H
        · iexact R
      · iexact K
    | st b ho r h v hx =>
      rw [own_take M c s b]
      unfold ownsTc owns
      iintro ⟨⟨⟨%f, %hf, H⟩, R⟩, K⟩
      iapply (wp_load 𝒱 (c : Thread nD τ) none E (m := M b) (r := r.toLoadRect) (hl := View.loadsAt_vmem h)
        (k := fun _ => .op (.store (M b) r v Finset.univ (hx _ (W b)) (.inl rfl)) fun x => toPR M W (k x)) (S := (M b).view.set) (f := f) (View.setOn_subset_set _ _)) $$ H
      iintro H
      iapply (wp_store 𝒱 (c : Thread nD τ) none E (m := M b) (r := r) (w := v) (hx := hx _ (W b)) (hm := .inl rfl)
        (k := fun x => toPR M W (k x)) (S := (M b).view.set) (f := f) ((View.setOn_subset_set _ _).trans (View.set_slice_subset _ _))) $$ H
      iintro H
      iapply ih ⟨⟩ (Function.update s b (upd (s b) r v))
      isplitr [K]
      · rw [own_put M c s b]
        unfold ownsTc owns
        isplitl [H]
        · iexists ((M b).access r).write (Elt F) f v Finset.univ
          isplitr
          · ipureintro; rw [read_upd, hf]
          · iexact H
        · iexact R
      · iexact K

end Cert.Mem
-- ==== Proof.Body.lean ====
/- The kernel's body written as loops: the same operations as the printed body, with one text for the
   chunks that the printed text repeats. -/
module

public import proofs.«01_k».proof.Proof.Gen.KernelIdeal
public import proofs.«01_k».proof.Proof.Mem

@[expose] public section
noncomputable section

namespace Cert.Body
open Cert.Mem (loopK loopS)
open Cert.KernelIdeal Cert.KernelIdeal.Gen Idealize.ShloMosaic Idealize.SL.Sem

variable {F : FTy → Type} [FloatOps F]

/-- Programs of the kernel's core. -/
abbrev PR (F : FTy → Type) [FloatOps F] (α : Type) := Prog (TpuEff nD τ sig (Elt F) Λ₀ .tc) α

/-- The kernel's buffers: the staged blocks of the twelve inputs and the seven results, and the scratch buffers. -/
inductive Bf
  | a1
  | a2
  | a3
  | a4
  | a5
  | a6
  | a7
  | a8
  | a9
  | a10
  | a11
  | a12
  | a13
  | a14
  | a15
  | a16
  | a17
  | a18
  | a19
  | a20
  | a21
  | a22
  | a23
  | a24
  | a25
  | a26
  | a27
  | a28
  | a29
  | a30
  | a31
  | a32
  | a33
  deriving DecidableEq

instance : Fintype Bf := ⟨{.a1, .a2, .a3, .a4, .a5, .a6, .a7, .a8, .a9, .a10, .a11, .a12, .a13, .a14, .a15, .a16, .a17, .a18, .a19, .a20, .a21, .a22, .a23, .a24, .a25, .a26, .a27, .a28, .a29, .a30, .a31, .a32, .a33}, fun b => by cases b <;> decide⟩

/-- A buffer's shape. -/
@[reducible] def Bf.sh : Bf → Shape
  | .a1 => S2x128x1536
  | .a2 => S1536x4608
  | .a3 => S1x1536
  | .a4 => S1x1536
  | .a5 => S1x1536
  | .a6 => S2x1536
  | .a7 => S2x128x4608
  | .a8 => S2x128x1536
  | .a9 => S12x1536
  | .a10 => S2x128x1536
  | .a11 => S12x128
  | .a12 => S12x1536
  | .a13 => S2x128x1536
  | .a14 => S12x1536
  | .a15 => S1x1536
  | .a16 => S1x1536
  | .a17 => S2x1536
  | .a18 => S2x128x4608
  | .a19 => S12x128
  | .a20 => S24x136x128
  | .a21 => S2x128x128
  | .a22 => S2x128x128
  | .a23 => S800x128
  | .a24 => S800x128
  | .a25 => S800x128
  | .a26 => S800x128
  | .a27 => S24x32x128
  | .a28 => S24x32x128
  | .a29 => S24x32x128
  | .a30 => S2x128x1536
  | .a31 => S144x128
  | .a32 => S144x128
  | .a33 => S4x8x1536

/-- A buffer's element type. -/
@[reducible] def Bf.et : Bf → EltTy
  | .a1 => .bf16
  | .a2 => .fp8e4m3
  | .a3 => .f32
  | .a4 => .f32
  | .a5 => .f32
  | .a6 => .f32
  | .a7 => .bf16
  | .a8 => .f32
  | .a9 => .f32
  | .a10 => .fp8e5m2
  | .a11 => .f32
  | .a12 => .f32
  | .a13 => .bf16
  | .a14 => .f32
  | .a15 => .f32
  | .a16 => .f32
  | .a17 => .f32
  | .a18 => .fp8e5m2
  | .a19 => .f32
  | .a20 => .f32
  | .a21 => .f32
  | .a22 => .f32
  | .a23 => .f32
  | .a24 => .f32
  | .a25 => .f32
  | .a26 => .f32
  | .a27 => .f32
  | .a28 => .f32
  | .a29 => .f32
  | .a30 => .f32
  | .a31 => .f32
  | .a32 => .f32
  | .a33 => .f32

/-- Whether a buffer may be stored to: every buffer but the inputs' blocks. -/
@[reducible] def Bf.out : Bf → Bool
  | .a1 | .a2 | .a3 | .a4 | .a5 | .a6 | .a7 | .a8 | .a9 | .a10 | .a11 | .a12 => false
  | _ => true

/-- Where the buffers lie. -/
abbrev Mems := ∀ b : Bf, Memref sig .tc .vmem b.sh b.et

/-- Programs over the buffers' names. -/
abbrev Cmd (F : FTy → Type) (α : Type) := Mem.Cmd sig Bf.sh Bf.et Bf.out F α

/-- A load through a rectangle. -/
abbrev ld (b : Bf) (r : LoadRect b.sh) (h : 0 < r.shape.numel) : Cmd F (r.shape.Idx → Elt F b.et) := Mem.ld b r h

/-- A store through a rectangle, after the load of what is overwritten, as the kernel's vector stores are. -/
abbrev st (b : Bf) (r : Rect b.sh) (h : 0 < r.shape.numel) (v : r.shape.Idx → Elt F b.et)
    (hx : ∀ m : Memref sig .tc .vmem b.sh b.et, m.IsWhole → (m.access r).Stores Finset.univ) (ho : b.out = true := by rfl) : Cmd F PUnit :=
  Mem.st b r h v hx ho

/-- A loop written out. -/
abbrev loop (n : ℕ) (f : ∀ k, k < n → Cmd F PUnit) : Cmd F PUnit := loopK n f (pure ⟨⟩)

/-- The time offset of trip `t` of the block loop, as the kernel computes it. -/
abbrev tw (t : Fin k0_t1_loop.trips) : BitVec 32 := Scalar.subi 96#32 (Scalar.muli (Scf.iv 0#32 1#32 t) 32#32)
abbrev tix (t : Fin k0_t1_loop.trips) : ℕ := (Scalar.indexCast (tw t)).toNat
abbrev tix8 (t : Fin k0_t1_loop.trips) : ℕ := (Scalar.indexCast (Scalar.addi (tw t) 8#32)).toNat
abbrev tix7 (t : Fin k0_t1_loop.trips) : ℕ := (Scalar.indexCast (Scalar.subi (Scalar.addi (tw t) 8#32) 1#32)).toNat

theorem tix_eq : ∀ t : Fin k0_t1_loop.trips, tix t = 96 - 32 * t.val := by decide +kernel
theorem tix8_eq : ∀ t : Fin k0_t1_loop.trips, tix8 t = 104 - 32 * t.val := by decide +kernel
theorem tix7_eq : ∀ t : Fin k0_t1_loop.trips, tix7 t = 103 - 32 * t.val := by decide +kernel

theorem inbX (t : Fin k0_t1_loop.trips) {k bb : ℕ} (hk : k < 12) (hb : bb < 2) :
    ∀ a, (![bb, tix t, k * 128] : Fin 3 → ℕ) a + S1x32x128.size a ≤ S2x128x1536.size a := by
  have := tix_eq t
  intro a; fin_cases a <;> simp <;> omega
theorem inbG (t : Fin k0_t1_loop.trips) {bb : ℕ} (hb : bb < 2) :
    ∀ a, (![bb, tix t, 0] : Fin 3 → ℕ) a + S1x32x128.size a ≤ S2x128x128.size a := by
  have := tix_eq t
  intro a; fin_cases a <;> simp <;> omega
theorem inbU (t : Fin k0_t1_loop.trips) {k bb : ℕ} (hk : k < 36) (hb : bb < 2) :
    ∀ a, (![bb, tix t, k * 128] : Fin 3 → ℕ) a + S1x32x128.size a ≤ S2x128x4608.size a := by
  have := tix_eq t
  intro a; fin_cases a <;> simp <;> omega
theorem inbC8 (t : Fin k0_t1_loop.trips) {ck : ℕ} (hk : ck < 24) :
    ∀ a, (![ck, tix8 t, 0] : Fin 3 → ℕ) a + S1x32x128.size a ≤ S24x136x128.size a := by
  have := tix8_eq t
  intro a; fin_cases a <;> simp <;> omega
theorem inbC7 (t : Fin k0_t1_loop.trips) {ck : ℕ} (hk : ck < 24) :
    ∀ a, (![ck, tix7 t, 0] : Fin 3 → ℕ) a + S1x32x128.size a ≤ S24x136x128.size a := by
  have := tix7_eq t
  intro a; fin_cases a <;> simp <;> omega
theorem inbS {ck : ℕ} (hk : ck < 24) :
    ∀ a, (![ck, 0, 0] : Fin 3 → ℕ) a + S1x32x128.size a ≤ S24x32x128.size a := by
  intro a; fin_cases a <;> simp <;> omega
theorem inbV {k : ℕ} (hk : k < 12) :
    ∀ a, (![0, k * 128] : Fin 2 → ℕ) a + S1x128.size a ≤ S1x1536.size a := by
  intro a; fin_cases a <;> simp <;> omega
theorem inbB {k r : ℕ} (hk : k < 12) (hr : r < 2) :
    ∀ a, (![r, k * 128] : Fin 2 → ℕ) a + S1x128.size a ≤ S2x1536.size a := by
  intro a; fin_cases a <;> simp <;> omega
theorem inbA {k r : ℕ} (hk : k < 12) (hr : r < 4) :
    ∀ a, (![r, 0, k * 128] : Fin 3 → ℕ) a + S1x8x128.size a ≤ S4x8x1536.size a := by
  intro a; fin_cases a <;> simp <;> omega
theorem inbR {j ck : ℕ} (hj : j < 4) (hk : ck < 24) :
    ∀ a, S8x128.size a = 0 ∨ (![j * 200 + ck, 0] : Fin 2 → ℕ) a + (![25, 1] : Fin 2 → ℕ) a * (S8x128.size a - 1) < S800x128.size a := by
  intro a; fin_cases a <;> simp <;> omega

abbrev rX (t : Fin k0_t1_loop.trips) {k bb : ℕ} (hk : k < 12) (hb : bb < 2) : Rect S2x128x1536 := .unit ![bb, tix t, k * 128] S1x32x128.size (inbX t hk hb)
abbrev rG (t : Fin k0_t1_loop.trips) {bb : ℕ} (hb : bb < 2) : Rect S2x128x128 := .unit ![bb, tix t, 0] S1x32x128.size (inbG t hb)
abbrev rU (t : Fin k0_t1_loop.trips) {k bb : ℕ} (hk : k < 36) (hb : bb < 2) : Rect S2x128x4608 := .unit ![bb, tix t, k * 128] S1x32x128.size (inbU t hk hb)
abbrev rC8 (t : Fin k0_t1_loop.trips) {ck : ℕ} (hk : ck < 24) : Rect S24x136x128 := .unit ![ck, tix8 t, 0] S1x32x128.size (inbC8 t hk)
abbrev rC7 (t : Fin k0_t1_loop.trips) {ck : ℕ} (hk : ck < 24) : Rect S24x136x128 := .unit ![ck, tix7 t, 0] S1x32x128.size (inbC7 t hk)
abbrev rS {ck : ℕ} (hk : ck < 24) : Rect S24x32x128 := .unit ![ck, 0, 0] S1x32x128.size (inbS hk)
abbrev rV {k : ℕ} (hk : k < 12) : Rect S1x1536 := .unit ![0, k * 128] S1x128.size (inbV hk)
abbrev rB {k r : ℕ} (hk : k < 12) (hr : r < 2) : Rect S2x1536 := .unit ![r, k * 128] S1x128.size (inbB hk hr)
abbrev rA {k r : ℕ} (hk : k < 12) (hr : r < 4) : Rect S4x8x1536 := .unit ![r, 0, k * 128] S1x8x128.size (inbA hk hr)
abbrev rR {j ck : ℕ} (hj : j < 4) (hk : ck < 24) : Rect S800x128 := ⟨⟨![j * 200 + ck, 0], S8x128.size, ![25, 1], inbR hj hk⟩, spos_25_1⟩

theorem packU : ∀ (t : Fin k0_t1_loop.trips) (k : Fin 36) (bb : Fin 2), (rU t k.2 bb.2).PackedRows (EltTy.packing .fp8e5m2) := by decide +kernel

abbrev tixL (t : Fin k0_t1_loop.trips) (j : ℕ) : ℕ := (Scalar.indexCast (Scalar.addi (tw t) (BitVec.ofNat 32 (8 * j)))).toNat
theorem tixL_eq : ∀ (t : Fin k0_t1_loop.trips) (j : Fin 4), tixL t j.val = 96 + 8 * j.val - 32 * t.val := by decide +kernel
theorem inbL (t : Fin k0_t1_loop.trips) {j bb : ℕ} (hj : j < 4) (hb : bb < 2) :
    ∀ a, (![bb, tixL t j, 0] : Fin 3 → ℕ) a + S1x8x128.size a ≤ S2x128x128.size a := by
  have := tixL_eq t ⟨j, hj⟩
  intro a; fin_cases a <;> simp at * <;> omega
abbrev rL (t : Fin k0_t1_loop.trips) {j bb : ℕ} (hj : j < 4) (hb : bb < 2) : Rect S2x128x128 := .unit ![bb, tixL t j, 0] S1x8x128.size (inbL t hj hb)

theorem inbRow {q j : ℕ} (hq : q < 32) (hj : j < 3) :
    ∀ a, (![q * 25 + 8 * j, 0] : Fin 2 → ℕ) a + S8x128.size a ≤ S800x128.size a := by
  intro a; fin_cases a <;> simp <;> omega
abbrev rRow {q j : ℕ} (hq : q < 32) (hj : j < 3) : Rect S800x128 := .unit ![q * 25 + 8 * j, 0] S8x128.size (inbRow hq hj)

theorem inbM7 {ck : ℕ} (hk : ck < 24) : ∀ a, (![ck, 7, 0] : Fin 3 → ℕ) a + S1x1x128.size a ≤ S24x136x128.size a := by
  intro a; fin_cases a <;> simp <;> omega
theorem inbM8 {ck : ℕ} (hk : ck < 24) : ∀ a, (![ck, 8, 0] : Fin 3 → ℕ) a + S1x128x128.size a ≤ S24x136x128.size a := by
  intro a; fin_cases a <;> simp <;> omega
theorem inbX8 {k bb : ℕ} (hk : k < 12) (hb : bb < 2) : ∀ a, (![bb, 0, k * 128] : Fin 3 → ℕ) a + S1x128x128.size a ≤ S2x128x1536.size a := by
  intro a; fin_cases a <;> simp <;> omega
abbrev rM7 {ck : ℕ} (hk : ck < 24) : Rect S24x136x128 := .unit ![ck, 7, 0] S1x1x128.size (inbM7 hk)
abbrev rM8 {ck : ℕ} (hk : ck < 24) : Rect S24x136x128 := .unit ![ck, 8, 0] S1x128x128.size (inbM8 hk)
abbrev rX8 {k bb : ℕ} (hk : k < 12) (hb : bb < 2) : Rect S2x128x1536 := .unit ![bb, 0, k * 128] S1x128x128.size (inbX8 hk hb)
theorem inbT (bb : ℕ) (hb : bb < 2) : ∀ a, (![bb, 0, 0] : Fin 3 → ℕ) a + S1x128x128.size a ≤ S2x128x128.size a := by
  intro a; fin_cases a <;> simp <;> omega
abbrev rT {bb : ℕ} (hb : bb < 2) : Rect S2x128x128 := .unit ![bb, 0, 0] S1x128x128.size (inbT bb hb)
abbrev r1 (i : grid0.Coords) {bb : ℕ} (hb : bb < 2) : Rect S12x128 := .unit (k0_off1 i (BitVec.ofNat 32 bb)) S1x128.size (k0_off1_inb i ⟨bb, hb⟩)
abbrev r2 (i : grid0.Coords) {ck : ℕ} (hk : ck < 24) : Rect S144x128 := .unit (k0_off2 i (BitVec.ofNat 32 ck)) S1x128.size (k0_off2_inb i ⟨ck, hk⟩)
abbrev r149 (i : grid0.Coords) {j : ℕ} (hj : j < 3) : Rect S144x128 := .unit (k0_off149 i (BitVec.ofNat 32 (8 * j))) S8x128.size (k0_off149_inb i ⟨j, hj⟩)

theorem inbI8 {k : ℕ} (hk : k < 12) : ∀ a, (![0, k * 128] : Fin 2 → ℕ) a + S8x128.size a ≤ S12x1536.size a := by
  intro a; fin_cases a <;> simp <;> omega
theorem inbI4 {k : ℕ} (hk : k < 12) : ∀ a, (![8, k * 128] : Fin 2 → ℕ) a + S4x128.size a ≤ S12x1536.size a := by
  intro a; fin_cases a <;> simp <;> omega
theorem inbJ8 {k : ℕ} (hk : k < 12) :
    ∀ a, S8x128.size a = 0 ∨ (![k, 0] : Fin 2 → ℕ) a + (![12, 1] : Fin 2 → ℕ) a * (S8x128.size a - 1) < S144x128.size a := by
  intro a; fin_cases a <;> simp <;> omega
theorem inbJ4 {k : ℕ} (hk : k < 12) :
    ∀ a, S4x128.size a = 0 ∨ (![96 + k, 0] : Fin 2 → ℕ) a + (![12, 1] : Fin 2 → ℕ) a * (S4x128.size a - 1) < S144x128.size a := by
  intro a; fin_cases a <;> simp <;> omega
abbrev rI8 {k : ℕ} (hk : k < 12) : Rect S12x1536 := .unit ![0, k * 128] S8x128.size (inbI8 hk)
abbrev rI4 {k : ℕ} (hk : k < 12) : Rect S12x1536 := .unit ![8, k * 128] S4x128.size (inbI4 hk)
abbrev rJ8 {k : ℕ} (hk : k < 12) : Rect S144x128 := ⟨⟨![k, 0], S8x128.size, ![12, 1], inbJ8 hk⟩, spos_12_1⟩
abbrev rJ4 {k : ℕ} (hk : k < 12) : Rect S144x128 := ⟨⟨![96 + k, 0], S4x128.size, ![12, 1], inbJ4 hk⟩, spos_12_1⟩
abbrev rF {r : ℕ} (hr : r < 4) : Rect S4x8x1536 := .unit ![r, 0, 0] S1x8x1536.size (by intro a; fin_cases a <;> simp <;> omega)
abbrev rE {r : ℕ} (hr : r < 2) : Rect S2x1536 := .unit ![r, 0] S1x1536.size (by intro a; fin_cases a <;> simp <;> omega)

section

/-- Eight rows of a block, at a stride, into the three buffers the scan reads. -/
def rows3 (gr a bt : FVec F S32x128 .f32) {j ck : ℕ} (hj : j < 4) (hc : ck < 24) (hs : S32x128.Slices ![j * 8, 0] S8x128) : Cmd F PUnit := do
  st .a23 (rR hj hc) h_S8x128 (shapeCast S8x128 (extractStridedSlice S8x128 ![j * 8, 0] gr hs) shapeCasts_S8x128_S8x128) (fun _ _ => View.stores_vmem_bits_univ h_S8x128 rfl)
  st .a24 (rR hj hc) h_S8x128 (shapeCast S8x128 (extractStridedSlice S8x128 ![j * 8, 0] a hs) shapeCasts_S8x128_S8x128) (fun _ _ => View.stores_vmem_bits_univ h_S8x128 rfl)
  st .a25 (rR hj hc) h_S8x128 (shapeCast S8x128 (extractStridedSlice S8x128 ![j * 8, 0] bt hs) shapeCasts_S8x128_S8x128) (fun _ _ => View.stores_vmem_bits_univ h_S8x128 rfl)

/-- Phase 1 on one chunk of 128 columns of one batch row: what it stores, and the two partial sums it returns. -/
def half (t : Fin k0_t1_loop.trips) (vf vr : FVec F S1x128 .f32) (b0 b1 : Vec F S1x128 .f32) {k bb : ℕ} (hk : k < 12) (hb : bb < 2)
    (hc : bb * 12 + k < 24) : Cmd F (FVec F S8x128 .f32 × FVec F S8x128 .f32) := do
  let v345 : Vec F S1x32x128 .fp8e5m2 ← ld .a10 (rX t hk hb).toLoadRect h_S1x32x128
  have v347 : FVec F S32x128 .f32 := extf .f32 (shapeCast S32x128 v345 shapeCasts_S1x32x128_S32x128) bitsLt_fp8e5m2_f32
  let v349 : Vec F S1x32x128 .f32 ← ld .a21 (rG t hb).toLoadRect h_S1x32x128
  have g : FVec F S32x128 .f32 := mulf v347 (shapeCast S32x128 v349 shapeCasts_S1x32x128_S32x128)
  let v353 : Vec F S1x32x128 .bf16 ← ld .a7 (rU t (k := k) (by omega) hb).toLoadRect h_S1x32x128
  have xt : FVec F S32x128 .f32 := extf .f32 (shapeCast S32x128 v353 shapeCasts_S1x32x128_S32x128) bitsLt_bf16_f32
  let v357 : Vec F S1x32x128 .bf16 ← ld .a7 (rU t (k := 12 + k) (by omega) hb).toLoadRect h_S1x32x128
  have uf : FVec F S32x128 .f32 := extf .f32 (shapeCast S32x128 v357 shapeCasts_S1x32x128_S32x128) bitsLt_bf16_f32
  let v361 : Vec F S1x32x128 .bf16 ← ld .a7 (rU t (k := 24 + k) (by omega) hb).toLoadRect h_S1x32x128
  have ur : FVec F S32x128 .f32 := extf .f32 (shapeCast S32x128 v361 shapeCasts_S1x32x128_S32x128) bitsLt_bf16_f32
  let v366 : Vec F S1x32x128 .f32 ← ld .a20 (rC8 t hc).toLoadRect h_S1x32x128
  have c : FVec F S32x128 .f32 := shapeCast S32x128 v366 shapeCasts_S1x32x128_S32x128
  let v371 : Vec F S1x32x128 .f32 ← ld .a20 (rC7 t hc).toLoadRect h_S1x32x128
  have cp : FVec F S32x128 .f32 := shapeCast S32x128 v371 shapeCasts_S1x32x128_S32x128
  have f : FVec F S32x128 .f32 := logistic (addf (addf uf (mulf (broadcastTo S32x128 vf broadcasts_S1x128_S32x128) cp)) (broadcastTo S32x128 b0 broadcasts_S1x128_S32x128))
  have r : FVec F S32x128 .f32 := logistic (addf (addf ur (mulf (broadcastTo S32x128 vr broadcasts_S1x128_S32x128) cp)) (broadcastTo S32x128 b1 broadcasts_S1x128_S32x128))
  have gr : FVec F S32x128 .f32 := mulf g r
  have dxh : FVec F S32x128 .f32 := subf g gr
  let v389 : Vec F S1x32x128 .bf16 ← ld .a1 (rX t hk hb).toLoadRect h_S1x32x128
  have x : FVec F S32x128 .f32 := extf .f32 (shapeCast S32x128 v389 shapeCasts_S1x32x128_S32x128) bitsLt_bf16_f32
  have dr : FVec F S32x128 .f32 := mulf (mulf dxh r) (subf c x)
  have om : FVec F S32x128 .f32 := subf (broadcast S32x128 (Scalar.ofBits .f32 0x3F800000#32)) f
  have xf : FVec F S32x128 .f32 := mulf (subf cp xt) (mulf f om)
  have a : FVec F S32x128 .f32 := addf f (mulf (broadcastTo S32x128 vf broadcasts_S1x128_S32x128) xf)
  have bt : FVec F S32x128 .f32 := mulf dr (broadcastTo S32x128 vr broadcasts_S1x128_S32x128)
  st .a27 (rS hc) h_S1x32x128 (shapeCast S1x32x128 om shapeCasts_S32x128_S1x32x128) (fun _ _ => View.stores_vmem_bits_univ h_S1x32x128 rfl)
  st .a28 (rS hc) h_S1x32x128 (shapeCast S1x32x128 xf shapeCasts_S32x128_S1x32x128) (fun _ _ => View.stores_vmem_bits_univ h_S1x32x128 rfl)
  st .a29 (rS hc) h_S1x32x128 (shapeCast S1x32x128 dr shapeCasts_S32x128_S1x32x128) (fun _ _ => View.stores_vmem_bits_univ h_S1x32x128 rfl)
  st .a30 (rX t hk hb) h_S1x32x128 (shapeCast S1x32x128 dxh shapeCasts_S32x128_S1x32x128) (fun _ _ => View.stores_vmem_bits_univ h_S1x32x128 rfl)
  rows3 gr a bt (j := 0) (by omega) hc slices_S32x128_o0_0_S8x128
  rows3 gr a bt (j := 1) (by omega) hc slices_S32x128_o8_0_S8x128
  rows3 gr a bt (j := 2) (by omega) hc slices_S32x128_o16_0_S8x128
  rows3 gr a bt (j := 3) (by omega) hc slices_S32x128_o24_0_S8x128
  pure (multiReduction .add [0] S8x128 (shapeCast S4x8x128 (mulf dr cp) shapeCasts_S32x128_S4x8x128) 0x00000000#32 reduces_S4x8x128_S8x128 (.inl rfl) rfl,
    multiReduction .add [0] S8x128 (shapeCast S4x8x128 dr shapeCasts_S32x128_S4x8x128) 0x00000000#32 reduces_S4x8x128_S8x128 (.inl rfl) rfl)

/-- Add to one row group of the accumulator. -/
def bump {k r : ℕ} (hk : k < 12) (hr : r < 4) (v : FVec F S8x128 .f32) : Cmd F PUnit := do
  let v598 : Vec F S1x8x128 .f32 ← ld .a33 (rA hk hr).toLoadRect h_S1x8x128
  st .a33 (rA hk hr) h_S1x8x128 (shapeCast S1x8x128 (addf (shapeCast S8x128 v598 shapeCasts_S1x8x128_S8x128) v) shapeCasts_S8x128_S1x8x128) (fun _ _ => View.stores_vmem_bits_univ h_S1x8x128 rfl)

/-- Phase 1 on 128 columns, both batch rows. -/
def chunk1 (t : Fin k0_t1_loop.trips) {k : ℕ} (hk : k < 12) : Cmd F PUnit := do
  let v338 : Vec F S1x128 .f32 ← ld .a4 (rV hk).toLoadRect h_S1x128
  let v340 : Vec F S1x128 .f32 ← ld .a5 (rV hk).toLoadRect h_S1x128
  let b0 : Vec F S1x128 .f32 ← ld .a6 (rB (r := 0) hk (by omega)).toLoadRect h_S1x128
  let b1 : Vec F S1x128 .f32 ← ld .a6 (rB (r := 1) hk (by omega)).toLoadRect h_S1x128
  let s0 ← half t (shapeCast S1x128 v338 shapeCasts_S1x128_S1x128) (shapeCast S1x128 v340 shapeCasts_S1x128_S1x128) b0 b1 (bb := 0) hk (by omega) (by omega)
  let s1 ← half t (shapeCast S1x128 v338 shapeCasts_S1x128_S1x128) (shapeCast S1x128 v340 shapeCasts_S1x128_S1x128) b0 b1 (bb := 1) hk (by omega) (by omega)
  bump (r := 1) hk (by omega) (addf s0.1 s1.1)
  bump (r := 3) hk (by omega) (addf s0.2 s1.2)

/-- One time step of the scan on eight rows of 128 columns. -/
def scanStep {j q : ℕ} (hj : j < 3) (hq : q < 32) (dc : FVec F S8x128 .f32) : Cmd F (FVec F S8x128 .f32) := do
  let g : Vec F S8x128 .f32 ← ld .a23 (rRow hq hj).toLoadRect h_S8x128
  have dct : FVec F S8x128 .f32 := addf g dc
  st .a26 (rRow hq hj) h_S8x128 (shapeCast S8x128 dct shapeCasts_S8x128_S8x128) (fun _ _ => View.stores_vmem_bits_univ h_S8x128 rfl)
  let a : Vec F S8x128 .f32 ← ld .a24 (rRow hq hj).toLoadRect h_S8x128
  have m : FVec F S8x128 .f32 := mulf dct a
  let b : Vec F S8x128 .f32 ← ld .a25 (rRow hq hj).toLoadRect h_S8x128
  pure (addf m b)

/-- The block part of the scan: 32 time steps, backwards, on eight rows of 128 columns. -/
def scan (i : grid0.Coords) {j : ℕ} (hj : j < 3) : Cmd F PUnit :=
  (ld .a32 (r149 i hj).toLoadRect h_S8x128).bind fun dc0 : FVec F S8x128 .f32 =>
  loopS 32 (fun q hq dc => scanStep hj (q := 31 - q) (by omega) dc) dc0 fun dc =>
  st .a32 (r149 i hj) h_S8x128 (shapeCast S8x128 dc shapeCasts_S8x128_S8x128) (fun _ _ => View.stores_vmem_bits_univ h_S8x128 rfl)

/-- The running row maxima of a block, eight rows each. -/
structure Am (F : FTy → Type) where
  m0 : FVec F S8x128 .f32
  m1 : FVec F S8x128 .f32
  m2 : FVec F S8x128 .f32
  m3 : FVec F S8x128 .f32

/-- A block's four groups of eight rows. -/
abbrev slc (m : FVec F S32x128 .f32) : Am F :=
  ⟨extractStridedSlice S8x128 ![0, 0] m slices_S32x128_o0_0_S8x128, extractStridedSlice S8x128 ![8, 0] m slices_S32x128_o8_0_S8x128,
    extractStridedSlice S8x128 ![16, 0] m slices_S32x128_o16_0_S8x128, extractStridedSlice S8x128 ![24, 0] m slices_S32x128_o24_0_S8x128⟩

abbrev maxs (a b : Am F) : Am F := ⟨maximumf a.m0 b.m0, maximumf a.m1 b.m1, maximumf a.m2 b.m2, maximumf a.m3 b.m3⟩

/-- Phase 3 on one chunk: the gate gradients, their row maxima and the sums for the parameter gradients. -/
def chunk3 (t : Fin k0_t1_loop.trips) {k bb : ℕ} (hk : k < 12) (hb : bb < 2) (hc : bb * 12 + k < 24) : Cmd F (FVec F S32x128 .f32) := do
  let d0 : Vec F S8x128 .f32 ← ld .a26 (rR (j := 0) (by omega) hc).toLoadRect h_S8x128
  let d1 : Vec F S8x128 .f32 ← ld .a26 (rR (j := 1) (by omega) hc).toLoadRect h_S8x128
  let d2 : Vec F S8x128 .f32 ← ld .a26 (rR (j := 2) (by omega) hc).toLoadRect h_S8x128
  let d3 : Vec F S8x128 .f32 ← ld .a26 (rR (j := 3) (by omega) hc).toLoadRect h_S8x128
  have dct : FVec F S32x128 .f32 := concatenate S32x128 0 [⟨S8x128, d0⟩, ⟨S8x128, d1⟩, ⟨S8x128, d2⟩, ⟨S8x128, d3⟩] concatenates_S8x128_S8x128_S8x128_S8x128_S32x128_d0
  let v1 : Vec F S1x32x128 .f32 ← ld .a20 (rC7 t hc).toLoadRect h_S1x32x128
  have cp : FVec F S32x128 .f32 := shapeCast S32x128 v1 shapeCasts_S1x32x128_S32x128
  let v2 : Vec F S1x32x128 .f32 ← ld .a27 (rS hc).toLoadRect h_S1x32x128
  have dxt : FVec F S32x128 .f32 := mulf dct (shapeCast S32x128 v2 shapeCasts_S1x32x128_S32x128)
  let v3 : Vec F S1x32x128 .f32 ← ld .a28 (rS hc).toLoadRect h_S1x32x128
  have df : FVec F S32x128 .f32 := mulf dct (shapeCast S32x128 v3 shapeCasts_S1x32x128_S32x128)
  st .a27 (rS hc) h_S1x32x128 (shapeCast S1x32x128 dxt shapeCasts_S32x128_S1x32x128) (fun _ _ => View.stores_vmem_bits_univ h_S1x32x128 rfl)
  st .a28 (rS hc) h_S1x32x128 (shapeCast S1x32x128 df shapeCasts_S32x128_S1x32x128) (fun _ _ => View.stores_vmem_bits_univ h_S1x32x128 rfl)
  let v4 : Vec F S1x32x128 .f32 ← ld .a29 (rS hc).toLoadRect h_S1x32x128
  have m : FVec F S32x128 .f32 := maximumf (maximumf (absf dxt) (absf df)) (absf (shapeCast S32x128 v4 shapeCasts_S1x32x128_S32x128))
  bump (r := 0) hk (by omega) (multiReduction .add [0] S8x128 (shapeCast S4x8x128 (mulf df cp) shapeCasts_S32x128_S4x8x128) 0x00000000#32 reduces_S4x8x128_S8x128 (.inl rfl) rfl)
  bump (r := 2) hk (by omega) (multiReduction .add [0] S8x128 (shapeCast S4x8x128 df shapeCasts_S32x128_S4x8x128) 0x00000000#32 reduces_S4x8x128_S8x128 (.inl rfl) rfl)
  pure m

/-- Eight rows' largest magnitudes over the scale's range. -/
abbrev yOf (am : FVec F S8x128 .f32) : FVec F S8x128 .f32 :=
  mulf (broadcastTo S8x128 (shapeCast S8x1 (shapeCast S8x1 (multiReduction .maximumf [1] S8 am 0xFF800000#32 reduces_S8x128_S8 (.inl rfl) rfl) shapeCasts_S8_S8x1) shapeCasts_S8x1_S8x1) broadcasts_S8x1_S8x128)
    (broadcast S8x128 (Scalar.ofBits .f32 0x37924925#32))

/-- The scale's exponent. -/
abbrev eOf (am : FVec F S8x128 .f32) : FVec F S8x128 .f32 :=
  select (cmpf .oeq (yOf am) (broadcast S8x128 (Scalar.ofBits .f32 0x00000000#32))) (broadcast S8x128 (Scalar.ofBits .f32 0x00000000#32))
    (addf (floor (mulf (log (yOf am)) (broadcast S8x128 (Scalar.ofBits .f32 0x3FB8AA3B#32)))) (broadcast S8x128 (Scalar.ofBits .f32 0x3F800000#32)))

/-- One group of eight rows' scales stored; their inverses returned. -/
def scl (t : Fin k0_t1_loop.trips) {j bb : ℕ} (hj : j < 4) (hb : bb < 2) (am : FVec F S8x128 .f32) : Cmd F (FVec F S8x128 .f32) := do
  st .a22 (rL t hj hb) h_S1x8x128 (shapeCast S1x8x128 (exp2 (eOf am)) shapeCasts_S8x128_S1x8x128) (fun _ _ => View.stores_vmem_bits_univ h_S1x8x128 rfl)
  pure (exp2 (subf (broadcast S8x128 (Scalar.ofBits .f32 0x00000000#32)) (eOf am)))

/-- The code of one scaled block. -/
abbrev codeOf (v : Vec F S1x32x128 .f32) (inv : FVec F S32x128 .f32) : FVec F S32x128 .fp8e5m2 :=
  truncf .fp8e5m2 (minimumf (broadcast S32x128 (Scalar.ofBits .f32 0x47600000#32)) (maximumf (broadcast S32x128 (Scalar.ofBits .f32 0xC7600000#32))
    (mulf (shapeCast S32x128 v shapeCasts_S1x32x128_S32x128) inv))) bitsLt_fp8e5m2_f32

/-- One chunk's codes stored. -/
def quant (t : Fin k0_t1_loop.trips) (inv : FVec F S32x128 .f32) {k bb : ℕ} (hk : k < 12) (hb : bb < 2) (hc : bb * 12 + k < 24) : Cmd F PUnit := do
  let v1 : Vec F S1x32x128 .f32 ← ld .a27 (rS hc).toLoadRect h_S1x32x128
  st .a18 (rU t (k := k) (by omega) hb) h_S1x32x128 (shapeCast S1x32x128 (codeOf v1 inv) shapeCasts_S32x128_S1x32x128)
    (fun _ hm => View.stores_vmem h_S1x32x128 (hm.storeExact_slice rfl _ (packU t ⟨k, by omega⟩ ⟨bb, hb⟩)) (fun _ => rfl))
  let v2 : Vec F S1x32x128 .f32 ← ld .a28 (rS hc).toLoadRect h_S1x32x128
  st .a18 (rU t (k := 12 + k) (by omega) hb) h_S1x32x128 (shapeCast S1x32x128 (codeOf v2 inv) shapeCasts_S32x128_S1x32x128)
    (fun _ hm => View.stores_vmem h_S1x32x128 (hm.storeExact_slice rfl _ (packU t ⟨12 + k, by omega⟩ ⟨bb, hb⟩)) (fun _ => rfl))
  let v3 : Vec F S1x32x128 .f32 ← ld .a29 (rS hc).toLoadRect h_S1x32x128
  st .a18 (rU t (k := 24 + k) (by omega) hb) h_S1x32x128 (shapeCast S1x32x128 (codeOf v3 inv) shapeCasts_S32x128_S1x32x128)
    (fun _ hm => View.stores_vmem h_S1x32x128 (hm.storeExact_slice rfl _ (packU t ⟨24 + k, by omega⟩ ⟨bb, hb⟩)) (fun _ => rfl))

/-- Phase 3 on one batch row. -/
def phase3 (t : Fin k0_t1_loop.trips) {bb : ℕ} (hb : bb < 2) : Cmd F PUnit := do
  let m ← chunk3 t (k := 0) (by omega) hb (by omega)
  loopS 11 (fun k hk (am : Am F) => do
    let m ← chunk3 t (k := k + 1) (by omega) hb (by omega)
    pure (maxs am (slc m))) (slc m) fun am => do
  let i0 ← scl t (j := 0) (by omega) hb am.m0
  let i1 ← scl t (j := 1) (by omega) hb am.m1
  let i2 ← scl t (j := 2) (by omega) hb am.m2
  let i3 ← scl t (j := 3) (by omega) hb am.m3
  loop 12 (fun k hk => quant t (concatenate S32x128 0 [⟨S8x128, i0⟩, ⟨S8x128, i1⟩, ⟨S8x128, i2⟩, ⟨S8x128, i3⟩] concatenates_S8x128_S8x128_S8x128_S8x128_S32x128_d0) hk hb (by omega))

/-- One block of 32 time steps. -/
def block (i : grid0.Coords) (t : Fin k0_t1_loop.trips) : Cmd F PUnit :=
  loopK 12 (fun k hk => chunk1 t hk) (loopK 3 (fun j hj => scan i hj)
    ((phase3 t (bb := 0) (by omega)).bind fun _ => (phase3 t (bb := 1) (by omega)).bind fun _ => pure ⟨⟩))

/-- What the first grid point does before its blocks. -/
def initP : Cmd F PUnit := do
  st .a33 (.unit ![0, 0, 0] S4x8x1536.size inb_S4x8x1536_S4x8x1536_0_0_0) h_S4x8x1536 (shapeCast S4x8x1536 (broadcast S4x8x1536 (Scalar.ofBits .f32 0x00000000#32) : FVec F S4x8x1536 .f32) shapeCasts_S4x8x1536_S4x8x1536) (fun _ _ => View.stores_vmem_bits_univ h_S4x8x1536 rfl)
  loop 12 (fun k hk => do
    let v : Vec F S8x128 .f32 ← ld .a9 (rI8 hk).toLoadRect h_S8x128
    st .a31 (rJ8 hk) h_S8x128 (shapeCast S8x128 v shapeCasts_S8x128_S8x128) (fun _ _ => View.stores_vmem_bits_univ h_S8x128 rfl)
    let v : Vec F S8x128 .f32 ← ld .a12 (rI8 hk).toLoadRect h_S8x128
    st .a32 (rJ8 hk) h_S8x128 (shapeCast S8x128 v shapeCasts_S8x128_S8x128) (fun _ _ => View.stores_vmem_bits_univ h_S8x128 rfl))
  loop 12 (fun k hk => do
    let v : Vec F S4x128 .f32 ← ld .a9 (rI4 hk).toLoadRect h_S4x128
    st .a31 (rJ4 hk) h_S4x128 (shapeCast S4x128 v shapeCasts_S4x128_S4x128) (fun _ _ => View.stores_vmem_bits_univ h_S4x128 rfl)
    let v : Vec F S4x128 .f32 ← ld .a12 (rI4 hk).toLoadRect h_S4x128
    st .a32 (rJ4 hk) h_S4x128 (shapeCast S4x128 v shapeCasts_S4x128_S4x128) (fun _ _ => View.stores_vmem_bits_univ h_S4x128 rfl))

/-- One batch row's states and output scales laid out for the blocks. -/
def setup (i : grid0.Coords) {bb : ℕ} (hb : bb < 2) : Cmd F PUnit := do
  let v : Vec F S1x128 .f32 ← ld .a11 (r1 i hb).toLoadRect h_S1x128
  st .a21 (rT hb) h_S1x128x128 (shapeCast S1x128x128 (transpose S128x128 [1, 0] (broadcastTo S128x128 (shapeCast S1x128 v shapeCasts_S1x128_S1x128) broadcasts_S1x128_S128x128) transposes_S128x128_p1_0_S128x128) shapeCasts_S128x128_S1x128x128) (fun _ _ => View.stores_vmem_bits_univ h_S1x128x128 rfl)
  loop 12 (fun k hk => do
    let v : Vec F S1x128 .f32 ← ld .a31 (r2 i (ck := bb * 12 + k) (by omega)).toLoadRect h_S1x128
    st .a20 (rM7 (ck := bb * 12 + k) (by omega)) h_S1x1x128 (shapeCast S1x1x128 v shapeCasts_S1x128_S1x1x128) (fun _ _ => View.stores_vmem_bits_univ h_S1x1x128 rfl)
    let v : Vec F S1x128x128 .f32 ← ld .a8 (rX8 hk hb).toLoadRect h_S1x128x128
    st .a20 (rM8 (ck := bb * 12 + k) (by omega)) h_S1x128x128 (shapeCast S1x128x128 (shapeCast S128x128 v shapeCasts_S1x128x128_S128x128) shapeCasts_S128x128_S1x128x128) (fun _ _ => View.stores_vmem_bits_univ h_S1x128x128 rfl))

/-- One batch row's scales written out. -/
def outScl (i : grid0.Coords) {bb : ℕ} (hb : bb < 2) : Cmd F PUnit := do
  let v : Vec F S1x128x128 .f32 ← ld .a22 (rT hb).toLoadRect h_S1x128x128
  st .a19 (r1 i hb) h_S1x128 (extractStridedSlice S1x128 ![0, 0] (transpose S128x128 [1, 0] (shapeCast S128x128 v shapeCasts_S1x128x128_S128x128) transposes_S128x128_p1_0_S128x128) slices_S128x128_o0_0_S1x128) (fun _ _ => View.stores_vmem_bits_univ h_S1x128 rfl)

/-- One 128-column part of a product block, rescaled, added to the highway part and stored. -/
def outMm (p : FVec F S256x256 .f32) (ws : FVec F S1x128 .f32) {bb : ℕ} (hb : bb < 2) (r : Rect S2x128x1536) (hr : r.shape = S1x128x128) (o : Fin 2 → ℕ) (ho : S256x256.Slices o S128x128)
    (hx : ∀ m : Memref sig .tc .vmem S2x128x1536 .bf16, m.IsWhole → (m.access r).Stores Finset.univ) (h : 0 < r.shape.numel) (h1 : r.shape.ShapeCasts S128x128) (h2 : S128x128.ShapeCasts r.shape) : Cmd F PUnit := do
  let s : Vec F S1x128x128 .f32 ← ld .a22 (rT hb).toLoadRect h_S1x128x128
  have d : FVec F S128x128 .f32 := mulf (mulf (extractStridedSlice S128x128 o p ho) (shapeCast S128x128 s shapeCasts_S1x128x128_S128x128)) (broadcastTo S128x128 ws broadcasts_S1x128_S128x128)
  let x : Vec F r.shape .f32 ← ld .a30 r.toLoadRect h
  st .a13 r h (shapeCast r.shape (truncf .bf16 (addf d (shapeCast S128x128 x h1)) bitsLt_bf16_f32) h2) hx

/-- One 256-column block of the product. -/
def mm (p : FVec F S256x4608 .fp8e5m2) (t : Fin k0_t2_loop.trips) : Cmd F PUnit := do
  let w : Vec F S256x4608 .fp8e4m3 ← ld .a2 (Rect.unit (s := S1536x4608) (k0_off152 t) S256x4608.size (k0_off152_inb t)).toLoadRect h_S256x4608
  have q : FVec F S256x256 .f32 := matmul dot_S256x4608_S256x4608_S256x256_1_1_0_0_n_n none p w (constant S256x256 .f32 0x00000000#32)
  let v : Vec F S1x128 .f32 ← ld .a3 (Rect.unit (s := S1x1536) (k0_off153 t 0#32) S1x128.size (k0_off153_inb t 0)).toLoadRect h_S1x128
  outMm q (shapeCast S1x128 v shapeCasts_S1x128_S1x128) (bb := 0) (by omega) (.unit (k0_off154 t 0#32) S1x128x128.size (k0_off154_inb t 0)) rfl ![0, 0] slices_S256x256_o0_0_S128x128
    (fun _ hm => View.stores_vmem h_S1x128x128 (hm.storeExact_slice rfl _ (k0_off154_packedbf16 t 0)) (fun _ => rfl)) h_S1x128x128 shapeCasts_S1x128x128_S128x128 shapeCasts_S128x128_S1x128x128
  outMm q (shapeCast S1x128 v shapeCasts_S1x128_S1x128) (bb := 1) (by omega) (.unit (k0_off155 t 0#32) S1x128x128.size (k0_off155_inb t 0)) rfl ![128, 0] slices_S256x256_o128_0_S128x128
    (fun _ hm => View.stores_vmem h_S1x128x128 (hm.storeExact_slice rfl _ (k0_off155_packedbf16 t 0)) (fun _ => rfl)) h_S1x128x128 shapeCasts_S1x128x128_S128x128 shapeCasts_S128x128_S1x128x128
  let v : Vec F S1x128 .f32 ← ld .a3 (Rect.unit (s := S1x1536) (k0_off153 t 128#32) S1x128.size (k0_off153_inb t 1)).toLoadRect h_S1x128
  outMm q (shapeCast S1x128 v shapeCasts_S1x128_S1x128) (bb := 0) (by omega) (.unit (k0_off154 t 128#32) S1x128x128.size (k0_off154_inb t 1)) rfl ![0, 128] slices_S256x256_o0_128_S128x128
    (fun _ hm => View.stores_vmem h_S1x128x128 (hm.storeExact_slice rfl _ (k0_off154_packedbf16 t 1)) (fun _ => rfl)) h_S1x128x128 shapeCasts_S1x128x128_S128x128 shapeCasts_S128x128_S1x128x128
  outMm q (shapeCast S1x128 v shapeCasts_S1x128_S1x128) (bb := 1) (by omega) (.unit (k0_off155 t 128#32) S1x128x128.size (k0_off155_inb t 1)) rfl ![128, 128] slices_S256x256_o128_128_S128x128
    (fun _ hm => View.stores_vmem h_S1x128x128 (hm.storeExact_slice rfl _ (k0_off155_packedbf16 t 1)) (fun _ => rfl)) h_S1x128x128 shapeCasts_S1x128x128_S128x128 shapeCasts_S128x128_S1x128x128

/-- One row of the accumulator summed over its eight sublanes. -/
def accRow {r : ℕ} (hr : r < 4) : Cmd F (FVec F S1x1536 .f32) := do
  let v : Vec F S1x8x1536 .f32 ← ld .a33 (rF hr).toLoadRect h_S1x8x1536
  pure (shapeCast S1x1536 (multiReduction .add [0] S1536 (shapeCast S8x1536 v shapeCasts_S1x8x1536_S8x1536) 0x00000000#32 reduces_S8x1536_S1536 (.inl rfl) rfl) shapeCasts_S1536_S1x1536)

/-- What the last grid point does at its end. -/
def finP : Cmd F PUnit := do
  loop 12 (fun k hk => do
    let v : Vec F S8x128 .f32 ← ld .a32 (rJ8 hk).toLoadRect h_S8x128
    st .a14 (rI8 hk) h_S8x128 v (fun _ _ => View.stores_vmem_bits_univ h_S8x128 rfl))
  loop 12 (fun k hk => do
    let v : Vec F S4x128 .f32 ← ld .a32 (rJ4 hk).toLoadRect h_S4x128
    st .a14 (rI4 hk) h_S4x128 v (fun _ _ => View.stores_vmem_bits_univ h_S4x128 rfl))
  let v ← accRow (r := 0) (by omega)
  st .a15 (.unit ![0, 0] S1x1536.size inb_S1x1536_S1x1536_0_0) h_S1x1536 v (fun _ _ => View.stores_vmem_bits_univ h_S1x1536 rfl)
  let v ← accRow (r := 1) (by omega)
  st .a16 (.unit ![0, 0] S1x1536.size inb_S1x1536_S1x1536_0_0) h_S1x1536 v (fun _ _ => View.stores_vmem_bits_univ h_S1x1536 rfl)
  let v ← accRow (r := 2) (by omega)
  st .a17 (rE (r := 0) (by omega)) h_S1x1536 v (fun _ _ => View.stores_vmem_bits_univ h_S1x1536 rfl)
  let v ← accRow (r := 3) (by omega)
  st .a17 (rE (r := 1) (by omega)) h_S1x1536 v (fun _ _ => View.stores_vmem_bits_univ h_S1x1536 rfl)

/-- The first grid point's condition, as the kernel computes it. -/
abbrev isFirst (i : grid0.Coords) : Prop := Scalar.cmpi .ne (Scalar.extui (Scalar.cmpi .eq (BitVec.ofNat 32 (i 0).val) 0#32) : BitVec 32) 0#32 = 1#1

/-- The whole body at one grid point. -/
def body (i : grid0.Coords) : Cmd F PUnit :=
  (if isFirst i then initP else pure ⟨⟩).bind fun _ => (setup i (bb := 0) (by omega)).bind fun _ => (setup i (bb := 1) (by omega)).bind fun _ =>
  (Scf.Loop.for k0_t1_loop k0_t1_ok ⟨⟩ fun t _ => block i t).bind fun _ =>
  (outScl i (bb := 0) (by omega)).bind fun _ => (outScl i (bb := 1) (by omega)).bind fun _ =>
  (ld .a18 (Rect.unit (s := S2x128x4608) ![0, 0, 0] S2x128x4608.size inb_S2x128x4608_S2x128x4608_0_0_0).toLoadRect h_S2x128x4608).bind fun p =>
  (Scf.Loop.for k0_t2_loop k0_t2_ok ⟨⟩ fun t _ => mm (shapeCast S256x4608 (shapeCast S2x128x4608 p shapeCasts_S2x128x4608_S2x128x4608) shapeCasts_S2x128x4608_S256x4608) t).bind fun _ =>
  (if k0_cond2 i = 1#1 then finP else pure ⟨⟩)
end

end Cert.Body
-- ==== Proof.Logic.lean ====
/- The kernel's body as a transformer of its buffers' contents. -/
module

public import proofs.«01_k».proof.Proof.Body
public import proofs.«01_k».proof.Proof.Gen.KernelIdeal.Frame

@[expose] public section
noncomputable section

namespace Cert.Body
open Idealize.ShloMosaic

variable {F : FTy → Type} [FloatOps F]

/-- The buffers' contents. -/
abbrev St (F : FTy → Type) := Mem.St Bf.sh Bf.et F

end Cert.Body
-- ==== Proof.Eq.lean ====
/- The printed body is the body written as loops. -/
module

public import proofs.«01_k».proof.Proof.Body

@[expose] public section
set_option maxRecDepth 65536
set_option maxHeartbeats 400000

namespace Cert.Body
open Cert.Mem hiding Cmd ld st PR
open Cert.KernelIdeal Cert.KernelIdeal.Gen Idealize.ShloMosaic Idealize.SL.Sem

variable {F : FTy → Type} [FloatOps F] (M : Mems) (W : ∀ b, (M b).IsWhole)

theorem toPR_scan (i : grid0.Coords) {j : ℕ} (hj : j < 3) : toPR (nD := nD) (τ := τ) (Λ₀ := Λ₀) M W (scan (F := F) i hj) =
    (toPR (nD := nD) (τ := τ) (Λ₀ := Λ₀) M W (ld .a32 (r149 i hj).toLoadRect h_S8x128)).bind fun dc0 : FVec F S8x128 .f32 =>
    loopS 32 (fun q hq dc => toPR (nD := nD) (τ := τ) (Λ₀ := Λ₀) M W (scanStep hj (q := 31 - q) (by omega) dc)) dc0 fun dc =>
    toPR (nD := nD) (τ := τ) (Λ₀ := Λ₀) M W (st .a32 (r149 i hj) h_S8x128 (shapeCast S8x128 dc shapeCasts_S8x128_S8x128) (fun _ _ => View.stores_vmem_bits_univ h_S8x128 rfl)) := by
  unfold scan
  rw [toPR_bind]
  exact congrArg (Prog.bind _) (funext fun dc0 => toPR_loopS M W _ _ _ _)

/-- Composition of programs, under its own name. -/
def bnd.{v} {E : Type → Type v} {α β : Type} : Prog E α → (α → Prog E β) → Prog E β
  | .ret a, k => k a
  | .op e k', k => .op e fun x => bnd (k' x) k

theorem bnd_eq.{v} {E : Type → Type v} {α β : Type} (p : Prog E α) (k : α → Prog E β) : bnd p k = p.bind k := by
  induction p with
  | ret a => rfl
  | op e k' ih => simp only [bnd, Prog.bind]; congr 1; funext x; exact ih x

/-- One unit matched at the head of a program. -/
theorem step {α β : Type} {L : PR F α} {K R : PR F α} (P : PR F β) (h : L = bnd P fun _ => K) (h2 : K = R) : L = P.bind fun _ => R := by
  rw [h, h2, bnd_eq]

/-- One trip of a loop matched at the head of a program. -/
theorem stepL {α : Type} {L K : PR F α} {n : ℕ} {f : ∀ k, k < n + 1 → PR F PUnit} {p : PR F α} (h : L = bnd (f 0 (by omega)) fun _ => K)
    (h2 : K = loopK n (fun k h => f (k + 1) (by omega)) p) : L = loopK (n + 1) f p := by
  rw [h, h2, bnd_eq]; rfl

/-- No trip left. -/
theorem stepZ {α : Type} {L p : PR F α} {f : ∀ k, k < 0 → PR F PUnit} (h : L = p) : L = loopK 0 f p := h

theorem toPR_block (i : grid0.Coords) (t : Fin k0_t1_loop.trips) : toPR (nD := nD) (τ := τ) (Λ₀ := Λ₀) M W (block (F := F) i t) =
    loopK 12 (fun k hk => toPR (nD := nD) (τ := τ) (Λ₀ := Λ₀) M W (chunk1 t hk)) (loopK 3 (fun j hj => (toPR (nD := nD) (τ := τ) (Λ₀ := Λ₀) M W (ld .a32 (r149 i hj).toLoadRect h_S8x128)).bind fun dc0 : FVec F S8x128 .f32 =>
        loopS 32 (fun q hq dc => toPR (nD := nD) (τ := τ) (Λ₀ := Λ₀) M W (scanStep hj (q := 31 - q) (by omega) dc)) dc0 fun dc =>
        toPR (nD := nD) (τ := τ) (Λ₀ := Λ₀) M W (st .a32 (r149 i hj) h_S8x128 (shapeCast S8x128 dc shapeCasts_S8x128_S8x128) (fun _ _ => View.stores_vmem_bits_univ h_S8x128 rfl)))
      ((toPR (nD := nD) (τ := τ) (Λ₀ := Λ₀) M W (phase3 t (bb := 0) (by omega))).bind fun _ => (toPR (nD := nD) (τ := τ) (Λ₀ := Λ₀) M W (phase3 t (bb := 1) (by omega))).bind fun _ => pure ⟨⟩)) := by
  unfold block
  simp only [toPR_loopK, toPR_bind, toPR_scan]
  rfl

theorem block_eq (i : grid0.Coords) (t : Fin k0_t1_loop.trips) :
    (do
    let v6842 : FVec F S32x128 .fp8e5m2 ← k0_part196 (F := F) i (M .a1) (W .a1) (M .a2) (W .a2) (M .a3) (W .a3) (M .a4) (W .a4) (M .a5) (W .a5) (M .a6) (W .a6) (M .a7) (W .a7) (M .a8) (W .a8) (M .a9) (W .a9) (M .a10) (W .a10) (M .a11) (W .a11) (M .a12) (W .a12) (M .a13) (W .a13) (M .a14) (W .a14) (M .a15) (W .a15) (M .a16) (W .a16) (M .a17) (W .a17) (M .a18) (W .a18) (M .a19) (W .a19) (M .a20) (W .a20) (M .a21) (W .a21) (M .a22) (W .a22) (M .a23) (W .a23) (M .a24) (W .a24) (M .a25) (W .a25) (M .a26) (W .a26) (M .a27) (W .a27) (M .a28) (W .a28) (M .a29) (W .a29) (M .a30) (W .a30) (M .a31) (W .a31) (M .a32) (W .a32) (M .a33) (W .a33) (BitVec.ofNat 32 (i 0).val) 0#32 1#32 t
    have v6846 : FVec F S1x32x128 .fp8e5m2 := shapeCast S1x32x128 v6842 shapeCasts_S32x128_S1x32x128
    Prog.lift (.store (M .a18) (Rect.unit (s := S2x128x4608) (k0_off146 t) S1x32x128.size (k0_off146_inb t)) v6846 Finset.univ (View.stores_vmem h_S1x32x128 ((W .a18).storeExact_slice rfl _ (k0_off146_packedfp8e5m2 t)) (fun _ => rfl)) (.inl rfl))
    pure ⟨⟩ : PR F PUnit) = toPR (nD := nD) (τ := τ) (Λ₀ := Λ₀) M W (block i t) := by
  refine Eq.trans ?_ (toPR_block M W i t).symm
  refine stepL (F := F) rfl ?_
  refine stepL (F := F) rfl ?_
  refine stepL (F := F) rfl ?_
  refine stepL (F := F) rfl ?_
  refine stepL (F := F) rfl ?_
  refine stepL (F := F) rfl ?_
  refine stepL (F := F) rfl ?_
  refine stepL (F := F) rfl ?_
  refine stepL (F := F) rfl ?_
  refine stepL (F := F) rfl ?_
  refine stepL (F := F) rfl ?_
  refine stepL (F := F) rfl ?_
  refine stepZ (F := F) ?_
  refine stepL (F := F) rfl ?_
  refine stepL (F := F) rfl ?_
  refine stepL (F := F) rfl ?_
  refine stepZ (F := F) ?_
  refine step (F := F) _ rfl ?_
  refine step (F := F) _ rfl ?_
  rfl

end Cert.Body
-- ==== Proof.Eq2.lean ====
/- The printed body is the body written as loops. -/
module

public import proofs.«01_k».proof.Proof.Eq

@[expose] public section
set_option maxRecDepth 65536
set_option maxHeartbeats 400000
noncomputable section

namespace Cert.Body
open Cert.Mem hiding Cmd ld st PR
open Cert.KernelIdeal Cert.KernelIdeal.Gen Idealize.ShloMosaic Idealize.SL.Sem

variable {F : FTy → Type} [FloatOps F] (M : Mems) (W : ∀ b, (M b).IsWhole)

theorem toPR_ite {c : Prop} [Decidable c] (p q : Cmd F PUnit) : toPR (nD := nD) (τ := τ) (Λ₀ := Λ₀) M W (if c then p else q) = if c then toPR (nD := nD) (τ := τ) (Λ₀ := Λ₀) M W p else toPR (nD := nD) (τ := τ) (Λ₀ := Λ₀) M W q := by
  split <;> rfl

/-- One counted loop matched at the head of a program. -/
theorem stepF {α : Type} {l : Scf.Loop 32} {ok : l.OK} {f g : Fin l.trips → PUnit → PR F PUnit} {K R : PUnit → PR F α} (hf : ∀ t u, f t u = g t u) (h2 : K ⟨⟩ = R ⟨⟩) :
    (Scf.Loop.for l ok ⟨⟩ f).bind K = (Scf.Loop.for l ok ⟨⟩ g).bind R := by
  have : f = g := funext fun t => funext fun u => hf t u
  subst this
  congr 1; funext u; exact h2

/-- A choice at the head of a program, decided. -/
theorem stepI {α : Type} {L K R : PR F α} {c : Prop} [Decidable c] {p q : PR F PUnit} (h : c) (h1 : L = bnd p fun _ => K) (h2 : K = R) :
    L = (if c then p else q).bind fun _ => R := by
  rw [if_pos h]; exact step p h1 h2

theorem stepN {α : Type} {L K R : PR F α} {c : Prop} [Decidable c] {p : PR F PUnit} (h : ¬ c) (h1 : L = K) (h2 : K = R) :
    L = (if c then p else pure ⟨⟩).bind fun _ => R := by
  rw [if_neg h, h1, h2]; rfl

/-- What follows the first grid point's choice in the printed body's first part. -/
def tail201 (i : grid0.Coords) : PR F ((_ : BitVec 32) ×' Vec F S1x128 .f32) := do
  let arg0 : BitVec 32 := BitVec.ofNat 32 (i 0).val
  let v3 : BitVec 32 := Scalar.muli arg0 2#32
  let v4 : BitVec 32 := Scalar.addi v3 0#32
  let v5 : Index := Scalar.indexCast v4
  let v6 : Vec F S1x128 .f32 ← Prog.lift (.load (M .a11) (Rect.unit (s := S12x128) (k0_off1 i 0#32) S1x128.size (k0_off1_inb i 0)).toLoadRect (View.loadsAt_vmem h_S1x128))
  have v7 : FVec F S1x128 .f32 := shapeCast S1x128 v6 shapeCasts_S1x128_S1x128
  have v8 : FVec F S128x128 .f32 := broadcastTo S128x128 v7 broadcasts_S1x128_S128x128
  have v9 : FVec F S128x128 .f32 := transpose S128x128 [1, 0] v8 transposes_S128x128_p1_0_S128x128
  let v10 : Vec F S1x128x128 .f32 ← Prog.lift (.load (M .a21) (Rect.unit (s := S2x128x128) ![0, 0, 0] S1x128x128.size inb_S2x128x128_S1x128x128_0_0_0).toLoadRect (View.loadsAt_vmem h_S1x128x128))
  have v11 : FVec F S128x128 .f32 := shapeCast S128x128 v10 shapeCasts_S1x128x128_S128x128
  have v12 : FVec F S1x128x128 .f32 := shapeCast S1x128x128 v9 shapeCasts_S128x128_S1x128x128
  Prog.lift (.store (M .a21) (Rect.unit (s := S2x128x128) ![0, 0, 0] S1x128x128.size inb_S2x128x128_S1x128x128_0_0_0) v12 Finset.univ (View.stores_vmem_bits_univ h_S1x128x128 rfl) (.inl rfl))
  let v13 : BitVec 32 := Scalar.muli arg0 24#32
  let v14 : BitVec 32 := Scalar.addi v13 0#32
  let v15 : Index := Scalar.indexCast v14
  let v16 : Vec F S1x128 .f32 ← Prog.lift (.load (M .a31) (Rect.unit (s := S144x128) (k0_off2 i 0#32) S1x128.size (k0_off2_inb i 0)).toLoadRect (View.loadsAt_vmem h_S1x128))
  let v17 : Vec F S1x1x128 .f32 ← Prog.lift (.load (M .a20) (Rect.unit (s := S24x136x128) ![0, 7, 0] S1x1x128.size inb_S24x136x128_S1x1x128_0_7_0).toLoadRect (View.loadsAt_vmem h_S1x1x128))
  have v18 : FVec F S1x128 .f32 := shapeCast S1x128 v17 shapeCasts_S1x1x128_S1x128
  have v19 : FVec F S1x1x128 .f32 := shapeCast S1x1x128 v16 shapeCasts_S1x128_S1x1x128
  Prog.lift (.store (M .a20) (Rect.unit (s := S24x136x128) ![0, 7, 0] S1x1x128.size inb_S24x136x128_S1x1x128_0_7_0) v19 Finset.univ (View.stores_vmem_bits_univ h_S1x1x128 rfl) (.inl rfl))
  let v20 : Vec F S1x128x128 .f32 ← Prog.lift (.load (M .a8) (Rect.unit (s := S2x128x1536) ![0, 0, 0] S1x128x128.size inb_S2x128x1536_S1x128x128_0_0_0).toLoadRect (View.loadsAt_vmem h_S1x128x128))
  have v21 : FVec F S128x128 .f32 := shapeCast S128x128 v20 shapeCasts_S1x128x128_S128x128
  let v22 : Vec F S1x128x128 .f32 ← Prog.lift (.load (M .a20) (Rect.unit (s := S24x136x128) ![0, 8, 0] S1x128x128.size inb_S24x136x128_S1x128x128_0_8_0).toLoadRect (View.loadsAt_vmem h_S1x128x128))
  have v23 : FVec F S128x128 .f32 := shapeCast S128x128 v22 shapeCasts_S1x128x128_S128x128
  have v24 : FVec F S1x128x128 .f32 := shapeCast S1x128x128 v21 shapeCasts_S128x128_S1x128x128
  Prog.lift (.store (M .a20) (Rect.unit (s := S24x136x128) ![0, 8, 0] S1x128x128.size inb_S24x136x128_S1x128x128_0_8_0) v24 Finset.univ (View.stores_vmem_bits_univ h_S1x128x128 rfl) (.inl rfl))
  let v25 : BitVec 32 := Scalar.muli arg0 24#32
  let v26 : BitVec 32 := Scalar.addi v25 1#32
  let v27 : Index := Scalar.indexCast v26
  let v28 : Vec F S1x128 .f32 ← Prog.lift (.load (M .a31) (Rect.unit (s := S144x128) (k0_off2 i 1#32) S1x128.size (k0_off2_inb i 1)).toLoadRect (View.loadsAt_vmem h_S1x128))
  pure ⟨arg0, v28⟩

theorem p201 (i : grid0.Coords) : k0_part201 (F := F) i (M .a1) (W .a1) (M .a2) (W .a2) (M .a3) (W .a3) (M .a4) (W .a4) (M .a5) (W .a5) (M .a6) (W .a6) (M .a7) (W .a7) (M .a8) (W .a8) (M .a9) (W .a9) (M .a10) (W .a10) (M .a11) (W .a11) (M .a12) (W .a12) (M .a13) (W .a13) (M .a14) (W .a14) (M .a15) (W .a15) (M .a16) (W .a16) (M .a17) (W .a17) (M .a18) (W .a18) (M .a19) (W .a19) (M .a20) (W .a20) (M .a21) (W .a21) (M .a22) (W .a22) (M .a23) (W .a23) (M .a24) (W .a24) (M .a25) (W .a25) (M .a26) (W .a26) (M .a27) (W .a27) (M .a28) (W .a28) (M .a29) (W .a29) (M .a30) (W .a30) (M .a31) (W .a31) (M .a32) (W .a32) (M .a33) (W .a33) = (if isFirst i then toPR (nD := nD) (τ := τ) (Λ₀ := Λ₀) M W initP else pure ⟨⟩).bind fun _ => tail201 M i := by
  unfold k0_part201
  dsimp only
  by_cases h : isFirst i
  · rw [dif_pos h]
    exact stepI h rfl rfl
  · rw [dif_neg h]
    exact stepN h rfl rfl

/-- One trip of the printed block loop. -/
def tripB (i : grid0.Coords) (k0_t1 : Fin k0_t1_loop.trips) : PR F PUnit := do
  let v6842 : FVec F S32x128 .fp8e5m2 ← k0_part196 i (M .a1) (W .a1) (M .a2) (W .a2) (M .a3) (W .a3) (M .a4) (W .a4) (M .a5) (W .a5) (M .a6) (W .a6) (M .a7) (W .a7) (M .a8) (W .a8) (M .a9) (W .a9) (M .a10) (W .a10) (M .a11) (W .a11) (M .a12) (W .a12) (M .a13) (W .a13) (M .a14) (W .a14) (M .a15) (W .a15) (M .a16) (W .a16) (M .a17) (W .a17) (M .a18) (W .a18) (M .a19) (W .a19) (M .a20) (W .a20) (M .a21) (W .a21) (M .a22) (W .a22) (M .a23) (W .a23) (M .a24) (W .a24) (M .a25) (W .a25) (M .a26) (W .a26) (M .a27) (W .a27) (M .a28) (W .a28) (M .a29) (W .a29) (M .a30) (W .a30) (M .a31) (W .a31) (M .a32) (W .a32) (M .a33) (W .a33) (BitVec.ofNat 32 (i 0).val) 0#32 1#32 k0_t1
  have v6846 : FVec F S1x32x128 .fp8e5m2 := shapeCast S1x32x128 v6842 shapeCasts_S32x128_S1x32x128
  Prog.lift (.store (M .a18) (Rect.unit (s := S2x128x4608) (k0_off146 k0_t1) S1x32x128.size (k0_off146_inb k0_t1)) v6846 Finset.univ (View.stores_vmem h_S1x32x128 ((W .a18).storeExact_slice rfl _ (k0_off146_packedfp8e5m2 k0_t1)) (fun _ => rfl)) (.inl rfl))
  pure ⟨⟩

/-- What follows the setup in the printed body's first part. -/
def tail212 (i : grid0.Coords) : PR F (Σ' (arg0 : BitVec 32) (v330 : FVec F S256x4608 .fp8e5m2) (c0_i32_261 : BitVec 32), BitVec 32) := do
  Scf.Loop.for k0_t1_loop k0_t1_ok ⟨⟩ fun k0_t1 _ => tripB M W i k0_t1
  let c4_i32_245 : BitVec 32 := 4#32
  let c2_i32_246 : BitVec 32 := 2#32
  let v312 : BitVec 32 := Scalar.muli (BitVec.ofNat 32 (i 0).val) c2_i32_246
  let c0_i32_247 : BitVec 32 := 0#32
  let v313 : BitVec 32 := Scalar.addi v312 c0_i32_247
  let c0_248 : Index := 0#32
  let c0_249 : Index := 0#32
  let c0_250 : Index := 0#32
  let v314 : Vec F S1x128x128 .f32 ← Prog.lift (.load (M .a22) (Rect.unit (s := S2x128x128) ![0, 0, 0] S1x128x128.size inb_S2x128x128_S1x128x128_0_0_0).toLoadRect (View.loadsAt_vmem h_S1x128x128))
  have v315 : FVec F S128x128 .f32 := shapeCast S128x128 v314 shapeCasts_S1x128x128_S128x128
  have v316 : FVec F S128x128 .f32 := transpose S128x128 [1, 0] v315 transposes_S128x128_p1_0_S128x128
  have v317 : FVec F S1x128 .f32 := extractStridedSlice S1x128 ![0, 0] v316 slices_S128x128_o0_0_S1x128
  let v318 : Index := Scalar.indexCast v313
  let c0_251 : Index := 0#32
  let v319 : Vec F S1x128 .f32 ← Prog.lift (.load (M .a19) (Rect.unit (s := S12x128) (k0_off1 i 0#32) S1x128.size (k0_off1_inb i 0)).toLoadRect (View.loadsAt_vmem h_S1x128))
  Prog.lift (.store (M .a19) (Rect.unit (s := S12x128) (k0_off1 i 0#32) S1x128.size (k0_off1_inb i 0)) v317 Finset.univ (View.stores_vmem_bits_univ h_S1x128 rfl) (.inl rfl))
  let c2_i32_252 : BitVec 32 := 2#32
  let v320 : BitVec 32 := Scalar.muli (BitVec.ofNat 32 (i 0).val) c2_i32_252
  let c1_i32_253 : BitVec 32 := 1#32
  let v321 : BitVec 32 := Scalar.addi v320 c1_i32_253
  let c1_254 : Index := 1#32
  let c0_255 : Index := 0#32
  let c0_256 : Index := 0#32
  let v322 : Vec F S1x128x128 .f32 ← Prog.lift (.load (M .a22) (Rect.unit (s := S2x128x128) ![1, 0, 0] S1x128x128.size inb_S2x128x128_S1x128x128_1_0_0).toLoadRect (View.loadsAt_vmem h_S1x128x128))
  have v323 : FVec F S128x128 .f32 := shapeCast S128x128 v322 shapeCasts_S1x128x128_S128x128
  have v324 : FVec F S128x128 .f32 := transpose S128x128 [1, 0] v323 transposes_S128x128_p1_0_S128x128
  have v325 : FVec F S1x128 .f32 := extractStridedSlice S1x128 ![0, 0] v324 slices_S128x128_o0_0_S1x128
  let v326 : Index := Scalar.indexCast v321
  let c0_257 : Index := 0#32
  let v327 : Vec F S1x128 .f32 ← Prog.lift (.load (M .a19) (Rect.unit (s := S12x128) (k0_off1 i 1#32) S1x128.size (k0_off1_inb i 1)).toLoadRect (View.loadsAt_vmem h_S1x128))
  Prog.lift (.store (M .a19) (Rect.unit (s := S12x128) (k0_off1 i 1#32) S1x128.size (k0_off1_inb i 1)) v325 Finset.univ (View.stores_vmem_bits_univ h_S1x128 rfl) (.inl rfl))
  let c0_258 : Index := 0#32
  let c0_259 : Index := 0#32
  let c0_260 : Index := 0#32
  let v328 : Vec F S2x128x4608 .fp8e5m2 ← Prog.lift (.load (M .a18) (Rect.unit (s := S2x128x4608) ![0, 0, 0] S2x128x4608.size inb_S2x128x4608_S2x128x4608_0_0_0).toLoadRect (View.loadsAt_vmem h_S2x128x4608))
  have v329 : FVec F S2x128x4608 .fp8e5m2 := shapeCast S2x128x4608 v328 shapeCasts_S2x128x4608_S2x128x4608
  have v330 : FVec F S256x4608 .fp8e5m2 := shapeCast S256x4608 v329 shapeCasts_S2x128x4608_S256x4608
  let c0_i32_261 : BitVec 32 := 0#32
  let c6_i32_262 : BitVec 32 := 6#32
  pure ⟨(BitVec.ofNat 32 (i 0).val), v330, c0_i32_261, c6_i32_262⟩

/-- One trip of the printed product loop. -/
def tripM (i : grid0.Coords) (p : FVec F S256x4608 .fp8e5m2) (k0_t2 : Fin k0_t2_loop.trips) : PR F PUnit := do
  let ⟨v336, v339, v370⟩ : Σ' (v336 : BitVec 32) (v339 : FVec F S256x256 .f32), FVec F S128x128 .bf16 ← k0_part197 i (M .a1) (W .a1) (M .a2) (W .a2) (M .a3) (W .a3) (M .a4) (W .a4) (M .a5) (W .a5) (M .a6) (W .a6) (M .a7) (W .a7) (M .a8) (W .a8) (M .a9) (W .a9) (M .a10) (W .a10) (M .a11) (W .a11) (M .a12) (W .a12) (M .a13) (W .a13) (M .a14) (W .a14) (M .a15) (W .a15) (M .a16) (W .a16) (M .a17) (W .a17) (M .a18) (W .a18) (M .a19) (W .a19) (M .a20) (W .a20) (M .a21) (W .a21) (M .a22) (W .a22) (M .a23) (W .a23) (M .a24) (W .a24) (M .a25) (W .a25) (M .a26) (W .a26) (M .a27) (W .a27) (M .a28) (W .a28) (M .a29) (W .a29) (M .a30) (W .a30) (M .a31) (W .a31) (M .a32) (W .a32) (M .a33) (W .a33) p 0#32 1#32 k0_t2
  have v374 : FVec F S1x128x128 .bf16 := shapeCast S1x128x128 v370 shapeCasts_S128x128_S1x128x128
  Prog.lift (.store (M .a13) (Rect.unit (s := S2x128x1536) (k0_off155 k0_t2 0#32) S1x128x128.size (k0_off155_inb k0_t2 0)) v374 Finset.univ (View.stores_vmem h_S1x128x128 ((W .a13).storeExact_slice rfl _ (k0_off155_packedbf16 k0_t2 0)) (fun _ => rfl)) (.inl rfl))
  let c128_i32 : BitVec 32 := 128#32
  let v375 : BitVec 32 := Scalar.addi v336 c128_i32
  let v376 : BitVec 32 := v375
  let c0_284 : Index := 0#32
  let v377 : Index := Scalar.indexCast v376
  let v378 : Vec F S1x128 .f32 ← Prog.lift (.load (M .a3) (Rect.unit (s := S1x1536) (k0_off153 k0_t2 128#32) S1x128.size (k0_off153_inb k0_t2 1)).toLoadRect (View.loadsAt_vmem h_S1x128))
  have v379 : FVec F S1x128 .f32 := shapeCast S1x128 v378 shapeCasts_S1x128_S1x128
  have v380 : FVec F S128x128 .f32 := extractStridedSlice S128x128 ![0, 128] v339 slices_S256x256_o0_128_S128x128
  let c0_285 : Index := 0#32
  let c0_286 : Index := 0#32
  let c0_287 : Index := 0#32
  let v381 : Vec F S1x128x128 .f32 ← Prog.lift (.load (M .a22) (Rect.unit (s := S2x128x128) ![0, 0, 0] S1x128x128.size inb_S2x128x128_S1x128x128_0_0_0).toLoadRect (View.loadsAt_vmem h_S1x128x128))
  have v382 : FVec F S128x128 .f32 := shapeCast S128x128 v381 shapeCasts_S1x128x128_S128x128
  have v383 : FVec F S128x128 .f32 := mulf v380 v382
  have v384 : FVec F S128x128 .f32 := broadcastTo S128x128 v379 broadcasts_S1x128_S128x128
  have v385 : FVec F S128x128 .f32 := mulf v383 v384
  let c0_288 : Index := 0#32
  let c0_289 : Index := 0#32
  let v386 : Index := Scalar.indexCast v376
  let v387 : Vec F S1x128x128 .f32 ← Prog.lift (.load (M .a30) (Rect.unit (s := S2x128x1536) (k0_off154 k0_t2 128#32) S1x128x128.size (k0_off154_inb k0_t2 1)).toLoadRect (View.loadsAt_vmem h_S1x128x128))
  have v388 : FVec F S128x128 .f32 := shapeCast S128x128 v387 shapeCasts_S1x128x128_S128x128
  have v389 : FVec F S128x128 .f32 := addf v385 v388
  have v390 : FVec F S128x128 .bf16 := truncf .bf16 v389 bitsLt_bf16_f32
  let c0_290 : Index := 0#32
  let c0_291 : Index := 0#32
  let v391 : Index := Scalar.indexCast v376
  let v392 : Vec F S1x128x128 .bf16 ← Prog.lift (.load (M .a13) (Rect.unit (s := S2x128x1536) (k0_off154 k0_t2 128#32) S1x128x128.size (k0_off154_inb k0_t2 1)).toLoadRect (View.loadsAt_vmem h_S1x128x128))
  have v393 : FVec F S128x128 .bf16 := shapeCast S128x128 v392 shapeCasts_S1x128x128_S128x128
  have v394 : FVec F S1x128x128 .bf16 := shapeCast S1x128x128 v390 shapeCasts_S128x128_S1x128x128
  Prog.lift (.store (M .a13) (Rect.unit (s := S2x128x1536) (k0_off154 k0_t2 128#32) S1x128x128.size (k0_off154_inb k0_t2 1)) v394 Finset.univ (View.stores_vmem h_S1x128x128 ((W .a13).storeExact_slice rfl _ (k0_off154_packedbf16 k0_t2 1)) (fun _ => rfl)) (.inl rfl))
  have v395 : FVec F S128x128 .f32 := extractStridedSlice S128x128 ![128, 128] v339 slices_S256x256_o128_128_S128x128
  let c1_292 : Index := 1#32
  let c0_293 : Index := 0#32
  let c0_294 : Index := 0#32
  let v396 : Vec F S1x128x128 .f32 ← Prog.lift (.load (M .a22) (Rect.unit (s := S2x128x128) ![1, 0, 0] S1x128x128.size inb_S2x128x128_S1x128x128_1_0_0).toLoadRect (View.loadsAt_vmem h_S1x128x128))
  have v397 : FVec F S128x128 .f32 := shapeCast S128x128 v396 shapeCasts_S1x128x128_S128x128
  have v398 : FVec F S128x128 .f32 := mulf v395 v397
  have v399 : FVec F S128x128 .f32 := broadcastTo S128x128 v379 broadcasts_S1x128_S128x128
  have v400 : FVec F S128x128 .f32 := mulf v398 v399
  let c1_295 : Index := 1#32
  let c0_296 : Index := 0#32
  let v401 : Index := Scalar.indexCast v376
  let v402 : Vec F S1x128x128 .f32 ← Prog.lift (.load (M .a30) (Rect.unit (s := S2x128x1536) (k0_off155 k0_t2 128#32) S1x128x128.size (k0_off155_inb k0_t2 1)).toLoadRect (View.loadsAt_vmem h_S1x128x128))
  have v403 : FVec F S128x128 .f32 := shapeCast S128x128 v402 shapeCasts_S1x128x128_S128x128
  have v404 : FVec F S128x128 .f32 := addf v400 v403
  have v405 : FVec F S128x128 .bf16 := truncf .bf16 v404 bitsLt_bf16_f32
  let c1_297 : Index := 1#32
  let c0_298 : Index := 0#32
  let v406 : Index := Scalar.indexCast v376
  let v407 : Vec F S1x128x128 .bf16 ← Prog.lift (.load (M .a13) (Rect.unit (s := S2x128x1536) (k0_off155 k0_t2 128#32) S1x128x128.size (k0_off155_inb k0_t2 1)).toLoadRect (View.loadsAt_vmem h_S1x128x128))
  have v408 : FVec F S128x128 .bf16 := shapeCast S128x128 v407 shapeCasts_S1x128x128_S128x128
  have v409 : FVec F S1x128x128 .bf16 := shapeCast S1x128x128 v405 shapeCasts_S128x128_S1x128x128
  Prog.lift (.store (M .a13) (Rect.unit (s := S2x128x1536) (k0_off155 k0_t2 128#32) S1x128x128.size (k0_off155_inb k0_t2 1)) v409 Finset.univ (View.stores_vmem h_S1x128x128 ((W .a13).storeExact_slice rfl _ (k0_off155_packedbf16 k0_t2 1)) (fun _ => rfl)) (.inl rfl))
  pure ⟨⟩

/-- What follows the product loop in the printed body. -/
def tailcc (i : grid0.Coords) : PR F PUnit := do
  let c6_i32_264 : BitVec 32 := 6#32
  let c5_i32_265 : BitVec 32 := 5#32
  let v332 : BitVec 1 := Scalar.cmpi .eq (BitVec.ofNat 32 (i 0).val) c5_i32_265
  let v333 : BitVec 32 := Scalar.extui v332
  let c0_i32_266 : BitVec 32 := 0#32
  let v334 : BitVec 1 := Scalar.cmpi .ne v333 c0_i32_266
  if k0_h2 : k0_cond2 i = 1#1 then do
    let v351 : Vec F S8x128 .f32 ← k0_part198 i (M .a1) (W .a1) (M .a2) (W .a2) (M .a3) (W .a3) (M .a4) (W .a4) (M .a5) (W .a5) (M .a6) (W .a6) (M .a7) (W .a7) (M .a8) (W .a8) (M .a9) (W .a9) (M .a10) (W .a10) (M .a11) (W .a11) (M .a12) (W .a12) (M .a13) (W .a13) (M .a14) (W .a14) (M .a15) (W .a15) (M .a16) (W .a16) (M .a17) (W .a17) (M .a18) (W .a18) (M .a19) (W .a19) (M .a20) (W .a20) (M .a21) (W .a21) (M .a22) (W .a22) (M .a23) (W .a23) (M .a24) (W .a24) (M .a25) (W .a25) (M .a26) (W .a26) (M .a27) (W .a27) (M .a28) (W .a28) (M .a29) (W .a29) (M .a30) (W .a30) (M .a31) (W .a31) (M .a32) (W .a32) (M .a33) (W .a33)
    k0_part199 i (M .a1) (W .a1) (M .a2) (W .a2) (M .a3) (W .a3) (M .a4) (W .a4) (M .a5) (W .a5) (M .a6) (W .a6) (M .a7) (W .a7) (M .a8) (W .a8) (M .a9) (W .a9) (M .a10) (W .a10) (M .a11) (W .a11) (M .a12) (W .a12) (M .a13) (W .a13) (M .a14) (W .a14) (M .a15) (W .a15) (M .a16) (W .a16) (M .a17) (W .a17) (M .a18) (W .a18) (M .a19) (W .a19) (M .a20) (W .a20) (M .a21) (W .a21) (M .a22) (W .a22) (M .a23) (W .a23) (M .a24) (W .a24) (M .a25) (W .a25) (M .a26) (W .a26) (M .a27) (W .a27) (M .a28) (W .a28) (M .a29) (W .a29) (M .a30) (W .a30) (M .a31) (W .a31) (M .a32) (W .a32) (M .a33) (W .a33) v351
    k0_part200 i (M .a1) (W .a1) (M .a2) (W .a2) (M .a3) (W .a3) (M .a4) (W .a4) (M .a5) (W .a5) (M .a6) (W .a6) (M .a7) (W .a7) (M .a8) (W .a8) (M .a9) (W .a9) (M .a10) (W .a10) (M .a11) (W .a11) (M .a12) (W .a12) (M .a13) (W .a13) (M .a14) (W .a14) (M .a15) (W .a15) (M .a16) (W .a16) (M .a17) (W .a17) (M .a18) (W .a18) (M .a19) (W .a19) (M .a20) (W .a20) (M .a21) (W .a21) (M .a22) (W .a22) (M .a23) (W .a23) (M .a24) (W .a24) (M .a25) (W .a25) (M .a26) (W .a26) (M .a27) (W .a27) (M .a28) (W .a28) (M .a29) (W .a29) (M .a30) (W .a30) (M .a31) (W .a31) (M .a32) (W .a32) (M .a33) (W .a33)
    let c1_356 : Index := 1#32
    let c0_357 : Index := 0#32
    let c0_358 : Index := 0#32
    let v388 : Vec F S1x8x1536 .f32 ← Prog.lift (.load (M .a33) (Rect.unit (s := S4x8x1536) ![1, 0, 0] S1x8x1536.size inb_S4x8x1536_S1x8x1536_1_0_0).toLoadRect (View.loadsAt_vmem h_S1x8x1536))
    have v389 : FVec F S8x1536 .f32 := shapeCast S8x1536 v388 shapeCasts_S1x8x1536_S8x1536
    have cst_359 : FVec F S1536 .f32 := constant S1536 .f32 0x00000000#32
    have v390 : FVec F S1536 .f32 := multiReduction .add [0] S1536 v389 0x00000000#32 reduces_S8x1536_S1536 (.inl rfl) rfl
    have v391 : FVec F S1x1536 .f32 := shapeCast S1x1536 v390 shapeCasts_S1536_S1x1536
    let c0_360 : Index := 0#32
    let c0_361 : Index := 0#32
    let v392 : Vec F S1x1536 .f32 ← Prog.lift (.load (M .a16) (Rect.unit (s := S1x1536) ![0, 0] S1x1536.size inb_S1x1536_S1x1536_0_0).toLoadRect (View.loadsAt_vmem h_S1x1536))
    Prog.lift (.store (M .a16) (Rect.unit (s := S1x1536) ![0, 0] S1x1536.size inb_S1x1536_S1x1536_0_0) v391 Finset.univ (View.stores_vmem_bits_univ h_S1x1536 rfl) (.inl rfl))
    let c2_362 : Index := 2#32
    let c0_363 : Index := 0#32
    let c0_364 : Index := 0#32
    let v393 : Vec F S1x8x1536 .f32 ← Prog.lift (.load (M .a33) (Rect.unit (s := S4x8x1536) ![2, 0, 0] S1x8x1536.size inb_S4x8x1536_S1x8x1536_2_0_0).toLoadRect (View.loadsAt_vmem h_S1x8x1536))
    have v394 : FVec F S8x1536 .f32 := shapeCast S8x1536 v393 shapeCasts_S1x8x1536_S8x1536
    have cst_365 : FVec F S1536 .f32 := constant S1536 .f32 0x00000000#32
    have v395 : FVec F S1536 .f32 := multiReduction .add [0] S1536 v394 0x00000000#32 reduces_S8x1536_S1536 (.inl rfl) rfl
    have v396 : FVec F S1x1536 .f32 := shapeCast S1x1536 v395 shapeCasts_S1536_S1x1536
    let c0_366 : Index := 0#32
    let c0_367 : Index := 0#32
    let v397 : Vec F S1x1536 .f32 ← Prog.lift (.load (M .a17) (Rect.unit (s := S2x1536) ![0, 0] S1x1536.size inb_S2x1536_S1x1536_0_0).toLoadRect (View.loadsAt_vmem h_S1x1536))
    Prog.lift (.store (M .a17) (Rect.unit (s := S2x1536) ![0, 0] S1x1536.size inb_S2x1536_S1x1536_0_0) v396 Finset.univ (View.stores_vmem_bits_univ h_S1x1536 rfl) (.inl rfl))
    let c3_368 : Index := 3#32
    let c0_369 : Index := 0#32
    let c0_370 : Index := 0#32
    let v398 : Vec F S1x8x1536 .f32 ← Prog.lift (.load (M .a33) (Rect.unit (s := S4x8x1536) ![3, 0, 0] S1x8x1536.size inb_S4x8x1536_S1x8x1536_3_0_0).toLoadRect (View.loadsAt_vmem h_S1x8x1536))
    have v399 : FVec F S8x1536 .f32 := shapeCast S8x1536 v398 shapeCasts_S1x8x1536_S8x1536
    have cst_371 : FVec F S1536 .f32 := constant S1536 .f32 0x00000000#32
    have v400 : FVec F S1536 .f32 := multiReduction .add [0] S1536 v399 0x00000000#32 reduces_S8x1536_S1536 (.inl rfl) rfl
    have v401 : FVec F S1x1536 .f32 := shapeCast S1x1536 v400 shapeCasts_S1536_S1x1536
    let c1_372 : Index := 1#32
    let c0_373 : Index := 0#32
    let v402 : Vec F S1x1536 .f32 ← Prog.lift (.load (M .a17) (Rect.unit (s := S2x1536) ![1, 0] S1x1536.size inb_S2x1536_S1x1536_1_0).toLoadRect (View.loadsAt_vmem h_S1x1536))
    Prog.lift (.store (M .a17) (Rect.unit (s := S2x1536) ![1, 0] S1x1536.size inb_S2x1536_S1x1536_1_0) v401 Finset.univ (View.stores_vmem_bits_univ h_S1x1536 rfl) (.inl rfl))
    pure ⟨⟩
  else do
    pure ⟨⟩
  pure ⟨⟩

theorem p212 (i : grid0.Coords) : k0_part212 (F := F) i (M .a1) (W .a1) (M .a2) (W .a2) (M .a3) (W .a3) (M .a4) (W .a4) (M .a5) (W .a5) (M .a6) (W .a6) (M .a7) (W .a7) (M .a8) (W .a8) (M .a9) (W .a9) (M .a10) (W .a10) (M .a11) (W .a11) (M .a12) (W .a12) (M .a13) (W .a13) (M .a14) (W .a14) (M .a15) (W .a15) (M .a16) (W .a16) (M .a17) (W .a17) (M .a18) (W .a18) (M .a19) (W .a19) (M .a20) (W .a20) (M .a21) (W .a21) (M .a22) (W .a22) (M .a23) (W .a23) (M .a24) (W .a24) (M .a25) (W .a25) (M .a26) (W .a26) (M .a27) (W .a27) (M .a28) (W .a28) (M .a29) (W .a29) (M .a30) (W .a30) (M .a31) (W .a31) (M .a32) (W .a32) (M .a33) (W .a33) = (if isFirst i then toPR (nD := nD) (τ := τ) (Λ₀ := Λ₀) M W initP else pure ⟨⟩).bind fun _ => (toPR (nD := nD) (τ := τ) (Λ₀ := Λ₀) M W (setup i (bb := 0) (by omega))).bind fun _ => (toPR (nD := nD) (τ := τ) (Λ₀ := Λ₀) M W (setup i (bb := 1) (by omega))).bind fun _ => tail212 M W i := by
  unfold k0_part212
  rw [p201]
  refine Eq.trans (bind_assoc' _ _ _) (congrArg (Prog.bind _) (funext fun _ => ?_))
  refine step _ rfl ?_
  exact step (K := tail212 M W i) _ rfl rfl

theorem tripB_eq (i : grid0.Coords) (t : Fin k0_t1_loop.trips) : tripB M W i t = toPR (nD := nD) (τ := τ) (Λ₀ := Λ₀) M W (block (F := F) i t) := block_eq M W i t

theorem tripM_eq (i : grid0.Coords) (p : FVec F S256x4608 .fp8e5m2) (t : Fin k0_t2_loop.trips) : tripM M W i p t = toPR (nD := nD) (τ := τ) (Λ₀ := Λ₀) M W (mm p t) := by
  rfl

/-- The reads of the product's left factor and what the printed body hands on. -/
theorem tail212_eq (i : grid0.Coords) : tail212 (F := F) M W i = (Scf.Loop.for k0_t1_loop k0_t1_ok ⟨⟩ fun t _ => toPR (nD := nD) (τ := τ) (Λ₀ := Λ₀) M W (block i t)).bind fun _ =>
    (toPR (nD := nD) (τ := τ) (Λ₀ := Λ₀) M W (outScl i (bb := 0) (by omega))).bind fun _ => (toPR (nD := nD) (τ := τ) (Λ₀ := Λ₀) M W (outScl i (bb := 1) (by omega))).bind fun _ =>
    (toPR (nD := nD) (τ := τ) (Λ₀ := Λ₀) M W (ld .a18 (Rect.unit (s := S2x128x4608) ![0, 0, 0] S2x128x4608.size inb_S2x128x4608_S2x128x4608_0_0_0).toLoadRect h_S2x128x4608)).bind fun p =>
    pure ⟨BitVec.ofNat 32 (i 0).val, shapeCast S256x4608 (shapeCast S2x128x4608 p shapeCasts_S2x128x4608_S2x128x4608) shapeCasts_S2x128x4608_S256x4608, 0#32, 6#32⟩ := by
  unfold tail212
  refine stepF (fun t _ => tripB_eq M W i t) ?_
  rfl

theorem tailcc_eq (i : grid0.Coords) : tailcc (F := F) M W i = if k0_cond2 i = 1#1 then toPR (nD := nD) (τ := τ) (Λ₀ := Λ₀) M W finP else pure ⟨⟩ := by
  unfold tailcc
  by_cases h : k0_cond2 i = 1#1
  · rw [dif_pos h, if_pos h]
    rfl
  · rw [dif_neg h, if_neg h]

theorem toPR_body (i : grid0.Coords) : toPR (nD := nD) (τ := τ) (Λ₀ := Λ₀) M W (body (F := F) i) =
    (if isFirst i then toPR (nD := nD) (τ := τ) (Λ₀ := Λ₀) M W initP else pure ⟨⟩).bind fun _ => (toPR (nD := nD) (τ := τ) (Λ₀ := Λ₀) M W (setup i (bb := 0) (by omega))).bind fun _ => (toPR (nD := nD) (τ := τ) (Λ₀ := Λ₀) M W (setup i (bb := 1) (by omega))).bind fun _ =>
    (Scf.Loop.for k0_t1_loop k0_t1_ok ⟨⟩ fun t _ => toPR (nD := nD) (τ := τ) (Λ₀ := Λ₀) M W (block i t)).bind fun _ =>
    (toPR (nD := nD) (τ := τ) (Λ₀ := Λ₀) M W (outScl i (bb := 0) (by omega))).bind fun _ => (toPR (nD := nD) (τ := τ) (Λ₀ := Λ₀) M W (outScl i (bb := 1) (by omega))).bind fun _ =>
    (toPR (nD := nD) (τ := τ) (Λ₀ := Λ₀) M W (ld .a18 (Rect.unit (s := S2x128x4608) ![0, 0, 0] S2x128x4608.size inb_S2x128x4608_S2x128x4608_0_0_0).toLoadRect h_S2x128x4608)).bind fun p =>
    (Scf.Loop.for k0_t2_loop k0_t2_ok ⟨⟩ fun t _ => toPR (nD := nD) (τ := τ) (Λ₀ := Λ₀) M W (mm (shapeCast S256x4608 (shapeCast S2x128x4608 p shapeCasts_S2x128x4608_S2x128x4608) shapeCasts_S2x128x4608_S256x4608) t)).bind fun _ =>
    (if k0_cond2 i = 1#1 then toPR (nD := nD) (τ := τ) (Λ₀ := Λ₀) M W finP else pure ⟨⟩) := by
  unfold body
  simp only [toPR_bind, toPR_for, toPR_ite]
  rfl

/-- The printed body is the body written as loops. -/
theorem cc0_eq (i : grid0.Coords) : cc0_sru_bwd (F := F) i (M .a1) (W .a1) (M .a2) (W .a2) (M .a3) (W .a3) (M .a4) (W .a4) (M .a5) (W .a5) (M .a6) (W .a6) (M .a7) (W .a7) (M .a8) (W .a8) (M .a9) (W .a9) (M .a10) (W .a10) (M .a11) (W .a11) (M .a12) (W .a12) (M .a13) (W .a13) (M .a14) (W .a14) (M .a15) (W .a15) (M .a16) (W .a16) (M .a17) (W .a17) (M .a18) (W .a18) (M .a19) (W .a19) (M .a20) (W .a20) (M .a21) (W .a21) (M .a22) (W .a22) (M .a23) (W .a23) (M .a24) (W .a24) (M .a25) (W .a25) (M .a26) (W .a26) (M .a27) (W .a27) (M .a28) (W .a28) (M .a29) (W .a29) (M .a30) (W .a30) (M .a31) (W .a31) (M .a32) (W .a32) (M .a33) (W .a33) = toPR (nD := nD) (τ := τ) (Λ₀ := Λ₀) M W (body i) := by
  refine Eq.trans ?_ (toPR_body M W i).symm
  unfold cc0_sru_bwd
  rw [p212, tail212_eq]
  refine Eq.trans (bind_assoc' _ _ _) (congrArg (Prog.bind _) (funext fun _ => ?_))
  refine Eq.trans (bind_assoc' _ _ _) (congrArg (Prog.bind _) (funext fun _ => ?_))
  refine Eq.trans (bind_assoc' _ _ _) (congrArg (Prog.bind _) (funext fun _ => ?_))
  refine Eq.trans (bind_assoc' _ _ _) (congrArg (Prog.bind _) (funext fun _ => ?_))
  refine Eq.trans (bind_assoc' _ _ _) (congrArg (Prog.bind _) (funext fun _ => ?_))
  refine Eq.trans (bind_assoc' _ _ _) (congrArg (Prog.bind _) (funext fun _ => ?_))
  refine Eq.trans (bind_assoc' _ _ _) (congrArg (Prog.bind _) (funext fun p => ?_))
  refine stepF (fun t _ => tripM_eq M W i _ t) ?_
  exact tailcc_eq M W i

end Cert.Body
-- ==== Proof.Run.lean ====
/- The launch: at every grid point the body leaves what it evaluates to, so the arrays end as some run of the body over
   the six points leaves them. -/
module

public import proofs.«01_k».proof.Proof.Logic
public import proofs.«01_k».proof.Proof.Eq2

@[expose] public section
noncomputable section

namespace Cert.Body
open Cert.Mem hiding Cmd ld st St PR
open Cert.KernelIdeal Cert.KernelIdeal.Gen Idealize.ShloMosaic Idealize.ShloMosaic.TcCoe Idealize.ShloMosaic.Tactic Idealize.SL
open Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (RDat ΦA)

variable {F : FTy → Type} [FloatOps F]

local notation "𝕄" => MT nD τ sig Unit (Elt F) ℕ (UR sig nD τ) ℕ

/-- Where the buffers lie when the pipeline calls the body with staging slots `s`. -/
def mems (s : (w : Fin 19) → Fin (win0 w).nbuf) : Mems
  | .a1 => win0_0.stage (s 0)
  | .a2 => win0_1.stage (s 1)
  | .a3 => win0_2.stage (s 2)
  | .a4 => win0_3.stage (s 3)
  | .a5 => win0_4.stage (s 4)
  | .a6 => win0_5.stage (s 5)
  | .a7 => win0_6.stage (s 6)
  | .a8 => win0_7.stage (s 7)
  | .a9 => win0_8.stage (s 8)
  | .a10 => win0_9.stage (s 9)
  | .a11 => win0_10.stage (s 10)
  | .a12 => win0_11.stage (s 11)
  | .a13 => win0_12.stage (s 12)
  | .a14 => win0_13.stage (s 13)
  | .a15 => win0_14.stage (s 14)
  | .a16 => win0_15.stage (s 15)
  | .a17 => win0_16.stage (s 16)
  | .a18 => win0_17.stage (s 17)
  | .a19 => win0_18.stage (s 18)
  | .a20 => Memref.whole cc0_scratch0
  | .a21 => Memref.whole cc0_scratch1
  | .a22 => Memref.whole cc0_scratch2
  | .a23 => Memref.whole cc0_scratch3
  | .a24 => Memref.whole cc0_scratch4
  | .a25 => Memref.whole cc0_scratch5
  | .a26 => Memref.whole cc0_scratch6
  | .a27 => Memref.whole cc0_scratch7
  | .a28 => Memref.whole cc0_scratch8
  | .a29 => Memref.whole cc0_scratch9
  | .a30 => Memref.whole cc0_scratch10
  | .a31 => Memref.whole cc0_scratch11
  | .a32 => Memref.whole cc0_scratch12
  | .a33 => Memref.whole cc0_scratch13

theorem mems_whole (s : (w : Fin 19) → Fin (win0 w).nbuf) : ∀ b, (mems s b).IsWhole
  | .a1 => hstage0_0 ((s 0).cast nbuf0_0)
  | .a2 => hstage0_1 ((s 1).cast nbuf0_1)
  | .a3 => hstage0_2 ((s 2).cast nbuf0_2)
  | .a4 => hstage0_3 ((s 3).cast nbuf0_3)
  | .a5 => hstage0_4 ((s 4).cast nbuf0_4)
  | .a6 => hstage0_5 ((s 5).cast nbuf0_5)
  | .a7 => hstage0_6 ((s 6).cast nbuf0_6)
  | .a8 => hstage0_7 ((s 7).cast nbuf0_7)
  | .a9 => hstage0_8 ((s 8).cast nbuf0_8)
  | .a10 => hstage0_9 ((s 9).cast nbuf0_9)
  | .a11 => hstage0_10 ((s 10).cast nbuf0_10)
  | .a12 => hstage0_11 ((s 11).cast nbuf0_11)
  | .a13 => hstage0_12 ((s 12).cast nbuf0_12)
  | .a14 => hstage0_13 ((s 13).cast nbuf0_13)
  | .a15 => hstage0_14 ((s 14).cast nbuf0_14)
  | .a16 => hstage0_15 ((s 15).cast nbuf0_15)
  | .a17 => hstage0_16 ((s 16).cast nbuf0_16)
  | .a18 => hstage0_17 ((s 17).cast nbuf0_17)
  | .a19 => hstage0_18 ((s 18).cast nbuf0_18)
  | .a20 => Memref.isWhole_whole _
  | .a21 => Memref.isWhole_whole _
  | .a22 => Memref.isWhole_whole _
  | .a23 => Memref.isWhole_whole _
  | .a24 => Memref.isWhole_whole _
  | .a25 => Memref.isWhole_whole _
  | .a26 => Memref.isWhole_whole _
  | .a27 => Memref.isWhole_whole _
  | .a28 => Memref.isWhole_whole _
  | .a29 => Memref.isWhole_whole _
  | .a30 => Memref.isWhole_whole _
  | .a31 => Memref.isWhole_whole _
  | .a32 => Memref.isWhole_whole _
  | .a33 => Memref.isWhole_whole _

/-- A window's buffer's contents. -/
def pick (s : St F) : (w : Fin 19) → (cfg0.win w).block.Idx → Elt F (cfg0.win w).elt
  | ⟨0, _⟩ => s .a1
  | ⟨1, _⟩ => s .a2
  | ⟨2, _⟩ => s .a3
  | ⟨3, _⟩ => s .a4
  | ⟨4, _⟩ => s .a5
  | ⟨5, _⟩ => s .a6
  | ⟨6, _⟩ => s .a7
  | ⟨7, _⟩ => s .a8
  | ⟨8, _⟩ => s .a9
  | ⟨9, _⟩ => s .a10
  | ⟨10, _⟩ => s .a11
  | ⟨11, _⟩ => s .a12
  | ⟨12, _⟩ => s .a13
  | ⟨13, _⟩ => s .a14
  | ⟨14, _⟩ => s .a15
  | ⟨15, _⟩ => s .a16
  | ⟨16, _⟩ => s .a17
  | ⟨17, _⟩ => s .a18
  | ⟨18, _⟩ => s .a19
  | ⟨n + 19, h⟩ => absurd h (by omega)

/-- Contents put together from the windows' and the scratch buffers'. -/
def put (Y : (w : Fin 19) → (cfg0.win w).block.Idx → Elt F (cfg0.win w).elt) (z : St F) : St F
  | .a1 => Y 0
  | .a2 => Y 1
  | .a3 => Y 2
  | .a4 => Y 3
  | .a5 => Y 4
  | .a6 => Y 5
  | .a7 => Y 6
  | .a8 => Y 7
  | .a9 => Y 8
  | .a10 => Y 9
  | .a11 => Y 10
  | .a12 => Y 11
  | .a13 => Y 12
  | .a14 => Y 13
  | .a15 => Y 14
  | .a16 => Y 15
  | .a17 => Y 16
  | .a18 => Y 17
  | .a19 => Y 18
  | .a20 => z .a20
  | .a21 => z .a21
  | .a22 => z .a22
  | .a23 => z .a23
  | .a24 => z .a24
  | .a25 => z .a25
  | .a26 => z .a26
  | .a27 => z .a27
  | .a28 => z .a28
  | .a29 => z .a29
  | .a30 => z .a30
  | .a31 => z .a31
  | .a32 => z .a32
  | .a33 => z .a33

theorem pick_put (Y : (w : Fin 19) → (cfg0.win w).block.Idx → Elt F (cfg0.win w).elt) (z : St F) : ∀ w, pick (put Y z) w = Y w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨n + 19, h⟩ => absurd h (by omega)

/-- The buffers conjoined one by one. -/
theorem bigSep_Bf {M : Type} [URA M] (Φ : Bf → sProp M) : bigSep Finset.univ Φ = iprop(Φ .a1 ∗ Φ .a2 ∗ Φ .a3 ∗ Φ .a4 ∗ Φ .a5 ∗ Φ .a6 ∗ Φ .a7 ∗ Φ .a8 ∗ Φ .a9 ∗ Φ .a10 ∗ Φ .a11 ∗ Φ .a12 ∗ Φ .a13 ∗ Φ .a14 ∗ Φ .a15 ∗ Φ .a16 ∗ Φ .a17 ∗ Φ .a18 ∗ Φ .a19 ∗ Φ .a20 ∗ Φ .a21 ∗ Φ .a22 ∗ Φ .a23 ∗ Φ .a24 ∗ Φ .a25 ∗ Φ .a26 ∗ Φ .a27 ∗ Φ .a28 ∗ Φ .a29 ∗ Φ .a30 ∗ Φ .a31 ∗ Φ .a32 ∗ Φ .a33) :=
  bigSep_univ_eq_bigSepL [Bf.a1, Bf.a2, Bf.a3, Bf.a4, Bf.a5, Bf.a6, Bf.a7, Bf.a8, Bf.a9, Bf.a10, Bf.a11, Bf.a12, Bf.a13, Bf.a14, Bf.a15, Bf.a16, Bf.a17, Bf.a18, Bf.a19, Bf.a20, Bf.a21, Bf.a22, Bf.a23, Bf.a24, Bf.a25, Bf.a26, Bf.a27, Bf.a28, Bf.a29, Bf.a30, Bf.a31, Bf.a32, Bf.a33] (by decide) (by decide) Φ

/-- The scratch buffers at contents. -/
def Scr (c : Dev nD) (z : St F) : sProp 𝕄 := iprop(ownsTc c (Memref.whole cc0_scratch0) fullShare (z .a20) ∗ ownsTc c (Memref.whole cc0_scratch1) fullShare (z .a21) ∗ ownsTc c (Memref.whole cc0_scratch2) fullShare (z .a22) ∗ ownsTc c (Memref.whole cc0_scratch3) fullShare (z .a23) ∗ ownsTc c (Memref.whole cc0_scratch4) fullShare (z .a24) ∗ ownsTc c (Memref.whole cc0_scratch5) fullShare (z .a25) ∗ ownsTc c (Memref.whole cc0_scratch6) fullShare (z .a26) ∗ ownsTc c (Memref.whole cc0_scratch7) fullShare (z .a27) ∗ ownsTc c (Memref.whole cc0_scratch8) fullShare (z .a28) ∗ ownsTc c (Memref.whole cc0_scratch9) fullShare (z .a29) ∗ ownsTc c (Memref.whole cc0_scratch10) fullShare (z .a30) ∗ ownsTc c (Memref.whole cc0_scratch11) fullShare (z .a31) ∗ ownsTc c (Memref.whole cc0_scratch12) fullShare (z .a32) ∗ ownsTc c (Memref.whole cc0_scratch13) fullShare (z .a33))

/-- Contents with given scratch buffers. -/
def mkScr (w : St F) (f0 : Bf.sh .a20 |>.Idx → Elt F (Bf.et .a20)) (f1 : Bf.sh .a21 |>.Idx → Elt F (Bf.et .a21)) (f2 : Bf.sh .a22 |>.Idx → Elt F (Bf.et .a22)) (f3 : Bf.sh .a23 |>.Idx → Elt F (Bf.et .a23)) (f4 : Bf.sh .a24 |>.Idx → Elt F (Bf.et .a24)) (f5 : Bf.sh .a25 |>.Idx → Elt F (Bf.et .a25)) (f6 : Bf.sh .a26 |>.Idx → Elt F (Bf.et .a26)) (f7 : Bf.sh .a27 |>.Idx → Elt F (Bf.et .a27)) (f8 : Bf.sh .a28 |>.Idx → Elt F (Bf.et .a28)) (f9 : Bf.sh .a29 |>.Idx → Elt F (Bf.et .a29)) (f10 : Bf.sh .a30 |>.Idx → Elt F (Bf.et .a30)) (f11 : Bf.sh .a31 |>.Idx → Elt F (Bf.et .a31)) (f12 : Bf.sh .a32 |>.Idx → Elt F (Bf.et .a32)) (f13 : Bf.sh .a33 |>.Idx → Elt F (Bf.et .a33)) : St F
  | .a20 => f0
  | .a21 => f1
  | .a22 => f2
  | .a23 => f3
  | .a24 => f4
  | .a25 => f5
  | .a26 => f6
  | .a27 => f7
  | .a28 => f8
  | .a29 => f9
  | .a30 => f10
  | .a31 => f11
  | .a32 => f12
  | .a33 => f13
  | b => w b

theorem own_whole (c : Dev nD) (b : Ref sig .tc) (f : Buf (Elt F) ((c : Thread nD τ).loc b)) : (((c : Thread nD τ).loc b) ↦{fullShare} f : sProp 𝕄) ⊢ ownsTc c (Memref.whole b) fullShare f := by
  unfold ownsTc
  rw [owns_whole]

theorem whole_own (c : Dev nD) (b : Ref sig .tc) (X) : (ownsTc c (Memref.whole b) fullShare X : sProp 𝕄) ⊢ iprop(∃ f : Buf (Elt F) ((c : Thread nD τ).loc b), ((c : Thread nD τ).loc b) ↦{fullShare} f) := by
  unfold ownsTc
  iintro H
  iexists X
  iapply (show (owns (c : Thread nD τ) (Memref.whole b) fullShare X : sProp 𝕄) ⊢ ((c : Thread nD τ).loc b) ↦{fullShare} X from by rw [owns_whole]) $$ H

theorem scr_of (c : Dev nD) : (Pipeline.scopedRest (Ix := Unit) (Name := ℕ) (U := UR sig nD τ) (Lvl := ℕ) (Val := Elt F) spec0 c : sProp 𝕄) ⊢ iprop(∃ z : St F, Scr c z) := by
  rw [scopedRest0_eq]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩⟩
  iexists (mkScr (fun _ _ => Classical.arbitrary _) f0 f1 f2 f3 f4 f5 f6 f7 f8 f9 f10 f11 f12 f13)
  unfold Scr
  isplitl [H0]; · iapply (own_whole c cc0_scratch0 f0); iexact H0
  isplitl [H1]; · iapply (own_whole c cc0_scratch1 f1); iexact H1
  isplitl [H2]; · iapply (own_whole c cc0_scratch2 f2); iexact H2
  isplitl [H3]; · iapply (own_whole c cc0_scratch3 f3); iexact H3
  isplitl [H4]; · iapply (own_whole c cc0_scratch4 f4); iexact H4
  isplitl [H5]; · iapply (own_whole c cc0_scratch5 f5); iexact H5
  isplitl [H6]; · iapply (own_whole c cc0_scratch6 f6); iexact H6
  isplitl [H7]; · iapply (own_whole c cc0_scratch7 f7); iexact H7
  isplitl [H8]; · iapply (own_whole c cc0_scratch8 f8); iexact H8
  isplitl [H9]; · iapply (own_whole c cc0_scratch9 f9); iexact H9
  isplitl [H10]; · iapply (own_whole c cc0_scratch10 f10); iexact H10
  isplitl [H11]; · iapply (own_whole c cc0_scratch11 f11); iexact H11
  isplitl [H12]; · iapply (own_whole c cc0_scratch12 f12); iexact H12
  iapply (own_whole c cc0_scratch13 f13); iexact H13

theorem of_scr (c : Dev nD) (z : St F) : Scr c z ⊢ (Pipeline.scopedRest (Ix := Unit) (Name := ℕ) (U := UR sig nD τ) (Lvl := ℕ) (Val := Elt F) spec0 c : sProp 𝕄) := by
  rw [scopedRest0_eq]
  unfold Scr
  iintro ⟨H0, H1, H2, H3, H4, H5, H6, H7, H8, H9, H10, H11, H12, H13⟩
  isplitl [H0]; · iapply (whole_own c cc0_scratch0 _); iexact H0
  isplitl [H1]; · iapply (whole_own c cc0_scratch1 _); iexact H1
  isplitl [H2]; · iapply (whole_own c cc0_scratch2 _); iexact H2
  isplitl [H3]; · iapply (whole_own c cc0_scratch3 _); iexact H3
  isplitl [H4]; · iapply (whole_own c cc0_scratch4 _); iexact H4
  isplitl [H5]; · iapply (whole_own c cc0_scratch5 _); iexact H5
  isplitl [H6]; · iapply (whole_own c cc0_scratch6 _); iexact H6
  isplitl [H7]; · iapply (whole_own c cc0_scratch7 _); iexact H7
  isplitl [H8]; · iapply (whole_own c cc0_scratch8 _); iexact H8
  isplitl [H9]; · iapply (whole_own c cc0_scratch9 _); iexact H9
  isplitl [H10]; · iapply (whole_own c cc0_scratch10 _); iexact H10
  isplitl [H11]; · iapply (whole_own c cc0_scratch11 _); iexact H11
  isplitl [H12]; · iapply (whole_own c cc0_scratch12 _); iexact H12
  iapply (whole_own c cc0_scratch13 _); iexact H13

variable (m : (ℓ : Loc nD τ sig) → Buf (Elt F) ℓ) (ρ : Dev nD → PrngReg)

/-- The inputs' blocks at a point are in place. -/
def InpOK (c : Dev nD) (t : Fin cfg0.N) (s : St F) : Prop :=
  s .a1 = iblk m c 0 t ∧ s .a2 = iblk m c 1 t ∧ s .a3 = iblk m c 2 t ∧ s .a4 = iblk m c 3 t ∧ s .a5 = iblk m c 4 t ∧ s .a6 = iblk m c 5 t ∧ s .a7 = iblk m c 6 t ∧ s .a8 = iblk m c 7 t ∧ s .a9 = iblk m c 8 t ∧ s .a10 = iblk m c 9 t ∧ s .a11 = iblk m c 10 t ∧ s .a12 = iblk m c 11 t

/-- The scratch buffers. -/
def Bf.scr : Bf → Bool
  | .a20 => true
  | .a21 => true
  | .a22 => true
  | .a23 => true
  | .a24 => true
  | .a25 => true
  | .a26 => true
  | .a27 => true
  | .a28 => true
  | .a29 => true
  | .a30 => true
  | .a31 => true
  | .a32 => true
  | .a33 => true
  | _ => false

/-- What the scratch buffers may hold before a point: what the body leaves, point after point, of whatever it first finds. -/
def Inv (c : Dev nD) : ℕ → St F → Prop
  | 0, _ => True
  | t + 1, z => ∃ h : t < cfg0.N, ∃ s : St F, InpOK m c ⟨t, h⟩ s ∧ Inv c t s ∧ ∀ b, b.scr = true → z b = (ev (body (grid0.coords ⟨t, h⟩)) s).2 b

theorem Inv.congr (c : Dev nD) (t : ℕ) {z z' : St F} (h : Inv m c t z) (e : ∀ b, b.scr = true → z' b = z b) : Inv m c t z' := by
  cases t with
  | zero => trivial
  | succ t =>
    obtain ⟨ht, s, h1, h2, h3⟩ := h
    exact ⟨ht, s, h1, h2, fun b hb => (e b hb).trans (h3 b hb)⟩

theorem put_scr (Y : (w : Fin 19) → (cfg0.win w).block.Idx → Elt F (cfg0.win w).elt) (z : St F) : ∀ b : Bf, b.scr = true → put Y z b = z b
  | .a20, _ => rfl
  | .a21, _ => rfl
  | .a22, _ => rfl
  | .a23, _ => rfl
  | .a24, _ => rfl
  | .a25, _ => rfl
  | .a26, _ => rfl
  | .a27, _ => rfl
  | .a28, _ => rfl
  | .a29, _ => rfl
  | .a30, _ => rfl
  | .a31, _ => rfl
  | .a32, _ => rfl
  | .a33, _ => rfl

theorem scr_congr (c : Dev nD) {z z' : St F} (e : ∀ b, b.scr = true → z' b = z b) : Scr c z' = Scr c z := by
  unfold Scr
  rw [e .a20 rfl, e .a21 rfl, e .a22 rfl, e .a23 rfl, e .a24 rfl, e .a25 rfl, e .a26 rfl, e .a27 rfl, e .a28 rfl, e .a29 rfl, e .a30 rfl, e .a31 rfl, e .a32 rfl, e .a33 rfl]

/-- The launch's proof data: the body leaves in each window what it evaluates to on some contents it may find. -/
def rdat (c : Dev nD) : RDat τ (Elt F) Unit ℕ (UR sig nD τ) ℕ cfg0 c where
  A w := V m c (Pipeline.arrRef spec0 w)
  after w t Y X := ∃ s : St F, InpOK m c t s ∧ Inv m c t.val s ∧ Y = pick s w ∧ X = pick (ev (body (grid0.coords t)) s).2 w
  Φ t := iprop(∃ z : St F, ⌜Inv m c t.val z⌝ ∗ Scr c z ∗ ∃ r, prngReg c r)
  q _ := fullShare
  owed _ := 0

/-- The body leaves the inputs' blocks as it finds them. -/
theorem after_in (c : Dev nD) (w : Fin 19) (hw : w.val < 12) (t : Fin cfg0.N) (Y X) (h : (rdat m c).after w t Y X) : X = Y := by
  obtain ⟨s, -, -, rfl, rfl⟩ := h
  match w, hw with
  | 0, _ => exact ev_in _ s .a1 rfl
  | 1, _ => exact ev_in _ s .a2 rfl
  | 2, _ => exact ev_in _ s .a3 rfl
  | 3, _ => exact ev_in _ s .a4 rfl
  | 4, _ => exact ev_in _ s .a5 rfl
  | 5, _ => exact ev_in _ s .a6 rfl
  | 6, _ => exact ev_in _ s .a7 rfl
  | 7, _ => exact ev_in _ s .a8 rfl
  | 8, _ => exact ev_in _ s .a9 rfl
  | 9, _ => exact ev_in _ s .a10 rfl
  | 10, _ => exact ev_in _ s .a11 rfl
  | 11, _ => exact ev_in _ s .a12 rfl

theorem finds_0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (after_in m c 0 (by decide)) t Y h
  rfl
theorem finds_1 (c : Dev nD) (t : Fin cfg0.N) (Y) (h : (rdat m c).Finds 1 t Y) : Y = iblk m c 1 t := by
  obtain ⟨d, rfl⟩ := RDat.finds_in_eq_fetched (rdat m c) 1 rfl (fun _ _ _ => rfl) (after_in m c 1 (by decide)) t Y h
  rfl
theorem finds_2 (c : Dev nD) (t : Fin cfg0.N) (Y) (h : (rdat m c).Finds 2 t Y) : Y = iblk m c 2 t := by
  obtain ⟨d, rfl⟩ := RDat.finds_in_eq_fetched (rdat m c) 2 rfl (fun _ _ _ => rfl) (after_in m c 2 (by decide)) t Y h
  rfl
theorem finds_3 (c : Dev nD) (t : Fin cfg0.N) (Y) (h : (rdat m c).Finds 3 t Y) : Y = iblk m c 3 t := by
  obtain ⟨d, rfl⟩ := RDat.finds_in_eq_fetched (rdat m c) 3 rfl (fun _ _ _ => rfl) (after_in m c 3 (by decide)) t Y h
  rfl
theorem finds_4 (c : Dev nD) (t : Fin cfg0.N) (Y) (h : (rdat m c).Finds 4 t Y) : Y = iblk m c 4 t := by
  obtain ⟨d, rfl⟩ := RDat.finds_in_eq_fetched (rdat m c) 4 rfl (fun _ _ _ => rfl) (after_in m c 4 (by decide)) t Y h
  rfl
theorem finds_5 (c : Dev nD) (t : Fin cfg0.N) (Y) (h : (rdat m c).Finds 5 t Y) : Y = iblk m c 5 t := by
  obtain ⟨d, rfl⟩ := RDat.finds_in_eq_fetched (rdat m c) 5 rfl (fun _ _ _ => rfl) (after_in m c 5 (by decide)) t Y h
  rfl
theorem finds_6 (c : Dev nD) (t : Fin cfg0.N) (Y) (h : (rdat m c).Finds 6 t Y) : Y = iblk m c 6 t := by
  obtain ⟨d, rfl⟩ := RDat.finds_in_eq_fetched (rdat m c) 6 rfl (fun _ _ _ => rfl) (after_in m c 6 (by decide)) t Y h
  rfl
theorem finds_7 (c : Dev nD) (t : Fin cfg0.N) (Y) (h : (rdat m c).Finds 7 t Y) : Y = iblk m c 7 t := by
  obtain ⟨d, rfl⟩ := RDat.finds_in_eq_fetched (rdat m c) 7 rfl (fun _ _ _ => rfl) (after_in m c 7 (by decide)) t Y h
  rfl
theorem finds_8 (c : Dev nD) (t : Fin cfg0.N) (Y) (h : (rdat m c).Finds 8 t Y) : Y = iblk m c 8 t := by
  obtain ⟨d, rfl⟩ := RDat.finds_in_eq_fetched (rdat m c) 8 rfl (fun _ _ _ => rfl) (after_in m c 8 (by decide)) t Y h
  rfl
theorem finds_9 (c : Dev nD) (t : Fin cfg0.N) (Y) (h : (rdat m c).Finds 9 t Y) : Y = iblk m c 9 t := by
  obtain ⟨d, rfl⟩ := RDat.finds_in_eq_fetched (rdat m c) 9 rfl (fun _ _ _ => rfl) (after_in m c 9 (by decide)) t Y h
  rfl
theorem finds_10 (c : Dev nD) (t : Fin cfg0.N) (Y) (h : (rdat m c).Finds 10 t Y) : Y = iblk m c 10 t := by
  obtain ⟨d, rfl⟩ := RDat.finds_in_eq_fetched (rdat m c) 10 rfl (fun _ _ _ => rfl) (after_in m c 10 (by decide)) t Y h
  rfl
theorem finds_11 (c : Dev nD) (t : Fin cfg0.N) (Y) (h : (rdat m c).Finds 11 t Y) : Y = iblk m c 11 t := by
  obtain ⟨d, rfl⟩ := RDat.finds_in_eq_fetched (rdat m c) 11 rfl (fun _ _ _ => rfl) (after_in m c 11 (by decide)) t Y h
  rfl

/-- The pipeline's call of the body at a point is the body written as loops, on the buffers there. -/
theorem call_eq (t : Fin cfg0.N) : defs₀ (F := F) .tc cfg0.body (cfg0.bodyArgs t (cfg0.slots t)) = toPR (nD := nD) (τ := τ) (Λ₀ := Λ₀) (mems (cfg0.slots t)) (mems_whole _) (body (grid0.coords t)) :=
  (show _ = _ from rfl : defs₀ (F := F) .tc cfg0.body (cfg0.bodyArgs t (cfg0.slots t)) = cc0_sru_bwd (F := F) (grid0.coords t) (mems (cfg0.slots t) .a1) (mems_whole _ .a1) (mems (cfg0.slots t) .a2) (mems_whole _ .a2) (mems (cfg0.slots t) .a3) (mems_whole _ .a3) (mems (cfg0.slots t) .a4) (mems_whole _ .a4) (mems (cfg0.slots t) .a5) (mems_whole _ .a5) (mems (cfg0.slots t) .a6) (mems_whole _ .a6) (mems (cfg0.slots t) .a7) (mems_whole _ .a7) (mems (cfg0.slots t) .a8) (mems_whole _ .a8) (mems (cfg0.slots t) .a9) (mems_whole _ .a9) (mems (cfg0.slots t) .a10) (mems_whole _ .a10) (mems (cfg0.slots t) .a11) (mems_whole _ .a11) (mems (cfg0.slots t) .a12) (mems_whole _ .a12) (mems (cfg0.slots t) .a13) (mems_whole _ .a13) (mems (cfg0.slots t) .a14) (mems_whole _ .a14) (mems (cfg0.slots t) .a15) (mems_whole _ .a15) (mems (cfg0.slots t) .a16) (mems_whole _ .a16) (mems (cfg0.slots t) .a17) (mems_whole _ .a17) (mems (cfg0.slots t) .a18) (mems_whole _ .a18) (mems (cfg0.slots t) .a19) (mems_whole _ .a19) (mems (cfg0.slots t) .a20) (mems_whole _ .a20) (mems (cfg0.slots t) .a21) (mems_whole _ .a21) (mems (cfg0.slots t) .a22) (mems_whole _ .a22) (mems (cfg0.slots t) .a23) (mems_whole _ .a23) (mems (cfg0.slots t) .a24) (mems_whole _ .a24) (mems (cfg0.slots t) .a25) (mems_whole _ .a25) (mems (cfg0.slots t) .a26) (mems_whole _ .a26) (mems (cfg0.slots t) .a27) (mems_whole _ .a27) (mems (cfg0.slots t) .a28) (mems_whole _ .a28) (mems (cfg0.slots t) .a29) (mems_whole _ .a29) (mems (cfg0.slots t) .a30) (mems_whole _ .a30) (mems (cfg0.slots t) .a31) (mems_whole _ .a31) (mems (cfg0.slots t) .a32) (mems_whole _ .a32) (mems (cfg0.slots t) .a33) (mems_whole _ .a33)).trans
    (cc0_eq (mems (cfg0.slots t)) (mems_whole _) (grid0.coords t))

/-- The buffers put together are owned: the windows' and the scratch ones. -/
theorem own_put_eq (c : Dev nD) (t : Fin cfg0.N) (s : St F) : Own (mems (cfg0.slots t)) c s
    ⊣⊢ iprop((bigSep Finset.univ fun w => owns (c : Thread nD τ) ((cfg0.win w).stage (cfg0.slots t w)) fullShare (pick s w)) ∗ Scr c s) := by
  have e : Own (mems (cfg0.slots t)) c s = iprop(owns (c : Thread nD τ) ((cfg0.win 0).stage (cfg0.slots t 0)) fullShare (pick s 0) ∗ owns (c : Thread nD τ) ((cfg0.win 1).stage (cfg0.slots t 1)) fullShare (pick s 1) ∗ owns (c : Thread nD τ) ((cfg0.win 2).stage (cfg0.slots t 2)) fullShare (pick s 2) ∗ owns (c : Thread nD τ) ((cfg0.win 3).stage (cfg0.slots t 3)) fullShare (pick s 3) ∗ owns (c : Thread nD τ) ((cfg0.win 4).stage (cfg0.slots t 4)) fullShare (pick s 4) ∗ owns (c : Thread nD τ) ((cfg0.win 5).stage (cfg0.slots t 5)) fullShare (pick s 5) ∗ owns (c : Thread nD τ) ((cfg0.win 6).stage (cfg0.slots t 6)) fullShare (pick s 6) ∗ owns (c : Thread nD τ) ((cfg0.win 7).stage (cfg0.slots t 7)) fullShare (pick s 7) ∗ owns (c : Thread nD τ) ((cfg0.win 8).stage (cfg0.slots t 8)) fullShare (pick s 8) ∗ owns (c : Thread nD τ) ((cfg0.win 9).stage (cfg0.slots t 9)) fullShare (pick s 9) ∗ owns (c : Thread nD τ) ((cfg0.win 10).stage (cfg0.slots t 10)) fullShare (pick s 10) ∗ owns (c : Thread nD τ) ((cfg0.win 11).stage (cfg0.slots t 11)) fullShare (pick s 11) ∗ owns (c : Thread nD τ) ((cfg0.win 12).stage (cfg0.slots t 12)) fullShare (pick s 12) ∗ owns (c : Thread nD τ) ((cfg0.win 13).stage (cfg0.slots t 13)) fullShare (pick s 13) ∗ owns (c : Thread nD τ) ((cfg0.win 14).stage (cfg0.slots t 14)) fullShare (pick s 14) ∗ owns (c : Thread nD τ) ((cfg0.win 15).stage (cfg0.slots t 15)) fullShare (pick s 15) ∗ owns (c : Thread nD τ) ((cfg0.win 16).stage (cfg0.slots t 16)) fullShare (pick s 16) ∗ owns (c : Thread nD τ) ((cfg0.win 17).stage (cfg0.slots t 17)) fullShare (pick s 17) ∗ owns (c : Thread nD τ) ((cfg0.win 18).stage (cfg0.slots t 18)) fullShare (pick s 18) ∗ Scr c s) := by
    unfold Own Scr; rw [bigSep_Bf]; rfl
  rw [e, bigSep_W0]
  constructor
  · iintro ⟨H0, H1, H2, H3, H4, H5, H6, H7, H8, H9, H10, H11, H12, H13, H14, H15, H16, H17, H18, H19⟩
    iframe
  · iintro ⟨⟨H0, H1, H2, H3, H4, H5, H6, H7, H8, H9, H10, H11, H12, H13, H14, H15, H16, H17, H18⟩, H19⟩
    iframe

theorem after_ex (c : Dev nD) (t : Fin cfg0.N) (Y) (z : St F) (hs : InpOK m c t (put Y z)) (hi : Inv m c t.val (put Y z)) (w : Fin 19) :
    (owns (c : Thread nD τ) ((cfg0.win w).stage (cfg0.slots t w)) fullShare (pick (ev (body (grid0.coords t)) (put Y z)).2 w) : sProp 𝕄)
    ⊢ iprop(∃ X, ⌜(rdat m c).after w t (Y w) X⌝ ∗ owns (c : Thread nD τ) ((cfg0.win w).stage (cfg0.slots t w)) fullShare X) := by
  iintro H
  iexists (pick (ev (body (grid0.coords t)) (put Y z)).2 w)
  isplitr
  · ipureintro
    exact ⟨put Y z, hs, hi, (pick_put Y z w).symm, rfl⟩
  · iexact H

theorem after_all (c : Dev nD) (t : Fin cfg0.N) (Y) (z : St F) (hs : InpOK m c t (put Y z)) (hi : Inv m c t.val (put Y z)) :
    (bigSep Finset.univ fun w => owns (c : Thread nD τ) ((cfg0.win w).stage (cfg0.slots t w)) fullShare (pick (ev (body (grid0.coords t)) (put Y z)).2 w) : sProp 𝕄)
    ⊢ bigSep Finset.univ fun w => iprop(∃ X, ⌜(rdat m c).after w t (Y w) X⌝ ∗ owns (c : Thread nD τ) ((cfg0.win w).stage (cfg0.slots t w)) fullShare X) :=
  bigSep_mono fun w _ => after_ex m c t Y z hs hi w

theorem phi_succ (c : Dev nD) (t : Fin cfg0.N) (z : St F) (h : Inv m c (t.val + 1) z) : iprop(Scr c z ∗ ∃ r, prngReg c r) ⊢ (rdat m c).Φ t.succ := by
  show _ ⊢ iprop(∃ z : St F, ⌜Inv m c (t.val + 1) z⌝ ∗ Scr c z ∗ ∃ r, prngReg c r)
  iintro H
  iexists z
  isplitr
  · ipureintro; exact h
  · iexact H

theorem body_obligation (c : Dev nD) : (rdat m c).BodyObligation (defs₀ (F := F)) Variants.none () Set.univ := fun t Y hY => by
  rw [call_eq]
  show iprop((∃ z : St F, ⌜Inv m c t.val z⌝ ∗ Scr c z ∗ ∃ r, prngReg c r) ∗ _ ∗ _) ⊢ _
  iintro ⟨⟨%z, %hz, Hz, Hp⟩, Ho, Hw⟩
  have hs : InpOK m c t (put Y z) := ⟨finds_0 m c t _ (hY 0), finds_1 m c t _ (hY 1), finds_2 m c t _ (hY 2), finds_3 m c t _ (hY 3), finds_4 m c t _ (hY 4), finds_5 m c t _ (hY 5), finds_6 m c t _ (hY 6), finds_7 m c t _ (hY 7), finds_8 m c t _ (hY 8), finds_9 m c t _ (hY 9), finds_10 m c t _ (hY 10), finds_11 m c t _ (hY 11)⟩
  have hi : Inv m c t.val (put Y z) := Inv.congr m c _ hz (put_scr Y z)
  iapply (den (mems (cfg0.slots t)) (mems_whole _) defs₀ Variants.none c Set.univ (body (grid0.coords t)) (put Y z) _)
  isplitl [Hw Hz]
  · iapply (own_put_eq c t (put Y z)).2
    rw [scr_congr c (put_scr Y z), funext (pick_put Y z)]
    isplitl [Hw]
    · iexact Hw
    · iexact Hz
  · iintro H
    ihave H := (own_put_eq c t _).1 $$ H
    icases H with ⟨Hw, Hz⟩
    isplitl [Hz Hp]
    · iapply (phi_succ m c t _ ⟨t.isLt, put Y z, hs, hi, fun _ _ => rfl⟩)
      iframe
    · isplitl [Ho]
      · iexact Ho
      · iapply (after_all m c t Y z hs hi) $$ Hw

theorem run (g : Dev nD → PrngReg) : θ_run defs (onTc (main (F := F))) (s₀ m g) fun r =>
    RDat.FramePost cfg0 (rdat m) (V m) r ∧ r.2.sem = fun _ => 0 := by
  refine RDat.θ_run_frame_track cfgs 0 launch0 defs₀ Variants.none (rdat m) m g main (body_obligation m) ?_ (fun _ _ => rfl) (V m) (hmain m Variants.none) (fun _ _ => rfl) ?_ ?_ _ (fun _ h => h)
  · intro c w; unfold RDat.share; split <;> rfl
  · intro c
    show iprop(Pipeline.scopedRest spec0 c ∗ ∃ r, prngReg c r) ⊢ iprop(∃ z : St F, ⌜True⌝ ∗ Scr c z ∗ ∃ r, prngReg c r)
    iintro ⟨H, Hp⟩
    ihave H := scr_of c $$ H
    icases H with ⟨%z, H⟩
    iexists z
    isplitr
    · ipureintro; trivial
    · iframe
  · intro c
    show iprop(∃ z : St F, ⌜_⌝ ∗ Scr c z ∗ ∃ r, prngReg c r) ⊢ iprop(Pipeline.scopedRest spec0 c ∗ ∃ r, prngReg c r)
    iintro ⟨%z, -, H, Hp⟩
    isplitl [H]
    · iapply (of_scr c z); iexact H
    · iexact Hp

/-- An input's array ends as the region finds it. -/
theorem arr_in {r : PUnit × MemSt nD τ sig (Elt F)} (h : RDat.FramePost cfg0 (rdat m) (V m) r) (c : Dev nD) (w : Fin cfg0.W) (hw : (cfg0.win w).isOut = false) :
    r.2.mem ((cfg0.win w).arr.view.loc (c.tc : Thread nD τ)) = V m c (Pipeline.arrRef spec0 w) := by
  have := (h c).1 w
  rw [RDat.ArrAt_in (rdat m c) w hw] at this
  exact this

/-- The arguments end as they begin. -/
theorem args_of {r : PUnit × MemSt nD τ sig (Elt F)} (h : RDat.FramePost cfg0 (rdat m) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) :=
  ⟨(arr_in m h c 0 rfl).trans (V_main_arg0 m c),
    (arr_in m h c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (arr_in m h c 5 rfl).trans (V_main_arg5 m c),
    (arr_in m h c 6 rfl).trans (V_main_arg6 m c),
    (arr_in m h c 7 rfl).trans (V_main_arg7 m c),
    (arr_in m h c 8 rfl).trans (V_main_arg8 m c),
    (arr_in m h c 9 rfl).trans (V_main_arg9 m c),
    (arr_in m h c 10 rfl).trans (V_main_arg10 m c),
    (arr_in m h c 11 rfl).trans (V_main_arg11 m c)⟩

/-- The program runs, leaves its arguments, and every semaphore ends at zero. -/
theorem frame_run (g : Dev nD → PrngReg) : θ_run (defs (F := F)) (onTc (τ := τ) (main (F := F))) ⟨m, fun _ => 0, g⟩ fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0 :=
  (θ_run defs _ _).mono (fun r h => ⟨args_of m h.1, h.2⟩) (run m g)

end Cert.Body
-- ==== Proof.KerFrame.lean ====
/- The kernel as printed, at the machine's floats: its text is the idealized program's, so its frame is that program's. -/
module

public import proofs.«01_k».proof.Defs
public import proofs.«01_k».proof.Proof.Gen.Kernel
public import proofs.«01_k».proof.Proof.Run

@[expose] public section
set_option maxRecDepth 65536
set_option maxHeartbeats 0
noncomputable section

namespace Cert.KerFrame
open Idealize.ShloMosaic Idealize.SL.Sem

variable {F : FTy → Type} [FloatOps F]

/-- The two programs' bodies are the same text. -/
theorem cc0_eq : Cert.Kernel.cc0_sru_bwd (F := F) = Cert.KernelIdeal.cc0_sru_bwd (F := F) := rfl

/-- The two programs' body tables are the same. -/
theorem defs0_eq : Cert.Kernel.defs₀ (F := F) = Cert.KernelIdeal.defs₀ (F := F) :=
  congrArg Defs.onTc (funext fun p => funext fun a => match p, a with
    | 0, (_, _) => rfl
    | ⟨_ + 1, h⟩, _ => absurd h (Nat.not_lt.2 (Nat.le_add_left _ _)))

/-- The two programs' tables of calls are the same. -/
theorem defs_eq : Cert.Kernel.defs (F := F) = Cert.KernelIdeal.defs (F := F) :=
  congrArg (Pipeline.defs Cert.KernelIdeal.pcfgs) defs0_eq

/-- The kernel terminates and leaves its arguments: the frame of the idealized program, read at the machine's floats. -/
theorem frame : Cert.quiescent_Kernel (hKernel := Cert.Kernel.Gen.facts) := fun m g _ => by
  rw [defs_eq]
  exact Cert.Body.frame_run (F := Bits) m g

end Cert.KerFrame
-- ==== Proof.RefBody.lean ====
/- The reference's body over its buffers' names: the same operations as the printed body. -/
module

public import proofs.«01_k».proof.Proof.Gen.ReferenceIdeal
public import proofs.«01_k».proof.Proof.Gen.ReferenceIdeal.Skeleton
public import proofs.«01_k».proof.Proof.Mem

@[expose] public section
set_option maxRecDepth 65536
noncomputable section

namespace Cert.Ref
open Cert.Mem (toPR toPR_bind toPR_for)
open Cert.ReferenceIdeal Cert.ReferenceIdeal.Gen Idealize.ShloMosaic Idealize.SL.Sem

variable {F : FTy → Type} [FloatOps F]

/-- The reference's buffers: its twelve arguments, its seven results and its four scratch buffers. -/
inductive Bf
  | b0
  | b1
  | b2
  | b3
  | b4
  | b5
  | b6
  | b7
  | b8
  | b9
  | b10
  | b11
  | b12
  | b13
  | b14
  | b15
  | b16
  | b17
  | b18
  | b19
  | b20
  | b21
  | b22
  deriving DecidableEq

instance : Fintype Bf := ⟨{.b0, .b1, .b2, .b3, .b4, .b5, .b6, .b7, .b8, .b9, .b10, .b11, .b12, .b13, .b14, .b15, .b16, .b17, .b18, .b19, .b20, .b21, .b22}, fun b => by cases b <;> decide⟩

/-- A buffer's shape. -/
@[reducible] def Bf.sh : Bf → Shape
  | .b0 => S12x128x1536
  | .b1 => S1536x4608
  | .b2 => S1536
  | .b3 => S1536
  | .b4 => S1536
  | .b5 => S2x1536
  | .b6 => S12x128x4608
  | .b7 => S12x128x1536
  | .b8 => S12x1536
  | .b9 => S12x128x1536
  | .b10 => S12x128
  | .b11 => S12x1536
  | .b12 => S12x128x1536
  | .b13 => S12x1536
  | .b14 => S1x1536
  | .b15 => S1x1536
  | .b16 => S2x1536
  | .b17 => S12x128x4608
  | .b18 => S12x128
  | .b19 => S12x128x1536
  | .b20 => S12x128x1536
  | .b21 => S12x128x1536
  | .b22 => S12x128x1536

/-- A buffer's element type. -/
@[reducible] def Bf.et : Bf → EltTy
  | .b0 => .bf16
  | .b1 => .fp8e4m3
  | .b2 => .f32
  | .b3 => .f32
  | .b4 => .f32
  | .b5 => .f32
  | .b6 => .bf16
  | .b7 => .f32
  | .b8 => .f32
  | .b9 => .fp8e5m2
  | .b10 => .f32
  | .b11 => .f32
  | .b12 => .bf16
  | .b13 => .f32
  | .b14 => .f32
  | .b15 => .f32
  | .b16 => .f32
  | .b17 => .fp8e5m2
  | .b18 => .f32
  | .b19 => .f32
  | .b20 => .f32
  | .b21 => .f32
  | .b22 => .f32

/-- Whether a buffer may be stored to: every buffer but the arguments. -/
@[reducible] def Bf.out : Bf → Bool
  | .b0 | .b1 | .b2 | .b3 | .b4 | .b5 | .b6 | .b7 | .b8 | .b9 | .b10 | .b11 => false
  | _ => true

/-- Where the buffers lie. -/
abbrev Mems := ∀ b : Bf, Memref sig .tc .vmem b.sh b.et

/-- Programs over the buffers' names. -/
abbrev Cmd (F : FTy → Type) (α : Type) := Mem.Cmd sig Bf.sh Bf.et Bf.out F α

/-- Contents of the buffers. -/
abbrev St (F : FTy → Type) := Mem.St Bf.sh Bf.et F

/-- A load through a rectangle. -/
abbrev ld (b : Bf) (r : LoadRect b.sh) (h : 0 < r.shape.numel) : Cmd F (r.shape.Idx → Elt F b.et) := Mem.ld b r h

/-- A store through a rectangle, after the load of what is overwritten. -/
abbrev st (b : Bf) (r : Rect b.sh) (h : 0 < r.shape.numel) (v : r.shape.Idx → Elt F b.et)
    (hx : ∀ m : Memref sig .tc .vmem b.sh b.et, m.IsWhole → (m.access r).Stores Finset.univ) (ho : b.out = true := by rfl) : Cmd F PUnit :=
  Mem.st b r h v hx ho

/-- What the first part passes on: the weights' scale, the two cell weights, the old states, `x`'s projection, the states before, the
    two gates, and the two parts of the gradient. -/
abbrev E1 (F : FTy → Type) [FloatOps F] := Σ' (v0 : Vec F S1536 .f32) (v1 : Vec F S1536 .f32) (v2 : Vec F S1536 .f32) (v4 : Vec F S12x128x1536 .f32) (v14 : FVec F S12x128x1536 .f32) (v19 : FVec F S12x128x1536 .f32) (v29 : FVec F S12x128x1536 .f32) (v39 : FVec F S12x128x1536 .f32) (v40 : FVec F S12x128x1536 .f32), FVec F S12x128x1536 .f32

/-- What the second part passes on. -/
abbrev E2 (F : FTy → Type) [FloatOps F] := Σ' (v46 : FVec F S12x128x1536 .f32) (v50 : FVec F S12x128x1536 .f32) (v53 : FVec F S12x128x1536 .f32) (v72 : Vec F S12x128x1536 .f32), F .f32

/-- What the third part passes on. -/
abbrev E3 (F : FTy → Type) [FloatOps F] := Σ' (v78 : FVec F S12x128x4608 .f32) (v109 : FVec F S12x128 .f32), FVec F S12x128 .f32

/-- The gates. -/
def p1 : Cmd F (E1 F) := do
  let v0 : Vec F S1536 .f32 ← ld .b2 (Rect.unit (s := S1536) ![0] S1536.size inb_S1536_S1536_0).toLoadRect h_S1536
  let v1 : Vec F S1536 .f32 ← ld .b3 (Rect.unit (s := S1536) ![0] S1536.size inb_S1536_S1536_0).toLoadRect h_S1536
  let v2 : Vec F S1536 .f32 ← ld .b4 (Rect.unit (s := S1536) ![0] S1536.size inb_S1536_S1536_0).toLoadRect h_S1536
  let v3 : Vec F S2x1536 .f32 ← ld .b5 (Rect.unit (s := S2x1536) ![0, 0] S2x1536.size inb_S2x1536_S2x1536_0_0).toLoadRect h_S2x1536
  let v4 : Vec F S12x128x1536 .f32 ← ld .b7 (Rect.unit (s := S12x128x1536) ![0, 0, 0] S12x128x1536.size inb_S12x128x1536_S12x128x1536_0_0_0).toLoadRect h_S12x128x1536
  let v5 : Vec F S12x1536 .f32 ← ld .b8 (Rect.unit (s := S12x1536) ![0, 0] S12x1536.size inb_S12x1536_S12x1536_0_0).toLoadRect h_S12x1536
  let v6 : Vec F S12x128x1536 .fp8e5m2 ← ld .b9 (Rect.unit (s := S12x128x1536) ![0, 0, 0] S12x128x1536.size inb_S12x128x1536_S12x128x1536_0_0_0).toLoadRect h_S12x128x1536
  let v8 : Vec F S12x128 .f32 ← ld .b10 (Rect.unit (s := S12x128) ![0, 0] S12x128.size inb_S12x128_S12x128_0_0).toLoadRect h_S12x128
  let v12 : Vec F S12x128x4608 .bf16 ← ld .b6 (Rect.unit (s := S12x128x4608) ![0, 0, 0] S12x128x4608.size inb_S12x128x4608_S12x128x4608_0_0_0).toLoadRect h_S12x128x4608
  pure ⟨v0, v1, v2, v4, k0_pay5 v12, k0_pay6 v4 v5, k0_pay7 v1 v3 v4 v5 v12, k0_pay8 v2 v3 v4 v5 v12, k0_pay9 v2 v3 v4 v5 v6 v8 v12, k0_pay10 v2 v3 v4 v5 v6 v8 v12⟩

/-- What the scan reads. -/
def p2a (v1 : Vec F S1536 .f32) (v2 : Vec F S1536 .f32) (v4 : Vec F S12x128x1536 .f32) (v14 v19 v29 v39 v40 v41 : FVec F S12x128x1536 .f32) :
    Cmd F (Σ' (v43 : Vec F S12x128x1536 .bf16), Vec F S12x1536 .f32) := do
  let v43 : Vec F S12x128x1536 .bf16 ← ld .b0 (Rect.unit (s := S12x128x1536) ![0, 0, 0] S12x128x1536.size inb_S12x128x1536_S12x128x1536_0_0_0).toLoadRect h_S12x128x1536
  st .b19 (Rect.unit (s := S12x128x1536) ![0, 0, 0] S12x128x1536.size inb_S12x128x1536_S12x128x1536_0_0_0) h_S12x128x1536 (k0_pay12 v40) (fun _ _ => View.stores_vmem_bits_univ h_S12x128x1536 rfl)
  st .b20 (Rect.unit (s := S12x128x1536) ![0, 0, 0] S12x128x1536.size inb_S12x128x1536_S12x128x1536_0_0_0) h_S12x128x1536 (k0_pay15 v1 v14 v19 v29) (fun _ _ => View.stores_vmem_bits_univ h_S12x128x1536 rfl)
  st .b21 (Rect.unit (s := S12x128x1536) ![0, 0, 0] S12x128x1536.size inb_S12x128x1536_S12x128x1536_0_0_0) h_S12x128x1536 (k0_pay16 v2 v4 v39 v41 v43) (fun _ _ => View.stores_vmem_bits_univ h_S12x128x1536 rfl)
  let v68 : Vec F S12x1536 .f32 ← ld .b11 (Rect.unit (s := S12x1536) ![0, 0] S12x1536.size inb_S12x1536_S12x1536_0_0).toLoadRect h_S12x1536
  pure ⟨v43, v68⟩

/-- The rows of one time step. -/
abbrev rT (t : Fin k0_t1_loop.trips) : Rect S12x128x1536 := Rect.unit (s := S12x128x1536) (k0_off1 t) S12x1x1536.size (k0_off1_inb t)

/-- One step of the scan back in time. -/
def trip (t : Fin k0_t1_loop.trips) (dc : Vec F S12x1536 .f32) : Cmd F (Vec F S12x1536 .f32) := do
  let g : Vec F S12x1x1536 .f32 ← ld .b19 (rT t).toLoadRect h_S12x1x1536
  st .b22 (rT t) h_S12x1x1536 (k0_pay18 dc g) (fun _ _ => View.stores_vmem_bits_univ h_S12x1x1536 rfl)
  let a : Vec F S12x1x1536 .f32 ← ld .b20 (rT t).toLoadRect h_S12x1x1536
  let b : Vec F S12x1x1536 .f32 ← ld .b21 (rT t).toLoadRect h_S12x1x1536
  pure (k0_pay19 dc g a b)

/-- After the scan. -/
def p2b (v4 : Vec F S12x128x1536 .f32) (v14 v19 v29 v39 v41 : FVec F S12x128x1536 .f32) (v43 : Vec F S12x128x1536 .bf16) (v70 : Vec F S12x1536 .f32) : Cmd F (E2 F) := do
  st .b13 (Rect.unit (s := S12x1536) ![0, 0] S12x1536.size inb_S12x1536_S12x1536_0_0) h_S12x1536 (v70) (fun _ _ => View.stores_vmem_bits_univ h_S12x1536 rfl)
  let v72 : Vec F S12x128x1536 .f32 ← ld .b22 (Rect.unit (s := S12x128x1536) ![0, 0, 0] S12x128x1536.size inb_S12x128x1536_S12x128x1536_0_0_0).toLoadRect h_S12x128x1536
  pure ⟨k0_pay11 v4 v39 v41 v43, k0_pay13 v14 v19, k0_pay14 v29, v72, Scalar.ofBits .f32 0x3F800000#32⟩

/-- The sums, and the quantiser's scales. -/
def p3 (v19 v29 v46 v50 v53 : FVec F S12x128x1536 .f32) (v72 : Vec F S12x128x1536 .f32) (cst_37 : F .f32) : Cmd F (E3 F) := do
  st .b14 (Rect.unit (s := S1x1536) ![0, 0] S1x1536.size inb_S1x1536_S1x1536_0_0) h_S1x1536 (k0_pay22 v19 v50 v53 v72) (fun _ _ => View.stores_vmem_bits_univ h_S1x1536 rfl)
  st .b15 (Rect.unit (s := S1x1536) ![0, 0] S1x1536.size inb_S1x1536_S1x1536_0_0) h_S1x1536 (k0_pay23 v19 v46) (fun _ _ => View.stores_vmem_bits_univ h_S1x1536 rfl)
  st .b16 (Rect.unit (s := S2x1536) ![0, 0] S2x1536.size inb_S2x1536_S2x1536_0_0) h_S2x1536 (k0_pay24 v46 v50 v53 v72) (fun _ _ => View.stores_vmem_bits_univ h_S2x1536 rfl)
  pure ⟨k0_pay21 v29 v46 v50 v53 v72 cst_37, k0_pay26 v29 v46 v50 v53 v72 cst_37, k0_pay27 v29 v46 v50 v53 v72 cst_37⟩

/-- The codes, the scales and the product. -/
def p4 (v0 : Vec F S1536 .f32) (v41 : FVec F S12x128x1536 .f32) (v78 : FVec F S12x128x4608 .f32) (v109 v112 : FVec F S12x128 .f32) : Cmd F PUnit := do
  st .b17 (Rect.unit (s := S12x128x4608) ![0, 0, 0] S12x128x4608.size inb_S12x128x4608_S12x128x4608_0_0_0) h_S12x128x4608 (k0_pay1 v78 v112) (fun _ h => View.stores_vmem h_S12x128x4608 (h.storeExact_slice rfl _ packedfp8e5m2_S12x128x4608_S12x128x4608_0_0_0) (fun _ => rfl))
  st .b18 (Rect.unit (s := S12x128) ![0, 0] S12x128.size inb_S12x128_S12x128_0_0) h_S12x128 (v109) (fun _ _ => View.stores_vmem_bits_univ h_S12x128 rfl)
  let v124 : Vec F S1536x4608 .fp8e4m3 ← ld .b1 (Rect.unit (s := S1536x4608) ![0, 0] S1536x4608.size inb_S1536x4608_S1536x4608_0_0).toLoadRect h_S1536x4608
  st .b12 (Rect.unit (s := S12x128x1536) ![0, 0, 0] S12x128x1536.size inb_S12x128x1536_S12x128x1536_0_0_0) h_S12x128x1536 (k0_pay2 v0 v41 v78 v109 v112 v124) (fun _ h => View.stores_vmem h_S12x128x1536 (h.storeExact_slice rfl _ packedbf16_S12x128x1536_S12x128x1536_0_0_0) (fun _ => rfl))

/-- The second part. -/
def p2 (v1 : Vec F S1536 .f32) (v2 : Vec F S1536 .f32) (v4 : Vec F S12x128x1536 .f32) (v14 v19 v29 v39 v40 v41 : FVec F S12x128x1536 .f32) : Cmd F (E2 F) :=
  (p2a v1 v2 v4 v14 v19 v29 v39 v40 v41).bind fun x => (Scf.Loop.for k0_t1_loop k0_t1_ok x.2 trip).bind fun v => p2b v4 v14 v19 v29 v39 v41 x.1 v

/-- The reference's body. -/
def body : Cmd F PUnit := p1.bind fun ⟨v0, v1, v2, v4, v14, v19, v29, v39, v40, v41⟩ => (p2 v1 v2 v4 v14 v19 v29 v39 v40 v41).bind
  fun ⟨v46, v50, v53, v72, one⟩ => (p3 v19 v29 v46 v50 v53 v72 one).bind fun ⟨v78, v109, v112⟩ => p4 v0 v41 v78 v109 v112

variable (M : Mems) (W : ∀ b, (M b).IsWhole)

theorem part1_eq : k0_part1 (F := F) (M .b0) (W .b0) (M .b1) (W .b1) (M .b2) (W .b2) (M .b3) (W .b3) (M .b4) (W .b4) (M .b5) (W .b5) (M .b6) (W .b6) (M .b7) (W .b7) (M .b8) (W .b8) (M .b9) (W .b9) (M .b10) (W .b10) (M .b11) (W .b11) (M .b12) (W .b12) (M .b13) (W .b13) (M .b14) (W .b14) (M .b15) (W .b15) (M .b16) (W .b16) (M .b17) (W .b17) (M .b18) (W .b18) (M .b19) (W .b19) (M .b20) (W .b20) (M .b21) (W .b21) (M .b22) (W .b22) = toPR (nD := nD) (τ := τ) (Λ₀ := Λ₀) M W p1 := by
  rw [k0_part1_eq_skeleton]; rfl

theorem trip_eq (v1 : Vec F S1536 .f32) (v2 : Vec F S1536 .f32) (v4 : Vec F S12x128x1536 .f32) (v14 v19 v29 v39 v40 v41 : FVec F S12x128x1536 .f32) : k0_t1_body (F := F) (M .b0) (W .b0) (M .b1) (W .b1) (M .b2) (W .b2) (M .b3) (W .b3) (M .b4) (W .b4) (M .b5) (W .b5) (M .b6) (W .b6) (M .b7) (W .b7) (M .b8) (W .b8) (M .b9) (W .b9) (M .b10) (W .b10) (M .b11) (W .b11) (M .b12) (W .b12) (M .b13) (W .b13) (M .b14) (W .b14) (M .b15) (W .b15) (M .b16) (W .b16) (M .b17) (W .b17) (M .b18) (W .b18) (M .b19) (W .b19) (M .b20) (W .b20) (M .b21) (W .b21) (M .b22) (W .b22) v1 v2 v4 v14 v19 v29 v39 v40 v41 = fun t v => toPR (nD := nD) (τ := τ) (Λ₀ := Λ₀) M W (trip t v) := by
  funext t v; rfl

theorem part2_eq (v1 : Vec F S1536 .f32) (v2 : Vec F S1536 .f32) (v4 : Vec F S12x128x1536 .f32) (v14 v19 v29 v39 v40 v41 : FVec F S12x128x1536 .f32) :
    k0_part2 (F := F) (M .b0) (W .b0) (M .b1) (W .b1) (M .b2) (W .b2) (M .b3) (W .b3) (M .b4) (W .b4) (M .b5) (W .b5) (M .b6) (W .b6) (M .b7) (W .b7) (M .b8) (W .b8) (M .b9) (W .b9) (M .b10) (W .b10) (M .b11) (W .b11) (M .b12) (W .b12) (M .b13) (W .b13) (M .b14) (W .b14) (M .b15) (W .b15) (M .b16) (W .b16) (M .b17) (W .b17) (M .b18) (W .b18) (M .b19) (W .b19) (M .b20) (W .b20) (M .b21) (W .b21) (M .b22) (W .b22) v1 v2 v4 v14 v19 v29 v39 v40 v41 = toPR (nD := nD) (τ := τ) (Λ₀ := Λ₀) M W (p2 v1 v2 v4 v14 v19 v29 v39 v40 v41) := by
  unfold p2
  simp only [toPR_bind, toPR_for]
  rw [k0_part2_eq_skeleton]
  unfold k0_part2_skel
  rw [trip_eq]
  rfl

theorem part3_eq (v19 v29 v46 v50 v53 : FVec F S12x128x1536 .f32) (v72 : Vec F S12x128x1536 .f32) (one : F .f32) :
    k0_part3 (F := F) (M .b0) (W .b0) (M .b1) (W .b1) (M .b2) (W .b2) (M .b3) (W .b3) (M .b4) (W .b4) (M .b5) (W .b5) (M .b6) (W .b6) (M .b7) (W .b7) (M .b8) (W .b8) (M .b9) (W .b9) (M .b10) (W .b10) (M .b11) (W .b11) (M .b12) (W .b12) (M .b13) (W .b13) (M .b14) (W .b14) (M .b15) (W .b15) (M .b16) (W .b16) (M .b17) (W .b17) (M .b18) (W .b18) (M .b19) (W .b19) (M .b20) (W .b20) (M .b21) (W .b21) (M .b22) (W .b22) v19 v29 v46 v50 v53 v72 one = toPR (nD := nD) (τ := τ) (Λ₀ := Λ₀) M W (p3 v19 v29 v46 v50 v53 v72 one) := by
  rw [k0_part3_eq_skeleton]; rfl

/-- The printed body is the body over the buffers' names. -/
theorem cc0_eq : cc0__reference_body (F := F) (M .b0) (W .b0) (M .b1) (W .b1) (M .b2) (W .b2) (M .b3) (W .b3) (M .b4) (W .b4) (M .b5) (W .b5) (M .b6) (W .b6) (M .b7) (W .b7) (M .b8) (W .b8) (M .b9) (W .b9) (M .b10) (W .b10) (M .b11) (W .b11) (M .b12) (W .b12) (M .b13) (W .b13) (M .b14) (W .b14) (M .b15) (W .b15) (M .b16) (W .b16) (M .b17) (W .b17) (M .b18) (W .b18) (M .b19) (W .b19) (M .b20) (W .b20) (M .b21) (W .b21) (M .b22) (W .b22) = toPR M W body := by
  rw [cc0__reference_body_eq_skeleton]
  unfold cc0__reference_body_skel body
  rw [toPR_bind]
  refine congrArg₂ Prog.bind (part1_eq M W) (funext fun ⟨v0, v1, v2, v4, v14, v19, v29, v39, v40, v41⟩ => ?_)
  dsimp only
  rw [toPR_bind]
  refine congrArg₂ Prog.bind (part2_eq M W ..) (funext fun ⟨v46, v50, v53, v72, one⟩ => ?_)
  dsimp only
  rw [toPR_bind]
  refine congrArg₂ Prog.bind (part3_eq M W ..) (funext fun ⟨v78, v109, v112⟩ => ?_)
  rfl

end Cert.Ref
-- ==== Proof.RefRun.lean ====
/- The reference's launch: its one point leaves what the body evaluates to. -/
module

public import proofs.«01_k».proof.Proof.RefBody
public import proofs.«01_k».proof.Proof.Gen.ReferenceIdeal.Frame

@[expose] public section
noncomputable section

namespace Cert.Ref
open Cert.Mem hiding Cmd ld st St PR
open Cert.ReferenceIdeal Cert.ReferenceIdeal.Gen Idealize.ShloMosaic Idealize.ShloMosaic.TcCoe Idealize.ShloMosaic.Tactic Idealize.SL
open Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (RDat ΦA)

variable {F : FTy → Type} [FloatOps F]

local notation "𝕄" => MT nD τ sig Unit (Elt F) ℕ (UR sig nD τ) ℕ

/-- Where the buffers lie when the pipeline calls the body with staging slots `s`. -/
def mems (s : (w : Fin 19) → Fin (win0 w).nbuf) : Mems
  | .b0 => win0_0.stage (s 0)
  | .b1 => win0_1.stage (s 1)
  | .b2 => win0_2.stage (s 2)
  | .b3 => win0_3.stage (s 3)
  | .b4 => win0_4.stage (s 4)
  | .b5 => win0_5.stage (s 5)
  | .b6 => win0_6.stage (s 6)
  | .b7 => win0_7.stage (s 7)
  | .b8 => win0_8.stage (s 8)
  | .b9 => win0_9.stage (s 9)
  | .b10 => win0_10.stage (s 10)
  | .b11 => win0_11.stage (s 11)
  | .b12 => win0_12.stage (s 12)
  | .b13 => win0_13.stage (s 13)
  | .b14 => win0_14.stage (s 14)
  | .b15 => win0_15.stage (s 15)
  | .b16 => win0_16.stage (s 16)
  | .b17 => win0_17.stage (s 17)
  | .b18 => win0_18.stage (s 18)
  | .b19 => Memref.whole cc0_scratch0
  | .b20 => Memref.whole cc0_scratch1
  | .b21 => Memref.whole cc0_scratch2
  | .b22 => Memref.whole cc0_scratch3

theorem mems_whole (s : (w : Fin 19) → Fin (win0 w).nbuf) : ∀ b, (mems s b).IsWhole
  | .b0 => hstage0_0 0
  | .b1 => hstage0_1 0
  | .b2 => hstage0_2 0
  | .b3 => hstage0_3 0
  | .b4 => hstage0_4 0
  | .b5 => hstage0_5 0
  | .b6 => hstage0_6 0
  | .b7 => hstage0_7 0
  | .b8 => hstage0_8 0
  | .b9 => hstage0_9 0
  | .b10 => hstage0_10 0
  | .b11 => hstage0_11 0
  | .b12 => hstage0_12 0
  | .b13 => hstage0_13 0
  | .b14 => hstage0_14 0
  | .b15 => hstage0_15 0
  | .b16 => hstage0_16 0
  | .b17 => hstage0_17 0
  | .b18 => hstage0_18 0
  | .b19 => Memref.isWhole_whole _
  | .b20 => Memref.isWhole_whole _
  | .b21 => Memref.isWhole_whole _
  | .b22 => Memref.isWhole_whole _

/-- A window's buffer's contents. -/
def pick (s : St F) : (w : Fin 19) → (cfg0.win w).block.Idx → Elt F (cfg0.win w).elt
  | ⟨0, _⟩ => s .b0
  | ⟨1, _⟩ => s .b1
  | ⟨2, _⟩ => s .b2
  | ⟨3, _⟩ => s .b3
  | ⟨4, _⟩ => s .b4
  | ⟨5, _⟩ => s .b5
  | ⟨6, _⟩ => s .b6
  | ⟨7, _⟩ => s .b7
  | ⟨8, _⟩ => s .b8
  | ⟨9, _⟩ => s .b9
  | ⟨10, _⟩ => s .b10
  | ⟨11, _⟩ => s .b11
  | ⟨12, _⟩ => s .b12
  | ⟨13, _⟩ => s .b13
  | ⟨14, _⟩ => s .b14
  | ⟨15, _⟩ => s .b15
  | ⟨16, _⟩ => s .b16
  | ⟨17, _⟩ => s .b17
  | ⟨18, _⟩ => s .b18
  | ⟨n + 19, h⟩ => absurd h (by omega)

/-- Contents put together from the windows' and the scratch buffers'. -/
def put (Y : (w : Fin 19) → (cfg0.win w).block.Idx → Elt F (cfg0.win w).elt) (z : St F) : St F
  | .b0 => Y 0
  | .b1 => Y 1
  | .b2 => Y 2
  | .b3 => Y 3
  | .b4 => Y 4
  | .b5 => Y 5
  | .b6 => Y 6
  | .b7 => Y 7
  | .b8 => Y 8
  | .b9 => Y 9
  | .b10 => Y 10
  | .b11 => Y 11
  | .b12 => Y 12
  | .b13 => Y 13
  | .b14 => Y 14
  | .b15 => Y 15
  | .b16 => Y 16
  | .b17 => Y 17
  | .b18 => Y 18
  | .b19 => z .b19
  | .b20 => z .b20
  | .b21 => z .b21
  | .b22 => z .b22

theorem pick_put (Y : (w : Fin 19) → (cfg0.win w).block.Idx → Elt F (cfg0.win w).elt) (z : St F) : ∀ w, pick (put Y z) w = Y w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨n + 19, h⟩ => absurd h (by omega)

/-- The buffers conjoined one by one. -/
theorem bigSep_Bf {M : Type} [URA M] (Φ : Bf → sProp M) : bigSep Finset.univ Φ = iprop(Φ .b0 ∗ Φ .b1 ∗ Φ .b2 ∗ Φ .b3 ∗ Φ .b4 ∗ Φ .b5 ∗ Φ .b6 ∗ Φ .b7 ∗ Φ .b8 ∗ Φ .b9 ∗ Φ .b10 ∗ Φ .b11 ∗ Φ .b12 ∗ Φ .b13 ∗ Φ .b14 ∗ Φ .b15 ∗ Φ .b16 ∗ Φ .b17 ∗ Φ .b18 ∗ Φ .b19 ∗ Φ .b20 ∗ Φ .b21 ∗ Φ .b22) :=
  bigSep_univ_eq_bigSepL [Bf.b0, Bf.b1, Bf.b2, Bf.b3, Bf.b4, Bf.b5, Bf.b6, Bf.b7, Bf.b8, Bf.b9, Bf.b10, Bf.b11, Bf.b12, Bf.b13, Bf.b14, Bf.b15, Bf.b16, Bf.b17, Bf.b18, Bf.b19, Bf.b20, Bf.b21, Bf.b22] (by decide) (by decide) Φ

/-- The scratch buffers at contents. -/
def Scr (c : Dev nD) (z : St F) : sProp 𝕄 := iprop(ownsTc c (Memref.whole cc0_scratch0) fullShare (z .b19) ∗ ownsTc c (Memref.whole cc0_scratch1) fullShare (z .b20) ∗ ownsTc c (Memref.whole cc0_scratch2) fullShare (z .b21) ∗ ownsTc c (Memref.whole cc0_scratch3) fullShare (z .b22))

/-- Contents with given scratch buffers. -/
def mkScr (w : St F) (f0 : Bf.sh .b19 |>.Idx → Elt F (Bf.et .b19)) (f1 : Bf.sh .b20 |>.Idx → Elt F (Bf.et .b20)) (f2 : Bf.sh .b21 |>.Idx → Elt F (Bf.et .b21)) (f3 : Bf.sh .b22 |>.Idx → Elt F (Bf.et .b22)) : St F
  | .b19 => f0
  | .b20 => f1
  | .b21 => f2
  | .b22 => f3
  | b => w b

theorem own_whole (c : Dev nD) (b : Ref sig .tc) (f : Buf (Elt F) ((c : Thread nD τ).loc b)) : (((c : Thread nD τ).loc b) ↦{fullShare} f : sProp 𝕄) ⊢ ownsTc c (Memref.whole b) fullShare f := by
  unfold ownsTc
  rw [owns_whole]

theorem whole_own (c : Dev nD) (b : Ref sig .tc) (X) : (ownsTc c (Memref.whole b) fullShare X : sProp 𝕄) ⊢ iprop(∃ f : Buf (Elt F) ((c : Thread nD τ).loc b), ((c : Thread nD τ).loc b) ↦{fullShare} f) := by
  unfold ownsTc
  iintro H
  iexists X
  iapply (show (owns (c : Thread nD τ) (Memref.whole b) fullShare X : sProp 𝕄) ⊢ ((c : Thread nD τ).loc b) ↦{fullShare} X from by rw [owns_whole]) $$ H

theorem scr_of (c : Dev nD) : (Pipeline.scopedRest (Ix := Unit) (Name := ℕ) (U := UR sig nD τ) (Lvl := ℕ) (Val := Elt F) spec0 c : sProp 𝕄) ⊢ iprop(∃ z : St F, Scr c z) := by
  rw [scopedRest0_eq]
  iintro ⟨⟨%f0, H0⟩, ⟨%f1, H1⟩, ⟨%f2, H2⟩, ⟨%f3, H3⟩⟩
  iexists (mkScr (fun _ _ => Classical.arbitrary _) f0 f1 f2 f3)
  unfold Scr
  isplitl [H0]; · iapply (own_whole c cc0_scratch0 f0); iexact H0
  isplitl [H1]; · iapply (own_whole c cc0_scratch1 f1); iexact H1
  isplitl [H2]; · iapply (own_whole c cc0_scratch2 f2); iexact H2
  iapply (own_whole c cc0_scratch3 f3); iexact H3

theorem of_scr (c : Dev nD) (z : St F) : Scr c z ⊢ (Pipeline.scopedRest (Ix := Unit) (Name := ℕ) (U := UR sig nD τ) (Lvl := ℕ) (Val := Elt F) spec0 c : sProp 𝕄) := by
  rw [scopedRest0_eq]
  unfold Scr
  iintro ⟨H0, H1, H2, H3⟩
  isplitl [H0]; · iapply (whole_own c cc0_scratch0 _); iexact H0
  isplitl [H1]; · iapply (whole_own c cc0_scratch1 _); iexact H1
  isplitl [H2]; · iapply (whole_own c cc0_scratch2 _); iexact H2
  iapply (whole_own c cc0_scratch3 _); iexact H3

variable (m : (ℓ : Loc nD τ sig) → Buf (Elt F) ℓ) (ρ : Dev nD → PrngReg)

/-- The inputs' blocks at a point are in place. -/
def InpOK (c : Dev nD) (t : Fin cfg0.N) (s : St F) : Prop :=
  s .b0 = iblk m c 0 t ∧ s .b1 = iblk m c 1 t ∧ s .b2 = iblk m c 2 t ∧ s .b3 = iblk m c 3 t ∧ s .b4 = iblk m c 4 t ∧ s .b5 = iblk m c 5 t ∧ s .b6 = iblk m c 6 t ∧ s .b7 = iblk m c 7 t ∧ s .b8 = iblk m c 8 t ∧ s .b9 = iblk m c 9 t ∧ s .b10 = iblk m c 10 t ∧ s .b11 = iblk m c 11 t

/-- The scratch buffers. -/
def Bf.scr : Bf → Bool
  | .b19 => true
  | .b20 => true
  | .b21 => true
  | .b22 => true
  | _ => false

theorem put_scr (Y : (w : Fin 19) → (cfg0.win w).block.Idx → Elt F (cfg0.win w).elt) (z : St F) : ∀ b : Bf, b.scr = true → put Y z b = z b
  | .b19, _ => rfl
  | .b20, _ => rfl
  | .b21, _ => rfl
  | .b22, _ => rfl

theorem scr_congr (c : Dev nD) {z z' : St F} (e : ∀ b, b.scr = true → z' b = z b) : Scr c z' = Scr c z := by
  unfold Scr
  rw [e .b19 rfl, e .b20 rfl, e .b21 rfl, e .b22 rfl]

/-- The launch's proof data: the body leaves in each window what it evaluates to on some contents it may find. -/
def rdat (c : Dev nD) : RDat τ (Elt F) Unit ℕ (UR sig nD τ) ℕ cfg0 c where
  A w := V m c (Pipeline.arrRef spec0 w)
  after w t Y X := ∃ s : St F, InpOK m c t s ∧ Y = pick s w ∧ X = pick (ev body s).2 w
  Φ t := iprop(∃ z : St F, Scr c z ∗ ∃ r, prngReg c r)
  q _ := fullShare
  owed _ := 0

/-- The body leaves the inputs' blocks as it finds them. -/
theorem after_in (c : Dev nD) (w : Fin 19) (hw : w.val < 12) (t : Fin cfg0.N) (Y X) (h : (rdat m c).after w t Y X) : X = Y := by
  obtain ⟨s, -, rfl, rfl⟩ := h
  match w, hw with
  | 0, _ => exact ev_in (out := Bf.out) body s .b0 rfl
  | 1, _ => exact ev_in (out := Bf.out) body s .b1 rfl
  | 2, _ => exact ev_in (out := Bf.out) body s .b2 rfl
  | 3, _ => exact ev_in (out := Bf.out) body s .b3 rfl
  | 4, _ => exact ev_in (out := Bf.out) body s .b4 rfl
  | 5, _ => exact ev_in (out := Bf.out) body s .b5 rfl
  | 6, _ => exact ev_in (out := Bf.out) body s .b6 rfl
  | 7, _ => exact ev_in (out := Bf.out) body s .b7 rfl
  | 8, _ => exact ev_in (out := Bf.out) body s .b8 rfl
  | 9, _ => exact ev_in (out := Bf.out) body s .b9 rfl
  | 10, _ => exact ev_in (out := Bf.out) body s .b10 rfl
  | 11, _ => exact ev_in (out := Bf.out) body s .b11 rfl

theorem finds_0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (after_in m c 0 (by decide)) t Y h
  rfl
theorem finds_1 (c : Dev nD) (t : Fin cfg0.N) (Y) (h : (rdat m c).Finds 1 t Y) : Y = iblk m c 1 t := by
  obtain ⟨d, rfl⟩ := RDat.finds_in_eq_fetched (rdat m c) 1 rfl (fun _ _ _ => rfl) (after_in m c 1 (by decide)) t Y h
  rfl
theorem finds_2 (c : Dev nD) (t : Fin cfg0.N) (Y) (h : (rdat m c).Finds 2 t Y) : Y = iblk m c 2 t := by
  obtain ⟨d, rfl⟩ := RDat.finds_in_eq_fetched (rdat m c) 2 rfl (fun _ _ _ => rfl) (after_in m c 2 (by decide)) t Y h
  rfl
theorem finds_3 (c : Dev nD) (t : Fin cfg0.N) (Y) (h : (rdat m c).Finds 3 t Y) : Y = iblk m c 3 t := by
  obtain ⟨d, rfl⟩ := RDat.finds_in_eq_fetched (rdat m c) 3 rfl (fun _ _ _ => rfl) (after_in m c 3 (by decide)) t Y h
  rfl
theorem finds_4 (c : Dev nD) (t : Fin cfg0.N) (Y) (h : (rdat m c).Finds 4 t Y) : Y = iblk m c 4 t := by
  obtain ⟨d, rfl⟩ := RDat.finds_in_eq_fetched (rdat m c) 4 rfl (fun _ _ _ => rfl) (after_in m c 4 (by decide)) t Y h
  rfl
theorem finds_5 (c : Dev nD) (t : Fin cfg0.N) (Y) (h : (rdat m c).Finds 5 t Y) : Y = iblk m c 5 t := by
  obtain ⟨d, rfl⟩ := RDat.finds_in_eq_fetched (rdat m c) 5 rfl (fun _ _ _ => rfl) (after_in m c 5 (by decide)) t Y h
  rfl
theorem finds_6 (c : Dev nD) (t : Fin cfg0.N) (Y) (h : (rdat m c).Finds 6 t Y) : Y = iblk m c 6 t := by
  obtain ⟨d, rfl⟩ := RDat.finds_in_eq_fetched (rdat m c) 6 rfl (fun _ _ _ => rfl) (after_in m c 6 (by decide)) t Y h
  rfl
theorem finds_7 (c : Dev nD) (t : Fin cfg0.N) (Y) (h : (rdat m c).Finds 7 t Y) : Y = iblk m c 7 t := by
  obtain ⟨d, rfl⟩ := RDat.finds_in_eq_fetched (rdat m c) 7 rfl (fun _ _ _ => rfl) (after_in m c 7 (by decide)) t Y h
  rfl
theorem finds_8 (c : Dev nD) (t : Fin cfg0.N) (Y) (h : (rdat m c).Finds 8 t Y) : Y = iblk m c 8 t := by
  obtain ⟨d, rfl⟩ := RDat.finds_in_eq_fetched (rdat m c) 8 rfl (fun _ _ _ => rfl) (after_in m c 8 (by decide)) t Y h
  rfl
theorem finds_9 (c : Dev nD) (t : Fin cfg0.N) (Y) (h : (rdat m c).Finds 9 t Y) : Y = iblk m c 9 t := by
  obtain ⟨d, rfl⟩ := RDat.finds_in_eq_fetched (rdat m c) 9 rfl (fun _ _ _ => rfl) (after_in m c 9 (by decide)) t Y h
  rfl
theorem finds_10 (c : Dev nD) (t : Fin cfg0.N) (Y) (h : (rdat m c).Finds 10 t Y) : Y = iblk m c 10 t := by
  obtain ⟨d, rfl⟩ := RDat.finds_in_eq_fetched (rdat m c) 10 rfl (fun _ _ _ => rfl) (after_in m c 10 (by decide)) t Y h
  rfl
theorem finds_11 (c : Dev nD) (t : Fin cfg0.N) (Y) (h : (rdat m c).Finds 11 t Y) : Y = iblk m c 11 t := by
  obtain ⟨d, rfl⟩ := RDat.finds_in_eq_fetched (rdat m c) 11 rfl (fun _ _ _ => rfl) (after_in m c 11 (by decide)) t Y h
  rfl

/-- The pipeline's call of the body at a point is the body over its buffers' names, on the buffers there. -/
theorem call_eq (t : Fin cfg0.N) : defs₀ (F := F) .tc cfg0.body (cfg0.bodyArgs t (cfg0.slots t)) = toPR (nD := nD) (τ := τ) (Λ₀ := Λ₀) (mems (cfg0.slots t)) (mems_whole _) body :=
  (show _ = _ from rfl : defs₀ (F := F) .tc cfg0.body (cfg0.bodyArgs t (cfg0.slots t)) = cc0__reference_body (F := F)  (mems (cfg0.slots t) .b0) (mems_whole _ .b0) (mems (cfg0.slots t) .b1) (mems_whole _ .b1) (mems (cfg0.slots t) .b2) (mems_whole _ .b2) (mems (cfg0.slots t) .b3) (mems_whole _ .b3) (mems (cfg0.slots t) .b4) (mems_whole _ .b4) (mems (cfg0.slots t) .b5) (mems_whole _ .b5) (mems (cfg0.slots t) .b6) (mems_whole _ .b6) (mems (cfg0.slots t) .b7) (mems_whole _ .b7) (mems (cfg0.slots t) .b8) (mems_whole _ .b8) (mems (cfg0.slots t) .b9) (mems_whole _ .b9) (mems (cfg0.slots t) .b10) (mems_whole _ .b10) (mems (cfg0.slots t) .b11) (mems_whole _ .b11) (mems (cfg0.slots t) .b12) (mems_whole _ .b12) (mems (cfg0.slots t) .b13) (mems_whole _ .b13) (mems (cfg0.slots t) .b14) (mems_whole _ .b14) (mems (cfg0.slots t) .b15) (mems_whole _ .b15) (mems (cfg0.slots t) .b16) (mems_whole _ .b16) (mems (cfg0.slots t) .b17) (mems_whole _ .b17) (mems (cfg0.slots t) .b18) (mems_whole _ .b18) (mems (cfg0.slots t) .b19) (mems_whole _ .b19) (mems (cfg0.slots t) .b20) (mems_whole _ .b20) (mems (cfg0.slots t) .b21) (mems_whole _ .b21) (mems (cfg0.slots t) .b22) (mems_whole _ .b22)).trans
    (cc0_eq (mems (cfg0.slots t)) (mems_whole _) )

/-- The buffers put together are owned: the windows' and the scratch ones. -/
theorem own_put_eq (c : Dev nD) (t : Fin cfg0.N) (s : St F) : Own (mems (cfg0.slots t)) c s
    ⊣⊢ iprop((bigSep Finset.univ fun w => owns (c : Thread nD τ) ((cfg0.win w).stage (cfg0.slots t w)) fullShare (pick s w)) ∗ Scr c s) := by
  have e : Own (mems (cfg0.slots t)) c s = iprop(owns (c : Thread nD τ) ((cfg0.win 0).stage (cfg0.slots t 0)) fullShare (pick s 0) ∗ owns (c : Thread nD τ) ((cfg0.win 1).stage (cfg0.slots t 1)) fullShare (pick s 1) ∗ owns (c : Thread nD τ) ((cfg0.win 2).stage (cfg0.slots t 2)) fullShare (pick s 2) ∗ owns (c : Thread nD τ) ((cfg0.win 3).stage (cfg0.slots t 3)) fullShare (pick s 3) ∗ owns (c : Thread nD τ) ((cfg0.win 4).stage (cfg0.slots t 4)) fullShare (pick s 4) ∗ owns (c : Thread nD τ) ((cfg0.win 5).stage (cfg0.slots t 5)) fullShare (pick s 5) ∗ owns (c : Thread nD τ) ((cfg0.win 6).stage (cfg0.slots t 6)) fullShare (pick s 6) ∗ owns (c : Thread nD τ) ((cfg0.win 7).stage (cfg0.slots t 7)) fullShare (pick s 7) ∗ owns (c : Thread nD τ) ((cfg0.win 8).stage (cfg0.slots t 8)) fullShare (pick s 8) ∗ owns (c : Thread nD τ) ((cfg0.win 9).stage (cfg0.slots t 9)) fullShare (pick s 9) ∗ owns (c : Thread nD τ) ((cfg0.win 10).stage (cfg0.slots t 10)) fullShare (pick s 10) ∗ owns (c : Thread nD τ) ((cfg0.win 11).stage (cfg0.slots t 11)) fullShare (pick s 11) ∗ owns (c : Thread nD τ) ((cfg0.win 12).stage (cfg0.slots t 12)) fullShare (pick s 12) ∗ owns (c : Thread nD τ) ((cfg0.win 13).stage (cfg0.slots t 13)) fullShare (pick s 13) ∗ owns (c : Thread nD τ) ((cfg0.win 14).stage (cfg0.slots t 14)) fullShare (pick s 14) ∗ owns (c : Thread nD τ) ((cfg0.win 15).stage (cfg0.slots t 15)) fullShare (pick s 15) ∗ owns (c : Thread nD τ) ((cfg0.win 16).stage (cfg0.slots t 16)) fullShare (pick s 16) ∗ owns (c : Thread nD τ) ((cfg0.win 17).stage (cfg0.slots t 17)) fullShare (pick s 17) ∗ owns (c : Thread nD τ) ((cfg0.win 18).stage (cfg0.slots t 18)) fullShare (pick s 18) ∗ Scr c s) := by
    unfold Own Scr; rw [bigSep_Bf]; rfl
  rw [e, bigSep_W0]
  constructor
  · iintro ⟨H0, H1, H2, H3, H4, H5, H6, H7, H8, H9, H10, H11, H12, H13, H14, H15, H16, H17, H18, H19⟩
    iframe
  · iintro ⟨⟨H0, H1, H2, H3, H4, H5, H6, H7, H8, H9, H10, H11, H12, H13, H14, H15, H16, H17, H18⟩, H19⟩
    iframe

theorem after_ex (c : Dev nD) (t : Fin cfg0.N) (Y) (z : St F) (hs : InpOK m c t (put Y z)) (w : Fin 19) :
    (owns (c : Thread nD τ) ((cfg0.win w).stage (cfg0.slots t w)) fullShare (pick (ev body (put Y z)).2 w) : sProp 𝕄)
    ⊢ iprop(∃ X, ⌜(rdat m c).after w t (Y w) X⌝ ∗ owns (c : Thread nD τ) ((cfg0.win w).stage (cfg0.slots t w)) fullShare X) := by
  iintro H
  iexists (pick (ev body (put Y z)).2 w)
  isplitr
  · ipureintro
    exact ⟨put Y z, hs, (pick_put Y z w).symm, rfl⟩
  · iexact H

theorem after_all (c : Dev nD) (t : Fin cfg0.N) (Y) (z : St F) (hs : InpOK m c t (put Y z)) :
    (bigSep Finset.univ fun w => owns (c : Thread nD τ) ((cfg0.win w).stage (cfg0.slots t w)) fullShare (pick (ev body (put Y z)).2 w) : sProp 𝕄)
    ⊢ bigSep Finset.univ fun w => iprop(∃ X, ⌜(rdat m c).after w t (Y w) X⌝ ∗ owns (c : Thread nD τ) ((cfg0.win w).stage (cfg0.slots t w)) fullShare X) :=
  bigSep_mono fun w _ => after_ex m c t Y z hs w

theorem phi_of (c : Dev nD) (t) (z : St F) : iprop(Scr c z ∗ ∃ r, prngReg c r) ⊢ (rdat m c).Φ t := by
  show _ ⊢ iprop(∃ z : St F, Scr c z ∗ ∃ r, prngReg c r)
  iintro H
  iexists z
  iexact H

theorem body_obligation (c : Dev nD) : (rdat m c).BodyObligation (defs₀ (F := F)) Variants.none () Set.univ := fun t Y hY => by
  rw [call_eq]
  show iprop((∃ z : St F, Scr c z ∗ ∃ r, prngReg c r) ∗ _ ∗ _) ⊢ _
  iintro ⟨⟨%z, Hz, Hp⟩, Ho, Hw⟩
  have hs : InpOK m c t (put Y z) := ⟨finds_0 m c t _ (hY 0), finds_1 m c t _ (hY 1), finds_2 m c t _ (hY 2), finds_3 m c t _ (hY 3), finds_4 m c t _ (hY 4), finds_5 m c t _ (hY 5), finds_6 m c t _ (hY 6), finds_7 m c t _ (hY 7), finds_8 m c t _ (hY 8), finds_9 m c t _ (hY 9), finds_10 m c t _ (hY 10), finds_11 m c t _ (hY 11)⟩
  iapply (den (mems (cfg0.slots t)) (mems_whole _) defs₀ Variants.none c Set.univ body (put Y z) _)
  isplitl [Hw Hz]
  · iapply (own_put_eq c t (put Y z)).2
    rw [scr_congr c (put_scr Y z), funext (pick_put Y z)]
    isplitl [Hw]
    · iexact Hw
    · iexact Hz
  · iintro H
    ihave H := (own_put_eq c t _).1 $$ H
    icases H with ⟨Hw, Hz⟩
    isplitl [Hz Hp]
    · iapply (phi_of m c _ _)
      iframe
    · isplitl [Ho]
      · iexact Ho
      · iapply (after_all m c t Y z hs) $$ Hw

theorem run (g : Dev nD → PrngReg) : θ_run defs (onTc (main (F := F))) (s₀ m g) fun r =>
    RDat.FramePost cfg0 (rdat m) (V m) r ∧ r.2.sem = fun _ => 0 := by
  refine RDat.θ_run_frame_track cfgs 0 launch0 defs₀ Variants.none (rdat m) m g main (body_obligation m) ?_ (fun _ _ => rfl) (V m) (hmain m Variants.none) (fun _ _ => rfl) ?_ ?_ _ (fun _ h => h)
  · intro c w; unfold RDat.share; split <;> rfl
  · intro c
    show iprop(Pipeline.scopedRest spec0 c ∗ ∃ r, prngReg c r) ⊢ iprop(∃ z : St F, Scr c z ∗ ∃ r, prngReg c r)
    iintro ⟨H, Hp⟩
    ihave H := scr_of c $$ H
    icases H with ⟨%z, H⟩
    iexists z
    iframe
  · intro c
    show iprop(∃ z : St F, Scr c z ∗ ∃ r, prngReg c r) ⊢ iprop(Pipeline.scopedRest spec0 c ∗ ∃ r, prngReg c r)
    iintro ⟨%z, H, Hp⟩
    isplitl [H]
    · iapply (of_scr c z); iexact H
    · iexact Hp

/-- An input's array ends as the region finds it. -/
theorem arr_in {r : PUnit × MemSt nD τ sig (Elt F)} (h : RDat.FramePost cfg0 (rdat m) (V m) r) (c : Dev nD) (w : Fin cfg0.W) (hw : (cfg0.win w).isOut = false) :
    r.2.mem ((cfg0.win w).arr.view.loc (c.tc : Thread nD τ)) = V m c (Pipeline.arrRef spec0 w) := by
  have := (h c).1 w
  rw [RDat.ArrAt_in (rdat m c) w hw] at this
  exact this

/-- The arguments end as they begin. -/
theorem args_of {r : PUnit × MemSt nD τ sig (Elt F)} (h : RDat.FramePost cfg0 (rdat m) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) :=
  ⟨(arr_in m h c 0 rfl).trans (V_main_arg0 m c),
    (arr_in m h c 1 rfl).trans (V_main_arg1 m c),
    (arr_in m h c 2 rfl).trans (V_main_arg2 m c),
    (arr_in m h c 3 rfl).trans (V_main_arg3 m c),
    (arr_in m h c 4 rfl).trans (V_main_arg4 m c),
    (arr_in m h c 5 rfl).trans (V_main_arg5 m c),
    (arr_in m h c 6 rfl).trans (V_main_arg6 m c),
    (arr_in m h c 7 rfl).trans (V_main_arg7 m c),
    (arr_in m h c 8 rfl).trans (V_main_arg8 m c),
    (arr_in m h c 9 rfl).trans (V_main_arg9 m c),
    (arr_in m h c 10 rfl).trans (V_main_arg10 m c),
    (arr_in m h c 11 rfl).trans (V_main_arg11 m c)⟩

/-- The program runs, leaves its arguments, and every semaphore ends at zero. -/
theorem frame_run (g : Dev nD → PrngReg) : θ_run (defs (F := F)) (onTc (τ := τ) (main (F := F))) ⟨m, fun _ => 0, g⟩ fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0 :=
  (θ_run defs _ _).mono (fun r h => ⟨args_of m h.1, h.2⟩) (run m g)

end Cert.Ref
-- ==== Proof.Spec.lean ====
/- The mathematics: what each array of the backward pass is, at the extended reals, by coordinates. -/
module

public import Idealize.ShloMosaic.PureOps.Ideal

@[expose] public section
noncomputable section

namespace Cert.Spec
open Idealize.ShloMosaic

/-- The arguments, by coordinates. -/
structure In where
  x : ℕ → ℕ → ℕ → EReal
  w : ℕ → ℕ → EReal
  ws : ℕ → EReal
  vf : ℕ → EReal
  vr : ℕ → EReal
  b : ℕ → ℕ → EReal
  u : ℕ → ℕ → ℕ → EReal
  c : ℕ → ℕ → ℕ → EReal
  c0 : ℕ → ℕ → EReal
  dh : ℕ → ℕ → ℕ → EReal
  dhs : ℕ → ℕ → EReal
  dcl : ℕ → ℕ → EReal

namespace In
variable (I : In)

/-- The states with the first one in front: at `n`, the state before step `n`. -/
def cx (b n d : ℕ) : EReal := if n = 0 then I.c0 b d else I.c b (n - 1) d
/-- The incoming gradient. -/
def g (b t d : ℕ) : EReal := I.dh b t d * I.dhs b t
/-- The forget gate. -/
def f (b t d : ℕ) : EReal := Ideal.logistic (I.u b t (1536 + d) + I.vf d * I.cx b t d + I.b 0 d)
/-- The reset gate. -/
def r (b t d : ℕ) : EReal := Ideal.logistic (I.u b t (3072 + d) + I.vr d * I.cx b t d + I.b 1 d)
/-- The gradient's part through the state. -/
def gr (b t d : ℕ) : EReal := I.g b t d * I.r b t d
/-- The gradient's highway part. -/
def dxh (b t d : ℕ) : EReal := I.g b t d - I.gr b t d
/-- The reset gate's gradient, before its activation. -/
def dr (b t d : ℕ) : EReal := I.dxh b t d * I.r b t d * (I.cx b (t + 1) d - I.x b t d)
/-- One minus the forget gate. -/
def om (b t d : ℕ) : EReal := 1 - I.f b t d
/-- The forget gate's slope. -/
def xf (b t d : ℕ) : EReal := (I.cx b t d - I.u b t d) * (I.f b t d * I.om b t d)
/-- The scan's factor. -/
def a (b t d : ℕ) : EReal := I.f b t d + I.vf d * I.xf b t d
/-- The scan's addend. -/
def bt (b t d : ℕ) : EReal := I.dr b t d * I.vr d
/-- The scan's carry after `n` steps back from the end. -/
def dc (b d : ℕ) : ℕ → EReal
  | 0 => I.dcl b d
  | n + 1 => (I.gr b (127 - n) d + dc b d n) * I.a b (127 - n) d + I.bt b (127 - n) d
/-- The state's gradient. -/
def dct (b t d : ℕ) : EReal := I.gr b t d + I.dc b d (127 - t)
/-- The candidate's gradient. -/
def dxt (b t d : ℕ) : EReal := I.dct b t d * I.om b t d
/-- The forget gate's gradient, before its activation. -/
def df (b t d : ℕ) : EReal := I.dct b t d * I.xf b t d
/-- The largest magnitude of the three gradients at one place. -/
def mx (b t d : ℕ) : EReal := max (max (I.dxt b t d ⊔ -I.dxt b t d) (I.df b t d ⊔ -I.df b t d)) (I.dr b t d ⊔ -I.dr b t d)
/-- A token's largest magnitude. -/
def amax (b t : ℕ) : EReal := (Finset.range 1536).sup (I.mx b t)
/-- The scale's exponent, of the largest magnitude. -/
def ex (m : EReal) : EReal :=
  if m * Ideal.ofBits .f32 0x37924925#32 = 0 then 0 else Ideal.liftRound Int.floor (Ideal.log (m * Ideal.ofBits .f32 0x37924925#32) * Ideal.ofBits .f32 0x3FB8AA3B#32) + 1
/-- A token's scale. -/
def scale (b t : ℕ) : EReal := Ideal.exp2 (ex (I.amax b t))
/-- A token's inverse scale. -/
def inv (b t : ℕ) : EReal := Ideal.exp2 (0 - ex (I.amax b t))
/-- The three gradients side by side. -/
def dU (b t e : ℕ) : EReal := if e < 1536 then I.dxt b t e else if e < 3072 then I.df b t (e - 1536) else I.dr b t (e - 3072)
/-- The codes. -/
def code (b t e : ℕ) : EReal := min (Ideal.ofBits .f32 0x47600000#32) (max (Ideal.ofBits .f32 0xC7600000#32) (I.dU b t e * I.inv b t))
/-- The gradient of the input. -/
def dx (b t d : ℕ) : EReal := (∑ e : Fin 4608, I.code b t e * I.w d e) * I.scale b t * I.ws d + I.dxh b t d

/-- What the four column sums sum: of the forget gate's gradient with and without the state, and of the reset gate's. -/
def term (q b t d : ℕ) : EReal :=
  if q = 0 then I.df b t d * I.cx b t d else if q = 1 then I.dr b t d * I.cx b t d else if q = 2 then I.df b t d else I.dr b t d
/-- Four of a block's rows, eight apart. -/
def sum4 (q b t0 i d : ℕ) : EReal := ∑ j : Fin 4, I.term q b (t0 + (j.val * 8 + i)) d
/-- A column sum's part on every eighth row, after `m` half blocks: a half block is one batch row's part of a block of 32 steps. -/
def acc (q i d : ℕ) : ℕ → EReal
  | 0 => 0
  | m + 1 => acc q i d m + I.sum4 q (2 * (m / 8) + m % 2) (96 - 32 * (m % 8 / 2)) i d

end In
end Cert.Spec
-- ==== Proof.Val.lean ====
/- What programs over named buffers leave: the rules, the buffers they do not touch, and contents agreed on a region. -/
module

public import proofs.«01_k».proof.Proof.Mem
public import Idealize.ShloMosaic.Lib.Pointwise

@[expose] public section
noncomputable section

namespace Cert.Mem
open Idealize.ShloMosaic Idealize.SL.Sem

section
variable {s : Shape} {α : Type}

/-- A store of agreeing values keeps an agreement, and extends it to the rectangle. -/
theorem upd_ag {W : s.Idx → Prop} {f X : s.Idx → α} {r : Rect s} {v : r.shape.Idx → α} (h : ∀ y, W y → X y = f y) (hv : ∀ x, v x = f (r.emb x)) :
    ∀ y, (W y ∨ ∃ x, r.emb x = y) → upd X r v y = f y := by
  intro y hy
  by_cases hx : ∃ x, r.emb x = y
  · obtain ⟨x, rfl⟩ := hx; rw [upd_emb, hv]
  · rw [upd_of_not _ _ _ hx]; exact h y (hy.resolve_right hx)

/-- A place lies in a rectangle when every coordinate does. -/
theorem mem_rect (r : Rect s) (y : s.Idx) (h : ∀ a, ∃ n, n < r.size a ∧ (y a).val = r.off a + r.stride a * n) : ∃ x, r.emb x = y := by
  choose n hn hy using h
  exact ⟨fun a => ⟨n a, hn a⟩, funext fun a => Fin.ext (hy a).symm⟩
end

variable {B : Type} {sig : RefSig} {sh : B → Shape} {et : B → EltTy} {out : B → Bool} {F : FTy → Type}

/-- Whether an operation stores only to buffers of a set. -/
def OpOnly (W : B → Bool) {α : Type} : Op sig sh et out F α → Prop
  | .ld _ _ _ => True
  | .st b _ _ _ _ _ => W b = true

/-- Whether a program stores only to buffers of a set. -/
def Only (W : B → Bool) {α : Type} : Cmd sig sh et out F α → Prop
  | .ret _ => True
  | .op e k => OpOnly W e ∧ ∀ x, Only W (k x)

variable {W : B → Bool} {α β : Type}

theorem Only.bind {p : Cmd sig sh et out F α} {k : α → Cmd sig sh et out F β} (h : Only W p) (hk : ∀ x, Only W (k x)) : Only W (Prog.bind p k) := by
  induction p with
  | ret a => exact hk a
  | op e k' ih => exact ⟨h.1, fun x => ih x (h.2 x)⟩
theorem Only.bind' {p : Cmd sig sh et out F α} {k : α → Cmd sig sh et out F β} (h : Only W p) (hk : ∀ x, Only W (k x)) : Only W (p >>= k) := h.bind hk
theorem Only.ret (a : α) : Only W (Prog.ret a : Cmd sig sh et out F α) := trivial
theorem Only.pure (a : α) : Only W (Pure.pure a : Cmd sig sh et out F α) := trivial
theorem Only.ld (b : B) (r : LoadRect (sh b)) (h : 0 < r.shape.numel) : Only W (ld (out := out) (F := F) (sig := sig) (et := et) b r h) := ⟨trivial, fun _ => trivial⟩
theorem Only.st (b : B) (r : Rect (sh b)) (h : 0 < r.shape.numel) (v : r.shape.Idx → Elt F (et b))
    (hx : ∀ m : Memref sig .tc .vmem (sh b) (et b), m.IsWhole → (m.access r).Stores Finset.univ) (ho : out b = true) (hW : W b = true) :
    Only W (Mem.st b r h v hx ho) := ⟨hW, fun _ => trivial⟩
theorem Only.loopK {n : ℕ} {f : ∀ k, k < n → Cmd sig sh et out F PUnit} {p : Cmd sig sh et out F α} (h : ∀ k hk, Only W (f k hk)) (hp : Only W p) : Only W (loopK n f p) := by
  induction n with
  | zero => exact hp
  | succ n ih => exact (h 0 _).bind fun _ => ih fun k hk => h (k + 1) _
theorem Only.loopS {S : Type} {n : ℕ} {f : ∀ k, k < n → S → Cmd sig sh et out F S} {x : S} {p : S → Cmd sig sh et out F α} (h : ∀ k hk x, Only W (f k hk x)) (hp : ∀ x, Only W (p x)) :
    Only W (loopS n f x p) := by
  induction n generalizing x with
  | zero => exact hp x
  | succ n ih => exact (h 0 _ x).bind fun _ => ih fun k hk => h (k + 1) _
theorem Only.forFrom {S : Type} {n : ℕ} {f : Fin n → S → Cmd sig sh et out F S} (h : ∀ t u, Only W (f t u)) (l : List (Fin n)) (u : S) : Only W (Scf.forFrom f l u) := by
  induction l generalizing u with
  | nil => trivial
  | cons t l ih => exact Only.bind (h t u) fun u => ih u
theorem Only.for {S : Type} {l : Scf.Loop 32} {ok : l.OK} {u : S} {f : Fin l.trips → S → Cmd sig sh et out F S} (h : ∀ t u, Only W (f t u)) : Only W (Scf.Loop.for l ok u f) := by
  simp only [Scf.for_eq]; exact Only.forFrom h _ _

variable [DecidableEq B]

theorem Only.keep {p : Cmd sig sh et out F α} (h : Only W p) {b : B} (hb : W b = false) (s : St sh et F) : (ev p s).2 b = s b := by
  induction p generalizing s with
  | ret a => rfl
  | op e k ih =>
    rw [ev, ih _ (h.2 _)]
    cases e with
    | ld b' r h' => rfl
    | st b' ho r h' v hx => exact Function.update_of_ne (by rintro rfl; have := h.1; simp [OpOnly, hb] at this) _ _

theorem ev_st (b : B) (r : Rect (sh b)) (h : 0 < r.shape.numel) (v : r.shape.Idx → Elt F (et b))
    (hx : ∀ m : Memref sig .tc .vmem (sh b) (et b), m.IsWhole → (m.access r).Stores Finset.univ) (ho : out b = true) (k : PUnit → Cmd sig sh et out F α) (s : St sh et F) :
    ev (Prog.bind (st b r h v hx ho) k) s = ev (k ⟨⟩) (Function.update s b (upd (s b) r v)) := rfl
theorem ev_st' (b : B) (r : Rect (sh b)) (h : 0 < r.shape.numel) (v : r.shape.Idx → Elt F (et b))
    (hx : ∀ m : Memref sig .tc .vmem (sh b) (et b), m.IsWhole → (m.access r).Stores Finset.univ) (ho : out b = true) (s : St sh et F) :
    ev (st b r h v hx ho) s = (⟨⟩, Function.update s b (upd (s b) r v)) := rfl
theorem ev_ld (b : B) (r : LoadRect (sh b)) (h : 0 < r.shape.numel) (k : (r.shape.Idx → Elt F (et b)) → Cmd sig sh et out F α) (s : St sh et F) :
    ev (Prog.bind (ld b r h) k) s = ev (k fun x => s b (r.idx x)) s := rfl
theorem ev_ret (a : α) (s : St sh et F) : ev (Prog.ret a : Cmd sig sh et out F α) s = (a, s) := rfl
theorem ev_pure (a : α) (s : St sh et F) : ev (pure a : Cmd sig sh et out F α) s = (a, s) := rfl
theorem bind_eq (p : Cmd sig sh et out F α) (k : α → Cmd sig sh et out F β) : (p >>= k) = Prog.bind p k := rfl
theorem bind_bind {γ : Type} (p : Cmd sig sh et out F α) (k : α → Cmd sig sh et out F β) (l : β → Cmd sig sh et out F γ) : (p.bind k).bind l = p.bind fun x => (k x).bind l := by
  induction p with
  | ret a => rfl
  | op e k' ih => simp only [Prog.bind]; congr 1; funext x; exact ih x
theorem ret_bind (a : α) (k : α → Cmd sig sh et out F β) : (Prog.ret a : Cmd sig sh et out F α).bind k = k a := rfl
theorem pure_bind' (a : α) (k : α → Cmd sig sh et out F β) : (pure a : Cmd sig sh et out F α).bind k = k a := rfl

/-- A counted loop keeps what each trip takes on. -/
theorem ev_loopK {n : ℕ} {f : ∀ k, k < n → Cmd sig sh et out F PUnit} {p : Cmd sig sh et out F α} (J : ℕ → St sh et F → Prop)
    (hf : ∀ k (hk : k < n) s, J k s → J (k + 1) (ev (f k hk) s).2) (s : St sh et F) (h : J 0 s) : ∃ s', J n s' ∧ ev (loopK n f p) s = ev p s' := by
  induction n generalizing s J with
  | zero => exact ⟨s, h, rfl⟩
  | succ n ih =>
    obtain ⟨s', h1, h2⟩ := ih (f := fun k hk => f (k + 1) (by omega)) (fun k => J (k + 1)) (fun k hk s => hf (k + 1) (by omega) s) _ (hf 0 (by omega) s h)
    exact ⟨s', h1, by rw [loopK, ev_bind, h2]⟩

/-- The same of a loop that carries a value. -/
theorem ev_loopS {S : Type} {n : ℕ} {f : ∀ k, k < n → S → Cmd sig sh et out F S} {p : S → Cmd sig sh et out F α} (J : ℕ → S → St sh et F → Prop)
    (hf : ∀ k (hk : k < n) x s, J k x s → J (k + 1) (ev (f k hk x) s).1 (ev (f k hk x) s).2) (x : S) (s : St sh et F) (h : J 0 x s) :
    ∃ x' s', J n x' s' ∧ ev (loopS n f x p) s = ev (p x') s' := by
  induction n generalizing s x J with
  | zero => exact ⟨x, s, h, rfl⟩
  | succ n ih =>
    obtain ⟨x', s', h1, h2⟩ := ih (f := fun k hk => f (k + 1) (by omega)) (fun k => J (k + 1)) (fun k hk x s => hf (k + 1) (by omega) x s) _ _ (hf 0 (by omega) x s h)
    exact ⟨x', s', h1, by rw [loopS, ev_bind, h2]⟩

theorem ev_forFrom {S : Type} {n : ℕ} {f : Fin n → S → Cmd sig sh et out F S} (J : ℕ → S → St sh et F → Prop)
    (hf : ∀ (t : Fin n) x s, J t.val x s → J (t.val + 1) (ev (f t x) s).1 (ev (f t x) s).2) (l : List (Fin n)) (a : ℕ) (ha : l.map Fin.val = List.range' a l.length) (x : S) (s : St sh et F) (h : J a x s) :
    J (a + l.length) (ev (Scf.forFrom f l x) s).1 (ev (Scf.forFrom f l x) s).2 := by
  induction l generalizing a x s with
  | nil => exact h
  | cons t l ih =>
    simp only [List.map_cons, List.length_cons, List.range'_succ, List.cons.injEq] at ha
    obtain ⟨rfl, ha⟩ := ha
    have := ih (t.val + 1) ha _ _ (hf t x s h)
    rw [show Scf.forFrom f (t :: l) x = Prog.bind (f t x) fun u => Scf.forFrom f l u from rfl, ev_bind, List.length_cons, show t.val + (l.length + 1) = t.val + 1 + l.length by omega]
    exact this

/-- The same of a printed loop. -/
theorem ev_for {S : Type} {l : Scf.Loop 32} {ok : l.OK} {u : S} {f : Fin l.trips → S → Cmd sig sh et out F S} (J : ℕ → S → St sh et F → Prop)
    (hf : ∀ (t : Fin l.trips) x s, J t.val x s → J (t.val + 1) (ev (f t x) s).1 (ev (f t x) s).2) (s : St sh et F) (h : J 0 u s) :
    J l.trips (ev (Scf.Loop.for l ok u f) s).1 (ev (Scf.Loop.for l ok u f) s).2 := by
  simp only [Scf.for_eq]
  have := ev_forFrom J hf (List.finRange l.trips) 0 (by apply List.ext_getElem <;> simp) u s h
  simpa using this

end Cert.Mem
-- ==== Proof.Half.lean ====
/- Phase 1: what one chunk of 128 columns stores. -/
module

public import proofs.«01_k».proof.Proof.Spec
public import proofs.«01_k».proof.Proof.Body
public import proofs.«01_k».proof.Proof.Val

@[expose] public section
noncomputable section

namespace Cert.Body
open Cert.Mem hiding Cmd ld st PR
open Cert.Spec Cert.KernelIdeal Cert.KernelIdeal.Gen Idealize.ShloMosaic Idealize.SL.Sem

abbrev SI := Mem.St Bf.sh Bf.et Ideal

/-- The inputs' blocks at grid point `p`. -/
structure Kin (I : In) (p : ℕ) (s : SI) : Prop where
  x : ∀ y : S2x128x1536.Idx, s .a1 y = I.x (2 * p + (y 0).val) (y 1).val (y 2).val
  w : ∀ y : S1536x4608.Idx, s .a2 y = I.w (y 0).val (y 1).val
  ws : ∀ y : S1x1536.Idx, s .a3 y = I.ws (y 1).val
  vf : ∀ y : S1x1536.Idx, s .a4 y = I.vf (y 1).val
  vr : ∀ y : S1x1536.Idx, s .a5 y = I.vr (y 1).val
  b : ∀ y : S2x1536.Idx, s .a6 y = I.b (y 0).val (y 1).val
  u : ∀ y : S2x128x4608.Idx, s .a7 y = I.u (2 * p + (y 0).val) (y 1).val (y 2).val
  c : ∀ y : S2x128x1536.Idx, s .a8 y = I.c (2 * p + (y 0).val) (y 1).val (y 2).val
  c0 : ∀ y : S12x1536.Idx, s .a9 y = I.c0 (y 0).val (y 1).val
  dh : ∀ y : S2x128x1536.Idx, s .a10 y = I.dh (2 * p + (y 0).val) (y 1).val (y 2).val
  dhs : ∀ y : S12x128.Idx, s .a11 y = I.dhs (y 0).val (y 1).val
  dcl : ∀ y : S12x1536.Idx, s .a12 y = I.dcl (y 0).val (y 1).val

theorem Kin.ev {I : In} {p : ℕ} {s : SI} (h : Kin I p s) {α : Type} (c : Cmd Ideal α) : Kin I p (Mem.ev c s).2 := by
  constructor <;> intro y <;> rw [ev_in c s _ rfl]
  exacts [h.x y, h.w y, h.ws y, h.vf y, h.vr y, h.b y, h.u y, h.c y, h.c0 y, h.dh y, h.dhs y, h.dcl y]

/-- What a grid point lays out for its blocks. -/
structure Lay (I : In) (p : ℕ) (s : SI) : Prop where
  c : ∀ y : S24x136x128.Idx, 7 ≤ (y 1).val → s .a20 y = I.cx (2 * p + (y 0).val / 12) ((y 1).val - 7) ((y 0).val % 12 * 128 + (y 2).val)
  g : ∀ y : S2x128x128.Idx, s .a21 y = I.dhs (2 * p + (y 0).val) (y 1).val

/-- What a chunk loads. -/
structure Ld where
  dh : Vec Ideal S1x32x128 .fp8e5m2
  ds : Vec Ideal S1x32x128 .f32
  xt : Vec Ideal S1x32x128 .bf16
  uf : Vec Ideal S1x32x128 .bf16
  ur : Vec Ideal S1x32x128 .bf16
  c : Vec Ideal S1x32x128 .f32
  cp : Vec Ideal S1x32x128 .f32
  x : Vec Ideal S1x32x128 .bf16
  vf : FVec Ideal S1x128 .f32
  vr : FVec Ideal S1x128 .f32
  b0 : Vec Ideal S1x128 .f32
  b1 : Vec Ideal S1x128 .f32

namespace Ld
variable (L : Ld)
def vcp : FVec Ideal S32x128 .f32 := shapeCast S32x128 L.cp shapeCasts_S1x32x128_S32x128
def vg : FVec Ideal S32x128 .f32 := mulf (extf .f32 (shapeCast S32x128 L.dh shapeCasts_S1x32x128_S32x128) bitsLt_fp8e5m2_f32) (shapeCast S32x128 L.ds shapeCasts_S1x32x128_S32x128)
def vxt : FVec Ideal S32x128 .f32 := extf .f32 (shapeCast S32x128 L.xt shapeCasts_S1x32x128_S32x128) bitsLt_bf16_f32
def f : FVec Ideal S32x128 .f32 := logistic (addf (addf (extf .f32 (shapeCast S32x128 L.uf shapeCasts_S1x32x128_S32x128) bitsLt_bf16_f32) (mulf (broadcastTo S32x128 L.vf broadcasts_S1x128_S32x128) L.vcp)) (broadcastTo S32x128 L.b0 broadcasts_S1x128_S32x128))
def r : FVec Ideal S32x128 .f32 := logistic (addf (addf (extf .f32 (shapeCast S32x128 L.ur shapeCasts_S1x32x128_S32x128) bitsLt_bf16_f32) (mulf (broadcastTo S32x128 L.vr broadcasts_S1x128_S32x128) L.vcp)) (broadcastTo S32x128 L.b1 broadcasts_S1x128_S32x128))
def gr : FVec Ideal S32x128 .f32 := mulf L.vg L.r
def dxh : FVec Ideal S32x128 .f32 := subf L.vg L.gr
def dr : FVec Ideal S32x128 .f32 := mulf (mulf L.dxh L.r) (subf (shapeCast S32x128 L.c shapeCasts_S1x32x128_S32x128) (extf .f32 (shapeCast S32x128 L.x shapeCasts_S1x32x128_S32x128) bitsLt_bf16_f32))
def om : FVec Ideal S32x128 .f32 := subf (broadcast S32x128 (Scalar.ofBits .f32 0x3F800000#32)) L.f
def xf : FVec Ideal S32x128 .f32 := mulf (subf L.vcp L.vxt) (mulf L.f L.om)
def a : FVec Ideal S32x128 .f32 := addf L.f (mulf (broadcastTo S32x128 L.vf broadcasts_S1x128_S32x128) L.xf)
def bt : FVec Ideal S32x128 .f32 := mulf L.dr (broadcastTo S32x128 L.vr broadcasts_S1x128_S32x128)
def sum8 (v : FVec Ideal S32x128 .f32) : FVec Ideal S8x128 .f32 := multiReduction .add [0] S8x128 (shapeCast S4x8x128 v shapeCasts_S32x128_S4x8x128) 0x00000000#32 reduces_S4x8x128_S8x128 (.inl rfl) rfl

/-- The loads' values, at batch row `b`, from step `t0` and column `d0` on. -/
structure Is (I : In) (b t0 d0 : ℕ) : Prop where
  dh : ∀ y, L.dh y = I.dh b (t0 + (y 1).val) (d0 + (y 2).val)
  ds : ∀ y, L.ds y = I.dhs b (t0 + (y 1).val)
  xt : ∀ y, L.xt y = I.u b (t0 + (y 1).val) (d0 + (y 2).val)
  uf : ∀ y, L.uf y = I.u b (t0 + (y 1).val) (1536 + (d0 + (y 2).val))
  ur : ∀ y, L.ur y = I.u b (t0 + (y 1).val) (3072 + (d0 + (y 2).val))
  c : ∀ y, L.c y = I.cx b (t0 + (y 1).val + 1) (d0 + (y 2).val)
  cp : ∀ y, L.cp y = I.cx b (t0 + (y 1).val) (d0 + (y 2).val)
  x : ∀ y, L.x y = I.x b (t0 + (y 1).val) (d0 + (y 2).val)
  vf : ∀ y, L.vf y = I.vf (d0 + (y 1).val)
  vr : ∀ y, L.vr y = I.vr (d0 + (y 1).val)
  b0 : ∀ y, L.b0 y = I.b 0 (d0 + (y 1).val)
  b1 : ∀ y, L.b1 y = I.b 1 (d0 + (y 1).val)

variable {L} {I : In} {b t0 d0 : ℕ} (h : L.Is I b t0 d0)
include h
theorem cp_at (y : S32x128.Idx) : L.vcp y = I.cx b (t0 + (y 0).val) (d0 + (y 1).val) := by
  unfold vcp; pointwise [h.cp]
theorem g_at (y : S32x128.Idx) : L.vg y = I.g b (t0 + (y 0).val) (d0 + (y 1).val) := by
  unfold vg In.g; pointwise [h.dh, h.ds]
theorem f_at (y : S32x128.Idx) : L.f y = I.f b (t0 + (y 0).val) (d0 + (y 1).val) := by
  unfold f In.f; pointwise [h.uf, h.vf, h.b0, cp_at h]
theorem r_at (y : S32x128.Idx) : L.r y = I.r b (t0 + (y 0).val) (d0 + (y 1).val) := by
  unfold r In.r; pointwise [h.ur, h.vr, h.b1, cp_at h]
theorem gr_at (y : S32x128.Idx) : L.gr y = I.gr b (t0 + (y 0).val) (d0 + (y 1).val) := by
  unfold gr In.gr; pointwise [g_at h, r_at h]
theorem dxh_at (y : S32x128.Idx) : L.dxh y = I.dxh b (t0 + (y 0).val) (d0 + (y 1).val) := by
  unfold dxh In.dxh; pointwise [g_at h, gr_at h]
theorem dr_at (y : S32x128.Idx) : L.dr y = I.dr b (t0 + (y 0).val) (d0 + (y 1).val) := by
  unfold dr In.dr; pointwise [dxh_at h, r_at h, h.c, h.x]
theorem om_at (y : S32x128.Idx) : L.om y = I.om b (t0 + (y 0).val) (d0 + (y 1).val) := by
  unfold om In.om; pointwise [f_at h]
theorem xf_at (y : S32x128.Idx) : L.xf y = I.xf b (t0 + (y 0).val) (d0 + (y 1).val) := by
  unfold xf In.xf vxt; pointwise [f_at h, om_at h, cp_at h, h.xt]
theorem a_at (y : S32x128.Idx) : L.a y = I.a b (t0 + (y 0).val) (d0 + (y 1).val) := by
  unfold a In.a; pointwise [f_at h, xf_at h, h.vf]
theorem bt_at (y : S32x128.Idx) : L.bt y = I.bt b (t0 + (y 0).val) (d0 + (y 1).val) := by
  unfold bt In.bt; pointwise [dr_at h, h.vr]
omit h
theorem sum8_at (v : FVec Ideal S32x128 .f32) (y : S8x128.Idx) (F : ℕ → ℕ → EReal) (hv : ∀ y : S32x128.Idx, v y = F (y 0).val (y 1).val) :
    sum8 v y = ∑ j : Fin 4, F (j.val * 8 + (y 0).val) (y 1).val := by
  unfold sum8; pointwise [hv]
end Ld

/-- What a chunk stores. -/
def halfB (L : Ld) (t : Fin k0_t1_loop.trips) {k bb : ℕ} (hk : k < 12) (hb : bb < 2) (hc : bb * 12 + k < 24) : Cmd Ideal (FVec Ideal S8x128 .f32 × FVec Ideal S8x128 .f32) := do
  st .a27 (rS hc) h_S1x32x128 (shapeCast S1x32x128 L.om shapeCasts_S32x128_S1x32x128) (fun _ _ => View.stores_vmem_bits_univ h_S1x32x128 rfl)
  st .a28 (rS hc) h_S1x32x128 (shapeCast S1x32x128 L.xf shapeCasts_S32x128_S1x32x128) (fun _ _ => View.stores_vmem_bits_univ h_S1x32x128 rfl)
  st .a29 (rS hc) h_S1x32x128 (shapeCast S1x32x128 L.dr shapeCasts_S32x128_S1x32x128) (fun _ _ => View.stores_vmem_bits_univ h_S1x32x128 rfl)
  st .a30 (rX t hk hb) h_S1x32x128 (shapeCast S1x32x128 L.dxh shapeCasts_S32x128_S1x32x128) (fun _ _ => View.stores_vmem_bits_univ h_S1x32x128 rfl)
  rows3 L.gr L.a L.bt (j := 0) (by omega) hc slices_S32x128_o0_0_S8x128
  rows3 L.gr L.a L.bt (j := 1) (by omega) hc slices_S32x128_o8_0_S8x128
  rows3 L.gr L.a L.bt (j := 2) (by omega) hc slices_S32x128_o16_0_S8x128
  rows3 L.gr L.a L.bt (j := 3) (by omega) hc slices_S32x128_o24_0_S8x128
  pure (Ld.sum8 (mulf L.dr L.vcp), Ld.sum8 L.dr)

/-- What a chunk loads, in a state. -/
def ldOf (s : SI) (t : Fin k0_t1_loop.trips) (vf vr : FVec Ideal S1x128 .f32) (b0 b1 : Vec Ideal S1x128 .f32) {k bb : ℕ} (hk : k < 12) (hb : bb < 2) (hc : bb * 12 + k < 24) : Ld where
  dh x := s .a10 ((rX t hk hb).toLoadRect.idx x)
  ds x := s .a21 ((rG t hb).toLoadRect.idx x)
  xt x := s .a7 ((rU t (k := k) (by omega) hb).toLoadRect.idx x)
  uf x := s .a7 ((rU t (k := 12 + k) (by omega) hb).toLoadRect.idx x)
  ur x := s .a7 ((rU t (k := 24 + k) (by omega) hb).toLoadRect.idx x)
  c x := s .a20 ((rC8 t hc).toLoadRect.idx x)
  cp x := s .a20 ((rC7 t hc).toLoadRect.idx x)
  x x := s .a1 ((rX t hk hb).toLoadRect.idx x)
  vf := vf
  vr := vr
  b0 := b0
  b1 := b1

theorem half_ev (s : SI) (t : Fin k0_t1_loop.trips) (vf vr : FVec Ideal S1x128 .f32) (b0 b1 : Vec Ideal S1x128 .f32) {k bb : ℕ} (hk : k < 12) (hb : bb < 2) (hc : bb * 12 + k < 24) :
    ev (half t vf vr b0 b1 hk hb hc) s = ev (halfB (ldOf s t vf vr b0 b1 hk hb hc) t hk hb hc) s := rfl

variable {I : In} {p : ℕ} {s : SI}

theorem ldOf_is (hK : Kin I p s) (hL : Lay I p s) (t : Fin k0_t1_loop.trips) (vf vr : FVec Ideal S1x128 .f32) (b0 b1 : Vec Ideal S1x128 .f32) {k bb : ℕ} (hk : k < 12) (hb : bb < 2)
    (hc : bb * 12 + k < 24) (hvf : ∀ y : S1x128.Idx, vf y = I.vf (k * 128 + (y 1).val)) (hvr : ∀ y : S1x128.Idx, vr y = I.vr (k * 128 + (y 1).val))
    (hb0 : ∀ y : S1x128.Idx, b0 y = I.b 0 (k * 128 + (y 1).val)) (hb1 : ∀ y : S1x128.Idx, b1 y = I.b 1 (k * 128 + (y 1).val)) :
    (ldOf s t vf vr b0 b1 hk hb hc).Is I (2 * p + bb) (96 - 32 * t.val) (k * 128) := by
  have e := tix_eq t
  have e8 := tix8_eq t
  have e7 := tix7_eq t
  have ht : t.val < 4 := t.2
  have hy : ∀ y : S1x32x128.Idx, (y 0).val < 1 ∧ (y 1).val < 32 ∧ (y 2).val < 128 := fun y => ⟨(y 0).2, (y 1).2, (y 2).2⟩
  have hq : (bb * 12 + k) / 12 = bb ∧ (bb * 12 + k) % 12 = k := by omega
  constructor
  · intro y; obtain ⟨h0, h1, h2⟩ := hy y
    refine (hK.dh _).trans ?_
    congr 1
    · show 2 * p + (bb + 1 * (y 0).val) = _; omega
    · show tix t + 1 * (y 1).val = _; omega
    · show k * 128 + 1 * (y 2).val = _; omega
  · intro y; obtain ⟨h0, h1, h2⟩ := hy y
    refine (hL.g _).trans ?_
    congr 1
    · show 2 * p + (bb + 1 * (y 0).val) = _; omega
    · show tix t + 1 * (y 1).val = _; omega
  · intro y; obtain ⟨h0, h1, h2⟩ := hy y
    refine (hK.u _).trans ?_
    congr 1
    · show 2 * p + (bb + 1 * (y 0).val) = _; omega
    · show tix t + 1 * (y 1).val = _; omega
    · show k * 128 + 1 * (y 2).val = _; omega
  · intro y; obtain ⟨h0, h1, h2⟩ := hy y
    refine (hK.u _).trans ?_
    congr 1
    · show 2 * p + (bb + 1 * (y 0).val) = _; omega
    · show tix t + 1 * (y 1).val = _; omega
    · show (12 + k) * 128 + 1 * (y 2).val = _; omega
  · intro y; obtain ⟨h0, h1, h2⟩ := hy y
    refine (hK.u _).trans ?_
    congr 1
    · show 2 * p + (bb + 1 * (y 0).val) = _; omega
    · show tix t + 1 * (y 1).val = _; omega
    · show (24 + k) * 128 + 1 * (y 2).val = _; omega
  · intro y; obtain ⟨h0, h1, h2⟩ := hy y
    refine (hL.c _ (show 7 ≤ tix8 t + 1 * (y 1).val by omega)).trans ?_
    congr 1
    · show 2 * p + (bb * 12 + k + 1 * (y 0).val) / 12 = _; omega
    · show tix8 t + 1 * (y 1).val - 7 = _; omega
    · show (bb * 12 + k + 1 * (y 0).val) % 12 * 128 + (0 + 1 * (y 2).val) = _; omega
  · intro y; obtain ⟨h0, h1, h2⟩ := hy y
    refine (hL.c _ (show 7 ≤ tix7 t + 1 * (y 1).val by omega)).trans ?_
    congr 1
    · show 2 * p + (bb * 12 + k + 1 * (y 0).val) / 12 = _; omega
    · show tix7 t + 1 * (y 1).val - 7 = _; omega
    · show (bb * 12 + k + 1 * (y 0).val) % 12 * 128 + (0 + 1 * (y 2).val) = _; omega
  · intro y; obtain ⟨h0, h1, h2⟩ := hy y
    refine (hK.x _).trans ?_
    congr 1
    · show 2 * p + (bb + 1 * (y 0).val) = _; omega
    · show tix t + 1 * (y 1).val = _; omega
    · show k * 128 + 1 * (y 2).val = _; omega
  · exact hvf
  · exact hvr
  · exact hb0
  · exact hb1

/-! ### Stores of one chunk -/

/-- The columns' offsets of a block's index rectangle. -/
theorem upd_rS {X : S24x32x128.Idx → EReal} {G : ℕ → ℕ → ℕ → EReal} {R : ℕ → Prop} {p T0 : ℕ}
    (h : ∀ y : S24x32x128.Idx, R (y 0).val → X y = G (2 * p + (y 0).val / 12) (T0 + (y 1).val) ((y 0).val % 12 * 128 + (y 2).val))
    {k bb : ℕ} (hk : k < 12) (hb : bb < 2) (hc : bb * 12 + k < 24) {v : S1x32x128.Idx → EReal}
    (hv : ∀ x : S1x32x128.Idx, v x = G (2 * p + bb) (T0 + (x 1).val) (k * 128 + (x 2).val)) :
    ∀ y : S24x32x128.Idx, (R (y 0).val ∨ (y 0).val = bb * 12 + k) → upd X (rS hc) v y = G (2 * p + (y 0).val / 12) (T0 + (y 1).val) ((y 0).val % 12 * 128 + (y 2).val) := by
  intro y hy
  refine upd_ag (W := fun y : S24x32x128.Idx => R (y 0).val) (f := fun y : S24x32x128.Idx => G (2 * p + (y 0).val / 12) (T0 + (y 1).val) ((y 0).val % 12 * 128 + (y 2).val)) h (fun x => ?_) y (hy.imp id fun e => ?_)
  · have h0 : (x 0).val < 1 := (x 0).2
    refine (hv x).trans ?_
    show _ = G (2 * p + (bb * 12 + k + 1 * (x 0).val) / 12) (T0 + (0 + 1 * (x 1).val)) ((bb * 12 + k + 1 * (x 0).val) % 12 * 128 + (0 + 1 * (x 2).val))
    congr 1 <;> omega
  · refine mem_rect _ y fun a => ?_
    fin_cases a
    · exact ⟨0, Nat.one_pos, e⟩
    · exact ⟨(y 1).val, (y 1).2, by show (y 1).val = 0 + 1 * (y 1).val; omega⟩
    · exact ⟨(y 2).val, (y 2).2, by show (y 2).val = 0 + 1 * (y 2).val; omega⟩

theorem upd_rX {X : S2x128x1536.Idx → EReal} {G : ℕ → ℕ → ℕ → EReal} {R : ℕ → Prop} {p : ℕ} (t : Fin k0_t1_loop.trips)
    (h : ∀ y : S2x128x1536.Idx, (128 - 32 * t.val ≤ (y 1).val ∨ 96 - 32 * t.val ≤ (y 1).val ∧ R ((y 0).val * 12 + (y 2).val / 128)) → X y = G (2 * p + (y 0).val) (y 1).val (y 2).val)
    {k bb : ℕ} (hk : k < 12) (hb : bb < 2) {v : S1x32x128.Idx → EReal}
    (hv : ∀ x : S1x32x128.Idx, v x = G (2 * p + bb) (96 - 32 * t.val + (x 1).val) (k * 128 + (x 2).val)) :
    ∀ y : S2x128x1536.Idx, (128 - 32 * t.val ≤ (y 1).val ∨ 96 - 32 * t.val ≤ (y 1).val ∧ (R ((y 0).val * 12 + (y 2).val / 128) ∨ (y 0).val * 12 + (y 2).val / 128 = bb * 12 + k)) →
      upd X (rX t hk hb) v y = G (2 * p + (y 0).val) (y 1).val (y 2).val := by
  have e := tix_eq t
  have ht : t.val < 4 := t.2
  intro y hy
  have y2 : (y 2).val < 1536 := (y 2).2
  refine upd_ag (W := fun y : S2x128x1536.Idx => (128 - 32 * t.val ≤ (y 1).val ∨ 96 - 32 * t.val ≤ (y 1).val ∧ R ((y 0).val * 12 + (y 2).val / 128))) (f := fun y : S2x128x1536.Idx => G (2 * p + (y 0).val) (y 1).val (y 2).val) h (fun x => ?_) y ?_
  · have h0 : (x 0).val < 1 := (x 0).2
    refine (hv x).trans ?_
    show _ = G (2 * p + (bb + 1 * (x 0).val)) (tix t + 1 * (x 1).val) (k * 128 + 1 * (x 2).val)
    congr 1 <;> omega
  · by_cases hW : (128 - 32 * t.val ≤ (y 1).val ∨ 96 - 32 * t.val ≤ (y 1).val ∧ R ((y 0).val * 12 + (y 2).val / 128))
    · exact .inl hW
    refine .inr (mem_rect _ y fun a => ?_)
    have h1 : 96 - 32 * t.val ≤ (y 1).val := by omega
    have h2 : (y 0).val * 12 + (y 2).val / 128 = bb * 12 + k := by
      rcases hy with hy | ⟨_, hy | hy⟩
      · exact absurd (.inl hy) hW
      · exact absurd (.inr ⟨h1, hy⟩) hW
      · exact hy
    have h3 : (y 1).val < 128 - 32 * t.val := by
      by_contra h4; exact hW (.inl (by omega))
    have h4 : (y 0).val = bb := by have : (y 0).val < 2 := (y 0).2; omega
    fin_cases a
    · exact ⟨0, Nat.one_pos, h4⟩
    · exact ⟨(y 1).val - tix t, by show (y 1).val - tix t < 32; omega, by show (y 1).val = tix t + 1 * ((y 1).val - tix t); omega⟩
    · exact ⟨(y 2).val - k * 128, by show (y 2).val - k * 128 < 128; omega, by show (y 2).val = k * 128 + 1 * ((y 2).val - k * 128); omega⟩

theorem upd_rR {X : S800x128.Idx → EReal} {G : ℕ → ℕ → ℕ → EReal} {R : ℕ → Prop} {p T0 : ℕ}
    (h : ∀ y : S800x128.Idx, (y 0).val % 25 < 24 → R (y 0).val → X y = G (2 * p + (y 0).val % 25 / 12) (T0 + (y 0).val / 25) ((y 0).val % 25 % 12 * 128 + (y 1).val))
    {k bb j : ℕ} (hk : k < 12) (hb : bb < 2) (hj : j < 4) (hc : bb * 12 + k < 24) {v : S8x128.Idx → EReal}
    (hv : ∀ x : S8x128.Idx, v x = G (2 * p + bb) (T0 + (j * 8 + (x 0).val)) (k * 128 + (x 1).val)) :
    ∀ y : S800x128.Idx, (y 0).val % 25 < 24 → (R (y 0).val ∨ (y 0).val % 25 = bb * 12 + k ∧ (y 0).val / 200 = j) →
      upd X (rR hj hc) v y = G (2 * p + (y 0).val % 25 / 12) (T0 + (y 0).val / 25) ((y 0).val % 25 % 12 * 128 + (y 1).val) := by
  intro y h24 hy
  refine upd_ag (W := fun y : S800x128.Idx => (y 0).val % 25 < 24 ∧ R (y 0).val) (f := fun y : S800x128.Idx => G (2 * p + (y 0).val % 25 / 12) (T0 + (y 0).val / 25) ((y 0).val % 25 % 12 * 128 + (y 1).val))
    (fun y hy => h y hy.1 hy.2) (fun x => ?_) y (hy.imp (fun hy => ⟨h24, hy⟩) fun e => ?_)
  · have h0 : (x 0).val < 8 := (x 0).2
    refine (hv x).trans ?_
    show _ = G (2 * p + (j * 200 + (bb * 12 + k) + 25 * (x 0).val) % 25 / 12) (T0 + (j * 200 + (bb * 12 + k) + 25 * (x 0).val) / 25) ((j * 200 + (bb * 12 + k) + 25 * (x 0).val) % 25 % 12 * 128 + (0 + 1 * (x 1).val))
    have e1 : (j * 200 + (bb * 12 + k) + 25 * (x 0).val) % 25 = bb * 12 + k := by omega
    have e2 : (j * 200 + (bb * 12 + k) + 25 * (x 0).val) / 25 = j * 8 + (x 0).val := by omega
    rw [e1, e2]
    congr 1 <;> omega
  · have y0 : (y 0).val < 800 := (y 0).2
    refine mem_rect _ y fun a => ?_
    fin_cases a
    · exact ⟨(y 0).val / 25 - 8 * j, by show _ < 8; omega, by show (y 0).val = j * 200 + (bb * 12 + k) + 25 * _; omega⟩
    · exact ⟨(y 1).val, (y 1).2, by show (y 1).val = 0 + 1 * (y 1).val; omega⟩

/-- What phase 1 has stored of the chunks in a set. -/
structure P1 (I : In) (p : ℕ) (t : Fin k0_t1_loop.trips) (R : ℕ → Prop) (s : SI) : Prop where
  om : ∀ y : S24x32x128.Idx, R (y 0).val → s .a27 y = I.om (2 * p + (y 0).val / 12) (96 - 32 * t.val + (y 1).val) ((y 0).val % 12 * 128 + (y 2).val)
  xf : ∀ y : S24x32x128.Idx, R (y 0).val → s .a28 y = I.xf (2 * p + (y 0).val / 12) (96 - 32 * t.val + (y 1).val) ((y 0).val % 12 * 128 + (y 2).val)
  dr : ∀ y : S24x32x128.Idx, R (y 0).val → s .a29 y = I.dr (2 * p + (y 0).val / 12) (96 - 32 * t.val + (y 1).val) ((y 0).val % 12 * 128 + (y 2).val)
  dxh : ∀ y : S2x128x1536.Idx, (128 - 32 * t.val ≤ (y 1).val ∨ 96 - 32 * t.val ≤ (y 1).val ∧ R ((y 0).val * 12 + (y 2).val / 128)) → s .a30 y = I.dxh (2 * p + (y 0).val) (y 1).val (y 2).val
  gr : ∀ y : S800x128.Idx, (y 0).val % 25 < 24 → R ((y 0).val % 25) → s .a23 y = I.gr (2 * p + (y 0).val % 25 / 12) (96 - 32 * t.val + (y 0).val / 25) ((y 0).val % 25 % 12 * 128 + (y 1).val)
  a : ∀ y : S800x128.Idx, (y 0).val % 25 < 24 → R ((y 0).val % 25) → s .a24 y = I.a (2 * p + (y 0).val % 25 / 12) (96 - 32 * t.val + (y 0).val / 25) ((y 0).val % 25 % 12 * 128 + (y 1).val)
  bt : ∀ y : S800x128.Idx, (y 0).val % 25 < 24 → R ((y 0).val % 25) → s .a25 y = I.bt (2 * p + (y 0).val % 25 / 12) (96 - 32 * t.val + (y 0).val / 25) ((y 0).val % 25 % 12 * 128 + (y 1).val)

theorem slc_at {v : FVec Ideal S32x128 .f32} {F : ℕ → ℕ → EReal} (hv : ∀ y : S32x128.Idx, v y = F (y 0).val (y 1).val) {j : ℕ} (hs : S32x128.Slices ![j * 8, 0] S8x128) (x : S8x128.Idx) :
    shapeCast S8x128 (extractStridedSlice S8x128 ![j * 8, 0] v hs) shapeCasts_S8x128_S8x128 x = F (j * 8 + (x 0).val) (x 1).val := by
  pointwise [hv]

section
variable (L : Ld) (t : Fin k0_t1_loop.trips) {k bb : ℕ} (hk : k < 12) (hb : bb < 2) (hc : bb * 12 + k < 24) (s : SI)

theorem halfB_1 : (ev (halfB L t hk hb hc) s).1 = (Ld.sum8 (mulf L.dr L.vcp), Ld.sum8 L.dr) := rfl
theorem halfB_27 : (ev (halfB L t hk hb hc) s).2 .a27 = upd (s .a27) (rS hc) (shapeCast S1x32x128 L.om shapeCasts_S32x128_S1x32x128) := by
  simp only [halfB, rows3, bind_eq, bind_bind, ret_bind, pure_bind', ev_st, ev_ld, ev_pure, Function.update_self, Function.update_of_ne, ne_eq, reduceCtorEq, not_false_eq_true]
theorem halfB_28 : (ev (halfB L t hk hb hc) s).2 .a28 = upd (s .a28) (rS hc) (shapeCast S1x32x128 L.xf shapeCasts_S32x128_S1x32x128) := by
  simp only [halfB, rows3, bind_eq, bind_bind, ret_bind, pure_bind', ev_st, ev_ld, ev_pure, Function.update_self, Function.update_of_ne, ne_eq, reduceCtorEq, not_false_eq_true]
theorem halfB_29 : (ev (halfB L t hk hb hc) s).2 .a29 = upd (s .a29) (rS hc) (shapeCast S1x32x128 L.dr shapeCasts_S32x128_S1x32x128) := by
  simp only [halfB, rows3, bind_eq, bind_bind, ret_bind, pure_bind', ev_st, ev_ld, ev_pure, Function.update_self, Function.update_of_ne, ne_eq, reduceCtorEq, not_false_eq_true]
theorem halfB_30 : (ev (halfB L t hk hb hc) s).2 .a30 = upd (s .a30) (rX t hk hb) (shapeCast S1x32x128 L.dxh shapeCasts_S32x128_S1x32x128) := by
  simp only [halfB, rows3, bind_eq, bind_bind, ret_bind, pure_bind', ev_st, ev_ld, ev_pure, Function.update_self, Function.update_of_ne, ne_eq, reduceCtorEq, not_false_eq_true]
/-- Four groups of eight rows stored at a stride. -/
def four (X : S800x128.Idx → EReal) (v : FVec Ideal S32x128 .f32) : S800x128.Idx → EReal :=
  upd (upd (upd (upd X (rR (j := 0) (by omega) hc) (shapeCast S8x128 (extractStridedSlice S8x128 ![0 * 8, 0] v slices_S32x128_o0_0_S8x128) shapeCasts_S8x128_S8x128))
    (rR (j := 1) (by omega) hc) (shapeCast S8x128 (extractStridedSlice S8x128 ![1 * 8, 0] v slices_S32x128_o8_0_S8x128) shapeCasts_S8x128_S8x128))
    (rR (j := 2) (by omega) hc) (shapeCast S8x128 (extractStridedSlice S8x128 ![2 * 8, 0] v slices_S32x128_o16_0_S8x128) shapeCasts_S8x128_S8x128))
    (rR (j := 3) (by omega) hc) (shapeCast S8x128 (extractStridedSlice S8x128 ![3 * 8, 0] v slices_S32x128_o24_0_S8x128) shapeCasts_S8x128_S8x128)
theorem halfB_23 : (ev (halfB L t hk hb hc) s).2 .a23 = four hc (s .a23) L.gr := by
  simp only [halfB, rows3, bind_eq, bind_bind, ret_bind, pure_bind', ev_st, ev_ld, ev_pure, Function.update_self, Function.update_of_ne, ne_eq, reduceCtorEq, not_false_eq_true]; rfl
theorem halfB_24 : (ev (halfB L t hk hb hc) s).2 .a24 = four hc (s .a24) L.a := by
  simp only [halfB, rows3, bind_eq, bind_bind, ret_bind, pure_bind', ev_st, ev_ld, ev_pure, Function.update_self, Function.update_of_ne, ne_eq, reduceCtorEq, not_false_eq_true]; rfl
theorem halfB_25 : (ev (halfB L t hk hb hc) s).2 .a25 = four hc (s .a25) L.bt := by
  simp only [halfB, rows3, bind_eq, bind_bind, ret_bind, pure_bind', ev_st, ev_ld, ev_pure, Function.update_self, Function.update_of_ne, ne_eq, reduceCtorEq, not_false_eq_true]; rfl
end

theorem four_at {X : S800x128.Idx → EReal} {G : ℕ → ℕ → ℕ → EReal} {R : ℕ → Prop} {p T0 : ℕ}
    (h : ∀ y : S800x128.Idx, (y 0).val % 25 < 24 → R ((y 0).val % 25) → X y = G (2 * p + (y 0).val % 25 / 12) (T0 + (y 0).val / 25) ((y 0).val % 25 % 12 * 128 + (y 1).val))
    {k bb : ℕ} (hk : k < 12) (hb : bb < 2) (hc : bb * 12 + k < 24) {v : FVec Ideal S32x128 .f32}
    (hv : ∀ x : S32x128.Idx, v x = G (2 * p + bb) (T0 + (x 0).val) (k * 128 + (x 1).val)) :
    ∀ y : S800x128.Idx, (y 0).val % 25 < 24 → (R ((y 0).val % 25) ∨ (y 0).val % 25 = bb * 12 + k) →
      four hc X v y = G (2 * p + (y 0).val % 25 / 12) (T0 + (y 0).val / 25) ((y 0).val % 25 % 12 * 128 + (y 1).val) := by
  intro y h24 hy
  have y0 : (y 0).val < 800 := (y 0).2
  have hq := fun (j : ℕ) (hs : S32x128.Slices ![j * 8, 0] S8x128) (x : S8x128.Idx) => slc_at (F := fun a l => G (2 * p + bb) (T0 + a) (k * 128 + l)) hv hs x
  have h' : ∀ y : S800x128.Idx, (y 0).val % 25 < 24 → (fun n => R (n % 25)) (y 0).val → X y = G (2 * p + (y 0).val % 25 / 12) (T0 + (y 0).val / 25) ((y 0).val % 25 % 12 * 128 + (y 1).val) := h
  have h1 := upd_rR (R := fun n => R (n % 25)) h' hk hb (j := 0) (by omega) hc (hq 0 slices_S32x128_o0_0_S8x128)
  have h2 := upd_rR (R := fun n => R (n % 25) ∨ n % 25 = bb * 12 + k ∧ n / 200 = 0) h1 hk hb (j := 1) (by omega) hc (hq 1 slices_S32x128_o8_0_S8x128)
  have h3 := upd_rR (R := fun n => (R (n % 25) ∨ n % 25 = bb * 12 + k ∧ n / 200 = 0) ∨ n % 25 = bb * 12 + k ∧ n / 200 = 1) h2 hk hb (j := 2) (by omega) hc (hq 2 slices_S32x128_o16_0_S8x128)
  refine upd_rR (R := fun n => ((R (n % 25) ∨ n % 25 = bb * 12 + k ∧ n / 200 = 0) ∨ n % 25 = bb * 12 + k ∧ n / 200 = 1) ∨ n % 25 = bb * 12 + k ∧ n / 200 = 2) h3 hk hb (j := 3) (by omega) hc (hq 3 slices_S32x128_o24_0_S8x128) y h24 ?_
  rcases hy with hy | hy
  · exact .inl (.inl (.inl (.inl hy)))
  · rcases (by omega : (y 0).val / 200 = 0 ∨ (y 0).val / 200 = 1 ∨ (y 0).val / 200 = 2 ∨ (y 0).val / 200 = 3) with e | e | e | e
    · exact .inl (.inl (.inl (.inr ⟨hy, e⟩)))
    · exact .inl (.inl (.inr ⟨hy, e⟩))
    · exact .inl (.inr ⟨hy, e⟩)
    · exact .inr ⟨hy, e⟩

theorem lead {v : FVec Ideal S32x128 .f32} {F : ℕ → ℕ → EReal} (hv : ∀ y : S32x128.Idx, v y = F (y 0).val (y 1).val) (x : S1x32x128.Idx) :
    shapeCast S1x32x128 v shapeCasts_S32x128_S1x32x128 x = F (x 1).val (x 2).val := by
  pointwise [hv]

theorem halfB_P1 {L : Ld} {t : Fin k0_t1_loop.trips} {k bb : ℕ} (hk : k < 12) (hb : bb < 2) (hc : bb * 12 + k < 24)
    (hL : L.Is I (2 * p + bb) (96 - 32 * t.val) (k * 128)) {R : ℕ → Prop} (h : P1 I p t R s) :
    P1 I p t (fun c => R c ∨ c = bb * 12 + k) (ev (halfB L t hk hb hc) s).2 := by
  constructor
  · rw [halfB_27]; exact upd_rS h.om hk hb hc (lead (F := fun a l => I.om _ (_ + a) (_ + l)) (Ld.om_at hL))
  · rw [halfB_28]; exact upd_rS h.xf hk hb hc (lead (F := fun a l => I.xf _ (_ + a) (_ + l)) (Ld.xf_at hL))
  · rw [halfB_29]; exact upd_rS h.dr hk hb hc (lead (F := fun a l => I.dr _ (_ + a) (_ + l)) (Ld.dr_at hL))
  · rw [halfB_30]; exact upd_rX t h.dxh hk hb (lead (F := fun a l => I.dxh _ (_ + a) (_ + l)) (Ld.dxh_at hL))
  · rw [halfB_23]; exact four_at h.gr hk hb hc (Ld.gr_at hL)
  · rw [halfB_24]; exact four_at h.a hk hb hc (Ld.a_at hL)
  · rw [halfB_25]; exact four_at h.bt hk hb hc (Ld.bt_at hL)

end Cert.Body
-- ==== Proof.Chunk.lean ====
/- Phase 1 on all columns of a block. -/
module

public import proofs.«01_k».proof.Proof.Half

@[expose] public section
noncomputable section

namespace Cert.Body
open Cert.Mem hiding Cmd ld st PR
open Cert.Spec Cert.KernelIdeal Cert.KernelIdeal.Gen Idealize.ShloMosaic Idealize.SL.Sem

variable {I : In} {p : ℕ} {s : SI}

/-- The accumulator, each column of each sum at its own stage. -/
def Acc (I : In) (σ : ℕ → ℕ → ℕ) (s : SI) : Prop := ∀ y : S4x8x1536.Idx, s .a33 y = I.acc (y 0).val (y 1).val (y 2).val (σ (y 0).val (y 2).val)

theorem Lay.keep {s' : SI} (h : Lay I p s) (h20 : s' .a20 = s .a20) (h21 : s' .a21 = s .a21) : Lay I p s' :=
  ⟨by rw [h20]; exact h.c, by rw [h21]; exact h.g⟩

theorem P1.mono {t : Fin k0_t1_loop.trips} {R R' : ℕ → Prop} (h : P1 I p t R s) (hR : ∀ c, c < 24 → R' c → R c) : P1 I p t R' s where
  om y hy := h.om y (hR _ (y 0).2 hy)
  xf y hy := h.xf y (hR _ (y 0).2 hy)
  dr y hy := h.dr y (hR _ (y 0).2 hy)
  dxh y hy := h.dxh y (hy.imp id (And.imp id (hR _ (by have h0 : (y 0).val < 2 := (y 0).2; have h2 : (y 2).val < 1536 := (y 2).2; omega))))
  gr y h24 hy := h.gr y h24 (hR _ h24 hy)
  a y h24 hy := h.a y h24 (hR _ h24 hy)
  bt y h24 hy := h.bt y h24 (hR _ h24 hy)

theorem P1.keep {t : Fin k0_t1_loop.trips} {R : ℕ → Prop} {s' : SI} (h : P1 I p t R s) (h23 : s' .a23 = s .a23) (h24 : s' .a24 = s .a24) (h25 : s' .a25 = s .a25)
    (h27 : s' .a27 = s .a27) (h28 : s' .a28 = s .a28) (h29 : s' .a29 = s .a29) (h30 : s' .a30 = s .a30) : P1 I p t R s' :=
  ⟨by rw [h27]; exact h.om, by rw [h28]; exact h.xf, by rw [h29]; exact h.dr, by rw [h30]; exact h.dxh, by rw [h23]; exact h.gr, by rw [h24]; exact h.a, by rw [h25]; exact h.bt⟩

/-- The buffers phase 1's chunks store to. -/
def w1 : Bf → Bool
  | .a23 | .a24 | .a25 | .a27 | .a28 | .a29 | .a30 => true
  | _ => false
/-- The accumulator alone. -/
def wA : Bf → Bool
  | .a33 => true
  | _ => false

theorem half_only (t : Fin k0_t1_loop.trips) (vf vr : FVec Ideal S1x128 .f32) (b0 b1 : Vec Ideal S1x128 .f32) {k bb : ℕ} (hk : k < 12) (hb : bb < 2) (hc : bb * 12 + k < 24) :
    Only w1 (half t vf vr b0 b1 hk hb hc) := by
  unfold half rows3
  repeat' (first | exact Only.pure _ | exact Only.st _ _ _ _ _ _ rfl | exact Only.ld _ _ _ | refine Only.bind' ?_ fun _ => ?_)

theorem bump_only {k r : ℕ} (hk : k < 12) (hr : r < 4) (v : FVec Ideal S8x128 .f32) : Only wA (bump hk hr v) := by
  unfold bump
  repeat' (first | exact Only.pure _ | exact Only.st _ _ _ _ _ _ rfl | exact Only.ld _ _ _ | refine Only.bind' ?_ fun _ => ?_)

theorem bump_33 {k r : ℕ} (hk : k < 12) (hr : r < 4) (v : FVec Ideal S8x128 .f32) (s : SI) :
    (ev (bump hk hr v) s).2 .a33 = upd (s .a33) (rA hk hr) (shapeCast S1x8x128 (addf (shapeCast S8x128 (fun x => s .a33 ((rA hk hr).toLoadRect.idx x)) shapeCasts_S1x8x128_S8x128) v) shapeCasts_S8x128_S1x8x128) := by
  simp only [bump, bind_eq]; rfl

theorem bump_at {v1 : S1x8x128.Idx → EReal} {v : FVec Ideal S8x128 .f32} {F G : ℕ → ℕ → EReal} (h1 : ∀ x : S1x8x128.Idx, v1 x = F (x 1).val (x 2).val)
    (hv : ∀ x : S8x128.Idx, v x = G (x 0).val (x 1).val) (x : S1x8x128.Idx) :
    shapeCast S1x8x128 (addf (shapeCast S8x128 (v1 : FVec Ideal S1x8x128 .f32) shapeCasts_S1x8x128_S8x128) v) shapeCasts_S8x128_S1x8x128 x = F (x 1).val (x 2).val + G (x 1).val (x 2).val := by
  pointwise [h1, hv]

/-- Adding to one column block of one sum moves its stage on. -/
theorem bump_acc {σ σ' : ℕ → ℕ → ℕ} (h : Acc I σ s) {k q : ℕ} (hk : k < 12) (hq : q < 4) {v : FVec Ideal S8x128 .f32} {G : ℕ → ℕ → EReal} (hv : ∀ x : S8x128.Idx, v x = G (x 0).val (x 1).val)
    (h1 : ∀ i l, i < 8 → l < 128 → I.acc q i (k * 128 + l) (σ q (k * 128 + l)) + G i l = I.acc q i (k * 128 + l) (σ' q (k * 128 + l)))
    (h2 : ∀ q' d, q' < 4 → d < 1536 → ¬ (q' = q ∧ d / 128 = k) → σ' q' d = σ q' d) : Acc I σ' (ev (bump hk hq v) s).2 := by
  intro y
  rw [bump_33]
  have y2 : (y 2).val < 1536 := (y 2).2
  refine upd_ag (W := fun y : S4x8x1536.Idx => ¬ ((y 0).val = q ∧ (y 2).val / 128 = k)) (f := fun y : S4x8x1536.Idx => I.acc (y 0).val (y 1).val (y 2).val (σ' (y 0).val (y 2).val))
    (fun y hy => (h y).trans (by rw [h2 _ _ (y 0).2 (y 2).2 hy])) (fun x => ?_) y ?_
  · have h0 : (x 0).val < 1 := (x 0).2
    refine (bump_at (F := fun i l => I.acc q i (k * 128 + l) (σ q (k * 128 + l))) (fun x => ?_) hv x).trans ?_
    · have h0 : (x 0).val < 1 := (x 0).2
      refine (h _).trans ?_
      have e0 : q + 1 * (x 0).val = q := by omega
      have e1 : 0 + 1 * (x 1).val = (x 1).val := by omega
      have e2 : k * 128 + 1 * (x 2).val = k * 128 + (x 2).val := by omega
      show I.acc (q + 1 * (x 0).val) (0 + 1 * (x 1).val) (k * 128 + 1 * (x 2).val) (σ (q + 1 * (x 0).val) (k * 128 + 1 * (x 2).val)) = _
      rw [e0, e1, e2]
    · rw [h1 _ _ (x 1).2 (x 2).2]
      have e0 : q + 1 * (x 0).val = q := by omega
      have e1 : 0 + 1 * (x 1).val = (x 1).val := by omega
      have e2 : k * 128 + 1 * (x 2).val = k * 128 + (x 2).val := by omega
      show _ = I.acc (q + 1 * (x 0).val) (0 + 1 * (x 1).val) (k * 128 + 1 * (x 2).val) (σ' (q + 1 * (x 0).val) (k * 128 + 1 * (x 2).val))
      rw [e0, e1, e2]
  · by_cases e : (y 0).val = q ∧ (y 2).val / 128 = k
    · refine .inr (mem_rect _ y fun a => ?_)
      fin_cases a
      · exact ⟨0, Nat.one_pos, e.1⟩
      · exact ⟨(y 1).val, (y 1).2, by show (y 1).val = 0 + 1 * (y 1).val; omega⟩
      · exact ⟨(y 2).val - k * 128, by show (y 2).val - k * 128 < 128; omega, by show (y 2).val = k * 128 + 1 * ((y 2).val - k * 128); omega⟩
    · exact .inl e

/-- Phase 1's invariant, before chunk `k`. -/
structure J1 (I : In) (p : ℕ) (t : Fin k0_t1_loop.trips) (k : ℕ) (s : SI) : Prop where
  kin : Kin I p s
  lay : Lay I p s
  p1 : P1 I p t (fun c => c % 12 < k) s
  acc : Acc I (fun q d => 8 * p + 2 * t.val + if q % 2 = 1 ∧ d / 128 < k then 2 else 0) s

/-- Two half blocks at once. -/
theorem acc_two (I : In) (q i d p : ℕ) {t : ℕ} (ht : t < 4) :
    I.acc q i d (8 * p + 2 * t) + (I.sum4 q (2 * p + 0) (96 - 32 * t) i d + I.sum4 q (2 * p + 1) (96 - 32 * t) i d) = I.acc q i d (8 * p + 2 * t + 2) := by
  rw [← add_assoc]
  show _ = I.acc q i d (8 * p + 2 * t) + I.sum4 q (2 * ((8 * p + 2 * t) / 8) + (8 * p + 2 * t) % 2) (96 - 32 * ((8 * p + 2 * t) % 8 / 2)) i d
    + I.sum4 q (2 * ((8 * p + 2 * t + 1) / 8) + (8 * p + 2 * t + 1) % 2) (96 - 32 * ((8 * p + 2 * t + 1) % 8 / 2)) i d
  rw [show 2 * ((8 * p + 2 * t) / 8) + (8 * p + 2 * t) % 2 = 2 * p + 0 by omega, show (8 * p + 2 * t) % 8 / 2 = t by omega,
    show 2 * ((8 * p + 2 * t + 1) / 8) + (8 * p + 2 * t + 1) % 2 = 2 * p + 1 by omega, show (8 * p + 2 * t + 1) % 8 / 2 = t by omega]

theorem Ld.vcp_at {L : Ld} {b t0 d0 : ℕ} (h : L.Is I b t0 d0) (y : S32x128.Idx) : L.vcp y = I.cx b (t0 + (y 0).val) (d0 + (y 1).val) := by
  unfold Ld.vcp; pointwise; exact h.cp _

/-- One half chunk: what it returns, and what it keeps. -/
theorem half_J {t : Fin k0_t1_loop.trips} {vf vr : FVec Ideal S1x128 .f32} {b0 b1 : Vec Ideal S1x128 .f32} {k bb : ℕ} (hk : k < 12) (hb : bb < 2) (hc : bb * 12 + k < 24)
    (kin : Kin I p s) (lay : Lay I p s) {R : ℕ → Prop} (h : P1 I p t R s)
    (evf : ∀ y : S1x128.Idx, vf y = I.vf (k * 128 + (y 1).val)) (evr : ∀ y : S1x128.Idx, vr y = I.vr (k * 128 + (y 1).val))
    (eb0 : ∀ y : S1x128.Idx, b0 y = I.b 0 (k * 128 + (y 1).val)) (eb1 : ∀ y : S1x128.Idx, b1 y = I.b 1 (k * 128 + (y 1).val)) :
    (Kin I p (ev (half t vf vr b0 b1 hk hb hc) s).2 ∧ Lay I p (ev (half t vf vr b0 b1 hk hb hc) s).2 ∧ P1 I p t (fun c => R c ∨ c = bb * 12 + k) (ev (half t vf vr b0 b1 hk hb hc) s).2)
    ∧ (∀ x : S8x128.Idx, (ev (half t vf vr b0 b1 hk hb hc) s).1.1 x = I.sum4 1 (2 * p + bb) (96 - 32 * t.val) (x 0).val (k * 128 + (x 1).val))
    ∧ (∀ x : S8x128.Idx, (ev (half t vf vr b0 b1 hk hb hc) s).1.2 x = I.sum4 3 (2 * p + bb) (96 - 32 * t.val) (x 0).val (k * 128 + (x 1).val))
    ∧ (ev (half t vf vr b0 b1 hk hb hc) s).2 .a33 = s .a33 := by
  have o := half_only t vf vr b0 b1 hk hb hc
  refine ⟨⟨kin.ev _, lay.keep (o.keep rfl s) (o.keep rfl s), ?_⟩, ?_, ?_, o.keep rfl s⟩ <;> rw [half_ev] <;> have L := ldOf_is kin lay t vf vr b0 b1 hk hb hc evf evr eb0 eb1
  · exact halfB_P1 hk hb hc L h
  · intro x; rw [halfB_1]
    refine Ld.sum8_at (F := fun i l => I.term 1 (2 * p + bb) (96 - 32 * t.val + i) (k * 128 + l)) _ _ (fun y => ?_)
    exact congrArg₂ (fun a b : EReal => a * b) (Ld.dr_at L y) (Ld.vcp_at L y)
  · intro x; rw [halfB_1]
    exact Ld.sum8_at (F := fun i l => I.term 3 (2 * p + bb) (96 - 32 * t.val + i) (k * 128 + l)) _ _ (fun y => Ld.dr_at L y)

theorem Acc.keep {σ : ℕ → ℕ → ℕ} {s' : SI} (h : Acc I σ s) (e : s' .a33 = s .a33) : Acc I σ s' := by rw [Acc, e]; exact h

/-- The two sums added to the accumulator, after both half chunks. -/
theorem tail1 {t : Fin k0_t1_loop.trips} {k : ℕ} (hk : k < 12) (k2 : Kin I p s) (l2 : Lay I p s) (p2 : P1 I p t (fun c => (c % 12 < k ∨ c = 0 * 12 + k) ∨ c = 1 * 12 + k) s)
    (hA : Acc I (fun q d => 8 * p + 2 * t.val + if q % 2 = 1 ∧ d / 128 < k then 2 else 0) s) {u1 u3 : FVec Ideal S8x128 .f32}
    (hu1 : ∀ x : S8x128.Idx, u1 x = I.sum4 1 (2 * p + 0) (96 - 32 * t.val) (x 0).val (k * 128 + (x 1).val) + I.sum4 1 (2 * p + 1) (96 - 32 * t.val) (x 0).val (k * 128 + (x 1).val))
    (hu3 : ∀ x : S8x128.Idx, u3 x = I.sum4 3 (2 * p + 0) (96 - 32 * t.val) (x 0).val (k * 128 + (x 1).val) + I.sum4 3 (2 * p + 1) (96 - 32 * t.val) (x 0).val (k * 128 + (x 1).val)) :
    J1 I p t (k + 1) (ev (bump hk (r := 3) (by omega) u3) (ev (bump hk (r := 1) (by omega) u1) s).2).2 := by
  have ht : t.val < 4 := t.2
  have b1' := bump_acc (σ' := fun q d => 8 * p + 2 * t.val + if q % 2 = 1 ∧ d / 128 < (if q = 1 then k + 1 else k) then 2 else 0) hA hk (q := 1) (by omega) (v := u1)
    (G := fun i l => I.sum4 1 (2 * p + 0) (96 - 32 * t.val) i (k * 128 + l) + I.sum4 1 (2 * p + 1) (96 - 32 * t.val) i (k * 128 + l))
    hu1
    (fun i l hi hl => by
      have e1 : ¬ (1 % 2 = 1 ∧ (k * 128 + l) / 128 < k) := by omega
      have e2 : (1 % 2 = 1 ∧ (k * 128 + l) / 128 < if 1 = 1 then k + 1 else k) := by rw [if_pos rfl]; omega
      beta_reduce; rw [if_neg e1, if_pos e2]; exact acc_two I 1 i _ p ht)
    (fun q d hq hd hn => by
      congr 1; refine if_congr ?_ rfl rfl
      split <;> omega)
  have b3' := bump_acc (σ' := fun q d => 8 * p + 2 * t.val + if q % 2 = 1 ∧ d / 128 < k + 1 then 2 else 0) b1' hk (q := 3) (by omega) (v := u3)
    (G := fun i l => I.sum4 3 (2 * p + 0) (96 - 32 * t.val) i (k * 128 + l) + I.sum4 3 (2 * p + 1) (96 - 32 * t.val) i (k * 128 + l))
    hu3
    (fun i l hi hl => by
      have e1 : ¬ (3 % 2 = 1 ∧ (k * 128 + l) / 128 < if 3 = 1 then k + 1 else k) := by rw [if_neg (by omega)]; omega
      have e2 : (3 % 2 = 1 ∧ (k * 128 + l) / 128 < k + 1) := by omega
      beta_reduce; rw [if_neg e1, if_pos e2]; exact acc_two I 3 i _ p ht)
    (fun q d hq hd hn => by
      congr 1; refine if_congr ?_ rfl rfl
      split <;> omega)
  have o1 := bump_only hk (r := 1) (by omega) (u1)
  have o3 := bump_only hk (r := 3) (by omega) (u3)
  refine ⟨?_, ?_, ?_, b3'⟩
  · exact (k2.ev _).ev _
  · exact (l2.keep (o1.keep rfl _) (o1.keep rfl _)).keep (o3.keep rfl _) (o3.keep rfl _)
  · have q1 := p2.keep (o1.keep rfl _) (o1.keep rfl _) (o1.keep rfl _) (o1.keep rfl _) (o1.keep rfl _) (o1.keep rfl _) (o1.keep rfl _)
    have q3 := q1.keep (o3.keep rfl _) (o3.keep rfl _) (o3.keep rfl _) (o3.keep rfl _) (o3.keep rfl _) (o3.keep rfl _) (o3.keep rfl _)
    refine q3.mono fun c hc hk => ?_
    rcases (by omega : c % 12 < k ∨ c = 0 * 12 + k ∨ c = 1 * 12 + k) with e | e | e
    exacts [.inl (.inl e), .inl (.inr e), .inr e]

/-- A chunk of phase 1, step by step. -/
theorem chunk1_ev (t : Fin k0_t1_loop.trips) {k : ℕ} (hk : k < 12) (s : SI) : ∃ (vf vr : FVec Ideal S1x128 .f32) (b0 b1 : Vec Ideal S1x128 .f32),
    (vf = shapeCast S1x128 (fun x => s .a4 ((rV hk).toLoadRect.idx x)) shapeCasts_S1x128_S1x128) ∧ (vr = shapeCast S1x128 (fun x => s .a5 ((rV hk).toLoadRect.idx x)) shapeCasts_S1x128_S1x128)
    ∧ (b0 = fun x : S1x128.Idx => s .a6 ((rB hk (r := 0) (by omega)).toLoadRect.idx x)) ∧ (b1 = fun x : S1x128.Idx => s .a6 ((rB hk (r := 1) (by omega)).toLoadRect.idx x))
    ∧ ∀ A, A = ev (half t vf vr b0 b1 (bb := 0) hk (by omega) (by omega)) s → ∀ B, B = ev (half t vf vr b0 b1 (bb := 1) hk (by omega) (by omega)) A.2 →
      (ev (chunk1 t hk) s).2 = (ev (bump hk (r := 3) (by omega) (addf A.1.2 B.1.2)) (ev (bump hk (r := 1) (by omega) (addf A.1.1 B.1.1)) B.2).2).2 := by
  refine ⟨_, _, _, _, rfl, rfl, rfl, rfl, ?_⟩
  rintro A rfl B rfl
  have e (vf vr : FVec Ideal S1x128 .f32) (b0 b1 : Vec Ideal S1x128 .f32) : ev ((half t vf vr b0 b1 (bb := 0) hk (by omega) (by omega)).bind fun s0 => (half t vf vr b0 b1 (bb := 1) hk (by omega) (by omega)).bind fun s1 =>
      (bump hk (r := 1) (by omega) (addf s0.1 s1.1)).bind fun _ => bump hk (r := 3) (by omega) (addf s0.2 s1.2)) s
      = ev (bump hk (r := 3) (by omega) (addf (ev (half t vf vr b0 b1 (bb := 0) hk (by omega) (by omega)) s).1.2 (ev (half t vf vr b0 b1 (bb := 1) hk (by omega) (by omega)) (ev (half t vf vr b0 b1 (bb := 0) hk (by omega) (by omega)) s).2).1.2))
        (ev (bump hk (r := 1) (by omega) (addf (ev (half t vf vr b0 b1 (bb := 0) hk (by omega) (by omega)) s).1.1 (ev (half t vf vr b0 b1 (bb := 1) hk (by omega) (by omega)) (ev (half t vf vr b0 b1 (bb := 0) hk (by omega) (by omega)) s).2).1.1))
          (ev (half t vf vr b0 b1 (bb := 1) hk (by omega) (by omega)) (ev (half t vf vr b0 b1 (bb := 0) hk (by omega) (by omega)) s).2).2).2 := by rw [ev_bind, ev_bind, ev_bind]
  unfold chunk1
  exact congrArg Prod.snd ((ev_ld .a4 (rV hk).toLoadRect h_S1x128 _ s).trans ((ev_ld .a5 (rV hk).toLoadRect h_S1x128 _ s).trans
    ((ev_ld .a6 (rB hk (r := 0) (by omega)).toLoadRect h_S1x128 _ s).trans ((ev_ld .a6 (rB hk (r := 1) (by omega)).toLoadRect h_S1x128 _ s).trans (e _ _ _ _)))))

theorem chunk1_J1 {t : Fin k0_t1_loop.trips} {k : ℕ} (hk : k < 12) (h : J1 I p t k s) : J1 I p t (k + 1) (ev (chunk1 t hk) s).2 := by
  obtain ⟨vf, vr, b0, b1, hvf, hvr, hb0, hb1, hs⟩ := chunk1_ev t hk s
  have evf : ∀ y : S1x128.Idx, vf y = I.vf (k * 128 + (y 1).val) := fun y => by
    rw [hvf]; pointwise; exact h.kin.vf _
  have evr : ∀ y : S1x128.Idx, vr y = I.vr (k * 128 + (y 1).val) := fun y => by
    rw [hvr]; pointwise; exact h.kin.vr _
  have eb0 : ∀ y : S1x128.Idx, b0 y = I.b 0 (k * 128 + (y 1).val) := fun y => by
    have y0 : (y 0).val < 1 := (y 0).2
    rw [hb0]; exact (h.kin.b _).trans (congrArg₂ I.b (by show 0 + 1 * (y 0).val = _; omega) (by show k * 128 + 1 * (y 1).val = _; omega))
  have eb1 : ∀ y : S1x128.Idx, b1 y = I.b 1 (k * 128 + (y 1).val) := fun y => by
    have y0 : (y 0).val < 1 := (y 0).2
    rw [hb1]; exact (h.kin.b _).trans (congrArg₂ I.b (by show 1 + 1 * (y 0).val = _; omega) (by show k * 128 + 1 * (y 1).val = _; omega))
  have H1 := half_J hk (bb := 0) (by omega) (by omega) h.kin h.lay h.p1 evf evr eb0 eb1
  generalize eA : ev (half t vf vr b0 b1 (bb := 0) hk (by omega) (by omega)) s = A at H1
  have H2 := half_J hk (bb := 1) (by omega) (by omega) H1.1.1 H1.1.2.1 H1.1.2.2 evf evr eb0 eb1
  generalize eB : ev (half t vf vr b0 b1 (bb := 1) hk (by omega) (by omega)) A.2 = B at H2
  rw [hs A eA.symm B eB.symm]
  exact tail1 hk H2.1.1 H2.1.2.1 H2.1.2.2 ((h.acc.keep H1.2.2.2).keep H2.2.2.2) (fun x => congrArg₂ (fun a b : EReal => a + b) (H1.2.1 x) (H2.2.1 x))
    (fun x => congrArg₂ (fun a b : EReal => a + b) (H1.2.2.1 x) (H2.2.2.1 x))

end Cert.Body
-- ==== Proof.Scan.lean ====
/- Phases 1 and 2 of a block: all columns, then the scan. -/
module

public import proofs.«01_k».proof.Proof.Chunk

@[expose] public section
noncomputable section

namespace Cert.Body
open Cert.Mem hiding Cmd ld st PR
open Cert.Spec Cert.KernelIdeal Cert.KernelIdeal.Gen Idealize.ShloMosaic Idealize.SL.Sem

variable {I : In} {p : ℕ} {s : SI}

theorem Only.mono {W W' : Bf → Bool} (hW : ∀ b, W b = true → W' b = true) {α : Type} {c : Cmd Ideal α} (h : Only W c) : Only W' c := by
  induction c with
  | ret a => trivial
  | op e k ih =>
    refine ⟨?_, fun x => ih x (h.2 x)⟩
    have := h.1
    cases e with
    | ld b r h' => trivial
    | st b ho r h' v hx => exact hW _ this

/-- The buffers phases 1 and 2 store to. -/
def w2 : Bf → Bool
  | .a23 | .a24 | .a25 | .a26 | .a27 | .a28 | .a29 | .a30 | .a32 | .a33 => true
  | _ => false

/-- Two states that agree on the other buffers. -/
def Same (W : Bf → Bool) (s0 s : SI) : Prop := ∀ b, W b = false → s b = s0 b

theorem Same.ev {W : Bf → Bool} {s0 : SI} (h : Same W s0 s) {α : Type} {c : Cmd Ideal α} (o : Only W c) : Same W s0 (ev c s).2 :=
  fun b hb => (o.keep hb s).trans (h b hb)

theorem chunk1_only (t : Fin k0_t1_loop.trips) {k : ℕ} (hk : k < 12) : Only w2 (chunk1 (F := Ideal) t hk) := by
  unfold chunk1
  have h1 : ∀ b, w1 b = true → w2 b = true := by intro b; cases b <;> decide
  have hA : ∀ b, wA b = true → w2 b = true := by intro b; cases b <;> decide
  repeat' (first | exact Only.mono h1 (half_only _ _ _ _ _ _ _ _) | exact Only.mono hA (bump_only _ _ _) | exact Only.ld _ _ _ | refine Only.bind' ?_ fun _ => ?_)

/-- The buffers phase 1 stores to. -/
def w1A : Bf → Bool
  | .a23 | .a24 | .a25 | .a27 | .a28 | .a29 | .a30 | .a33 => true
  | _ => false
theorem chunk1_only32 (t : Fin k0_t1_loop.trips) {k : ℕ} (hk : k < 12) : Only w1A (chunk1 (F := Ideal) t hk) := by
  unfold chunk1
  have h1 : ∀ b, w1 b = true → w1A b = true := by intro b; cases b <;> decide
  have hA : ∀ b, wA b = true → w1A b = true := by intro b; cases b <;> decide
  repeat' (first | exact Only.mono h1 (half_only _ _ _ _ _ _ _ _) | exact Only.mono hA (bump_only _ _ _) | exact Only.ld _ _ _ | refine Only.bind' ?_ fun _ => ?_)

/-- The scan's carries, each row at its own step. -/
def Car (I : In) (τ : ℕ → ℕ) (s : SI) : Prop := ∀ y : S144x128.Idx, s .a32 y = I.dc ((y 0).val / 12) ((y 0).val % 12 * 128 + (y 1).val) (τ (y 0).val)
/-- The state's gradients of a block, on some rows. -/
def Dct (I : In) (p : ℕ) (t : Fin k0_t1_loop.trips) (R : ℕ → Prop) (s : SI) : Prop :=
  ∀ y : S800x128.Idx, R (y 0).val → s .a26 y = I.dct (2 * p + (y 0).val % 25 / 12) (96 - 32 * t.val + (y 0).val / 25) ((y 0).val % 25 % 12 * 128 + (y 1).val)

theorem scanStep_ev {j q : ℕ} (hj : j < 3) (hq : q < 32) (dc : FVec Ideal S8x128 .f32) (s : SI) :
    ev (scanStep hj hq dc) s = (addf (mulf (addf (fun x => s .a23 ((rRow hq hj).toLoadRect.idx x)) dc) (fun x => s .a24 ((rRow hq hj).toLoadRect.idx x)) : FVec Ideal S8x128 .f32) (fun x => s .a25 ((rRow hq hj).toLoadRect.idx x)),
      Function.update s .a26 (upd (s .a26) (rRow hq hj) (shapeCast S8x128 (addf (fun x => s .a23 ((rRow hq hj).toLoadRect.idx x)) dc : FVec Ideal S8x128 .f32) shapeCasts_S8x128_S8x128))) := by
  simp only [scanStep, bind_eq]; rfl

/-- The scan of a block's rows, step by step. -/
structure JS (I : In) (p : ℕ) (t : Fin k0_t1_loop.trips) (j : ℕ) (s0 : SI) (k : ℕ) (dc : FVec Ideal S8x128 .f32) (s : SI) : Prop where
  keep : ∀ b, b ≠ .a26 → s b = s0 b
  dct : Dct I p t (fun n => n % 25 / 8 < j ∨ n % 25 / 8 = j ∧ n % 25 < 24 ∧ 31 - n / 25 < k) s
  dc : ∀ x : S8x128.Idx, dc x = I.dc (2 * p + (8 * j + (x 0).val) / 12) ((8 * j + (x 0).val) % 12 * 128 + (x 1).val) (32 * t.val + k)

theorem scanStep_JS {t : Fin k0_t1_loop.trips} {j k : ℕ} (hj : j < 3) (hk : k < 32) {s0 : SI} (h0 : P1 I p t (fun _ => True) s0) {dc : FVec Ideal S8x128 .f32} (h : JS I p t j s0 k dc s) :
    JS I p t j s0 (k + 1) (ev (scanStep hj (q := 31 - k) (by omega) dc) s).1 (ev (scanStep hj (q := 31 - k) (by omega) dc) s).2 := by
  have ht : t.val < 4 := t.2
  rw [scanStep_ev]
  have ld (b : Bf) (hb : b ≠ .a26) := h.keep b hb
  have row (G : ℕ → ℕ → ℕ → EReal) (X : S800x128.Idx → EReal)
      (hX : ∀ y : S800x128.Idx, (y 0).val % 25 < 24 → True → X y = G (2 * p + (y 0).val % 25 / 12) (96 - 32 * t.val + (y 0).val / 25) ((y 0).val % 25 % 12 * 128 + (y 1).val)) (x : S8x128.Idx) :
      X ((rRow (q := 31 - k) (by omega) hj).toLoadRect.idx x) = G (2 * p + (8 * j + (x 0).val) / 12) (127 - (32 * t.val + k)) ((8 * j + (x 0).val) % 12 * 128 + (x 1).val) := by
    have x0 : (x 0).val < 8 := (x 0).2
    have e0 : ((31 - k) * 25 + 8 * j + 1 * (x 0).val) % 25 = 8 * j + (x 0).val := by omega
    have e1 : ((31 - k) * 25 + 8 * j + 1 * (x 0).val) / 25 = 31 - k := by omega
    refine (hX _ (by show ((31 - k) * 25 + 8 * j + 1 * (x 0).val) % 25 < 24; omega) trivial).trans ?_
    show G (2 * p + ((31 - k) * 25 + 8 * j + 1 * (x 0).val) % 25 / 12) (96 - 32 * t.val + ((31 - k) * 25 + 8 * j + 1 * (x 0).val) / 25) (((31 - k) * 25 + 8 * j + 1 * (x 0).val) % 25 % 12 * 128 + (0 + 1 * (x 1).val)) = _
    rw [e0, e1]
    congr 1 <;> omega
  have hg := row I.gr (s .a23) (by rw [ld .a23 (by decide)]; exact h0.gr)
  have ha := row I.a (s .a24) (by rw [ld .a24 (by decide)]; exact h0.a)
  have hb := row I.bt (s .a25) (by rw [ld .a25 (by decide)]; exact h0.bt)
  refine ⟨fun b hb => (Function.update_of_ne hb _ _).trans (h.keep b hb), ?_, fun x => ?_⟩
  · intro y hy
    have y0 : (y 0).val < 800 := (y 0).2
    show (Function.update s Bf.a26 _ Bf.a26) y = _
    rw [Function.update_self]
    refine upd_ag (f := fun y : S800x128.Idx => I.dct (2 * p + (y 0).val % 25 / 12) (96 - 32 * t.val + (y 0).val / 25) ((y 0).val % 25 % 12 * 128 + (y 1).val)) h.dct (fun x => ?_) y ?_
    · have x0 : (x 0).val < 8 := (x 0).2
      have e : shapeCast S8x128 (addf (fun x => s .a23 ((rRow (q := 31 - k) (by omega) hj).toLoadRect.idx x)) dc : FVec Ideal S8x128 .f32) shapeCasts_S8x128_S8x128 x
          = I.gr (2 * p + (8 * j + (x 0).val) / 12) (127 - (32 * t.val + k)) ((8 * j + (x 0).val) % 12 * 128 + (x 1).val)
            + I.dc (2 * p + (8 * j + (x 0).val) / 12) ((8 * j + (x 0).val) % 12 * 128 + (x 1).val) (32 * t.val + k) := by
        have e' (u : FVec Ideal S8x128 .f32) (x : S8x128.Idx) : shapeCast S8x128 (addf u dc : FVec Ideal S8x128 .f32) shapeCasts_S8x128_S8x128 x = u x + dc x := by pointwise
        exact (e' _ x).trans (congrArg₂ (fun a b : EReal => a + b) (hg x) (h.dc x))
      refine e.trans ?_
      show _ = I.dct (2 * p + ((31 - k) * 25 + 8 * j + 1 * (x 0).val) % 25 / 12) (96 - 32 * t.val + ((31 - k) * 25 + 8 * j + 1 * (x 0).val) / 25) (((31 - k) * 25 + 8 * j + 1 * (x 0).val) % 25 % 12 * 128 + (0 + 1 * (x 1).val))
      have e0 : ((31 - k) * 25 + 8 * j + 1 * (x 0).val) % 25 = 8 * j + (x 0).val := by omega
      have e1 : ((31 - k) * 25 + 8 * j + 1 * (x 0).val) / 25 = 31 - k := by omega
      have e2 : 96 - 32 * t.val + (31 - k) = 127 - (32 * t.val + k) := by omega
      have e3 : 0 + 1 * (x 1).val = (x 1).val := by omega
      have e4 : 127 - (127 - (32 * t.val + k)) = 32 * t.val + k := by omega
      rw [e0, e1, e2, e3, In.dct, e4]
    · by_cases e : (y 0).val / 25 = 31 - k ∧ (y 0).val % 25 / 8 = j ∧ (y 0).val % 25 < 24
      · refine .inr (mem_rect _ y fun a => ?_)
        fin_cases a
        · exact ⟨(y 0).val - ((31 - k) * 25 + 8 * j), by show (y 0).val - ((31 - k) * 25 + 8 * j) < 8; omega, by show (y 0).val = (31 - k) * 25 + 8 * j + 1 * ((y 0).val - ((31 - k) * 25 + 8 * j)); omega⟩
        · exact ⟨(y 1).val, (y 1).2, by show (y 1).val = 0 + 1 * (y 1).val; omega⟩
      · exact .inl (by omega)
  · refine (congrArg₂ (fun a b : EReal => a + b) (congrArg₂ (fun a b : EReal => a * b) (congrArg₂ (fun a b : EReal => a + b) (hg x) (h.dc x)) (ha x)) (hb x)).trans ?_
    rfl

theorem off149 : ∀ (i : grid0.Coords) (j : Fin 3), k0_off149 i (BitVec.ofNat 32 (8 * j.val)) = ![24 * (i 0).val + 8 * j.val, 0] := by decide +kernel

/-- A carry's step number within block `t` of point `p`, after the scan's first `j` row groups. -/
def tau (p t j n : ℕ) : ℕ := if n < 24 * p then 128 else if n < 24 * p + 24 then (if n < 24 * p + 8 * j then 32 * (t + 1) else 32 * t) else 0

/-- The scan's invariant, before its row group `j`. -/
structure J2 (I : In) (p : ℕ) (t : Fin k0_t1_loop.trips) (s0 : SI) (j : ℕ) (s : SI) : Prop where
  keep : ∀ b, b ≠ .a26 → b ≠ .a32 → s b = s0 b
  dct : Dct I p t (fun n => n % 25 / 8 < j) s
  car : Car I (tau p t.val j) s

theorem scan_J2 {i : grid0.Coords} (hi : (i 0).val = p) {t : Fin k0_t1_loop.trips} {s0 : SI} (h0 : P1 I p t (fun _ => True) s0) {j : ℕ} (hj : j < 3) (h : J2 I p t s0 j s) :
    J2 I p t s0 (j + 1) (ev (scan i hj) s).2 := by
  have ht : t.val < 4 := t.2
  have off := off149 i ⟨j, hj⟩
  rw [hi] at off
  have hp : p < 6 := hi ▸ (i 0).2
  have ho0 : (r149 i hj).off 0 = 24 * p + 8 * j := congrFun off 0
  have ho1 : (r149 i hj).off 1 = 0 := congrFun off 1
  have emb0 (x : S8x128.Idx) : ((r149 i hj).emb x 0).val = 24 * p + 8 * j + (x 0).val := by
    show (r149 i hj).off 0 + 1 * (x 0).val = _; rw [ho0]; omega
  have emb1 (x : S8x128.Idx) : ((r149 i hj).emb x 1).val = (x 1).val := by
    show (r149 i hj).off 1 + 1 * (x 1).val = _; rw [ho1]; omega
  have hP : P1 I p t (fun _ => True) s := h0.keep (h.keep _ (by decide) (by decide)) (h.keep _ (by decide) (by decide)) (h.keep _ (by decide) (by decide))
    (h.keep _ (by decide) (by decide)) (h.keep _ (by decide) (by decide)) (h.keep _ (by decide) (by decide)) (h.keep _ (by decide) (by decide))
  have hdc (x : S8x128.Idx) : s .a32 ((r149 i hj).emb x) = I.dc (2 * p + (8 * j + (x 0).val) / 12) ((8 * j + (x 0).val) % 12 * 128 + (x 1).val) (32 * t.val + 0) := by
    have x0 : (x 0).val < 8 := (x 0).2
    rw [h.car, emb0, emb1]
    have e : tau p t.val j (24 * p + 8 * j + (x 0).val) = 32 * t.val := by
      unfold tau; rw [if_neg (by omega), if_pos (by omega), if_neg (by omega)]
    rw [e]
    congr 1 <;> omega
  obtain ⟨dc, s', hJ, he⟩ := ev_loopS (p := fun dc : FVec Ideal S8x128 .f32 => st .a32 (r149 i hj) h_S8x128 (shapeCast S8x128 dc shapeCasts_S8x128_S8x128) (fun _ _ => View.stores_vmem_bits_univ h_S8x128 rfl))
    (f := fun q hq dc => scanStep hj (q := 31 - q) (by omega) dc) (JS I p t j s) (fun k hk x s' h' => scanStep_JS hj hk hP h') (fun x => s .a32 ((r149 i hj).toLoadRect.idx x)) s
    ⟨fun _ _ => rfl, fun y hy => h.dct y (by omega), hdc⟩
  have hs : (ev (scan i hj) s).2 = Function.update s' .a32 (upd (s' .a32) (r149 i hj) (shapeCast S8x128 dc shapeCasts_S8x128_S8x128)) := congrArg Prod.snd he
  rw [hs]
  refine ⟨fun b hb hb' => (Function.update_of_ne hb' _ _).trans ((hJ.keep b hb).trans (h.keep b hb hb')), fun y hy => ?_, fun y => ?_⟩
  · have y0 : (y 0).val < 800 := (y 0).2
    exact (congrFun (Function.update_of_ne (by decide) _ _) y).trans (hJ.dct y (by omega))
  · show (Function.update s' Bf.a32 _ Bf.a32) y = _
    rw [Function.update_self]
    have y0 : (y 0).val < 144 := (y 0).2
    refine upd_ag (W := fun y : S144x128.Idx => ¬ (24 * p + 8 * j ≤ (y 0).val ∧ (y 0).val < 24 * p + 8 * j + 8))
      (f := fun y : S144x128.Idx => I.dc ((y 0).val / 12) ((y 0).val % 12 * 128 + (y 1).val) (tau p t.val (j + 1) (y 0).val)) (fun y hy => ?_) (fun x => ?_) y ?_
    · rw [hJ.keep _ (by decide), h.car]
      congr 1; unfold tau
      split; rfl
      split; swap; rfl
      refine if_congr (by omega) rfl rfl
    · have x0 : (x 0).val < 8 := (x 0).2
      have e' (x : S8x128.Idx) : shapeCast S8x128 dc shapeCasts_S8x128_S8x128 x = dc x := by pointwise
      refine (e' x).trans ((hJ.dc x).trans ?_)
      show _ = I.dc (((r149 i hj).emb x 0).val / 12) (((r149 i hj).emb x 0).val % 12 * 128 + ((r149 i hj).emb x 1).val) (tau p t.val (j + 1) ((r149 i hj).emb x 0).val)
      rw [emb0, emb1]
      have e : tau p t.val (j + 1) (24 * p + 8 * j + (x 0).val) = 32 * (t.val + 1) := by
        unfold tau; rw [if_neg (by omega), if_pos (by omega), if_pos (by omega)]
      rw [e]
      congr 1 <;> omega
    · by_cases e : 24 * p + 8 * j ≤ (y 0).val ∧ (y 0).val < 24 * p + 8 * j + 8
      · refine .inr (mem_rect _ y fun a => ?_)
        fin_cases a
        · exact ⟨(y 0).val - (24 * p + 8 * j), by show (y 0).val - (24 * p + 8 * j) < 8; omega, by show (y 0).val = (r149 i hj).off 0 + 1 * ((y 0).val - (24 * p + 8 * j)); rw [ho0]; omega⟩
        · exact ⟨(y 1).val, (y 1).2, by show (y 1).val = (r149 i hj).off 1 + 1 * (y 1).val; rw [ho1]; omega⟩
      · exact .inl e

/-- The highway part, from a step on. -/
def Dxh (I : In) (p t0 : ℕ) (s : SI) : Prop := ∀ y : S2x128x1536.Idx, t0 ≤ (y 1).val → s .a30 y = I.dxh (2 * p + (y 0).val) (y 1).val (y 2).val

/-- What a block's first two phases leave. -/
structure B2 (I : In) (p : ℕ) (t : Fin k0_t1_loop.trips) (s : SI) : Prop where
  kin : Kin I p s
  lay : Lay I p s
  p1 : P1 I p t (fun _ => True) s
  acc : Acc I (fun q d => 8 * p + 2 * t.val + if q % 2 = 1 then 2 else 0) s
  dct : Dct I p t (fun n => n % 25 < 24) s
  car : Car I (tau p t.val 3) s

theorem phase12 {i : grid0.Coords} (hi : (i 0).val = p) {t : Fin k0_t1_loop.trips} (kin : Kin I p s) (lay : Lay I p s) (acc : Acc I (fun _ _ => 8 * p + 2 * t.val) s) (car : Car I (tau p t.val 0) s)
    (dxh : Dxh I p (128 - 32 * t.val) s) (c : Cmd Ideal PUnit) : ∃ s', B2 I p t s' ∧ Same w2 s s' ∧ ev (loopK 12 (fun k hk => chunk1 t hk) (loopK 3 (fun j hj => scan i hj) c)) s = ev c s' := by
  obtain ⟨s1, ⟨h1, k1, c1⟩, e1⟩ := ev_loopK (f := fun k hk => chunk1 t hk) (p := loopK 3 (fun j hj => scan i hj) c) (fun k s' => J1 I p t k s' ∧ Same w2 s s' ∧ s' .a32 = s .a32)
    (fun k hk s' h => ⟨chunk1_J1 hk h.1, h.2.1.ev (chunk1_only t hk), ((chunk1_only32 t hk).keep rfl _).trans h.2.2⟩) s
    ⟨⟨kin, lay, ⟨fun y hy => absurd hy (Nat.not_lt_zero _), fun y hy => absurd hy (Nat.not_lt_zero _), fun y hy => absurd hy (Nat.not_lt_zero _), fun y hy => dxh y (by omega), fun y _ hy => absurd hy (Nat.not_lt_zero _), fun y _ hy => absurd hy (Nat.not_lt_zero _), fun y _ hy => absurd hy (Nat.not_lt_zero _)⟩,
      fun y => (acc y).trans (by beta_reduce; rw [if_neg (by omega)]; rfl)⟩, fun _ _ => rfl, rfl⟩
  have hP : P1 I p t (fun _ => True) s1 := h1.p1.mono fun c hc _ => by omega
  obtain ⟨s2, h2, e2⟩ := ev_loopK (f := fun j hj => scan (F := Ideal) i hj) (p := c) (J2 I p t s1) (fun j hj s' h => scan_J2 hi hP hj h) s1
    ⟨fun _ _ _ => rfl, fun y hy => absurd hy (Nat.not_lt_zero _), fun y => by rw [c1]; exact car y⟩
  have K (b : Bf) (h : b ≠ .a26) (h' : b ≠ .a32) := h2.keep b h h'
  refine ⟨s2, ⟨?_, h1.lay.keep (K _ (by decide) (by decide)) (K _ (by decide) (by decide)), hP.keep (K _ (by decide) (by decide)) (K _ (by decide) (by decide)) (K _ (by decide) (by decide)) (K _ (by decide) (by decide)) (K _ (by decide) (by decide)) (K _ (by decide) (by decide)) (K _ (by decide) (by decide)), ?_, ?_, h2.car⟩, ?_, e1.trans e2⟩
  · constructor <;> intro y <;> rw [K _ (by decide) (by decide)]
    exacts [h1.kin.x y, h1.kin.w y, h1.kin.ws y, h1.kin.vf y, h1.kin.vr y, h1.kin.b y, h1.kin.u y, h1.kin.c y, h1.kin.c0 y, h1.kin.dh y, h1.kin.dhs y, h1.kin.dcl y]
  · intro y
    have y2 : (y 2).val < 1536 := (y 2).2
    rw [K _ (by decide) (by decide), h1.acc]
    congr 1
    refine congrArg (8 * p + 2 * t.val + ·) (if_congr (by omega) rfl rfl)
  · intro y hy; exact h2.dct y (by omega)
  · intro b hb
    exact (K b (by rintro rfl; cases hb) (by rintro rfl; cases hb)).trans (k1 b hb)

end Cert.Body
-- ==== Proof.Phase3.lean ====
/- Phase 3 on one chunk: the gate gradients, their largest magnitudes and two of the column sums. -/
module

public import proofs.«01_k».proof.Proof.Scan

@[expose] public section
noncomputable section

namespace Cert.Body
open Cert.Mem hiding Cmd ld st PR
open Cert.Spec Cert.KernelIdeal Cert.KernelIdeal.Gen Idealize.ShloMosaic Idealize.SL.Sem

variable {I : In} {p : ℕ} {s : SI}

/-- What a chunk of phase 3 loads. -/
structure L3 where
  d0 : FVec Ideal S8x128 .f32
  d1 : FVec Ideal S8x128 .f32
  d2 : FVec Ideal S8x128 .f32
  d3 : FVec Ideal S8x128 .f32
  cp : Vec Ideal S1x32x128 .f32
  om : Vec Ideal S1x32x128 .f32
  xf : Vec Ideal S1x32x128 .f32
  dr : Vec Ideal S1x32x128 .f32

namespace L3
variable (L : L3)
def dct : FVec Ideal S32x128 .f32 := concatenate S32x128 0 [⟨S8x128, L.d0⟩, ⟨S8x128, L.d1⟩, ⟨S8x128, L.d2⟩, ⟨S8x128, L.d3⟩] concatenates_S8x128_S8x128_S8x128_S8x128_S32x128_d0
def vcp : FVec Ideal S32x128 .f32 := shapeCast S32x128 L.cp shapeCasts_S1x32x128_S32x128
def dxt : FVec Ideal S32x128 .f32 := mulf L.dct (shapeCast S32x128 L.om shapeCasts_S1x32x128_S32x128)
def df : FVec Ideal S32x128 .f32 := mulf L.dct (shapeCast S32x128 L.xf shapeCasts_S1x32x128_S32x128)
def m : FVec Ideal S32x128 .f32 := maximumf (maximumf (absf L.dxt) (absf L.df)) (absf (shapeCast S32x128 L.dr shapeCasts_S1x32x128_S32x128))
end L3

/-- The loads of a state. -/
def l3Of (s : SI) (t : Fin k0_t1_loop.trips) {k bb : ℕ} (hk : k < 12) (hb : bb < 2) (hc : bb * 12 + k < 24) : L3 where
  d0 := fun x => s .a26 ((rR (j := 0) (by omega) hc).toLoadRect.idx x)
  d1 := fun x => s .a26 ((rR (j := 1) (by omega) hc).toLoadRect.idx x)
  d2 := fun x => s .a26 ((rR (j := 2) (by omega) hc).toLoadRect.idx x)
  d3 := fun x => s .a26 ((rR (j := 3) (by omega) hc).toLoadRect.idx x)
  cp := fun x => s .a20 ((rC7 t hc).toLoadRect.idx x)
  om := fun x => s .a27 ((rS hc).toLoadRect.idx x)
  xf := fun x => s .a28 ((rS hc).toLoadRect.idx x)
  dr := fun x => s .a29 ((rS hc).toLoadRect.idx x)

/-- A chunk's stores, of its loads. -/
def chunk3B (L : L3) (t : Fin k0_t1_loop.trips) {k bb : ℕ} (hk : k < 12) (hb : bb < 2) (hc : bb * 12 + k < 24) : Cmd Ideal (FVec Ideal S32x128 .f32) := do
  st .a27 (rS hc) h_S1x32x128 (shapeCast S1x32x128 L.dxt shapeCasts_S32x128_S1x32x128) (fun _ _ => View.stores_vmem_bits_univ h_S1x32x128 rfl)
  st .a28 (rS hc) h_S1x32x128 (shapeCast S1x32x128 L.df shapeCasts_S32x128_S1x32x128) (fun _ _ => View.stores_vmem_bits_univ h_S1x32x128 rfl)
  bump (r := 0) hk (by omega) (Ld.sum8 (mulf L.df L.vcp))
  bump (r := 2) hk (by omega) (Ld.sum8 L.df)
  pure L.m

theorem chunk3_eq (t : Fin k0_t1_loop.trips) {k bb : ℕ} (hk : k < 12) (hb : bb < 2) (hc : bb * 12 + k < 24) (s : SI) : ev (chunk3 t hk hb hc) s = ev (chunk3B (l3Of s t hk hb hc) t hk hb hc) s := rfl

theorem chunk3B_ev (L : L3) (t : Fin k0_t1_loop.trips) {k bb : ℕ} (hk : k < 12) (hb : bb < 2) (hc : bb * 12 + k < 24) (s : SI) :
    ev (chunk3B L t hk hb hc) s = (L.m, (ev (bump (r := 2) hk (by omega) (Ld.sum8 L.df)) (ev (bump (r := 0) hk (by omega) (Ld.sum8 (mulf L.df L.vcp)))
      (Function.update (Function.update s .a27 (upd (s .a27) (rS hc) (shapeCast S1x32x128 L.dxt shapeCasts_S32x128_S1x32x128))) .a28
        (upd (s .a28) (rS hc) (shapeCast S1x32x128 L.df shapeCasts_S32x128_S1x32x128)))).2).2) := by
  simp only [chunk3B, bind_eq, ev_st, ev_bind, ev_pure]
  rfl

/-- The loads' values, at batch row `b`, from step `t0` and column `d0` on. -/
structure L3.Is (L : L3) (I : In) (b t0 d0 : ℕ) : Prop where
  e0 : ∀ x : S8x128.Idx, L.d0 x = I.dct b (t0 + (0 * 8 + (x 0).val)) (d0 + (x 1).val)
  e1 : ∀ x : S8x128.Idx, L.d1 x = I.dct b (t0 + (1 * 8 + (x 0).val)) (d0 + (x 1).val)
  e2 : ∀ x : S8x128.Idx, L.d2 x = I.dct b (t0 + (2 * 8 + (x 0).val)) (d0 + (x 1).val)
  e3 : ∀ x : S8x128.Idx, L.d3 x = I.dct b (t0 + (3 * 8 + (x 0).val)) (d0 + (x 1).val)
  cp : ∀ x : S1x32x128.Idx, L.cp x = I.cx b (t0 + (x 1).val) (d0 + (x 2).val)
  om : ∀ x : S1x32x128.Idx, L.om x = I.om b (t0 + (x 1).val) (d0 + (x 2).val)
  xf : ∀ x : S1x32x128.Idx, L.xf x = I.xf b (t0 + (x 1).val) (d0 + (x 2).val)
  dr : ∀ x : S1x32x128.Idx, L.dr x = I.dr b (t0 + (x 1).val) (d0 + (x 2).val)

/-- Four groups of eight rows, one under another. -/
theorem cat_at {d0 d1 d2 d3 : FVec Ideal S8x128 .f32} {F : ℕ → ℕ → EReal} (h0 : ∀ x : S8x128.Idx, d0 x = F (0 * 8 + (x 0).val) (x 1).val) (h1 : ∀ x : S8x128.Idx, d1 x = F (1 * 8 + (x 0).val) (x 1).val)
    (h2 : ∀ x : S8x128.Idx, d2 x = F (2 * 8 + (x 0).val) (x 1).val) (h3 : ∀ x : S8x128.Idx, d3 x = F (3 * 8 + (x 0).val) (x 1).val) (x : S32x128.Idx) :
    concatenate S32x128 0 [⟨S8x128, d0⟩, ⟨S8x128, d1⟩, ⟨S8x128, d2⟩, ⟨S8x128, d3⟩] concatenates_S8x128_S8x128_S8x128_S8x128_S32x128_d0 x = F (x 0).val (x 1).val := by
  pointwise
  have x0 : (x 0).val < 32 := (x 0).2
  split
  · refine (h0 _).trans ?_
    show F (0 * 8 + (x 0).val) (x 1).val = _
    congr 1; omega
  split
  · refine (h1 _).trans ?_
    show F (1 * 8 + ((x 0).val - 8)) (x 1).val = _
    congr 1; omega
  split
  · refine (h2 _).trans ?_
    show F (2 * 8 + ((x 0).val - 8 - 8)) (x 1).val = _
    congr 1; omega
  · refine (h3 _).trans ?_
    show F (3 * 8 + ((x 0).val - 8 - 8 - 8)) (x 1).val = _
    congr 1; omega

namespace L3
variable {L : L3} {b t0 d0 : ℕ} (h : L.Is I b t0 d0) (x : S32x128.Idx)
include h
theorem dct_at : L.dct x = I.dct b (t0 + (x 0).val) (d0 + (x 1).val) := cat_at (F := fun a l => I.dct b (t0 + a) (d0 + l)) h.e0 h.e1 h.e2 h.e3 x
theorem vcp_at : L.vcp x = I.cx b (t0 + (x 0).val) (d0 + (x 1).val) := by unfold vcp; pointwise; exact h.cp _
theorem dxt_at : L.dxt x = I.dxt b (t0 + (x 0).val) (d0 + (x 1).val) := by
  have e : shapeCast S32x128 L.om shapeCasts_S1x32x128_S32x128 x = I.om b (t0 + (x 0).val) (d0 + (x 1).val) := by pointwise; exact h.om _
  exact congrArg₂ (fun a b : EReal => a * b) (dct_at h x) e
theorem df_at : L.df x = I.df b (t0 + (x 0).val) (d0 + (x 1).val) := by
  have e : shapeCast S32x128 L.xf shapeCasts_S1x32x128_S32x128 x = I.xf b (t0 + (x 0).val) (d0 + (x 1).val) := by pointwise; exact h.xf _
  exact congrArg₂ (fun a b : EReal => a * b) (dct_at h x) e
theorem m_at : L.m x = I.mx b (t0 + (x 0).val) (d0 + (x 1).val) := by
  have e : shapeCast S32x128 L.dr shapeCasts_S1x32x128_S32x128 x = I.dr b (t0 + (x 0).val) (d0 + (x 1).val) := by pointwise; exact h.dr _
  have f (u v w u' v' w' : EReal) (hu : u = u') (hv : v = v') (hw : w = w') : max (max (u ⊔ -u) (v ⊔ -v)) (w ⊔ -w) = max (max (u' ⊔ -u') (v' ⊔ -v')) (w' ⊔ -w') := by subst hu hv hw; rfl
  exact f _ _ _ _ _ _ (dxt_at h x) (df_at h x) e
end L3

/-- How many of a column block's two chunks are done after `n` chunks. -/
def cnt (n c : ℕ) : ℕ := (if c < n then 1 else 0) + (if 12 + c < n then 1 else 0)
theorem cnt_at {bb k : ℕ} (hb : bb < 2) (hk : k < 12) : cnt (bb * 12 + k) k = bb := by unfold cnt; split <;> split <;> omega
theorem cnt_next {bb k : ℕ} (hb : bb < 2) (hk : k < 12) : cnt (bb * 12 + (k + 1)) k = bb + 1 := by unfold cnt; split <;> split <;> omega
theorem cnt_ne {bb k c : ℕ} (hb : bb < 2) (hk : k < 12) (hc : c < 12) (h : c ≠ k) : cnt (bb * 12 + (k + 1)) c = cnt (bb * 12 + k) c := by
  unfold cnt; congr 1 <;> refine if_congr (by omega) rfl rfl

/-- Phase 3's invariant, before chunk `n` of the 24. -/
structure B3 (I : In) (p : ℕ) (t : Fin k0_t1_loop.trips) (n : ℕ) (s : SI) : Prop where
  lay : Lay I p s
  dct : Dct I p t (fun n => n % 25 < 24) s
  dxt : ∀ y : S24x32x128.Idx, (y 0).val < n → s .a27 y = I.dxt (2 * p + (y 0).val / 12) (96 - 32 * t.val + (y 1).val) ((y 0).val % 12 * 128 + (y 2).val)
  om : ∀ y : S24x32x128.Idx, n ≤ (y 0).val → s .a27 y = I.om (2 * p + (y 0).val / 12) (96 - 32 * t.val + (y 1).val) ((y 0).val % 12 * 128 + (y 2).val)
  df : ∀ y : S24x32x128.Idx, (y 0).val < n → s .a28 y = I.df (2 * p + (y 0).val / 12) (96 - 32 * t.val + (y 1).val) ((y 0).val % 12 * 128 + (y 2).val)
  xf : ∀ y : S24x32x128.Idx, n ≤ (y 0).val → s .a28 y = I.xf (2 * p + (y 0).val / 12) (96 - 32 * t.val + (y 1).val) ((y 0).val % 12 * 128 + (y 2).val)
  dr : ∀ y : S24x32x128.Idx, s .a29 y = I.dr (2 * p + (y 0).val / 12) (96 - 32 * t.val + (y 1).val) ((y 0).val % 12 * 128 + (y 2).val)
  acc : Acc I (fun q d => 8 * p + 2 * t.val + if q % 2 = 1 then 2 else cnt n (d / 128)) s

theorem l3_is {t : Fin k0_t1_loop.trips} {k bb : ℕ} (hk : k < 12) (hb : bb < 2) (hc : bb * 12 + k < 24) (h : B3 I p t (bb * 12 + k) s) : (l3Of s t hk hb hc).Is I (2 * p + bb) (96 - 32 * t.val) (k * 128) := by
  have ht : t.val < 4 := t.2
  have hd (j : ℕ) (hj : j < 4) (x : S8x128.Idx) : s .a26 ((rR hj hc).toLoadRect.idx x) = I.dct (2 * p + bb) (96 - 32 * t.val + (j * 8 + (x 0).val)) (k * 128 + (x 1).val) := by
    have h0 : (x 0).val < 8 := (x 0).2
    have e1 : (j * 200 + (bb * 12 + k) + 25 * (x 0).val) % 25 = bb * 12 + k := by omega
    have e2 : (j * 200 + (bb * 12 + k) + 25 * (x 0).val) / 25 = j * 8 + (x 0).val := by omega
    refine (h.dct _ (by show (j * 200 + (bb * 12 + k) + 25 * (x 0).val) % 25 < 24; omega)).trans ?_
    show I.dct (2 * p + (j * 200 + (bb * 12 + k) + 25 * (x 0).val) % 25 / 12) (96 - 32 * t.val + (j * 200 + (bb * 12 + k) + 25 * (x 0).val) / 25) ((j * 200 + (bb * 12 + k) + 25 * (x 0).val) % 25 % 12 * 128 + (0 + 1 * (x 1).val)) = _
    rw [e1, e2]
    congr 1 <;> omega
  have hS (X : S24x32x128.Idx → EReal) (G : ℕ → ℕ → ℕ → EReal) (hX : ∀ y : S24x32x128.Idx, bb * 12 + k ≤ (y 0).val → X y = G (2 * p + (y 0).val / 12) (96 - 32 * t.val + (y 1).val) ((y 0).val % 12 * 128 + (y 2).val))
      (x : S1x32x128.Idx) : X ((rS hc).toLoadRect.idx x) = G (2 * p + bb) (96 - 32 * t.val + (x 1).val) (k * 128 + (x 2).val) := by
    have h0 : (x 0).val < 1 := (x 0).2
    refine (hX _ (by show bb * 12 + k ≤ bb * 12 + k + 1 * (x 0).val; omega)).trans ?_
    show G (2 * p + (bb * 12 + k + 1 * (x 0).val) / 12) (96 - 32 * t.val + (0 + 1 * (x 1).val)) ((bb * 12 + k + 1 * (x 0).val) % 12 * 128 + (0 + 1 * (x 2).val)) = _
    congr 1 <;> omega
  refine ⟨hd 0 (by omega), hd 1 (by omega), hd 2 (by omega), hd 3 (by omega), fun x => ?_, hS _ I.om h.om, hS _ I.xf h.xf, hS _ I.dr (fun y _ => h.dr y)⟩
  have h0 : (x 0).val < 1 := (x 0).2
  have e := tix7_eq t
  refine (h.lay.c _ (by show 7 ≤ tix7 t + 1 * (x 1).val; omega)).trans ?_
  show I.cx (2 * p + (bb * 12 + k + 1 * (x 0).val) / 12) (tix7 t + 1 * (x 1).val - 7) ((bb * 12 + k + 1 * (x 0).val) % 12 * 128 + (0 + 1 * (x 2).val)) = _
  congr 1 <;> omega

/-- The buffers phase 3's chunks store to. -/
def w3 : Bf → Bool
  | .a27 | .a28 | .a33 => true
  | _ => false

theorem chunk3_only (t : Fin k0_t1_loop.trips) {k bb : ℕ} (hk : k < 12) (hb : bb < 2) (hc : bb * 12 + k < 24) : Only w3 (chunk3 (F := Ideal) t hk hb hc) := by
  have hA : ∀ b, wA b = true → w3 b = true := by intro b; cases b <;> decide
  unfold chunk3
  repeat' (first | exact Only.mono hA (bump_only _ _ _) | exact Only.pure _ | exact Only.st _ _ _ _ _ _ rfl | exact Only.ld _ _ _ | refine Only.bind' ?_ fun _ => ?_)

theorem rS_out {X : S24x32x128.Idx → EReal} {ck : ℕ} (hc : ck < 24) {v : S1x32x128.Idx → EReal} {y : S24x32x128.Idx} (hy : ck + 1 ≤ (y 0).val) : upd X (rS hc) v y = X y := by
  refine upd_of_not _ _ _ ?_
  rintro ⟨x, rfl⟩
  have h0 : (x 0).val < 1 := (x 0).2
  have : ck + 1 ≤ ck + 1 * (x 0).val := hy
  omega

theorem acc_one (I : In) (q i d p : ℕ) {t bb : ℕ} (ht : t < 4) (hb : bb < 2) :
    I.acc q i d (8 * p + 2 * t + bb) + I.sum4 q (2 * p + bb) (96 - 32 * t) i d = I.acc q i d (8 * p + 2 * t + bb + 1) := by
  show _ = I.acc q i d (8 * p + 2 * t + bb) + I.sum4 q (2 * ((8 * p + 2 * t + bb) / 8) + (8 * p + 2 * t + bb) % 2) (96 - 32 * ((8 * p + 2 * t + bb) % 8 / 2)) i d
  rw [show 2 * ((8 * p + 2 * t + bb) / 8) + (8 * p + 2 * t + bb) % 2 = 2 * p + bb by omega, show (8 * p + 2 * t + bb) % 8 / 2 = t by omega]

theorem chunk3B_B3 {L : L3} {t : Fin k0_t1_loop.trips} {k bb : ℕ} (hk : k < 12) (hb : bb < 2) (hc : bb * 12 + k < 24) (hL : L.Is I (2 * p + bb) (96 - 32 * t.val) (k * 128)) (h : B3 I p t (bb * 12 + k) s) :
    B3 I p t (bb * 12 + (k + 1)) (ev (chunk3B L t hk hb hc) s).2 := by
  have ht : t.val < 4 := t.2
  rw [chunk3B_ev]
  have o0 := bump_only hk (r := 0) (by omega) (Ld.sum8 (mulf L.df L.vcp))
  have o2 := bump_only hk (r := 2) (by omega) (Ld.sum8 L.df)
  generalize hs2 : Function.update (Function.update s .a27 (upd (s .a27) (rS hc) (shapeCast S1x32x128 L.dxt shapeCasts_S32x128_S1x32x128))) .a28
        (upd (s .a28) (rS hc) (shapeCast S1x32x128 L.df shapeCasts_S32x128_S1x32x128)) = s2
  have k27 : s2 .a27 = upd (s .a27) (rS hc) (shapeCast S1x32x128 L.dxt shapeCasts_S32x128_S1x32x128) := by
    rw [← hs2, Function.update_of_ne (by decide), Function.update_self]
  have k28 : s2 .a28 = upd (s .a28) (rS hc) (shapeCast S1x32x128 L.df shapeCasts_S32x128_S1x32x128) := by
    rw [← hs2, Function.update_self]
  have kk (b : Bf) (h : b ≠ .a27) (h' : b ≠ .a28) : s2 b = s b := by rw [← hs2, Function.update_of_ne h', Function.update_of_ne h]
  have K (b : Bf) (hb : wA b = false) : (ev (bump hk (r := 2) (by omega) (Ld.sum8 L.df)) (ev (bump hk (r := 0) (by omega) (Ld.sum8 (mulf L.df L.vcp))) s2).2).2 b = s2 b := (o2.keep hb _).trans (o0.keep hb _)
  have div (l : ℕ) (hl : l < 128) : (k * 128 + l) / 128 = k := by omega
  have accs := bump_acc (σ' := fun q d => 8 * p + 2 * t.val + if q % 2 = 1 then 2 else cnt (if q = 0 then bb * 12 + (k + 1) else bb * 12 + k) (d / 128))
    (h.acc.keep (kk .a33 (by decide) (by decide))) hk (q := 0) (by omega) (v := Ld.sum8 (mulf L.df L.vcp)) (G := fun i l => I.sum4 0 (2 * p + bb) (96 - 32 * t.val) i (k * 128 + l))
    (fun x => Ld.sum8_at (F := fun i l => I.term 0 (2 * p + bb) (96 - 32 * t.val + i) (k * 128 + l)) _ _ (fun y => congrArg₂ (fun a b : EReal => a * b) (L3.df_at hL y) (L3.vcp_at hL y)))
    (fun i l hi hl => by
      beta_reduce; rw [if_neg (by omega), if_neg (by omega), if_pos rfl, div l hl, cnt_at hb hk, cnt_next hb hk]; exact acc_one I 0 i _ p ht hb)
    (fun q d hq hd hn => by
      congr 1
      by_cases q0 : q = 0
      · subst q0; have z : ¬ (0 % 2 = 1) := by omega
        rw [if_neg z, if_neg z, if_pos rfl, cnt_ne (c := d / 128) hb hk (by omega) (by omega)]
      · rw [if_neg q0])
  have acc2 := bump_acc (σ' := fun q d => 8 * p + 2 * t.val + if q % 2 = 1 then 2 else cnt (bb * 12 + (k + 1)) (d / 128))
    accs hk (q := 2) (by omega) (v := Ld.sum8 L.df) (G := fun i l => I.sum4 2 (2 * p + bb) (96 - 32 * t.val) i (k * 128 + l))
    (fun x => Ld.sum8_at (F := fun i l => I.term 2 (2 * p + bb) (96 - 32 * t.val + i) (k * 128 + l)) _ _ (fun y => L3.df_at hL y))
    (fun i l hi hl => by
      beta_reduce; rw [if_neg (by omega), if_neg (by omega), if_neg (by omega), div l hl, cnt_at hb hk, cnt_next hb hk]; exact acc_one I 2 i _ p ht hb)
    (fun q d hq hd hn => by
      congr 1
      by_cases q0 : q = 0
      · rw [if_pos q0]
      · by_cases q1 : q % 2 = 1
        · rw [if_pos q1, if_pos q1]
        · rw [if_neg q1, if_neg q1, if_neg q0, cnt_ne (c := d / 128) hb hk (by omega) (by omega)])
  refine ⟨h.lay.keep ((K _ rfl).trans (kk _ (by decide) (by decide))) ((K _ rfl).trans (kk _ (by decide) (by decide))), ?_, ?_, ?_, ?_, ?_, ?_, acc2⟩
  · intro y hy; rw [K _ rfl, kk _ (by decide) (by decide)]; exact h.dct y hy
  · intro y hy; rw [K _ rfl, k27]
    exact upd_rS (R := fun c => c < bb * 12 + k) h.dxt hk hb hc (lead (F := fun a l => I.dxt _ (_ + a) (_ + l)) (L3.dxt_at hL)) y ((by omega : (y 0).val < bb * 12 + k ∨ (y 0).val = bb * 12 + k))
  · intro y hy; rw [K _ rfl, k27, rS_out hc (by omega)]; exact h.om y (by omega)
  · intro y hy; rw [K _ rfl, k28]
    exact upd_rS (R := fun c => c < bb * 12 + k) h.df hk hb hc (lead (F := fun a l => I.df _ (_ + a) (_ + l)) (L3.df_at hL)) y ((by omega : (y 0).val < bb * 12 + k ∨ (y 0).val = bb * 12 + k))
  · intro y hy; rw [K _ rfl, k28, rS_out hc (by omega)]; exact h.xf y (by omega)
  · intro y; rw [K _ rfl, kk _ (by decide) (by decide)]; exact h.dr y

/-- One chunk of phase 3. -/
theorem chunk3_B3 {t : Fin k0_t1_loop.trips} {k bb : ℕ} (hk : k < 12) (hb : bb < 2) (hc : bb * 12 + k < 24) (h : B3 I p t (bb * 12 + k) s) :
    B3 I p t (bb * 12 + (k + 1)) (ev (chunk3 t hk hb hc) s).2 ∧ ∀ x : S32x128.Idx, (ev (chunk3 t hk hb hc) s).1 x = I.mx (2 * p + bb) (96 - 32 * t.val + (x 0).val) (k * 128 + (x 1).val) := by
  have hL := l3_is hk hb hc h
  rw [chunk3_eq]
  refine ⟨chunk3B_B3 hk hb hc hL h, fun x => ?_⟩
  rw [chunk3B_ev]
  exact L3.m_at hL x

end Cert.Body
-- ==== Proof.Block.lean ====
/- A block: phase 3's maxima, scales and codes, and the three phases together. -/
module

public import proofs.«01_k».proof.Proof.Phase3

@[expose] public section
noncomputable section

namespace Cert.Spec
open Idealize.ShloMosaic

theorem ninf : Ideal.ofBits .f32 0xFF800000#32 = ⊥ := by simp [Ideal.ofBits, Ideal.ieee]

/-- The largest of the lanes' largest over the column blocks is the largest over the columns. -/
theorem amax_eq (I : In) (b t : ℕ) :
    Finset.univ.fold max (Ideal.ofBits .f32 0xFF800000#32) (fun l : Fin 128 => (Finset.range 12).sup fun c => I.mx b t (c * 128 + l.val)) = I.amax b t := by
  rw [ninf]
  refine le_antisymm ((Finset.fold_max_le _).2 ⟨bot_le, fun l _ => Finset.sup_le fun c hc => ?_⟩) (Finset.sup_le fun d hd => (Finset.le_fold_max _).2 (.inr ⟨⟨d % 128, by omega⟩, Finset.mem_univ _, ?_⟩))
  · have hc := Finset.mem_range.1 hc
    exact Finset.le_sup (f := I.mx b t) (Finset.mem_range.2 (by omega))
  · have hd := Finset.mem_range.1 hd
    refine le_trans (le_of_eq ?_) (Finset.le_sup (f := fun c => I.mx b t (c * 128 + d % 128)) (Finset.mem_range.2 (by omega : d / 128 < 12)))
    show I.mx b t d = I.mx b t (d / 128 * 128 + d % 128)
    congr 1; omega

end Cert.Spec

namespace Cert.Body
open Cert.Mem hiding Cmd ld st PR
open Cert.Spec Cert.KernelIdeal Cert.KernelIdeal.Gen Idealize.ShloMosaic Idealize.SL.Sem

variable {I : In} {p : ℕ} {s : SI}

/-- The running maxima over the first `n` column blocks. -/
abbrev rmx (I : In) (b t0 n : ℕ) (a l : ℕ) : EReal := (Finset.range n).sup fun c => I.mx b (t0 + a) (c * 128 + l)

structure AmIs (I : In) (b t0 n : ℕ) (am : Am Ideal) : Prop where
  m0 : ∀ x : S8x128.Idx, am.m0 x = rmx I b t0 n (0 * 8 + (x 0).val) (x 1).val
  m1 : ∀ x : S8x128.Idx, am.m1 x = rmx I b t0 n (1 * 8 + (x 0).val) (x 1).val
  m2 : ∀ x : S8x128.Idx, am.m2 x = rmx I b t0 n (2 * 8 + (x 0).val) (x 1).val
  m3 : ∀ x : S8x128.Idx, am.m3 x = rmx I b t0 n (3 * 8 + (x 0).val) (x 1).val

theorem ess_at {v : FVec Ideal S32x128 .f32} {F : ℕ → ℕ → EReal} (hv : ∀ y : S32x128.Idx, v y = F (y 0).val (y 1).val) {j : ℕ} (hs : S32x128.Slices ![j * 8, 0] S8x128) (x : S8x128.Idx) :
    extractStridedSlice S8x128 ![j * 8, 0] v hs x = F (j * 8 + (x 0).val) (x 1).val := by
  pointwise [hv]

theorem rmx_one (I : In) (b t0 a l : ℕ) : I.mx b (t0 + a) (0 * 128 + l) = rmx I b t0 1 a l := by simp [rmx]
theorem rmx_next (I : In) (b t0 n a l : ℕ) : max (rmx I b t0 n a l) (I.mx b (t0 + a) (n * 128 + l)) = rmx I b t0 (n + 1) a l := by
  rw [rmx, rmx, Finset.range_add_one, Finset.sup_insert, sup_comm]

theorem AmIs.one {b t0 : ℕ} {m : FVec Ideal S32x128 .f32} (h : ∀ x : S32x128.Idx, m x = I.mx b (t0 + (x 0).val) (0 * 128 + (x 1).val)) : AmIs I b t0 1 (slc m) := by
  have e := fun (j : ℕ) (hs : S32x128.Slices ![j * 8, 0] S8x128) (x : S8x128.Idx) => (ess_at (F := fun a l => I.mx b (t0 + a) (0 * 128 + l)) h hs x).trans (rmx_one I b t0 _ _)
  exact ⟨e 0 slices_S32x128_o0_0_S8x128, e 1 slices_S32x128_o8_0_S8x128, e 2 slices_S32x128_o16_0_S8x128, e 3 slices_S32x128_o24_0_S8x128⟩

theorem AmIs.next {b t0 n : ℕ} {am : Am Ideal} (ha : AmIs I b t0 n am) {m : FVec Ideal S32x128 .f32} (h : ∀ x : S32x128.Idx, m x = I.mx b (t0 + (x 0).val) (n * 128 + (x 1).val)) :
    AmIs I b t0 (n + 1) (maxs am (slc m)) := by
  have e := fun (j : ℕ) (hs : S32x128.Slices ![j * 8, 0] S8x128) (x : S8x128.Idx) => ess_at (F := fun a l => I.mx b (t0 + a) (n * 128 + l)) h hs x
  exact ⟨fun x => (congrArg₂ (fun a b : EReal => max a b) (ha.m0 x) (e 0 slices_S32x128_o0_0_S8x128 x)).trans (rmx_next _ _ _ _ _ _),
    fun x => (congrArg₂ (fun a b : EReal => max a b) (ha.m1 x) (e 1 slices_S32x128_o8_0_S8x128 x)).trans (rmx_next _ _ _ _ _ _),
    fun x => (congrArg₂ (fun a b : EReal => max a b) (ha.m2 x) (e 2 slices_S32x128_o16_0_S8x128 x)).trans (rmx_next _ _ _ _ _ _),
    fun x => (congrArg₂ (fun a b : EReal => max a b) (ha.m3 x) (e 3 slices_S32x128_o24_0_S8x128 x)).trans (rmx_next _ _ _ _ _ _)⟩

/-- The exponent, from the running maxima over all column blocks. -/
theorem eOf_at {am : FVec Ideal S8x128 .f32} {b t0 j : ℕ} (h : ∀ x : S8x128.Idx, am x = rmx I b t0 12 (j * 8 + (x 0).val) (x 1).val) (x : S8x128.Idx) :
    eOf am x = In.ex (I.amax b (t0 + (j * 8 + (x 0).val))) := by
  have hy : yOf am x = I.amax b (t0 + (j * 8 + (x 0).val)) * Ideal.ofBits .f32 0x37924925#32 := by
    unfold yOf
    pointwise [h]
    exact congrArg (fun a : EReal => a * _) (amax_eq I b (t0 + (j * 8 + (x 0).val)))
  unfold eOf
  generalize yOf am = z at hy
  pointwise
  rw [hy]; rfl

/-- The scales stored, on some tokens. -/
def Sc (I : In) (p : ℕ) (R : ℕ → ℕ → Prop) (s : SI) : Prop := ∀ y : S2x128x128.Idx, R (y 0).val (y 1).val → s .a22 y = I.scale (2 * p + (y 0).val) (y 1).val
/-- The codes stored, on some tokens and column blocks. -/
def Cd (I : In) (p : ℕ) (R : ℕ → ℕ → ℕ → Prop) (s : SI) : Prop := ∀ y : S2x128x4608.Idx, R (y 0).val (y 1).val ((y 2).val / 128) → s .a18 y = I.code (2 * p + (y 0).val) (y 1).val (y 2).val

theorem scl_ev (t : Fin k0_t1_loop.trips) {j bb : ℕ} (hj : j < 4) (hb : bb < 2) (am : FVec Ideal S8x128 .f32) (s : SI) :
    ev (scl t hj hb am) s = (exp2 (subf (broadcast S8x128 (Scalar.ofBits .f32 0x00000000#32)) (eOf am)),
      Function.update s .a22 (upd (s .a22) (rL t hj hb) (shapeCast S1x8x128 (exp2 (eOf am)) shapeCasts_S8x128_S1x8x128))) := rfl

theorem scl_Sc {t : Fin k0_t1_loop.trips} {j bb : ℕ} (hj : j < 4) (hb : bb < 2) {am : FVec Ideal S8x128 .f32} {R : ℕ → ℕ → Prop} (hs : Sc I p (fun n m => R n m ∨ n = bb ∧ 96 - 32 * t.val ≤ m ∧ m < 96 - 32 * t.val + 8 * j) s)
    (h : ∀ x : S8x128.Idx, am x = rmx I (2 * p + bb) (96 - 32 * t.val) 12 (j * 8 + (x 0).val) (x 1).val) :
    Sc I p (fun n m => R n m ∨ n = bb ∧ 96 - 32 * t.val ≤ m ∧ m < 96 - 32 * t.val + 8 * (j + 1)) (ev (scl t hj hb am) s).2
    ∧ (∀ x : S8x128.Idx, (ev (scl t hj hb am) s).1 x = I.inv (2 * p + bb) (96 - 32 * t.val + (j * 8 + (x 0).val))) ∧ ∀ b, b ≠ .a22 → (ev (scl t hj hb am) s).2 b = s b := by
  have ht : t.val < 4 := t.2
  have tl := tixL_eq t ⟨j, hj⟩
  have he := eOf_at h
  rw [scl_ev]
  generalize eOf am = e at he ⊢
  refine ⟨fun y hy => ?_, fun x => ?_, fun b hb => Function.update_of_ne hb _ _⟩
  · show (Function.update s Bf.a22 _ Bf.a22) y = _
    rw [Function.update_self]
    have y1 : (y 1).val < 128 := (y 1).2
    refine upd_ag (f := fun y : S2x128x128.Idx => I.scale (2 * p + (y 0).val) (y 1).val) hs (fun x => ?_) y ?_
    · have h0 : (x 0).val < 1 := (x 0).2
      have e1 : shapeCast S1x8x128 (exp2 e : FVec Ideal S8x128 .f32) shapeCasts_S8x128_S1x8x128 x = I.scale (2 * p + bb) (96 - 32 * t.val + (j * 8 + (x 1).val)) := by
        pointwise [he]; rfl
      refine e1.trans ?_
      show _ = I.scale (2 * p + (bb + 1 * (x 0).val)) (tixL t j + 1 * (x 1).val)
      simp only at tl
      congr 1 <;> omega
    · by_cases e : (y 0).val = bb ∧ 96 - 32 * t.val + 8 * j ≤ (y 1).val ∧ (y 1).val < 96 - 32 * t.val + 8 * (j + 1)
      · simp only at tl
        refine .inr (mem_rect _ y fun a => ?_)
        fin_cases a
        · exact ⟨0, Nat.one_pos, e.1⟩
        · exact ⟨(y 1).val - tixL t j, by show (y 1).val - tixL t j < 8; omega, by show (y 1).val = tixL t j + 1 * ((y 1).val - tixL t j); omega⟩
        · exact ⟨(y 2).val, (y 2).2, by show (y 2).val = 0 + 1 * (y 2).val; omega⟩
      · refine .inl (hy.imp id fun h => ?_)
        omega
  · pointwise [he]; rfl

theorem upd_rU {X : S2x128x4608.Idx → EReal} {G : ℕ → ℕ → ℕ → EReal} {R : ℕ → ℕ → ℕ → Prop} (t : Fin k0_t1_loop.trips)
    (h : ∀ y : S2x128x4608.Idx, R (y 0).val (y 1).val ((y 2).val / 128) → X y = G (2 * p + (y 0).val) (y 1).val (y 2).val)
    {k bb : ℕ} (hk : k < 36) (hb : bb < 2) {v : S1x32x128.Idx → EReal}
    (hv : ∀ x : S1x32x128.Idx, v x = G (2 * p + bb) (96 - 32 * t.val + (x 1).val) (k * 128 + (x 2).val)) :
    ∀ y : S2x128x4608.Idx, (fun a b c => R a b c ∨ a = bb ∧ 96 - 32 * t.val ≤ b ∧ b < 128 - 32 * t.val ∧ c = k) (y 0).val (y 1).val ((y 2).val / 128) →
      upd X (rU t hk hb) v y = G (2 * p + (y 0).val) (y 1).val (y 2).val := by
  have e := tix_eq t
  have ht : t.val < 4 := t.2
  intro y hy
  refine upd_ag (f := fun y : S2x128x4608.Idx => G (2 * p + (y 0).val) (y 1).val (y 2).val) h (fun x => ?_) y (hy.imp id fun hy => ?_)
  · have h0 : (x 0).val < 1 := (x 0).2
    refine (hv x).trans ?_
    show _ = G (2 * p + (bb + 1 * (x 0).val)) (tix t + 1 * (x 1).val) (k * 128 + 1 * (x 2).val)
    congr 1 <;> omega
  · refine mem_rect _ y fun a => ?_
    fin_cases a
    · exact ⟨0, Nat.one_pos, hy.1⟩
    · exact ⟨(y 1).val - tix t, by show (y 1).val - tix t < 32; omega, by show (y 1).val = tix t + 1 * ((y 1).val - tix t); omega⟩
    · exact ⟨(y 2).val - k * 128, by show (y 2).val - k * 128 < 128; omega, by show (y 2).val = k * 128 + 1 * ((y 2).val - k * 128); omega⟩

/-- A chunk's codes. -/
def qv (v : Vec Ideal S1x32x128 .f32) (inv : FVec Ideal S32x128 .f32) : FVec Ideal S1x32x128 .fp8e5m2 := shapeCast S1x32x128 (codeOf v inv) shapeCasts_S32x128_S1x32x128

/-- Three chunks of codes stored. -/
def quantB (t : Fin k0_t1_loop.trips) {k bb : ℕ} (hk : k < 12) (hb : bb < 2) (q1 q2 q3 : FVec Ideal S1x32x128 .fp8e5m2) : Cmd Ideal PUnit := do
  st .a18 (rU t (k := k) (by omega) hb) h_S1x32x128 q1
    (fun _ hm => View.stores_vmem h_S1x32x128 (hm.storeExact_slice rfl _ (packU t ⟨k, by omega⟩ ⟨bb, hb⟩)) (fun _ => rfl))
  st .a18 (rU t (k := 12 + k) (by omega) hb) h_S1x32x128 q2
    (fun _ hm => View.stores_vmem h_S1x32x128 (hm.storeExact_slice rfl _ (packU t ⟨12 + k, by omega⟩ ⟨bb, hb⟩)) (fun _ => rfl))
  st .a18 (rU t (k := 24 + k) (by omega) hb) h_S1x32x128 q3
    (fun _ hm => View.stores_vmem h_S1x32x128 (hm.storeExact_slice rfl _ (packU t ⟨24 + k, by omega⟩ ⟨bb, hb⟩)) (fun _ => rfl))

theorem quant_eq (t : Fin k0_t1_loop.trips) (inv : FVec Ideal S32x128 .f32) {k bb : ℕ} (hk : k < 12) (hb : bb < 2) (hc : bb * 12 + k < 24) (s : SI) :
    ev (quant t inv hk hb hc) s = ev (quantB t hk hb (qv (fun x => s .a27 ((rS hc).toLoadRect.idx x)) inv) (qv (fun x => s .a28 ((rS hc).toLoadRect.idx x)) inv) (qv (fun x => s .a29 ((rS hc).toLoadRect.idx x)) inv)) s := by
  have e (U U' : S2x128x4608.Idx → EReal) : (∀ x, (Function.update s Bf.a18 U : SI) Bf.a28 x = s Bf.a28 x) ∧ ∀ x, (Function.update (Function.update s Bf.a18 U) Bf.a18 U' : SI) Bf.a29 x = s Bf.a29 x :=
    ⟨fun x => congrFun (Function.update_of_ne (by decide) _ _) x, fun x => congrFun ((Function.update_of_ne (by decide) _ _).trans (Function.update_of_ne (by decide) _ _)) x⟩
  unfold quant quantB
  refine (ev_ld Bf.a27 (rS hc).toLoadRect h_S1x32x128 _ s).trans ?_
  refine (ev_st Bf.a18 _ _ _ _ _ _ _).trans ?_
  refine (ev_ld Bf.a28 (rS hc).toLoadRect h_S1x32x128 _ (Function.update s Bf.a18 _ : SI)).trans ?_
  refine (ev_st Bf.a18 _ _ _ _ _ _ _).trans ?_
  refine (ev_ld Bf.a29 (rS hc).toLoadRect h_S1x32x128 _ (Function.update (Function.update s Bf.a18 _) Bf.a18 _ : SI)).trans ?_
  refine (ev_st' Bf.a18 _ _ _ _ _ _).trans ?_
  refine Eq.symm ?_
  refine (ev_st Bf.a18 _ _ _ _ _ _ _).trans ?_
  refine (ev_st Bf.a18 _ _ _ _ _ _ _).trans ?_
  refine (ev_st' Bf.a18 _ _ _ _ _ _).trans ?_
  simp only [e]
  rfl

theorem quantB_18 (t : Fin k0_t1_loop.trips) {k bb : ℕ} (hk : k < 12) (hb : bb < 2) (q1 q2 q3 : FVec Ideal S1x32x128 .fp8e5m2) (s : SI) :
    (ev (quantB t hk hb q1 q2 q3) s).2 .a18 = upd (upd (upd (s .a18) (rU t (k := k) (by omega) hb) q1) (rU t (k := 12 + k) (by omega) hb) q2) (rU t (k := 24 + k) (by omega) hb) q3 := by
  simp only [quantB, bind_eq, ev_st, ev_st', Function.update_self]

/-- The code array alone. -/
def wQ : Bf → Bool
  | .a18 => true
  | _ => false
theorem quantB_only (t : Fin k0_t1_loop.trips) {k bb : ℕ} (hk : k < 12) (hb : bb < 2) (q1 q2 q3 : FVec Ideal S1x32x128 .fp8e5m2) : Only wQ (quantB t hk hb q1 q2 q3) := by
  unfold quantB
  repeat' (first | exact Only.st _ _ _ _ _ _ rfl | refine Only.bind' ?_ fun _ => ?_)

theorem codeOf_at {v : Vec Ideal S1x32x128 .f32} {inv : FVec Ideal S32x128 .f32} {F : ℕ → ℕ → EReal} {G : ℕ → EReal} (hv : ∀ x : S1x32x128.Idx, v x = F (x 1).val (x 2).val)
    (hi : ∀ x : S32x128.Idx, inv x = G (x 0).val) (x : S1x32x128.Idx) :
    qv v inv x = min (Ideal.ofBits .f32 0x47600000#32) (max (Ideal.ofBits .f32 0xC7600000#32) (F (x 1).val (x 2).val * G (x 1).val)) := by
  unfold qv codeOf
  pointwise [hv, hi]

theorem quant_Cd {t : Fin k0_t1_loop.trips} {inv : FVec Ideal S32x128 .f32} {k bb : ℕ} (hk : k < 12) (hb : bb < 2) (hc : bb * 12 + k < 24) (h3 : B3 I p t (bb * 12 + 12) s)
    (hi : ∀ x : S32x128.Idx, inv x = I.inv (2 * p + bb) (96 - 32 * t.val + (x 0).val)) {R : ℕ → ℕ → ℕ → Prop}
    (h : Cd I p (fun a b c => R a b c ∨ a = bb ∧ 96 - 32 * t.val ≤ b ∧ b < 128 - 32 * t.val ∧ c % 12 < k) s) :
    Cd I p (fun a b c => R a b c ∨ a = bb ∧ 96 - 32 * t.val ≤ b ∧ b < 128 - 32 * t.val ∧ c % 12 < k + 1) (ev (quant t inv hk hb hc) s).2
    ∧ ∀ b, b ≠ .a18 → (ev (quant t inv hk hb hc) s).2 b = s b := by
  rw [quant_eq]
  refine ⟨fun y hy => ?_, fun b hb => (quantB_only t hk _ _ _ _).keep (by revert hb; cases b <;> decide) s⟩
  rw [quantB_18]
  have hS (X : S24x32x128.Idx → EReal) (G : ℕ → ℕ → ℕ → EReal) (hX : ∀ y : S24x32x128.Idx, (y 0).val < bb * 12 + 12 → X y = G (2 * p + (y 0).val / 12) (96 - 32 * t.val + (y 1).val) ((y 0).val % 12 * 128 + (y 2).val))
      (x : S1x32x128.Idx) : X ((rS hc).toLoadRect.idx x) = G (2 * p + bb) (96 - 32 * t.val + (x 1).val) (k * 128 + (x 2).val) := by
    have h0 : (x 0).val < 1 := (x 0).2
    refine (hX _ (by show bb * 12 + k + 1 * (x 0).val < bb * 12 + 12; omega)).trans ?_
    show G (2 * p + (bb * 12 + k + 1 * (x 0).val) / 12) (96 - 32 * t.val + (0 + 1 * (x 1).val)) ((bb * 12 + k + 1 * (x 0).val) % 12 * 128 + (0 + 1 * (x 2).val)) = _
    congr 1 <;> omega
  have c1 := codeOf_at (F := fun a l => I.dxt (2 * p + bb) (96 - 32 * t.val + a) (k * 128 + l)) (G := fun a => I.inv (2 * p + bb) (96 - 32 * t.val + a)) (hS _ I.dxt h3.dxt) hi
  have c2 := codeOf_at (F := fun a l => I.df (2 * p + bb) (96 - 32 * t.val + a) (k * 128 + l)) (G := fun a => I.inv (2 * p + bb) (96 - 32 * t.val + a)) (hS _ I.df h3.df) hi
  have c3 := codeOf_at (F := fun a l => I.dr (2 * p + bb) (96 - 32 * t.val + a) (k * 128 + l)) (G := fun a => I.inv (2 * p + bb) (96 - 32 * t.val + a)) (hS _ I.dr (fun y _ => h3.dr y)) hi
  have u1 := upd_rU (G := I.code) (R := fun a b c => R a b c ∨ a = bb ∧ 96 - 32 * t.val ≤ b ∧ b < 128 - 32 * t.val ∧ c % 12 < k) t h (k := k) (by omega) hb (fun x => (c1 x).trans (by
    have x2 : (x 2).val < 128 := (x 2).2
    rw [In.code, In.dU, if_pos (by omega)]))
  have u2 := upd_rU (G := I.code) (R := fun a b c => (R a b c ∨ a = bb ∧ 96 - 32 * t.val ≤ b ∧ b < 128 - 32 * t.val ∧ c % 12 < k) ∨ a = bb ∧ 96 - 32 * t.val ≤ b ∧ b < 128 - 32 * t.val ∧ c = k) t u1 (k := 12 + k) (by omega) hb (fun x => (c2 x).trans (by
    have x2 : (x 2).val < 128 := (x 2).2
    rw [In.code, In.dU, if_neg (by omega), if_pos (by omega), show (12 + k) * 128 + (x 2).val - 1536 = k * 128 + (x 2).val by omega]))
  have u3 := upd_rU (G := I.code) (R := fun a b c => ((R a b c ∨ a = bb ∧ 96 - 32 * t.val ≤ b ∧ b < 128 - 32 * t.val ∧ c % 12 < k) ∨ a = bb ∧ 96 - 32 * t.val ≤ b ∧ b < 128 - 32 * t.val ∧ c = k) ∨ a = bb ∧ 96 - 32 * t.val ≤ b ∧ b < 128 - 32 * t.val ∧ c = 12 + k) t u2 (k := 24 + k) (by omega) hb (fun x => (c3 x).trans (by
    have x2 : (x 2).val < 128 := (x 2).2
    rw [In.code, In.dU, if_neg (by omega), if_neg (by omega), show (24 + k) * 128 + (x 2).val - 3072 = k * 128 + (x 2).val by omega]))
  refine u3 y ?_
  have y2 : (y 2).val < 4608 := (y 2).2
  rcases hy with hy | hy
  · exact .inl (.inl (.inl (.inl hy)))
  · rcases (by omega : (y 2).val / 128 % 12 < k ∨ (y 2).val / 128 = k ∨ (y 2).val / 128 = 12 + k ∨ (y 2).val / 128 = 24 + k) with e | e | e | e
    · exact .inl (.inl (.inl (.inr ⟨hy.1, hy.2.1, hy.2.2.1, e⟩)))
    · exact .inl (.inl (.inr ⟨hy.1, hy.2.1, hy.2.2.1, e⟩))
    · exact .inl (.inr ⟨hy.1, hy.2.1, hy.2.2.1, e⟩)
    · exact .inr ⟨hy.1, hy.2.1, hy.2.2.1, e⟩

theorem B3.keep {t : Fin k0_t1_loop.trips} {n : ℕ} {s' : SI} (h : B3 I p t n s) (k : ∀ b, b ≠ .a18 → b ≠ .a22 → s' b = s b) : B3 I p t n s' :=
  ⟨h.lay.keep (k _ (by decide) (by decide)) (k _ (by decide) (by decide)), by unfold Dct; rw [k _ (by decide) (by decide)]; exact h.dct, by rw [k _ (by decide) (by decide)]; exact h.dxt, by rw [k _ (by decide) (by decide)]; exact h.om,
    by rw [k _ (by decide) (by decide)]; exact h.df, by rw [k _ (by decide) (by decide)]; exact h.xf, by rw [k _ (by decide) (by decide)]; exact h.dr, h.acc.keep (k _ (by decide) (by decide))⟩

/-- The tokens done in block `t` once the first `bb` batch rows are. -/
def Rt (t : Fin k0_t1_loop.trips) (bb n m : ℕ) : Prop := 128 - 32 * t.val ≤ m ∨ 96 - 32 * t.val ≤ m ∧ n < bb

/-- The buffers phase 3 stores to. -/
def w4 : Bf → Bool
  | .a18 | .a22 | .a27 | .a28 | .a33 => true
  | _ => false

/-- The scales and codes of a batch row's 32 tokens, from their maxima. -/
theorem tail3 {t : Fin k0_t1_loop.trips} {bb : ℕ} (hb : bb < 2) {am : Am Ideal} (ha : AmIs I (2 * p + bb) (96 - 32 * t.val) 12 am) (h3 : B3 I p t (bb * 12 + 12) s)
    (hs : Sc I p (Rt t bb) s) (hq : Cd I p (fun a b _ => Rt t bb a b) s) {c : Cmd Ideal PUnit}
    (hc : c = (scl t (j := 0) (by omega) hb am.m0).bind fun i0 => (scl t (j := 1) (by omega) hb am.m1).bind fun i1 => (scl t (j := 2) (by omega) hb am.m2).bind fun i2 => (scl t (j := 3) (by omega) hb am.m3).bind fun i3 =>
      loop 12 (fun k hk => quant t (concatenate S32x128 0 [⟨S8x128, i0⟩, ⟨S8x128, i1⟩, ⟨S8x128, i2⟩, ⟨S8x128, i3⟩] concatenates_S8x128_S8x128_S8x128_S8x128_S32x128_d0) hk hb (by omega))) :
    (∀ b, b ≠ .a18 → b ≠ .a22 → (ev c s).2 b = s b) ∧ Sc I p (Rt t (bb + 1)) (ev c s).2 ∧ Cd I p (fun a b _ => Rt t (bb + 1) a b) (ev c s).2 := by
  have ht : t.val < 4 := t.2
  obtain ⟨s0, i0, k0⟩ := scl_Sc (j := 0) (by omega) hb (R := Rt t bb) (s := s) (fun y hy => hs y (by rcases hy with hy | hy; exact hy; omega)) ha.m0
  obtain ⟨s1, i1, k1⟩ := scl_Sc (j := 1) (by omega) hb (R := Rt t bb) s0 ha.m1
  obtain ⟨s2, i2, k2⟩ := scl_Sc (j := 2) (by omega) hb (R := Rt t bb) s1 ha.m2
  obtain ⟨s3, i3, k3⟩ := scl_Sc (j := 3) (by omega) hb (R := Rt t bb) s2 ha.m3
  rw [hc, ev_bind, ev_bind, ev_bind, ev_bind]
  generalize ev (scl t (j := 0) _ hb am.m0) s = A0 at *
  generalize ev (scl t (j := 1) _ hb am.m1) A0.2 = A1 at *
  generalize ev (scl t (j := 2) _ hb am.m2) A1.2 = A2 at *
  generalize ev (scl t (j := 3) _ hb am.m3) A2.2 = A3 at *
  have K (b : Bf) (h : b ≠ .a22) : A3.2 b = s b := by rw [k3 b h, k2 b h, k1 b h, k0 b h]
  have hi := cat_at (F := fun a _ => I.inv (2 * p + bb) (96 - 32 * t.val + a)) i0 i1 i2 i3
  generalize concatenate S32x128 0 [⟨S8x128, A0.1⟩, ⟨S8x128, A1.1⟩, ⟨S8x128, A2.1⟩, ⟨S8x128, A3.1⟩] concatenates_S8x128_S8x128_S8x128_S8x128_S32x128_d0 = inv at hi
  obtain ⟨s', ⟨h1, h2⟩, e⟩ := ev_loopK (p := (pure ⟨⟩ : Cmd Ideal PUnit)) (f := fun k hk => quant t inv hk hb (by omega))
    (fun k s' => Cd I p (fun a b c => Rt t bb a b ∨ a = bb ∧ 96 - 32 * t.val ≤ b ∧ b < 128 - 32 * t.val ∧ c % 12 < k) s' ∧ ∀ b, b ≠ .a18 → s' b = A3.2 b)
    (fun k hk s' h => by
      have := quant_Cd hk hb (by omega) (h3.keep fun b hb hb' => (h.2 b hb).trans (K b hb')) hi h.1
      exact ⟨this.1, fun b hb => (this.2 b hb).trans (h.2 b hb)⟩) A3.2 ⟨fun y hy => by rw [K _ (by decide)]; exact hq y (by rcases hy with hy | hy; exact hy; omega), fun _ _ => rfl⟩
  rw [show ev (loop 12 (fun k hk => quant t inv hk hb (by omega))) A3.2 = (⟨⟩, s') from e]
  refine ⟨fun b hb hb' => (h2 b hb).trans (K b hb'), fun y hy => ?_, fun y hy => ?_⟩
  · refine (congrFun (h2 .a22 (by decide)) y).trans (s3 y ?_)
    unfold Rt at hy ⊢
    omega
  · refine h1 y ?_
    have : (y 2).val / 128 % 12 < 12 := Nat.mod_lt _ (by omega)
    unfold Rt at hy ⊢
    omega

/-- Phase 3 on one batch row. -/
theorem phase3_B {t : Fin k0_t1_loop.trips} {bb : ℕ} (hb : bb < 2) (h3 : B3 I p t (bb * 12) s) (hs : Sc I p (Rt t bb) s) (hq : Cd I p (fun a b _ => Rt t bb a b) s) :
    B3 I p t ((bb + 1) * 12) (ev (phase3 t hb) s).2 ∧ Sc I p (Rt t (bb + 1)) (ev (phase3 t hb) s).2 ∧ Cd I p (fun a b _ => Rt t (bb + 1) a b) (ev (phase3 t hb) s).2 ∧ Same w4 s (ev (phase3 t hb) s).2 := by
  obtain ⟨c3, cm⟩ := chunk3_B3 (k := 0) (by omega) hb (by omega) h3
  have o := chunk3_only t (k := 0) (by omega) hb (by omega)
  unfold phase3
  rw [bind_eq, ev_bind]
  have k0 : Same w3 s (ev (chunk3 t (k := 0) (by omega) hb (by omega)) s).2 := fun b hb => o.keep hb s
  generalize ev (chunk3 t (k := 0) _ hb _) s = A at *
  obtain ⟨am, s', ⟨h1, h2, h3'⟩, e⟩ := ev_loopS (n := 11) (f := fun k hk (am : Am Ideal) => do
    let m ← chunk3 t (k := k + 1) (by omega) hb (by omega)
    pure (maxs am (slc m))) (p := fun am => (scl t (j := 0) (by omega) hb am.m0).bind fun i0 => (scl t (j := 1) (by omega) hb am.m1).bind fun i1 => (scl t (j := 2) (by omega) hb am.m2).bind fun i2 => (scl t (j := 3) (by omega) hb am.m3).bind fun i3 =>
      loop 12 (fun k hk => quant t (concatenate S32x128 0 [⟨S8x128, i0⟩, ⟨S8x128, i1⟩, ⟨S8x128, i2⟩, ⟨S8x128, i3⟩] concatenates_S8x128_S8x128_S8x128_S8x128_S32x128_d0) hk hb (by omega)))
    (fun k am s' => B3 I p t (bb * 12 + (k + 1)) s' ∧ AmIs I (2 * p + bb) (96 - 32 * t.val) (k + 1) am ∧ Same w3 s s')
    (fun k hk am s' h => by
      obtain ⟨d3, dm⟩ := chunk3_B3 (k := k + 1) (by omega) hb (by omega) h.1
      have o := chunk3_only t (k := k + 1) (by omega) hb (by omega)
      rw [bind_eq, ev_bind]
      exact ⟨d3, h.2.1.next dm, h.2.2.ev o⟩) (slc A.1) A.2 ⟨c3, AmIs.one cm, k0⟩
  obtain ⟨K, S', C'⟩ := tail3 hb h2 (h1) (fun y hy => by rw [h3' _ rfl]; exact hs y hy) (fun y hy => by rw [h3' _ rfl]; exact hq y hy) rfl
  refine (congrArg (fun z => B3 I p t ((bb + 1) * 12) z ∧ Sc I p (Rt t (bb + 1)) z ∧ Cd I p (fun a b _ => Rt t (bb + 1) a b) z ∧ Same w4 s z) (congrArg Prod.snd e)).mpr
    ⟨by rw [show (bb + 1) * 12 = bb * 12 + 12 by omega]; exact h1.keep K, S', C', fun b hb => (K b (by rintro rfl; cases hb) (by rintro rfl; cases hb)).trans (h3' b (by revert hb; cases b <;> decide))⟩

end Cert.Body
-- ==== Proof.Blk.lean ====
/- A block's three phases together, and the point's first stores. -/
module

public import proofs.«01_k».proof.Proof.Block

@[expose] public section
noncomputable section

namespace Cert.Body
open Cert.Mem Cert.Spec
open Cert.KernelIdeal Cert.KernelIdeal.Gen Idealize.ShloMosaic Idealize.SL.Sem

variable {I : In} {p : ℕ} {s : SI}

/-- What the buffers say before a point's block `n`. -/
structure Bk (I : In) (p n : ℕ) (s : SI) : Prop where
  kin : Kin I p s
  lay : Lay I p s
  acc : Acc I (fun _ _ => 8 * p + 2 * n) s
  car : Car I (tau p n 0) s
  dxh : Dxh I p (128 - 32 * n) s
  sc : Sc I p (fun _ m => 128 - 32 * n ≤ m) s
  cd : Cd I p (fun _ m _ => 128 - 32 * n ≤ m) s

/-- The buffers the blocks store to. -/
def w5 : Bf → Bool
  | .a18 | .a22 | .a23 | .a24 | .a25 | .a26 | .a27 | .a28 | .a29 | .a30 | .a32 | .a33 => true
  | _ => false

theorem Acc.cast {σ τ : ℕ → ℕ → ℕ} (h : Acc I σ s) (e : ∀ q d, d < 1536 → σ q d = τ q d) : Acc I τ s := by
  intro y
  rw [h y, e _ _ (y 2).2]

theorem B2.b3 {t : Fin k0_t1_loop.trips} (h : B2 I p t s) : B3 I p t (0 * 12) s := by
  refine ⟨h.lay, h.dct, fun y hy => absurd hy (by omega), fun y _ => h.p1.om y trivial, fun y hy => absurd hy (by omega), fun y _ => h.p1.xf y trivial, fun y => h.p1.dr y trivial, fun y => (h.acc y).trans ?_⟩
  have z : cnt (0 * 12) ((y 2).val / 128) = 0 := by unfold cnt; rw [if_neg (by omega), if_neg (by omega)]
  beta_reduce
  rw [z]

theorem tau_next (p t n : ℕ) : tau p t 3 n = tau p (t + 1) 0 n := by
  unfold tau
  split_ifs <;> omega

theorem block_Bk {i : grid0.Coords} (hi : (i 0).val = p) {t : Fin k0_t1_loop.trips} (h : Bk I p t.val s) : Bk I p (t.val + 1) (ev (block i t) s).2 ∧ Same w5 s (ev (block i t) s).2 := by
  have ht : t.val < 4 := t.2
  obtain ⟨s2, b2, k2, e⟩ := phase12 hi (t := t) h.kin h.lay h.acc h.car h.dxh ((phase3 t (bb := 0) (by omega)).bind fun _ => (phase3 t (bb := 1) (by omega)).bind fun _ => pure ⟨⟩)
  have r0 := phase3_B (bb := 0) (by omega) b2.b3 (fun y hy => by rw [k2 _ rfl]; exact h.sc y (by unfold Rt at hy; omega)) (fun y hy => by rw [k2 _ rfl]; exact h.cd y (by unfold Rt at hy; omega))
  have e' : ev (block i t) s = ev (pure ⟨⟩ : Cmd Ideal PUnit) (ev (phase3 t (bb := 1) (by omega)) (ev (phase3 t (bb := 0) (by omega)) s2).2).2 := by
    refine (show ev (block i t) s = _ from e).trans ?_
    rw [ev_bind, ev_bind]
  rw [e', ev_pure]
  clear e e'
  generalize (ev (phase3 t (bb := 0) (by omega)) s2).2 = s3 at *
  obtain ⟨c0, d0, q0, k0⟩ := r0
  obtain ⟨c1, d1, q1, k1⟩ := phase3_B (bb := 1) (by omega) c0 d0 q0
  generalize (ev (phase3 t (bb := 1) (by omega)) s3).2 = s4 at *
  have K (b : Bf) (hb : w4 b = false) : s4 b = s2 b := (k1 b hb).trans (k0 b hb)
  refine ⟨⟨?_, c1.lay, c1.acc.cast fun q d hd => ?_, fun y => ?_, fun y hy => ?_, fun y hy => d1 y ?_, fun y hy => q1 y ?_⟩, fun b hb => ?_⟩
  · constructor <;> intro y <;> rw [K _ rfl]
    exacts [b2.kin.x y, b2.kin.w y, b2.kin.ws y, b2.kin.vf y, b2.kin.vr y, b2.kin.b y, b2.kin.u y, b2.kin.c y, b2.kin.c0 y, b2.kin.dh y, b2.kin.dhs y, b2.kin.dcl y]
  · have z : cnt ((1 + 1) * 12) (d / 128) = 2 := by unfold cnt; rw [if_pos (by omega), if_pos (by omega)]
    beta_reduce
    rw [z, ite_self]
    omega
  · rw [K _ rfl, b2.car, tau_next]
  · rw [K _ rfl]
    exact b2.p1.dxh y (.inr ⟨by omega, trivial⟩)
  · have y0 : (y 0).val < 2 := (y 0).2
    unfold Rt; omega
  · have y0 : (y 0).val < 2 := (y 0).2
    unfold Rt; omega
  · exact (K b (by revert hb; cases b <;> decide)).trans (k2 b (by revert hb; cases b <;> decide))

/-- All four blocks. -/
theorem blocks_Bk {i : grid0.Coords} (hi : (i 0).val = p) (h : Bk I p 0 s) :
    Bk I p 4 (ev (Scf.Loop.for k0_t1_loop k0_t1_ok ⟨⟩ fun t _ => block (F := Ideal) i t) s).2 ∧ Same w5 s (ev (Scf.Loop.for k0_t1_loop k0_t1_ok ⟨⟩ fun t _ => block (F := Ideal) i t) s).2 :=
  ev_for (l := k0_t1_loop) (ok := k0_t1_ok) (u := PUnit.unit) (f := fun t _ => block (F := Ideal) i t) (fun n _ s' => Bk I p n s' ∧ Same w5 s s')
    (fun t _ s' h' => ⟨(block_Bk hi h'.1).1, fun b hb => ((block_Bk hi h'.1).2 b hb).trans (h'.2 b hb)⟩) s ⟨h, fun _ _ => rfl⟩

end Cert.Body
-- ==== Proof.Init.lean ====
/- What a grid point lays out before its blocks. -/
module

public import proofs.«01_k».proof.Proof.Blk

@[expose] public section
noncomputable section

namespace Cert.Body
open Cert.Mem Cert.Spec
open Cert.KernelIdeal Cert.KernelIdeal.Gen Idealize.ShloMosaic Idealize.SL.Sem

variable {I : In} {p : ℕ} {s : SI}

theorem off1 : ∀ (i : grid0.Coords) (b : Fin 2), k0_off1 i (BitVec.ofNat 32 b.val) = ![2 * (i 0).val + b.val, 0] := by decide +kernel
theorem off2 : ∀ (i : grid0.Coords) (b : Fin 24), k0_off2 i (BitVec.ofNat 32 b.val) = ![24 * (i 0).val + b.val, 0] := by decide +kernel

theorem upd_J8 {X : S144x128.Idx → EReal} {G : ℕ → ℕ → EReal} {R : ℕ → Prop} (h : ∀ y : S144x128.Idx, R (y 0).val → X y = G ((y 0).val / 12) ((y 0).val % 12 * 128 + (y 1).val))
    {k : ℕ} (hk : k < 12) {v : S8x128.Idx → EReal} (hv : ∀ x : S8x128.Idx, v x = G (x 0).val (k * 128 + (x 1).val)) :
    ∀ y : S144x128.Idx, (R (y 0).val ∨ (y 0).val < 96 ∧ (y 0).val % 12 = k) → upd X (rJ8 hk) v y = G ((y 0).val / 12) ((y 0).val % 12 * 128 + (y 1).val) := by
  intro y hy
  refine upd_ag (W := fun y : S144x128.Idx => R (y 0).val) (f := fun y : S144x128.Idx => G ((y 0).val / 12) ((y 0).val % 12 * 128 + (y 1).val)) h (fun x => ?_) y (hy.imp id fun e => ?_)
  · have h0 : (x 0).val < 8 := (x 0).2
    refine (hv x).trans ?_
    show _ = G ((k + 12 * (x 0).val) / 12) ((k + 12 * (x 0).val) % 12 * 128 + (0 + 1 * (x 1).val))
    congr 1 <;> omega
  · refine mem_rect _ y fun a => ?_
    fin_cases a
    · exact ⟨(y 0).val / 12, by show (y 0).val / 12 < 8; omega, by show (y 0).val = k + 12 * ((y 0).val / 12); omega⟩
    · exact ⟨(y 1).val, (y 1).2, by show (y 1).val = 0 + 1 * (y 1).val; omega⟩

theorem upd_J4 {X : S144x128.Idx → EReal} {G : ℕ → ℕ → EReal} {R : ℕ → Prop} (h : ∀ y : S144x128.Idx, R (y 0).val → X y = G ((y 0).val / 12) ((y 0).val % 12 * 128 + (y 1).val))
    {k : ℕ} (hk : k < 12) {v : S4x128.Idx → EReal} (hv : ∀ x : S4x128.Idx, v x = G (8 + (x 0).val) (k * 128 + (x 1).val)) :
    ∀ y : S144x128.Idx, (R (y 0).val ∨ 96 ≤ (y 0).val ∧ (y 0).val % 12 = k) → upd X (rJ4 hk) v y = G ((y 0).val / 12) ((y 0).val % 12 * 128 + (y 1).val) := by
  intro y hy
  have y0 : (y 0).val < 144 := (y 0).2
  refine upd_ag (W := fun y : S144x128.Idx => R (y 0).val) (f := fun y : S144x128.Idx => G ((y 0).val / 12) ((y 0).val % 12 * 128 + (y 1).val)) h (fun x => ?_) y (hy.imp id fun e => ?_)
  · have h0 : (x 0).val < 4 := (x 0).2
    refine (hv x).trans ?_
    show _ = G ((96 + k + 12 * (x 0).val) / 12) ((96 + k + 12 * (x 0).val) % 12 * 128 + (0 + 1 * (x 1).val))
    congr 1 <;> omega
  · refine mem_rect _ y fun a => ?_
    fin_cases a
    · exact ⟨(y 0).val / 12 - 8, by show (y 0).val / 12 - 8 < 4; omega, by show (y 0).val = 96 + k + 12 * ((y 0).val / 12 - 8); omega⟩
    · exact ⟨(y 1).val, (y 1).2, by show (y 1).val = 0 + 1 * (y 1).val; omega⟩

/-- The first states, by batch row and column block. -/
def C0t (I : In) (s : SI) : Prop := ∀ y : S144x128.Idx, s .a31 y = I.c0 ((y 0).val / 12) ((y 0).val % 12 * 128 + (y 1).val)

/-- The rows copied so far. -/
structure J9 (I : In) (R : ℕ → Prop) (s0 s : SI) : Prop where
  c : ∀ y : S144x128.Idx, R (y 0).val → s .a31 y = I.c0 ((y 0).val / 12) ((y 0).val % 12 * 128 + (y 1).val)
  d : ∀ y : S144x128.Idx, R (y 0).val → s .a32 y = I.dcl ((y 0).val / 12) ((y 0).val % 12 * 128 + (y 1).val)
  keep : ∀ b, b ≠ .a31 → b ≠ .a32 → s b = s0 b

/-- A copy of eight rows' column block. -/
def cp8 {k : ℕ} (hk : k < 12) : Cmd Ideal PUnit := do
    let v : Vec Ideal S8x128 .f32 ← ld .a9 (rI8 hk).toLoadRect h_S8x128
    st .a31 (rJ8 hk) h_S8x128 (shapeCast S8x128 v shapeCasts_S8x128_S8x128) (fun _ _ => View.stores_vmem_bits_univ h_S8x128 rfl)
    let v : Vec Ideal S8x128 .f32 ← ld .a12 (rI8 hk).toLoadRect h_S8x128
    st .a32 (rJ8 hk) h_S8x128 (shapeCast S8x128 v shapeCasts_S8x128_S8x128) (fun _ _ => View.stores_vmem_bits_univ h_S8x128 rfl)
/-- The same of the last four rows. -/
def cp4 {k : ℕ} (hk : k < 12) : Cmd Ideal PUnit := do
    let v : Vec Ideal S4x128 .f32 ← ld .a9 (rI4 hk).toLoadRect h_S4x128
    st .a31 (rJ4 hk) h_S4x128 (shapeCast S4x128 v shapeCasts_S4x128_S4x128) (fun _ _ => View.stores_vmem_bits_univ h_S4x128 rfl)
    let v : Vec Ideal S4x128 .f32 ← ld .a12 (rI4 hk).toLoadRect h_S4x128
    st .a32 (rJ4 hk) h_S4x128 (shapeCast S4x128 v shapeCasts_S4x128_S4x128) (fun _ _ => View.stores_vmem_bits_univ h_S4x128 rfl)

theorem cp8_ev {k : ℕ} (hk : k < 12) (s : SI) : (ev (cp8 hk) s).2 = Function.update (Function.update s .a31 (upd (s .a31) (rJ8 hk) (shapeCast S8x128 (fun x => s .a9 ((rI8 hk).toLoadRect.idx x) : Vec Ideal S8x128 .f32) shapeCasts_S8x128_S8x128)))
    .a32 (upd (s .a32) (rJ8 hk) (shapeCast S8x128 (fun x => s .a12 ((rI8 hk).toLoadRect.idx x) : Vec Ideal S8x128 .f32) shapeCasts_S8x128_S8x128)) := rfl
theorem cp4_ev {k : ℕ} (hk : k < 12) (s : SI) : (ev (cp4 hk) s).2 = Function.update (Function.update s .a31 (upd (s .a31) (rJ4 hk) (shapeCast S4x128 (fun x => s .a9 ((rI4 hk).toLoadRect.idx x) : Vec Ideal S4x128 .f32) shapeCasts_S4x128_S4x128)))
    .a32 (upd (s .a32) (rJ4 hk) (shapeCast S4x128 (fun x => s .a12 ((rI4 hk).toLoadRect.idx x) : Vec Ideal S4x128 .f32) shapeCasts_S4x128_S4x128)) := rfl

theorem cast8 (v : Vec Ideal S8x128 .f32) (x : S8x128.Idx) : shapeCast S8x128 v shapeCasts_S8x128_S8x128 x = v x := by pointwise
theorem cast4 (v : Vec Ideal S4x128 .f32) (x : S4x128.Idx) : shapeCast S4x128 v shapeCasts_S4x128_S4x128 x = v x := by pointwise

theorem rI8_at {X : S12x1536.Idx → EReal} {G : ℕ → ℕ → EReal} (h : ∀ y : S12x1536.Idx, X y = G (y 0).val (y 1).val) {k : ℕ} (hk : k < 12) (x : S8x128.Idx) :
    X ((rI8 hk).toLoadRect.idx x) = G (x 0).val (k * 128 + (x 1).val) := by
  refine (h _).trans ?_
  show G (0 + 1 * (x 0).val) (k * 128 + 1 * (x 1).val) = _
  congr 1 <;> omega
theorem rI4_at {X : S12x1536.Idx → EReal} {G : ℕ → ℕ → EReal} (h : ∀ y : S12x1536.Idx, X y = G (y 0).val (y 1).val) {k : ℕ} (hk : k < 12) (x : S4x128.Idx) :
    X ((rI4 hk).toLoadRect.idx x) = G (8 + (x 0).val) (k * 128 + (x 1).val) := by
  refine (h _).trans ?_
  show G (8 + 1 * (x 0).val) (k * 128 + 1 * (x 1).val) = _
  congr 1 <;> omega

theorem cp8_J {s0 : SI} (kin : Kin I p s0) {k : ℕ} (hk : k < 12) {R : ℕ → Prop} (h : J9 I R s0 s) : J9 I (fun n => R n ∨ n < 96 ∧ n % 12 = k) s0 (ev (cp8 hk) s).2 := by
  rw [cp8_ev, h.keep .a9 (by decide) (by decide), h.keep .a12 (by decide) (by decide)]
  refine ⟨?_, ?_, fun b h1 h2 => by rw [Function.update_of_ne h2, Function.update_of_ne h1, h.keep b h1 h2]⟩
  · rw [Function.update_of_ne (by decide), Function.update_self]
    exact upd_J8 (R := R) (G := I.c0) h.c hk fun x => (cast8 _ x).trans (rI8_at kin.c0 hk x)
  · rw [Function.update_self]
    exact upd_J8 (R := R) (G := I.dcl) h.d hk fun x => (cast8 _ x).trans (rI8_at kin.dcl hk x)
theorem cp4_J {s0 : SI} (kin : Kin I p s0) {k : ℕ} (hk : k < 12) {R : ℕ → Prop} (h : J9 I R s0 s) : J9 I (fun n => R n ∨ 96 ≤ n ∧ n % 12 = k) s0 (ev (cp4 hk) s).2 := by
  rw [cp4_ev, h.keep .a9 (by decide) (by decide), h.keep .a12 (by decide) (by decide)]
  refine ⟨?_, ?_, fun b h1 h2 => by rw [Function.update_of_ne h2, Function.update_of_ne h1, h.keep b h1 h2]⟩
  · rw [Function.update_of_ne (by decide), Function.update_self]
    exact upd_J4 (R := R) (G := I.c0) h.c hk fun x => (cast4 _ x).trans (rI4_at kin.c0 hk x)
  · rw [Function.update_self]
    exact upd_J4 (R := R) (G := I.dcl) h.d hk fun x => (cast4 _ x).trans (rI4_at kin.dcl hk x)

theorem J9.mono {s0 : SI} {R R' : ℕ → Prop} (h : J9 I R s0 s) (m : ∀ n, n < 144 → R' n → R n) : J9 I R' s0 s :=
  ⟨fun y hy => h.c y (m _ (y 0).2 hy), fun y hy => h.d y (m _ (y 0).2 hy), h.keep⟩

/-- The accumulator cleared. -/
def clr : Cmd Ideal PUnit :=
  st .a33 (.unit ![0, 0, 0] S4x8x1536.size inb_S4x8x1536_S4x8x1536_0_0_0) h_S4x8x1536 (shapeCast S4x8x1536 (broadcast S4x8x1536 (Scalar.ofBits .f32 0x00000000#32) : FVec Ideal S4x8x1536 .f32) shapeCasts_S4x8x1536_S4x8x1536) (fun _ _ => View.stores_vmem_bits_univ h_S4x8x1536 rfl)

theorem initP_eq : (initP : Cmd Ideal PUnit) = clr.bind fun _ => (loop 12 fun k hk => cp8 hk).bind fun _ => loop 12 fun k hk => cp4 hk := rfl

/-- What the first point does before its blocks. -/
theorem initP_J (kin : Kin I p s) : C0t I (ev initP s).2 ∧ Car I (tau 0 0 0) (ev initP s).2 ∧ Acc I (fun _ _ => 8 * 0) (ev initP s).2 ∧ ∀ b, b ≠ .a31 → b ≠ .a32 → b ≠ .a33 → (ev initP s).2 b = s b := by
  rw [initP_eq, ev_bind, ev_bind]
  have h0 : (ev clr s).2 = Function.update s .a33 (upd (s .a33) (.unit ![0, 0, 0] S4x8x1536.size inb_S4x8x1536_S4x8x1536_0_0_0) (shapeCast S4x8x1536 (broadcast S4x8x1536 (Scalar.ofBits .f32 0x00000000#32) : FVec Ideal S4x8x1536 .f32) shapeCasts_S4x8x1536_S4x8x1536)) := rfl
  have ha : Acc I (fun _ _ => 8 * 0) (ev clr s).2 := by
    rw [h0]
    intro y
    rw [Function.update_self]
    refine (upd_ag (W := fun _ => False) (f := fun _ : S4x8x1536.Idx => (0 : EReal)) (fun _ h => h.elim) (fun x => ?_) y (.inr (mem_rect _ y fun a => ⟨(y a).val, (y a).2, ?_⟩))).trans (by rw [Nat.mul_zero]; rfl)
    · pointwise
    · fin_cases a <;> exact (by show _ = 0 + 1 * _; omega)
  have hk : ∀ b, b ≠ .a33 → (ev clr s).2 b = s b := fun b hb => by rw [h0, Function.update_of_ne hb]
  have kin1 : Kin I p (ev clr s).2 := kin.ev _
  generalize (ev clr s).2 = s1 at *
  obtain ⟨s2, h2, e2⟩ := ev_loopK (p := (pure ⟨⟩ : Cmd Ideal PUnit)) (f := fun k hk => cp8 hk) (fun k s' => J9 I (fun n => n < 96 ∧ n % 12 < k) s1 s')
    (fun k hk s' h => (cp8_J kin1 hk h).mono fun n _ => by omega) s1 ⟨fun _ h => absurd h.2 (by omega), fun _ h => absurd h.2 (by omega), fun _ _ _ => rfl⟩
  rw [show ev (loop 12 fun k hk => cp8 hk) s1 = (⟨⟩, s2) from e2]
  obtain ⟨s3, h3, e3⟩ := ev_loopK (p := (pure ⟨⟩ : Cmd Ideal PUnit)) (f := fun k hk => cp4 hk) (fun k s' => J9 I (fun n => n < 96 ∨ n % 12 < k) s1 s')
    (fun k hk s' h => (cp4_J kin1 hk h).mono fun n _ => by omega) s2 (h2.mono fun n _ => by omega)
  rw [show ev (loop 12 fun k hk => cp4 hk) s2 = (⟨⟩, s3) from e3]
  refine ⟨fun y => h3.c y (by omega), fun y => (h3.d y (by omega)).trans ?_, ha.keep (h3.keep _ (by decide) (by decide)), fun b h1 h2' h3' => (h3.keep b h1 h2').trans (hk b h3')⟩
  have : tau 0 0 0 (y 0).val = 0 := by unfold tau; split_ifs <;> omega
  rw [this]
  rfl

end Cert.Body
-- ==== Proof.Setup.lean ====
/- A grid point's states and output scales laid out, and its scales written out. -/
module

public import proofs.«01_k».proof.Proof.Init

@[expose] public section
noncomputable section

namespace Cert.Body
open Cert.Mem Cert.Spec
open Cert.KernelIdeal Cert.KernelIdeal.Gen Idealize.ShloMosaic Idealize.SL.Sem

variable {I : In} {p : ℕ} {s : SI}

/-- The states laid out so far. -/
def LayC (I : In) (p n : ℕ) (s : SI) : Prop := ∀ y : S24x136x128.Idx, 7 ≤ (y 1).val → (y 0).val < n → s .a20 y = I.cx (2 * p + (y 0).val / 12) ((y 1).val - 7) ((y 0).val % 12 * 128 + (y 2).val)
/-- The output scales laid out so far. -/
def LayG (I : In) (p n : ℕ) (s : SI) : Prop := ∀ y : S2x128x128.Idx, (y 0).val < n → s .a21 y = I.dhs (2 * p + (y 0).val) (y 1).val

/-- A row of output scales, turned to a column and spread over the lanes. -/
def gCol (v : Vec Ideal S1x128 .f32) : FVec Ideal S1x128x128 .f32 :=
  shapeCast S1x128x128 (transpose S128x128 [1, 0] (broadcastTo S128x128 (shapeCast S1x128 v shapeCasts_S1x128_S1x128) broadcasts_S1x128_S128x128) transposes_S128x128_p1_0_S128x128) shapeCasts_S128x128_S1x128x128

theorem gCol_at {v : Vec Ideal S1x128 .f32} {G : ℕ → EReal} (h : ∀ x : S1x128.Idx, v x = G (x 1).val) (x : S1x128x128.Idx) : gCol v x = G (x 1).val := by
  unfold gCol
  pointwise [h]

/-- The output scales' part. -/
def setG (i : grid0.Coords) {bb : ℕ} (hb : bb < 2) : Cmd Ideal PUnit := do
  let v : Vec Ideal S1x128 .f32 ← ld .a11 (r1 i hb).toLoadRect h_S1x128
  st .a21 (rT hb) h_S1x128x128 (gCol v) (fun _ _ => View.stores_vmem_bits_univ h_S1x128x128 rfl)

/-- A column block's states. -/
def setC (i : grid0.Coords) {bb k : ℕ} (hb : bb < 2) (hk : k < 12) : Cmd Ideal PUnit := do
    let v : Vec Ideal S1x128 .f32 ← ld .a31 (r2 i (ck := bb * 12 + k) (by omega)).toLoadRect h_S1x128
    st .a20 (rM7 (ck := bb * 12 + k) (by omega)) h_S1x1x128 (shapeCast S1x1x128 v shapeCasts_S1x128_S1x1x128) (fun _ _ => View.stores_vmem_bits_univ h_S1x1x128 rfl)
    let v : Vec Ideal S1x128x128 .f32 ← ld .a8 (rX8 hk hb).toLoadRect h_S1x128x128
    st .a20 (rM8 (ck := bb * 12 + k) (by omega)) h_S1x128x128 (shapeCast S1x128x128 (shapeCast S128x128 v shapeCasts_S1x128x128_S128x128) shapeCasts_S128x128_S1x128x128) (fun _ _ => View.stores_vmem_bits_univ h_S1x128x128 rfl)

theorem setup_eq (i : grid0.Coords) {bb : ℕ} (hb : bb < 2) : setup (F := Ideal) i hb = (setG i hb).bind fun _ => loop 12 fun k hk => setC i hb hk := rfl

theorem setG_ev (i : grid0.Coords) {bb : ℕ} (hb : bb < 2) (s : SI) : (ev (setG i hb) s).2 = Function.update s .a21 (upd (s .a21) (rT hb) (gCol fun x => s .a11 ((r1 i hb).toLoadRect.idx x))) := rfl

/-- The first state's row. -/
def mk7 (v : Vec Ideal S1x128 .f32) : FVec Ideal S1x1x128 .f32 := shapeCast S1x1x128 v shapeCasts_S1x128_S1x1x128
/-- The other states' rows. -/
def mk8 (v : Vec Ideal S1x128x128 .f32) : FVec Ideal S1x128x128 .f32 := shapeCast S1x128x128 (shapeCast S128x128 v shapeCasts_S1x128x128_S128x128) shapeCasts_S128x128_S1x128x128

theorem setC_ev0 (i : grid0.Coords) {bb k : ℕ} (hb : bb < 2) (hk : k < 12) (s s' : SI) (h : s' = Function.update s .a20 (upd (s .a20) (rM7 (ck := bb * 12 + k) (by omega)) (mk7 fun x => s .a31 ((r2 i (ck := bb * 12 + k) (by omega)).toLoadRect.idx x)))) :
    (ev (setC i hb hk) s).2 = Function.update s' .a20 (upd (s' .a20) (rM8 (ck := bb * 12 + k) (by omega)) (mk8 fun x => s' .a8 ((rX8 hk hb).toLoadRect.idx x))) := by
  subst h; rfl

theorem setC_ev (i : grid0.Coords) {bb k : ℕ} (hb : bb < 2) (hk : k < 12) (s : SI) : (ev (setC i hb hk) s).2 .a20 =
    upd (upd (s .a20) (rM7 (ck := bb * 12 + k) (by omega)) (mk7 fun x => s .a31 ((r2 i (ck := bb * 12 + k) (by omega)).toLoadRect.idx x)))
      (rM8 (ck := bb * 12 + k) (by omega)) (mk8 fun x => s .a8 ((rX8 hk hb).toLoadRect.idx x)) := by
  rw [setC_ev0 i hb hk s _ rfl, Function.update_self, Function.update_self, Function.update_of_ne (by decide)]

/-- The layout alone. -/
def wC : Bf → Bool
  | .a20 => true
  | _ => false
theorem setC_only (i : grid0.Coords) {bb k : ℕ} (hb : bb < 2) (hk : k < 12) : Only wC (setC i hb hk) := by
  unfold setC
  repeat' (first | exact Only.st _ _ _ _ _ _ rfl | refine Only.bind' ?_ fun _ => ?_ | exact Only.ld _ _ _)

theorem cast118 {v : Vec Ideal S1x128 .f32} {G : ℕ → EReal} (h : ∀ x : S1x128.Idx, v x = G (x 1).val) (x : S1x1x128.Idx) : mk7 v x = G (x 2).val := by unfold mk7; pointwise [h]
theorem cast188 {v : Vec Ideal S1x128x128 .f32} {G : ℕ → ℕ → EReal} (h : ∀ x : S1x128x128.Idx, v x = G (x 1).val (x 2).val) (x : S1x128x128.Idx) :
    mk8 v x = G (x 1).val (x 2).val := by unfold mk8; pointwise [h]

theorem rw_off {α : Type} {X : S144x128.Idx → α} {i : grid0.Coords} {ck : ℕ} (hk : ck < 24) (x : S1x128.Idx) (y : S144x128.Idx) (h0 : (y 0).val = 24 * (i 0).val + ck) (h1 : (y 1).val = (x 1).val) :
    X ((r2 i hk).toLoadRect.idx x) = X y := by
  congr 1
  have e := off2 i ⟨ck, hk⟩
  have x0 : (x 0).val < 1 := (x 0).2
  refine funext fun a => Fin.ext ?_
  show k0_off2 i (BitVec.ofNat 32 ck) a + 1 * (x a).val = (y a).val
  rw [e]
  fin_cases a
  · show 24 * (i 0).val + ck + 1 * (x 0).val = (y 0).val; omega
  · show 0 + 1 * (x 1).val = (y 1).val; omega
theorem rw_off1 {α : Type} {X : S12x128.Idx → α} {i : grid0.Coords} {bb : ℕ} (hb : bb < 2) (x : S1x128.Idx) (y : S12x128.Idx) (h0 : (y 0).val = 2 * (i 0).val + bb) (h1 : (y 1).val = (x 1).val) :
    X ((r1 i hb).toLoadRect.idx x) = X y := by
  congr 1
  have e := off1 i ⟨bb, hb⟩
  have x0 : (x 0).val < 1 := (x 0).2
  refine funext fun a => Fin.ext ?_
  show k0_off1 i (BitVec.ofNat 32 bb) a + 1 * (x a).val = (y a).val
  rw [e]
  fin_cases a
  · show 2 * (i 0).val + bb + 1 * (x 0).val = (y 0).val; omega
  · show 0 + 1 * (x 1).val = (y 1).val; omega

theorem setC_C {i : grid0.Coords} (hi : (i 0).val = p) (hp : p < 6) {bb k : ℕ} (hb : bb < 2) (hk : k < 12) (kin : Kin I p s) (h0 : C0t I s) (h : LayC I p (bb * 12 + k) s) : LayC I p (bb * 12 + (k + 1)) (ev (setC i hb hk) s).2 := by
  intro y hy hn
  rw [setC_ev]
  have c7 (x : S1x128.Idx) : s .a31 ((r2 i (ck := bb * 12 + k) (by omega)).toLoadRect.idx x) = I.c0 (2 * p + bb) (k * 128 + (x 1).val) := by
    refine (rw_off (X := s .a31) (by omega) x (ix2 (⟨24 * p + (bb * 12 + k), by omega⟩ : Fin 144) (x 1)) (by rw [hi]; rfl) rfl).trans ((h0 _).trans ?_)
    show I.c0 ((24 * p + (bb * 12 + k)) / 12) ((24 * p + (bb * 12 + k)) % 12 * 128 + (x 1).val) = _
    congr 1 <;> omega
  have c8 (x : S1x128x128.Idx) : s .a8 ((rX8 hk hb).toLoadRect.idx x) = I.c (2 * p + bb) (x 1).val (k * 128 + (x 2).val) := by
    have x0 : (x 0).val < 1 := (x 0).2
    refine (kin.c _).trans ?_
    show I.c (2 * p + (bb + 1 * (x 0).val)) (0 + 1 * (x 1).val) (k * 128 + 1 * (x 2).val) = _
    congr 1 <;> omega
  refine upd_ag (W := fun y : S24x136x128.Idx => 7 ≤ (y 1).val ∧ ((y 0).val < bb * 12 + k ∨ (y 0).val = bb * 12 + k ∧ (y 1).val = 7)) (f := fun y : S24x136x128.Idx => I.cx (2 * p + (y 0).val / 12) ((y 1).val - 7) ((y 0).val % 12 * 128 + (y 2).val)) (fun y hy => ?_) (fun x => ?_) y ?_
  · refine upd_ag (W := fun y : S24x136x128.Idx => 7 ≤ (y 1).val ∧ (y 0).val < bb * 12 + k) (f := fun y : S24x136x128.Idx => I.cx (2 * p + (y 0).val / 12) ((y 1).val - 7) ((y 0).val % 12 * 128 + (y 2).val)) (fun y hy => h y hy.1 hy.2) (fun x => ?_) y ?_
    · have x0 : (x 0).val < 1 := (x 0).2
      have x1 : (x 1).val < 1 := (x 1).2
      refine (cast118 (G := fun l => I.c0 (2 * p + bb) (k * 128 + l)) c7 x).trans ?_
      show _ = I.cx (2 * p + (bb * 12 + k + 1 * (x 0).val) / 12) (7 + 1 * (x 1).val - 7) ((bb * 12 + k + 1 * (x 0).val) % 12 * 128 + (0 + 1 * (x 2).val))
      rw [In.cx, if_pos (by omega)]
      congr 1 <;> omega
    · refine hy.2.elim (fun h' => .inl ⟨hy.1, h'⟩) fun h' => .inr (mem_rect _ y fun a => ?_)
      fin_cases a
      · exact ⟨0, Nat.one_pos, h'.1⟩
      · exact ⟨0, Nat.one_pos, h'.2⟩
      · exact ⟨(y 2).val, (y 2).2, by show (y 2).val = 0 + 1 * (y 2).val; omega⟩
  · have x0 : (x 0).val < 1 := (x 0).2
    refine (cast188 (G := fun m l => I.c (2 * p + bb) m (k * 128 + l)) c8 x).trans ?_
    show _ = I.cx (2 * p + (bb * 12 + k + 1 * (x 0).val) / 12) (8 + 1 * (x 1).val - 7) ((bb * 12 + k + 1 * (x 0).val) % 12 * 128 + (0 + 1 * (x 2).val))
    rw [In.cx, if_neg (by omega)]
    congr 1 <;> omega
  · by_cases h' : (y 0).val = bb * 12 + k ∧ 8 ≤ (y 1).val
    · have y1 : (y 1).val < 136 := (y 1).2
      refine .inr (mem_rect _ y fun a => ?_)
      fin_cases a
      · exact ⟨0, Nat.one_pos, h'.1⟩
      · exact ⟨(y 1).val - 8, by show (y 1).val - 8 < 128; omega, by show (y 1).val = 8 + 1 * ((y 1).val - 8); omega⟩
      · exact ⟨(y 2).val, (y 2).2, by show (y 2).val = 0 + 1 * (y 2).val; omega⟩
    · exact .inl ⟨hy, by omega⟩

theorem setG_G {i : grid0.Coords} (hi : (i 0).val = p) (hp : p < 6) {bb : ℕ} (hb : bb < 2) (kin : Kin I p s) (h : LayG I p bb s) : LayG I p (bb + 1) (ev (setG i hb) s).2 := by
  intro y hy
  rw [setG_ev, Function.update_self]
  have c (x : S1x128.Idx) : s .a11 ((r1 i hb).toLoadRect.idx x) = I.dhs (2 * p + bb) (x 1).val :=
    (rw_off1 (X := s .a11) hb x (ix2 (⟨2 * p + bb, by omega⟩ : Fin 12) (x 1)) (by rw [hi]; rfl) rfl).trans (kin.dhs _)
  refine upd_ag (W := fun y : S2x128x128.Idx => (y 0).val < bb) (f := fun y : S2x128x128.Idx => I.dhs (2 * p + (y 0).val) (y 1).val) h (fun x => ?_) y ?_
  · have x0 : (x 0).val < 1 := (x 0).2
    refine (gCol_at (G := fun l => I.dhs (2 * p + bb) l) c x).trans ?_
    show _ = I.dhs (2 * p + (bb + 1 * (x 0).val)) (0 + 1 * (x 1).val)
    congr 1 <;> omega
  · by_cases h' : (y 0).val = bb
    · refine .inr (mem_rect _ y fun a => ?_)
      fin_cases a
      · exact ⟨0, Nat.one_pos, h'⟩
      · exact ⟨(y 1).val, (y 1).2, by show (y 1).val = 0 + 1 * (y 1).val; omega⟩
      · exact ⟨(y 2).val, (y 2).2, by show (y 2).val = 0 + 1 * (y 2).val; omega⟩
    · exact .inl (by omega)

/-- One batch row laid out. -/
theorem setup_L {i : grid0.Coords} (hi : (i 0).val = p) (hp : p < 6) {bb : ℕ} (hb : bb < 2) (kin : Kin I p s) (h0 : C0t I s) (hc : LayC I p (bb * 12) s) (hg : LayG I p bb s) :
    LayC I p ((bb + 1) * 12) (ev (setup i hb) s).2 ∧ LayG I p (bb + 1) (ev (setup i hb) s).2 ∧ ∀ b, b ≠ .a20 → b ≠ .a21 → (ev (setup i hb) s).2 b = s b := by
  rw [setup_eq, ev_bind]
  have g := setG_G hi hp hb kin hg
  have kk : ∀ b, b ≠ .a21 → (ev (setG i hb) s).2 b = s b := fun b h => by rw [setG_ev, Function.update_of_ne h]
  have kin1 := kin.ev (setG i hb)
  generalize (ev (setG i hb) s).2 = s1 at *
  obtain ⟨s2, ⟨h2, k2⟩, e2⟩ := ev_loopK (p := (pure ⟨⟩ : Cmd Ideal PUnit)) (f := fun k hk => setC i hb hk) (fun k s' => LayC I p (bb * 12 + k) s' ∧ ∀ b, b ≠ .a20 → s' b = s1 b)
    (fun k hk s' h => by
      have o : ∀ b, b ≠ .a20 → (ev (setC i hb hk) s').2 b = s' b := fun b hb' => (setC_only i hb hk).keep (by revert hb'; cases b <;> decide) s'
      refine ⟨setC_C hi hp hb hk ?_ ?_ h.1, fun b hb' => (o b hb').trans (h.2 b hb')⟩
      · constructor <;> intro y <;> rw [h.2 _ (by decide)]
        exacts [kin1.x y, kin1.w y, kin1.ws y, kin1.vf y, kin1.vr y, kin1.b y, kin1.u y, kin1.c y, kin1.c0 y, kin1.dh y, kin1.dhs y, kin1.dcl y]
      · intro y; rw [h.2 _ (by decide), kk _ (by decide)]; exact h0 y) s1
    ⟨fun y hy hn => by rw [kk _ (by decide)]; exact hc y hy hn, fun _ _ => rfl⟩
  rw [show ev (loop 12 fun k hk => setC i hb hk) s1 = (⟨⟩, s2) from e2]
  refine ⟨fun y hy hn => h2 y hy (by omega), fun y hy => (congrFun (k2 .a21 (by decide)) y).trans (g y hy), fun b h1 h2 => (k2 b h1).trans (kk b h2)⟩

/-- A batch row's scales, turned to a row. -/
def sRow (v : Vec Ideal S1x128x128 .f32) : FVec Ideal S1x128 .f32 :=
  extractStridedSlice S1x128 ![0, 0] (transpose S128x128 [1, 0] (shapeCast S128x128 v shapeCasts_S1x128x128_S128x128) transposes_S128x128_p1_0_S128x128) slices_S128x128_o0_0_S1x128
theorem sRow_at {v : Vec Ideal S1x128x128 .f32} {G : ℕ → EReal} (h : ∀ x : S1x128x128.Idx, v x = G (x 1).val) (x : S1x128.Idx) : sRow v x = G (x 1).val := by
  unfold sRow
  pointwise [h]

theorem outScl_ev (i : grid0.Coords) {bb : ℕ} (hb : bb < 2) (s : SI) : (ev (outScl i hb) s).2 = Function.update s .a19 (upd (s .a19) (r1 i hb) (sRow fun x => s .a22 ((rT hb).toLoadRect.idx x))) := rfl

/-- A batch row's scales written out. -/
theorem outScl_S {i : grid0.Coords} (hi : (i 0).val = p) {bb : ℕ} (hb : bb < 2) (h : Sc I p (fun _ _ => True) s) {R : ℕ → Prop} (hs : ∀ y : S12x128.Idx, R (y 0).val → s .a19 y = I.scale (y 0).val (y 1).val) :
    (∀ y : S12x128.Idx, R (y 0).val ∨ (y 0).val = 2 * p + bb → (ev (outScl i hb) s).2 .a19 y = I.scale (y 0).val (y 1).val) ∧ ∀ b, b ≠ .a19 → (ev (outScl i hb) s).2 b = s b := by
  rw [outScl_ev]
  refine ⟨fun y hy => ?_, fun b hb => Function.update_of_ne hb _ _⟩
  rw [Function.update_self]
  have e := off1 i ⟨bb, hb⟩
  have c (x : S1x128x128.Idx) : s .a22 ((rT hb).toLoadRect.idx x) = I.scale (2 * p + bb) (x 1).val := by
    have x0 : (x 0).val < 1 := (x 0).2
    refine (h _ trivial).trans ?_
    show I.scale (2 * p + (bb + 1 * (x 0).val)) (0 + 1 * (x 1).val) = _
    congr 1 <;> omega
  refine upd_ag (W := fun y : S12x128.Idx => R (y 0).val) (f := fun y : S12x128.Idx => I.scale (y 0).val (y 1).val) hs (fun x => ?_) y (hy.imp id fun h' => mem_rect _ y fun a => ?_)
  · have x0 : (x 0).val < 1 := (x 0).2
    refine (sRow_at (G := fun l => I.scale (2 * p + bb) l) c x).trans ?_
    show _ = I.scale (k0_off1 i (BitVec.ofNat 32 bb) 0 + 1 * (x 0).val) (k0_off1 i (BitVec.ofNat 32 bb) 1 + 1 * (x 1).val)
    rw [e]
    show _ = I.scale (2 * (i 0).val + bb + 1 * (x 0).val) (0 + 1 * (x 1).val)
    congr 1 <;> omega
  · show ∃ n, n < S1x128.size a ∧ (y a).val = k0_off1 i (BitVec.ofNat 32 bb) a + 1 * n
    rw [e]
    fin_cases a
    · exact ⟨0, Nat.one_pos, by show (y 0).val = 2 * (i 0).val + bb + 1 * 0; omega⟩
    · exact ⟨(y 1).val, (y 1).2, by show (y 1).val = 0 + 1 * (y 1).val; omega⟩

end Cert.Body
-- ==== Proof.Mm.lean ====
/- The product's blocks of columns. -/
module

public import proofs.«01_k».proof.Proof.Blk

@[expose] public section
noncomputable section

namespace Cert.Body
open Cert.Mem Cert.Spec
open Cert.KernelIdeal Cert.KernelIdeal.Gen Idealize.ShloMosaic Idealize.SL.Sem

variable {I : In} {p : ℕ} {s : SI}

theorem off152 : ∀ t : Fin k0_t2_loop.trips, k0_off152 t = ![256 * t.val, 0] := by decide +kernel
theorem off153 : ∀ (t : Fin k0_t2_loop.trips) (c : Fin 2), k0_off153 t (BitVec.ofNat 32 (128 * c.val)) = ![0, 256 * t.val + 128 * c.val] := by decide +kernel
theorem off154 : ∀ (t : Fin k0_t2_loop.trips) (c : Fin 2), k0_off154 t (BitVec.ofNat 32 (128 * c.val)) = ![0, 0, 256 * t.val + 128 * c.val] := by decide +kernel
theorem off155 : ∀ (t : Fin k0_t2_loop.trips) (c : Fin 2), k0_off155 t (BitVec.ofNat 32 (128 * c.val)) = ![1, 0, 256 * t.val + 128 * c.val] := by decide +kernel

/-- A part of a product block, rescaled and added to the highway part. -/
def outV (q : FVec Ideal S256x256 .f32) (ws : FVec Ideal S1x128 .f32) (o : Fin 2 → ℕ) (ho : S256x256.Slices o S128x128) (sc x : Vec Ideal S1x128x128 .f32) : FVec Ideal S1x128x128 .bf16 :=
  shapeCast S1x128x128 (truncf .bf16 (addf (mulf (mulf (extractStridedSlice S128x128 o q ho) (shapeCast S128x128 sc shapeCasts_S1x128x128_S128x128)) (broadcastTo S128x128 ws broadcasts_S1x128_S128x128)) (shapeCast S128x128 x shapeCasts_S1x128x128_S128x128)) bitsLt_bf16_f32) shapeCasts_S128x128_S1x128x128

theorem outV_at {q : FVec Ideal S256x256 .f32} {ws : FVec Ideal S1x128 .f32} {sc x : Vec Ideal S1x128x128 .f32} {M D : ℕ → ℕ → EReal} {W S : ℕ → EReal} {bb cc : ℕ} (ho : S256x256.Slices ![bb * 128, cc * 128] S128x128)
    (hq : ∀ y : S256x256.Idx, q y = M (y 0).val (y 1).val) (hw : ∀ y : S1x128.Idx, ws y = W (y 1).val) (hs : ∀ y : S1x128x128.Idx, sc y = S (y 1).val) (hx : ∀ y : S1x128x128.Idx, x y = D (y 1).val (y 2).val) (y : S1x128x128.Idx) :
    outV q ws _ ho sc x y = M (bb * 128 + (y 1).val) (cc * 128 + (y 2).val) * S (y 1).val * W (y 2).val + D (y 1).val (y 2).val := by
  unfold outV
  pointwise [hq, hw, hs, hx]

/-- The codes, flattened to a matrix. -/
def flat (p : Vec Ideal S2x128x4608 .fp8e5m2) : FVec Ideal S256x4608 .fp8e5m2 := shapeCast S256x4608 (shapeCast S2x128x4608 p shapeCasts_S2x128x4608_S2x128x4608) shapeCasts_S2x128x4608_S256x4608
theorem flat_at {v : Vec Ideal S2x128x4608 .fp8e5m2} {P : ℕ → ℕ → ℕ → EReal} (hp : ∀ y : S2x128x4608.Idx, v y = P (y 0).val (y 1).val (y 2).val) (y : S256x4608.Idx) : flat v y = P ((y 0).val / 128) ((y 0).val % 128) (y 1).val := by
  unfold flat
  pointwise [hp]

/-- A block of the product. -/
def qOf (p : FVec Ideal S256x4608 .fp8e5m2) (w : FVec Ideal S256x4608 .fp8e4m3) : FVec Ideal S256x256 .f32 :=
  matmul dot_S256x4608_S256x4608_S256x256_1_1_0_0_n_n none p w (constant S256x256 .f32 0x00000000#32)

theorem qOf_at {p : FVec Ideal S256x4608 .fp8e5m2} {w : FVec Ideal S256x4608 .fp8e4m3} {P W : ℕ → ℕ → EReal} (hp : ∀ y : S256x4608.Idx, p y = P (y 0).val (y 1).val) (hw : ∀ y : S256x4608.Idx, w y = W (y 0).val (y 1).val)
    (y : S256x256.Idx) : qOf p w y = ∑ e : Fin 4608, P (y 0).val e.val * W (y 1).val e.val := by
  unfold qOf
  pointwise [hp, hw]

theorem upd_O {X : S2x128x1536.Idx → EReal} {G : ℕ → ℕ → ℕ → EReal} {R : ℕ → ℕ → Prop} (h : ∀ y : S2x128x1536.Idx, R (y 0).val (y 2).val → X y = G (y 0).val (y 1).val (y 2).val)
    {o : Fin 3 → ℕ} {ho : ∀ a, o a + S1x128x128.size a ≤ S2x128x1536.size a} {bb c : ℕ} (e : o = ![bb, 0, c]) {v : S1x128x128.Idx → EReal} (hv : ∀ x : S1x128x128.Idx, v x = G bb (x 1).val (c + (x 2).val)) :
    ∀ y : S2x128x1536.Idx, (R (y 0).val (y 2).val ∨ (y 0).val = bb ∧ c ≤ (y 2).val ∧ (y 2).val < c + 128) → upd X (.unit o S1x128x128.size ho) v y = G (y 0).val (y 1).val (y 2).val := by
  subst e
  intro y hy
  refine upd_ag (W := fun y : S2x128x1536.Idx => R (y 0).val (y 2).val) (f := fun y : S2x128x1536.Idx => G (y 0).val (y 1).val (y 2).val) h (fun x => ?_) y (hy.imp id fun e => mem_rect _ y fun a => ?_)
  · have x0 : (x 0).val < 1 := (x 0).2
    refine (hv x).trans ?_
    show _ = G (bb + 1 * (x 0).val) (0 + 1 * (x 1).val) (c + 1 * (x 2).val)
    congr 1 <;> omega
  · fin_cases a
    · exact ⟨0, Nat.one_pos, e.1⟩
    · exact ⟨(y 1).val, (y 1).2, by show (y 1).val = 0 + 1 * (y 1).val; omega⟩
    · exact ⟨(y 2).val - c, by show (y 2).val - c < 128; omega, by show (y 2).val = c + 1 * ((y 2).val - c); omega⟩

/-- A part of a product block, stored. -/
def outB {bb : ℕ} (hb : bb < 2) (q : FVec Ideal S256x256 .f32) (ws : FVec Ideal S1x128 .f32) (o : Fin 2 → ℕ) (ho : S256x256.Slices o S128x128) (r : Fin 3 → ℕ) (hr : ∀ a, r a + S1x128x128.size a ≤ S2x128x1536.size a)
    (hx : ∀ m : Memref sig .tc .vmem S2x128x1536 .bf16, m.IsWhole → (m.access (.unit r S1x128x128.size hr)).Stores Finset.univ) : Cmd Ideal PUnit :=
  outMm q ws hb (.unit r S1x128x128.size hr) rfl o ho hx h_S1x128x128 shapeCasts_S1x128x128_S128x128 shapeCasts_S128x128_S1x128x128

theorem outB_ev {bb : ℕ} (hb : bb < 2) (q : FVec Ideal S256x256 .f32) (ws : FVec Ideal S1x128 .f32) (o : Fin 2 → ℕ) (ho : S256x256.Slices o S128x128) (r : Fin 3 → ℕ) (hr : ∀ a, r a + S1x128x128.size a ≤ S2x128x1536.size a)
    (hx : ∀ m : Memref sig .tc .vmem S2x128x1536 .bf16, m.IsWhole → (m.access (.unit r S1x128x128.size hr)).Stores Finset.univ) (s : SI) :
    (ev (outB hb q ws o ho r hr hx) s).2 = Function.update s .a13 (upd (s .a13) (.unit r S1x128x128.size hr) (outV q ws o ho (fun x => s .a22 ((rT hb).toLoadRect.idx x)) fun x => s .a30 ((Rect.unit (s := S2x128x1536) r S1x128x128.size hr).toLoadRect.idx x))) := rfl

/-- The input's gradient stored, on some batch rows and columns. -/
structure Ox (I : In) (p : ℕ) (R : ℕ → ℕ → Prop) (s0 s : SI) : Prop where
  dx : ∀ y : S2x128x1536.Idx, R (y 0).val (y 2).val → s .a13 y = I.dx (2 * p + (y 0).val) (y 1).val (y 2).val
  keep : ∀ b, b ≠ .a13 → s b = s0 b

theorem outB_O {s0 : SI} (hsc : Sc I p (fun _ _ => True) s0) (hdx : Dxh I p 0 s0) {R : ℕ → ℕ → Prop} (h : Ox I p R s0 s) {bb cc n : ℕ} (hb : bb < 2) {q : FVec Ideal S256x256 .f32} {ws : FVec Ideal S1x128 .f32}
    (hq : ∀ y : S256x256.Idx, q y = ∑ e : Fin 4608, I.code (2 * p + (y 0).val / 128) ((y 0).val % 128) e.val * I.w (n + (y 1).val) e.val) (hw : ∀ y : S1x128.Idx, ws y = I.ws (n + cc * 128 + (y 1).val))
    (ho : S256x256.Slices ![bb * 128, cc * 128] S128x128) {r : Fin 3 → ℕ} {hr : ∀ a, r a + S1x128x128.size a ≤ S2x128x1536.size a} (e : r = ![bb, 0, n + cc * 128])
    (hx : ∀ m : Memref sig .tc .vmem S2x128x1536 .bf16, m.IsWhole → (m.access (.unit r S1x128x128.size hr)).Stores Finset.univ) :
    Ox I p (fun b d => R b d ∨ b = bb ∧ n + cc * 128 ≤ d ∧ d < n + cc * 128 + 128) s0 (ev (outB hb q ws _ ho r hr hx) s).2 := by
  rw [outB_ev, h.keep .a22 (by decide), h.keep .a30 (by decide)]
  refine ⟨?_, fun b hb' => by rw [Function.update_of_ne hb', h.keep b hb']⟩
  rw [Function.update_self]
  have c1 (x : S1x128x128.Idx) : s0 .a22 ((rT hb).toLoadRect.idx x) = I.scale (2 * p + bb) (x 1).val := by
    have x0 : (x 0).val < 1 := (x 0).2
    refine (hsc _ trivial).trans ?_
    show I.scale (2 * p + (bb + 1 * (x 0).val)) (0 + 1 * (x 1).val) = _
    congr 1 <;> omega
  have c2 (x : S1x128x128.Idx) : s0 .a30 ((Rect.unit (s := S2x128x1536) r S1x128x128.size hr).toLoadRect.idx x) = I.dxh (2 * p + bb) (x 1).val (n + cc * 128 + (x 2).val) := by
    have x0 : (x 0).val < 1 := (x 0).2
    subst e
    refine (hdx _ (Nat.zero_le _)).trans ?_
    show I.dxh (2 * p + (bb + 1 * (x 0).val)) (0 + 1 * (x 1).val) (n + cc * 128 + 1 * (x 2).val) = _
    congr 1 <;> omega
  refine upd_O (G := fun a b c => I.dx (2 * p + a) b c) h.dx e fun x => ?_
  have x1 : (x 1).val < 128 := (x 1).2
  refine (outV_at (M := fun m d => ∑ e : Fin 4608, I.code (2 * p + m / 128) (m % 128) e.val * I.w (n + d) e.val) (W := fun l => I.ws (n + cc * 128 + l)) (S := fun l => I.scale (2 * p + bb) l) (D := fun m l => I.dxh (2 * p + bb) m (n + cc * 128 + l)) ho hq hw c1 c2 x).trans ?_
  beta_reduce
  rw [In.dx, show (bb * 128 + (x 1).val) / 128 = bb by omega, show (bb * 128 + (x 1).val) % 128 = (x 1).val by omega, Nat.add_assoc n]

theorem mm_eq (v : FVec Ideal S256x4608 .fp8e5m2) (t : Fin k0_t2_loop.trips) (s : SI) : ∃ x0 x1 x2 x3, ev (mm v t) s =
    ev ((outB (bb := 0) (by omega) (qOf v fun x => s .a2 ((Rect.unit (s := S1536x4608) (k0_off152 t) S256x4608.size (k0_off152_inb t)).toLoadRect.idx x)) (shapeCast S1x128 (fun x => s .a3 ((Rect.unit (s := S1x1536) (k0_off153 t 0#32) S1x128.size (k0_off153_inb t 0)).toLoadRect.idx x)) shapeCasts_S1x128_S1x128) ![0, 0] slices_S256x256_o0_0_S128x128 (k0_off154 t 0#32) (k0_off154_inb t 0) x0).bind fun _ =>
      (outB (bb := 1) (by omega) (qOf v fun x => s .a2 ((Rect.unit (s := S1536x4608) (k0_off152 t) S256x4608.size (k0_off152_inb t)).toLoadRect.idx x)) (shapeCast S1x128 (fun x => s .a3 ((Rect.unit (s := S1x1536) (k0_off153 t 0#32) S1x128.size (k0_off153_inb t 0)).toLoadRect.idx x)) shapeCasts_S1x128_S1x128) ![128, 0] slices_S256x256_o128_0_S128x128 (k0_off155 t 0#32) (k0_off155_inb t 0) x1).bind fun _ =>
      (ld .a3 (Rect.unit (s := S1x1536) (k0_off153 t 128#32) S1x128.size (k0_off153_inb t 1)).toLoadRect h_S1x128).bind fun u =>
      (outB (bb := 0) (by omega) (qOf v fun x => s .a2 ((Rect.unit (s := S1536x4608) (k0_off152 t) S256x4608.size (k0_off152_inb t)).toLoadRect.idx x)) (shapeCast S1x128 u shapeCasts_S1x128_S1x128) ![0, 128] slices_S256x256_o0_128_S128x128 (k0_off154 t 128#32) (k0_off154_inb t 1) x2).bind fun _ =>
      (outB (bb := 1) (by omega) (qOf v fun x => s .a2 ((Rect.unit (s := S1536x4608) (k0_off152 t) S256x4608.size (k0_off152_inb t)).toLoadRect.idx x)) (shapeCast S1x128 u shapeCasts_S1x128_S1x128) ![128, 128] slices_S256x256_o128_128_S128x128 (k0_off155 t 128#32) (k0_off155_inb t 1) x3)) s := by
  refine ⟨(fun _ hm => View.stores_vmem h_S1x128x128 (hm.storeExact_slice rfl _ (k0_off154_packedbf16 t 0)) (fun _ => rfl)),
    (fun _ hm => View.stores_vmem h_S1x128x128 (hm.storeExact_slice rfl _ (k0_off155_packedbf16 t 0)) (fun _ => rfl)),
    (fun _ hm => View.stores_vmem h_S1x128x128 (hm.storeExact_slice rfl _ (k0_off154_packedbf16 t 1)) (fun _ => rfl)),
    (fun _ hm => View.stores_vmem h_S1x128x128 (hm.storeExact_slice rfl _ (k0_off155_packedbf16 t 1)) (fun _ => rfl)),
    ?_⟩
  unfold mm
  refine (ev_ld Bf.a2 _ h_S256x4608 _ s).trans ?_
  refine (ev_ld Bf.a3 _ h_S1x128 _ s).trans ?_
  rfl

theorem castW {v : Vec Ideal S1x128 .f32} {W : ℕ → EReal} (h : ∀ y : S1x128.Idx, v y = W (y 1).val) (y : S1x128.Idx) : shapeCast S1x128 v shapeCasts_S1x128_S1x128 y = W (y 1).val := by pointwise [h]

/-- The four parts of a trip's block, stored. -/
theorem four_O {s0 : SI} (hsc : Sc I p (fun _ _ => True) s0) (hdx : Dxh I p 0 s0) {t : Fin k0_t2_loop.trips} (h : Ox I p (fun _ d => d < 256 * t.val) s0 s) {q : FVec Ideal S256x256 .f32} {u0 : FVec Ideal S1x128 .f32}
    (hq : ∀ y : S256x256.Idx, q y = ∑ e : Fin 4608, I.code (2 * p + (y 0).val / 128) ((y 0).val % 128) e.val * I.w (256 * t.val + (y 1).val) e.val)
    (hw0 : ∀ y : S1x128.Idx, u0 y = I.ws (256 * t.val + 0 * 128 + (y 1).val))
    (hw1 : ∀ (s' : SI), s' .a3 = s0 .a3 → ∀ (y : S1x128.Idx), s' .a3 ((Rect.unit (s := S1x1536) (k0_off153 t 128#32) S1x128.size (k0_off153_inb t 1)).toLoadRect.idx y) = I.ws (256 * t.val + 1 * 128 + (y 1).val)) (x0 x1 x2 x3) :
    Ox I p (fun _ d => d < 256 * (t.val + 1)) s0 (ev ((outB (bb := 0) (by omega) q u0 ![0, 0] slices_S256x256_o0_0_S128x128 (k0_off154 t 0#32) (k0_off154_inb t 0) x0).bind fun _ =>
      (outB (bb := 1) (by omega) q u0 ![128, 0] slices_S256x256_o128_0_S128x128 (k0_off155 t 0#32) (k0_off155_inb t 0) x1).bind fun _ =>
      (ld .a3 (Rect.unit (s := S1x1536) (k0_off153 t 128#32) S1x128.size (k0_off153_inb t 1)).toLoadRect h_S1x128).bind fun u =>
      (outB (bb := 0) (by omega) q (shapeCast S1x128 u shapeCasts_S1x128_S1x128) ![0, 128] slices_S256x256_o0_128_S128x128 (k0_off154 t 128#32) (k0_off154_inb t 1) x2).bind fun _ =>
      (outB (bb := 1) (by omega) q (shapeCast S1x128 u shapeCasts_S1x128_S1x128) ![128, 128] slices_S256x256_o128_128_S128x128 (k0_off155 t 128#32) (k0_off155_inb t 1) x3)) s).2 := by
  have r0 := outB_O hsc hdx h (bb := 0) (cc := 0) (n := 256 * t.val) (by omega) hq hw0 slices_S256x256_o0_0_S128x128 (off154 t 0) x0
  rw [ev_bind]
  generalize (ev (outB (bb := 0) _ q u0 ![0, 0] _ _ _ x0) s).2 = s1 at *
  have r1 := outB_O hsc hdx r0 (bb := 1) (cc := 0) (n := 256 * t.val) (by omega) hq hw0 slices_S256x256_o128_0_S128x128 (off155 t 0) x1
  rw [ev_bind]
  generalize (ev (outB (bb := 1) _ q u0 ![128, 0] _ _ _ x1) s1).2 = s2 at *
  have hw1 := castW (W := fun l => I.ws (256 * t.val + 1 * 128 + l)) (hw1 s2 (r1.keep _ (by decide)))
  rw [show ∀ k : (Vec Ideal S1x128 .f32) → Cmd Ideal PUnit, ev ((ld .a3 (Rect.unit (s := S1x1536) (k0_off153 t 128#32) S1x128.size (k0_off153_inb t 1)).toLoadRect h_S1x128).bind k) s2 = ev (k fun x => s2 .a3 ((Rect.unit (s := S1x1536) (k0_off153 t 128#32) S1x128.size (k0_off153_inb t 1)).toLoadRect.idx x)) s2 from fun k => rfl]
  generalize (shapeCast S1x128 (fun x => s2 .a3 ((Rect.unit (s := S1x1536) (k0_off153 t 128#32) S1x128.size (k0_off153_inb t 1)).toLoadRect.idx x)) shapeCasts_S1x128_S1x128) = u1 at *
  have r2 := outB_O hsc hdx r1 (bb := 0) (cc := 1) (n := 256 * t.val) (by omega) hq hw1 slices_S256x256_o0_128_S128x128 (off154 t 1) x2
  rw [ev_bind]
  generalize (ev (outB (bb := 0) _ q u1 ![0, 128] _ _ _ x2) s2).2 = s3 at *
  have r3 := outB_O hsc hdx r2 (bb := 1) (cc := 1) (n := 256 * t.val) (by omega) hq hw1 slices_S256x256_o128_128_S128x128 (off155 t 1) x3
  exact ⟨fun y hy => r3.dx y (by have y0 : (y 0).val < 2 := (y 0).2; omega), r3.keep⟩

theorem w_at {s0 : SI} (kin : Kin I p s0) (h : s .a2 = s0 .a2) (t : Fin k0_t2_loop.trips) (y : S256x4608.Idx) : s .a2 ((Rect.unit (s := S1536x4608) (k0_off152 t) S256x4608.size (k0_off152_inb t)).toLoadRect.idx y) = I.w (256 * t.val + (y 0).val) (y 1).val := by
  rw [h]
  refine (kin.w _).trans ?_
  show I.w (k0_off152 t 0 + 1 * (y 0).val) (k0_off152 t 1 + 1 * (y 1).val) = _
  rw [off152]
  show I.w (256 * t.val + 1 * (y 0).val) (0 + 1 * (y 1).val) = _
  congr 1 <;> omega

theorem ws_at {s0 : SI} (kin : Kin I p s0) (t : Fin k0_t2_loop.trips) (c : Fin 2) (s' : SI) (h' : s' .a3 = s0 .a3) (y : S1x128.Idx) :
    s' .a3 ((Rect.unit (s := S1x1536) (k0_off153 t (BitVec.ofNat 32 (128 * c.val))) S1x128.size (k0_off153_inb t c)).toLoadRect.idx y) = I.ws (256 * t.val + c.val * 128 + (y 1).val) := by
  rw [h']
  refine (kin.ws _).trans ?_
  show I.ws (k0_off153 t (BitVec.ofNat 32 (128 * c.val)) 1 + 1 * (y 1).val) = _
  rw [off153]
  show I.ws (256 * t.val + 128 * c.val + 1 * (y 1).val) = _
  congr 1; omega

/-- One trip of the product. -/
theorem mm_O {s0 : SI} (kin : Kin I p s0) (hsc : Sc I p (fun _ _ => True) s0) (hdx : Dxh I p 0 s0) {v : FVec Ideal S256x4608 .fp8e5m2} (hv : ∀ y : S256x4608.Idx, v y = I.code (2 * p + (y 0).val / 128) ((y 0).val % 128) (y 1).val)
    {t : Fin k0_t2_loop.trips} (h : Ox I p (fun _ d => d < 256 * t.val) s0 s) : Ox I p (fun _ d => d < 256 * (t.val + 1)) s0 (ev (mm v t) s).2 := by
  obtain ⟨x0, x1, x2, x3, e⟩ := mm_eq v t s
  rw [e]
  exact four_O hsc hdx h (qOf_at (w := fun x => s .a2 ((Rect.unit (s := S1536x4608) (k0_off152 t) S256x4608.size (k0_off152_inb t)).toLoadRect.idx x)) (P := fun m e => I.code (2 * p + m / 128) (m % 128) e) (W := fun m e => I.w (256 * t.val + m) e) hv (w_at kin (h.keep _ (by decide)) t))
    (castW (W := fun l => I.ws (256 * t.val + 0 * 128 + l)) (ws_at kin t 0 s (h.keep _ (by decide)))) (ws_at kin t 1) x0 x1 x2 x3

/-- The whole product. -/
theorem mms_O (kin : Kin I p s) (hsc : Sc I p (fun _ _ => True) s) (hdx : Dxh I p 0 s) {v : FVec Ideal S256x4608 .fp8e5m2} (hv : ∀ y : S256x4608.Idx, v y = I.code (2 * p + (y 0).val / 128) ((y 0).val % 128) (y 1).val) :
    Ox I p (fun _ d => d < 256 * 6) s (ev (Scf.Loop.for k0_t2_loop k0_t2_ok ⟨⟩ fun t _ => mm v t) s).2 :=
  ev_for (l := k0_t2_loop) (ok := k0_t2_ok) (u := PUnit.unit) (f := fun t _ => mm v t) (fun n _ s' => Ox I p (fun _ d => d < 256 * n) s s')
    (fun t _ s' h => mm_O kin hsc hdx hv h) s ⟨fun _ h => absurd h (Nat.not_lt_zero _), fun _ _ => rfl⟩

end Cert.Body
-- ==== Proof.FinP.lean ====
/- What the last grid point writes at its end. -/
module

public import proofs.«01_k».proof.Proof.Init

@[expose] public section
noncomputable section

namespace Cert.Body
open Cert.Mem Cert.Spec
open Cert.KernelIdeal Cert.KernelIdeal.Gen Idealize.ShloMosaic Idealize.SL.Sem

variable {I : In} {p : ℕ} {s : SI}

/-- Eight rows' last carries copied out. -/
def co8 {k : ℕ} (hk : k < 12) : Cmd Ideal PUnit := do
    let v : Vec Ideal S8x128 .f32 ← ld .a32 (rJ8 hk).toLoadRect h_S8x128
    st .a14 (rI8 hk) h_S8x128 v (fun _ _ => View.stores_vmem_bits_univ h_S8x128 rfl)
/-- The same of the last four rows. -/
def co4 {k : ℕ} (hk : k < 12) : Cmd Ideal PUnit := do
    let v : Vec Ideal S4x128 .f32 ← ld .a32 (rJ4 hk).toLoadRect h_S4x128
    st .a14 (rI4 hk) h_S4x128 v (fun _ _ => View.stores_vmem_bits_univ h_S4x128 rfl)

theorem co8_ev {k : ℕ} (hk : k < 12) (s : SI) : (ev (co8 hk) s).2 = Function.update s .a14 (upd (s .a14) (rI8 hk) fun x => s .a32 ((rJ8 hk).toLoadRect.idx x)) := rfl
theorem co4_ev {k : ℕ} (hk : k < 12) (s : SI) : (ev (co4 hk) s).2 = Function.update s .a14 (upd (s .a14) (rI4 hk) fun x => s .a32 ((rJ4 hk).toLoadRect.idx x)) := rfl

/-- The rows copied out so far. -/
structure JE (I : In) (R : ℕ → ℕ → Prop) (s0 s : SI) : Prop where
  d : ∀ y : S12x1536.Idx, R (y 0).val ((y 1).val / 128) → s .a14 y = I.dc (y 0).val (y 1).val 128
  keep : ∀ b, b ≠ .a14 → s b = s0 b

theorem JE.mono {s0 : SI} {R R' : ℕ → ℕ → Prop} (h : JE I R s0 s) (m : ∀ a b, a < 12 → R' a b → R a b) : JE I R' s0 s := ⟨fun y hy => h.d y (m _ _ (y 0).2 hy), h.keep⟩

theorem tau_end (n : ℕ) (h : n < 144) : tau 6 0 0 n = 128 := if_pos (by omega)

theorem co8_J {s0 : SI} (car : Car I (tau 6 0 0) s0) {R : ℕ → ℕ → Prop} (h : JE I R s0 s) {k : ℕ} (hk : k < 12) : JE I (fun a b => R a b ∨ a < 8 ∧ b = k) s0 (ev (co8 hk) s).2 := by
  rw [co8_ev, h.keep .a32 (by decide)]
  refine ⟨fun y hy => ?_, fun b hb => by rw [Function.update_of_ne hb, h.keep b hb]⟩
  rw [Function.update_self]
  refine upd_ag (W := fun y : S12x1536.Idx => R (y 0).val ((y 1).val / 128)) (f := fun y : S12x1536.Idx => I.dc (y 0).val (y 1).val 128) h.d (fun x => ?_) y (hy.imp id fun e => mem_rect _ y fun a => ?_)
  · have x0 : (x 0).val < 8 := (x 0).2
    have x1 : (x 1).val < 128 := (x 1).2
    refine (car _).trans ?_
    have e0 : ((rJ8 hk).toLoadRect.idx x 0).val = k + 12 * (x 0).val := rfl
    have e1 : ((rJ8 hk).toLoadRect.idx x 1).val = 0 + 1 * (x 1).val := rfl
    rw [e0, e1, tau_end _ (by omega)]
    show _ = I.dc (0 + 1 * (x 0).val) (k * 128 + 1 * (x 1).val) 128
    congr 1 <;> omega
  · fin_cases a
    · exact ⟨(y 0).val, e.1, by show (y 0).val = 0 + 1 * (y 0).val; omega⟩
    · exact ⟨(y 1).val - k * 128, by show (y 1).val - k * 128 < 128; omega, by show (y 1).val = k * 128 + 1 * ((y 1).val - k * 128); omega⟩

theorem co4_J {s0 : SI} (car : Car I (tau 6 0 0) s0) {R : ℕ → ℕ → Prop} (h : JE I R s0 s) {k : ℕ} (hk : k < 12) : JE I (fun a b => R a b ∨ 8 ≤ a ∧ b = k) s0 (ev (co4 hk) s).2 := by
  rw [co4_ev, h.keep .a32 (by decide)]
  refine ⟨fun y hy => ?_, fun b hb => by rw [Function.update_of_ne hb, h.keep b hb]⟩
  rw [Function.update_self]
  have y0 : (y 0).val < 12 := (y 0).2
  refine upd_ag (W := fun y : S12x1536.Idx => R (y 0).val ((y 1).val / 128)) (f := fun y : S12x1536.Idx => I.dc (y 0).val (y 1).val 128) h.d (fun x => ?_) y (hy.imp id fun e => mem_rect _ y fun a => ?_)
  · have x0 : (x 0).val < 4 := (x 0).2
    have x1 : (x 1).val < 128 := (x 1).2
    refine (car _).trans ?_
    have e0 : ((rJ4 hk).toLoadRect.idx x 0).val = 96 + k + 12 * (x 0).val := rfl
    have e1 : ((rJ4 hk).toLoadRect.idx x 1).val = 0 + 1 * (x 1).val := rfl
    rw [e0, e1, tau_end _ (by omega)]
    show _ = I.dc (8 + 1 * (x 0).val) (k * 128 + 1 * (x 1).val) 128
    congr 1 <;> omega
  · fin_cases a
    · exact ⟨(y 0).val - 8, by show (y 0).val - 8 < 4; omega, by show (y 0).val = 8 + 1 * ((y 0).val - 8); omega⟩
    · exact ⟨(y 1).val - k * 128, by show (y 1).val - k * 128 < 128; omega, by show (y 1).val = k * 128 + 1 * ((y 1).val - k * 128); omega⟩

/-- Eight rows summed. -/
def sum8 (v : Vec Ideal S1x8x1536 .f32) : FVec Ideal S1x1536 .f32 :=
  shapeCast S1x1536 (multiReduction .add [0] S1536 (shapeCast S8x1536 v shapeCasts_S1x8x1536_S8x1536) 0x00000000#32 reduces_S8x1536_S1536 (.inl rfl) rfl) shapeCasts_S1536_S1x1536

theorem sum8_at {v : Vec Ideal S1x8x1536 .f32} {G : ℕ → ℕ → EReal} (h : ∀ y : S1x8x1536.Idx, v y = G (y 1).val (y 2).val) (y : S1x1536.Idx) : sum8 v y = ∑ i : Fin 8, G i.val (y 1).val := by
  unfold sum8
  pointwise [h]

/-- The four sums written out. -/
def fin4 : Cmd Ideal PUnit := do
  let v ← accRow (r := 0) (by omega)
  st .a15 (.unit ![0, 0] S1x1536.size inb_S1x1536_S1x1536_0_0) h_S1x1536 v (fun _ _ => View.stores_vmem_bits_univ h_S1x1536 rfl)
  let v ← accRow (r := 1) (by omega)
  st .a16 (.unit ![0, 0] S1x1536.size inb_S1x1536_S1x1536_0_0) h_S1x1536 v (fun _ _ => View.stores_vmem_bits_univ h_S1x1536 rfl)
  let v ← accRow (r := 2) (by omega)
  st .a17 (rE (r := 0) (by omega)) h_S1x1536 v (fun _ _ => View.stores_vmem_bits_univ h_S1x1536 rfl)
  let v ← accRow (r := 3) (by omega)
  st .a17 (rE (r := 1) (by omega)) h_S1x1536 v (fun _ _ => View.stores_vmem_bits_univ h_S1x1536 rfl)

theorem finP_eq : (finP : Cmd Ideal PUnit) = (loop 12 fun k hk => co8 hk).bind fun _ => (loop 12 fun k hk => co4 hk).bind fun _ => fin4 := rfl

/-- A row of the accumulator, summed. -/
def arow (s : SI) {r : ℕ} (hr : r < 4) : FVec Ideal S1x1536 .f32 := sum8 fun x => s .a33 ((rF hr).toLoadRect.idx x)

theorem accRow_ev {r : ℕ} (hr : r < 4) (s : SI) : ev (accRow hr) s = (arow s hr, s) := rfl

/-- A column sum's parts put together. -/
def tot (I : In) (q d : ℕ) : EReal := ∑ i : Fin 8, I.acc q i.val d 48

theorem arow_at (acc : Acc I (fun _ _ => 48) s) {r : ℕ} (hr : r < 4) (y : S1x1536.Idx) : arow s hr y = tot I r (y 1).val := by
  refine sum8_at (G := fun i d => I.acc r i d 48) (fun x => ?_) y
  have x0 : (x 0).val < 1 := (x 0).2
  refine (acc _).trans ?_
  have e0 : ((rF hr).toLoadRect.idx x 0).val = r := by show r + 1 * (x 0).val = r; omega
  have e1 : ((rF hr).toLoadRect.idx x 1).val = (x 1).val := by show 0 + 1 * (x 1).val = (x 1).val; omega
  have e2 : ((rF hr).toLoadRect.idx x 2).val = (x 2).val := by show 0 + 1 * (x 2).val = (x 2).val; omega
  rw [e0, e1, e2]

/-- The sums, written out. -/
structure Sums (I : In) (s0 s : SI) : Prop where
  vf : ∀ y : S1x1536.Idx, s .a15 y = tot I 0 (y 1).val
  vr : ∀ y : S1x1536.Idx, s .a16 y = tot I 1 (y 1).val
  b : ∀ y : S2x1536.Idx, s .a17 y = tot I (2 + (y 0).val) (y 1).val
  keep : ∀ b, b ≠ .a15 → b ≠ .a16 → b ≠ .a17 → s b = s0 b

theorem fin4_ev (s : SI) : (ev fin4 s).2 = Function.update (Function.update (Function.update (Function.update s .a15 (upd (s .a15) (.unit ![0, 0] S1x1536.size inb_S1x1536_S1x1536_0_0) (arow s (r := 0) (by omega))))
    .a16 (upd (s .a16) (.unit ![0, 0] S1x1536.size inb_S1x1536_S1x1536_0_0) (arow s (r := 1) (by omega)))) .a17 (upd (s .a17) (rE (r := 0) (by omega)) (arow s (r := 2) (by omega))))
    .a17 (upd (upd (s .a17) (rE (r := 0) (by omega)) (arow s (r := 2) (by omega))) (rE (r := 1) (by omega)) (arow s (r := 3) (by omega))) := rfl

theorem whole_at {X v : S1x1536.Idx → EReal} (y : S1x1536.Idx) : upd X (.unit ![0, 0] S1x1536.size inb_S1x1536_S1x1536_0_0 : Rect S1x1536) v y = v y := by
  refine upd_ag (W := fun _ => False) (f := v) (fun _ h => h.elim) (fun x => congrArg v (funext fun a => Fin.ext ?_)) y (.inr (mem_rect _ y fun a => ⟨(y a).val, (y a).2, ?_⟩))
  · fin_cases a
    · show (x 0).val = 0 + 1 * (x 0).val; omega
    · show (x 1).val = 0 + 1 * (x 1).val; omega
  · fin_cases a
    · show (y 0).val = 0 + 1 * (y 0).val; omega
    · show (y 1).val = 0 + 1 * (y 1).val; omega

theorem fin4_S (acc : Acc I (fun _ _ => 48) s) : Sums I s (ev fin4 s).2 := by
  rw [fin4_ev]
  refine ⟨fun y => ?_, fun y => ?_, fun y => ?_, fun b h1 h2 h3 => by rw [Function.update_of_ne h3, Function.update_of_ne h3, Function.update_of_ne h2, Function.update_of_ne h1]⟩
  · rw [Function.update_of_ne (by decide), Function.update_of_ne (by decide), Function.update_of_ne (by decide), Function.update_self]
    exact (whole_at y).trans (arow_at acc _ y)
  · rw [Function.update_of_ne (by decide), Function.update_of_ne (by decide), Function.update_self]
    exact (whole_at y).trans (arow_at acc _ y)
  · rw [Function.update_self]
    have row {r : ℕ} (hr : r < 2) {R : ℕ → Prop} {X : S2x1536.Idx → EReal} (hX : ∀ y : S2x1536.Idx, R (y 0).val → X y = tot I (2 + (y 0).val) (y 1).val) (y : S2x1536.Idx) (hy : R (y 0).val ∨ (y 0).val = r) :
        upd X (rE hr) (arow s (r := 2 + r) (by omega)) y = tot I (2 + (y 0).val) (y 1).val := by
      refine upd_ag (W := fun y : S2x1536.Idx => R (y 0).val) (f := fun y : S2x1536.Idx => tot I (2 + (y 0).val) (y 1).val) hX (fun x => ?_) y (hy.imp id fun e => mem_rect _ y fun a => ?_)
      · have x0 : (x 0).val < 1 := (x 0).2
        refine (arow_at acc _ x).trans ?_
        show _ = tot I (2 + (r + 1 * (x 0).val)) (0 + 1 * (x 1).val)
        congr 1 <;> omega
      · fin_cases a
        · exact ⟨0, Nat.one_pos, e⟩
        · exact ⟨(y 1).val, (y 1).2, by show (y 1).val = 0 + 1 * (y 1).val; omega⟩
    have y0 : (y 0).val < 2 := (y 0).2
    exact row (r := 1) (by omega) (R := fun n => False ∨ n = 0) (row (r := 0) (by omega) (R := fun _ => False) fun _ h => h.elim) y (by omega)

/-- What the last point writes. -/
structure Fin6 (I : In) (s0 s : SI) : Prop where
  d : ∀ y : S12x1536.Idx, s .a14 y = I.dc (y 0).val (y 1).val 128
  vf : ∀ y : S1x1536.Idx, s .a15 y = tot I 0 (y 1).val
  vr : ∀ y : S1x1536.Idx, s .a16 y = tot I 1 (y 1).val
  b : ∀ y : S2x1536.Idx, s .a17 y = tot I (2 + (y 0).val) (y 1).val
  keep : ∀ b, b ≠ .a14 → b ≠ .a15 → b ≠ .a16 → b ≠ .a17 → s b = s0 b

theorem finP_F (car : Car I (tau 6 0 0) s) (acc : Acc I (fun _ _ => 48) s) : Fin6 I s (ev finP s).2 := by
  rw [finP_eq, ev_bind, ev_bind]
  obtain ⟨s2, h2, e2⟩ := ev_loopK (p := (pure ⟨⟩ : Cmd Ideal PUnit)) (f := fun k hk => co8 hk) (fun k s' => JE I (fun a b => a < 8 ∧ b < k) s s')
    (fun k hk s' h => (co8_J car h hk).mono fun a b _ => by omega) s ⟨fun _ h => absurd h.2 (by omega), fun _ _ => rfl⟩
  rw [show ev (loop 12 fun k hk => co8 hk) s = (⟨⟩, s2) from e2]
  obtain ⟨s3, h3, e3⟩ := ev_loopK (p := (pure ⟨⟩ : Cmd Ideal PUnit)) (f := fun k hk => co4 hk) (fun k s' => JE I (fun a b => a < 8 ∧ b < 12 ∨ 8 ≤ a ∧ b < k) s s')
    (fun k hk s' h => (co4_J car h hk).mono fun a b _ => by omega) s2 (h2.mono fun a b _ => by omega)
  rw [show ev (loop 12 fun k hk => co4 hk) s2 = (⟨⟩, s3) from e3]
  have h4 := fin4_S (acc.keep (h3.keep _ (by decide)))
  refine ⟨fun y => ?_, h4.vf, h4.vr, h4.b, fun b h1 h2 h3' h4' => (h4.keep b h2 h3' h4').trans (h3.keep b h1)⟩
  have y1 : (y 1).val < 1536 := (y 1).2
  exact (congrFun (h4.keep .a14 (by decide) (by decide) (by decide)) y).trans (h3.d y (by omega))

end Cert.Body
-- ==== Proof.Point.lean ====
/- A grid point's whole body. -/
module

public import proofs.«01_k».proof.Proof.Setup
public import proofs.«01_k».proof.Proof.Mm
public import proofs.«01_k».proof.Proof.FinP

@[expose] public section
noncomputable section

namespace Cert.Body
open Cert.Mem Cert.Spec
open Cert.KernelIdeal Cert.KernelIdeal.Gen Idealize.ShloMosaic Idealize.SL.Sem

variable {I : In} {p : ℕ} {s : SI}

theorem first_iff : ∀ i : grid0.Coords, isFirst i ↔ (i 0).val = 0 := by decide +kernel
theorem last_iff : ∀ i : grid0.Coords, k0_cond2 i = 1#1 ↔ (i 0).val = 5 := by decide +kernel

/-- What the scratch arrays pass from point to point. -/
structure Pass (I : In) (p : ℕ) (s : SI) : Prop where
  c0 : C0t I s
  acc : Acc I (fun _ _ => 8 * p) s
  car : Car I (tau p 0 0) s

/-- What a point leaves. -/
structure Post (I : In) (p : ℕ) (R : ℕ → Prop) (s : SI) : Prop where
  dx : ∀ y : S2x128x1536.Idx, s .a13 y = I.dx (2 * p + (y 0).val) (y 1).val (y 2).val
  code : ∀ y : S2x128x4608.Idx, s .a18 y = I.code (2 * p + (y 0).val) (y 1).val (y 2).val
  sc : ∀ y : S12x128.Idx, R (y 0).val ∨ (y 0).val = 2 * p + 0 ∨ (y 0).val = 2 * p + 1 → s .a19 y = I.scale (y 0).val (y 1).val
  pass : Pass I (p + 1) s
  fin : p = 5 → Fin6 I s s

theorem Kin.of {s' : SI} (h : Kin I p s) (e : ∀ b, b.out = false → s' b = s b) : Kin I p s' := by
  constructor <;> intro y <;> rw [e _ rfl]
  exacts [h.x y, h.w y, h.ws y, h.vf y, h.vr y, h.b y, h.u y, h.c y, h.c0 y, h.dh y, h.dhs y, h.dcl y]

/-- The first point's part, or what came before. -/
theorem init_P {i : grid0.Coords} (hi : (i 0).val = p) (kin : Kin I p s) (h : p ≠ 0 → Pass I p s) :
    Pass I p (ev (if isFirst i then initP else pure ⟨⟩) s).2 ∧ ∀ b, b ≠ .a31 → b ≠ .a32 → b ≠ .a33 → (ev (if isFirst i then initP else pure ⟨⟩) s).2 b = s b := by
  by_cases h0 : p = 0
  · rw [if_pos ((first_iff i).2 (hi.trans h0))]
    subst h0
    have := initP_J kin
    exact ⟨⟨this.1, this.2.2.1, this.2.1⟩, this.2.2.2⟩
  · rw [if_neg fun h' => h0 (hi.symm.trans ((first_iff i).1 h'))]
    exact ⟨h h0, fun _ _ _ _ => rfl⟩

/-- A point up to its blocks' end. -/
theorem pre_P {i : grid0.Coords} (hi : (i 0).val = p) (hp : p < 6) (kin : Kin I p s) (h : p ≠ 0 → Pass I p s) (c : Cmd Ideal PUnit) :
    ∃ s', ev ((if isFirst i then initP else pure ⟨⟩).bind fun _ => (setup i (bb := 0) (by omega)).bind fun _ => (setup i (bb := 1) (by omega)).bind fun _ => (Scf.Loop.for k0_t1_loop k0_t1_ok ⟨⟩ fun t _ => block i t).bind fun _ => c) s = ev c s'
      ∧ Bk I p 4 s' ∧ C0t I s' ∧ s' .a19 = s .a19 := by
  rw [ev_bind, ev_bind, ev_bind, ev_bind]
  have k0 := kin.ev (if isFirst i then initP else pure ⟨⟩)
  obtain ⟨p0, e0⟩ := init_P hi kin h
  generalize (ev (if isFirst i then initP else pure ⟨⟩) s).2 = s0 at *
  have k1 := k0.ev (setup i (bb := 0) (by omega))
  obtain ⟨c1, g1, e1⟩ := setup_L hi hp (bb := 0) (by omega) k0 p0.c0 (fun y _ hy => absurd hy (by omega)) (fun y hy => absurd hy (Nat.not_lt_zero _))
  generalize (ev (setup i (bb := 0) _) s0).2 = s1 at *
  have k2 := k1.ev (setup i (bb := 1) (by omega))
  obtain ⟨c2, g2, e2⟩ := setup_L hi hp (bb := 1) (by omega) k1 (fun y => by rw [e1 _ (by decide) (by decide)]; exact p0.c0 y) c1 g1
  generalize (ev (setup i (bb := 1) _) s1).2 = s2 at *
  have E (b : Bf) (h1 : b ≠ .a20) (h2 : b ≠ .a21) : s2 b = s0 b := (e2 b h1 h2).trans (e1 b h1 h2)
  have bk : Bk I p 0 s2 := ⟨k2, ⟨fun y hy => c2 y hy (y 0).2, fun y => g2 y (y 0).2⟩, p0.acc.keep (E _ (by decide) (by decide)), fun y => (congrFun (E .a32 (by decide) (by decide)) y).trans (p0.car y),
    fun y hy => absurd (show (y 1).val < 128 from (y 1).2) (by omega), fun y hy => absurd (show (y 1).val < 128 from (y 1).2) (by omega), fun y hy => absurd (show (y 1).val < 128 from (y 1).2) (by omega)⟩
  obtain ⟨b4, e4⟩ := blocks_Bk hi bk
  exact ⟨_, rfl, b4, fun y => (congrFun ((e4 .a31 rfl).trans (E .a31 (by decide) (by decide))) y).trans (p0.c0 y), (e4 .a19 rfl).trans ((E .a19 (by decide) (by decide)).trans (e0 _ (by decide) (by decide) (by decide)))⟩

/-- The product's first operand. -/
abbrev rQ : Rect S2x128x4608 := Rect.unit (s := S2x128x4608) ![0, 0, 0] S2x128x4608.size inb_S2x128x4608_S2x128x4608_0_0_0

/-- A point after its blocks. -/
def post (i : grid0.Coords) : Cmd Ideal PUnit :=
  (outScl i (bb := 0) (by omega)).bind fun _ => (outScl i (bb := 1) (by omega)).bind fun _ =>
  (ld .a18 rQ.toLoadRect h_S2x128x4608).bind fun p =>
  (Scf.Loop.for k0_t2_loop k0_t2_ok ⟨⟩ fun t _ => mm (flat p) t).bind fun _ =>
  (if k0_cond2 i = 1#1 then finP else pure ⟨⟩)

theorem body_eq (i : grid0.Coords) : body (F := Ideal) i = (if isFirst i then initP else pure ⟨⟩).bind fun _ => (setup i (bb := 0) (by omega)).bind fun _ => (setup i (bb := 1) (by omega)).bind fun _ => (Scf.Loop.for k0_t1_loop k0_t1_ok ⟨⟩ fun t _ => block i t).bind fun _ => post i := rfl

theorem tau_pt (p n : ℕ) : tau p 4 0 n = tau (p + 1) 0 0 n := by
  unfold tau
  split_ifs <;> omega

theorem post_P {i : grid0.Coords} (hi : (i 0).val = p) (bk : Bk I p 4 s) (h0 : C0t I s) {R : ℕ → Prop} (hs : ∀ y : S12x128.Idx, R (y 0).val → s .a19 y = I.scale (y 0).val (y 1).val) : Post I p R (ev (post i) s).2 := by
  have sc : Sc I p (fun _ _ => True) s := fun y _ => bk.sc y (by omega)
  have q0 := outScl_S hi (bb := 0) (by omega) sc (R := R) hs
  rw [post, ev_bind, ev_bind]
  generalize (ev (outScl i (bb := 0) _) s).2 = s1 at *
  have q1 := outScl_S hi (bb := 1) (by omega) (s := s1) (fun y h => (congrFun (q0.2 .a22 (by decide)) y).trans (sc y h)) (R := fun n => R n ∨ n = 2 * p + 0) q0.1
  generalize (ev (outScl i (bb := 1) _) s1).2 = s2 at *
  have E (b : Bf) (h : b ≠ .a19) : s2 b = s b := (q1.2 b h).trans (q0.2 b h)
  rw [show ∀ k : (Vec Ideal S2x128x4608 .fp8e5m2) → Cmd Ideal PUnit, ev ((ld .a18 rQ.toLoadRect h_S2x128x4608).bind k) s2 = ev (k fun x => s2 .a18 (rQ.toLoadRect.idx x)) s2 from fun k => rfl]
  have hc (y : S2x128x4608.Idx) : s2 .a18 (rQ.toLoadRect.idx y) = I.code (2 * p + (y 0).val) (y 1).val (y 2).val := by
    rw [E _ (by decide)]
    refine (bk.cd _ (by omega)).trans ?_
    show I.code (2 * p + (0 + 1 * (y 0).val)) (0 + 1 * (y 1).val) (0 + 1 * (y 2).val) = _
    congr 1 <;> omega
  have hv := flat_at (v := fun x => s2 .a18 (rQ.toLoadRect.idx x)) (P := fun a b c => I.code (2 * p + a) b c) hc
  generalize flat (fun x => s2 .a18 (rQ.toLoadRect.idx x)) = v at *
  have m := mms_O (bk.kin.of (s' := s2) fun b hb => E b (by rintro rfl; cases hb)) (fun y _ => (congrFun (E .a22 (by decide)) y).trans (sc y trivial)) (fun y _ => (congrFun (E .a30 (by decide)) y).trans (bk.dxh y (by omega))) hv
  rw [ev_bind]
  generalize (ev (Scf.Loop.for k0_t2_loop k0_t2_ok ⟨⟩ fun t _ => mm v t) s2).2 = s3 at *
  have E3 (b : Bf) (h : b ≠ .a19) (h' : b ≠ .a13) : s3 b = s b := (m.keep b h').trans (E b h)
  have pass : Pass I (p + 1) s3 := ⟨fun y => (congrFun (E3 .a31 (by decide) (by decide)) y).trans (h0 y), (bk.acc.keep (E3 .a33 (by decide) (by decide))).cast fun _ _ _ => by omega, fun y => (congrFun (E3 .a32 (by decide) (by decide)) y).trans ((bk.car y).trans (by rw [tau_pt]))⟩
  have dx (y : S2x128x1536.Idx) : s3 .a13 y = I.dx (2 * p + (y 0).val) (y 1).val (y 2).val := m.dx y (y 2).2
  have code (y : S2x128x4608.Idx) : s3 .a18 y = I.code (2 * p + (y 0).val) (y 1).val (y 2).val := (congrFun (E3 .a18 (by decide) (by decide)) y).trans (bk.cd y (by omega))
  have scl (y : S12x128.Idx) (hy : R (y 0).val ∨ (y 0).val = 2 * p + 0 ∨ (y 0).val = 2 * p + 1) : s3 .a19 y = I.scale (y 0).val (y 1).val := (congrFun (m.keep .a19 (by decide)) y).trans (q1.1 y (or_assoc.2 hy))
  by_cases h5 : p = 5
  · rw [if_pos ((last_iff i).2 (hi.trans h5))]
    subst h5
    have f := finP_F pass.car pass.acc
    refine ⟨fun y => ?_, fun y => ?_, fun y hy => ?_, ⟨fun y => ?_, pass.acc.keep (f.keep _ (by decide) (by decide) (by decide) (by decide)), fun y => ?_⟩, fun _ => ⟨f.d, f.vf, f.vr, f.b, fun _ _ _ _ _ => rfl⟩⟩
    all_goals rw [f.keep _ (by decide) (by decide) (by decide) (by decide)]
    exacts [dx y, code y, scl y hy, pass.c0 y, pass.car y]
  · rw [if_neg fun h' => h5 (hi.symm.trans ((last_iff i).1 h'))]
    exact ⟨dx, code, scl, pass, fun h => absurd h h5⟩

/-- A grid point's body. -/
theorem body_P {i : grid0.Coords} (hi : (i 0).val = p) (hp : p < 6) (kin : Kin I p s) (h : p ≠ 0 → Pass I p s) {R : ℕ → Prop} (hs : ∀ y : S12x128.Idx, R (y 0).val → s .a19 y = I.scale (y 0).val (y 1).val) :
    Post I p R (ev (body i) s).2 := by
  obtain ⟨s', e, bk, h0, e19⟩ := pre_P hi hp kin h (post i)
  rw [body_eq, e]
  exact post_P hi bk h0 fun y hy => by rw [e19]; exact hs y hy

end Cert.Body
-- ==== Proof.KerVal.lean ====
/- The kernel's result arrays: from grid point to grid point. -/
module

public import proofs.«01_k».proof.Proof.Run
public import proofs.«01_k».proof.Proof.Point
public import Idealize.ShloMosaic.Lib.Pipeline.ValueKit
public import Idealize.ShloMosaic.Lib.Claim
public import Idealize.ShloMosaic.Lib.Pipeline.ArrRel

@[expose] public section
noncomputable section

namespace Cert.Body
open Cert.Mem Cert.Spec
open Cert.KernelIdeal Cert.KernelIdeal.Gen Idealize.ShloMosaic Idealize.ShloMosaic.TcCoe Idealize.SL.Sem

/-- An array read at natural numbers, zero outside. -/
def rdN {S : Shape} (f : S.Idx → EReal) (g : Fin S.rank → ℕ) : EReal := open Classical in if h : ∀ a, g a < S.size a then f fun a => ⟨g a, h a⟩ else 0

/-- Inside the array, the number read is the array's. -/
theorem rdN_eq {S : Shape} (f : S.Idx → EReal) (g : Fin S.rank → ℕ) (y : S.Idx) (h : ∀ a, g a = (y a).val) : rdN f g = f y := by
  unfold rdN
  have h' : ∀ a, g a < S.size a := fun a => (h a).symm ▸ (y a).2
  rw [dif_pos h']
  exact congrArg f (funext fun a => Fin.ext (h a))

/-- The arguments by number. -/
def inOf (x : S12x128x1536.Idx → EReal) (w : S1536x4608.Idx → EReal) (ws vf vr : S1536.Idx → EReal) (b : S2x1536.Idx → EReal) (u : S12x128x4608.Idx → EReal) (c : S12x128x1536.Idx → EReal)
    (c0 : S12x1536.Idx → EReal) (dh : S12x128x1536.Idx → EReal) (dhs : S12x128.Idx → EReal) (dcl : S12x1536.Idx → EReal) : In where
  x a b c := rdN x ![a, b, c]
  w a b := rdN w ![a, b]
  ws a := rdN ws ![a]
  vf a := rdN vf ![a]
  vr a := rdN vr ![a]
  b a d := rdN b ![a, d]
  u a b c := rdN u ![a, b, c]
  c a b d := rdN c ![a, b, d]
  c0 a b := rdN c0 ![a, b]
  dh a b c := rdN dh ![a, b, c]
  dhs a b := rdN dhs ![a, b]
  dcl a b := rdN dcl ![a, b]

variable (m : (ℓ : Loc nD τ sig) → Buf (Elt Ideal) ℓ)

/-- The launch's arguments on a core. -/
def inM (c : Dev nD) : In := inOf (m ((c : Thread nD τ).loc main_arg0)) (m ((c : Thread nD τ).loc main_arg1)) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- A point by its number: six of them. -/
theorem pt : ∀ t : Fin cfg0.N, (grid0.coords t 0).val = t.val ∧ t.val < 6 := by decide +kernel

/-- Which block each window is at, by the point. -/
theorem idxs : ∀ t : Fin cfg0.N, win0_0.index t = ![t.val, 0, 0] ∧ win0_1.index t = ![0, 0] ∧ win0_2.index t = ![0, 0] ∧ win0_3.index t = ![0, 0] ∧ win0_4.index t = ![0, 0] ∧ win0_5.index t = ![0, 0]
    ∧ win0_6.index t = ![t.val, 0, 0] ∧ win0_7.index t = ![t.val, 0, 0] ∧ win0_8.index t = ![0, 0] ∧ win0_9.index t = ![t.val, 0, 0] ∧ win0_10.index t = ![0, 0] ∧ win0_11.index t = ![0, 0]
    ∧ win0_12.index t = ![t.val, 0, 0] ∧ win0_13.index t = ![0, 0] ∧ win0_14.index t = ![0, 0] ∧ win0_15.index t = ![0, 0] ∧ win0_16.index t = ![0, 0] ∧ win0_17.index t = ![t.val, 0, 0] ∧ win0_18.index t = ![0, 0] := by decide +kernel

/-- The weights' scales as the region finds them: as a one-row matrix. -/
theorem V_v0 (c : Dev nD) : V m c main_v0 = shapeCast S1x1536 (show S1536.Idx → EReal from m ((c : Thread nD τ).loc main_arg2)) shapeCasts_S1536_S1x1536 := by
  unfold_abbrev_sides
  after_results
  rfl

/-- The forget gate's cell weights as the region finds them: as a one-row matrix. -/
theorem V_v1 (c : Dev nD) : V m c main_v1 = shapeCast S1x1536 (show S1536.Idx → EReal from m ((c : Thread nD τ).loc main_arg3)) shapeCasts_S1536_S1x1536 := by
  unfold_abbrev_sides
  after_results
  rfl

/-- The reset gate's cell weights as the region finds them: as a one-row matrix. -/
theorem V_v2 (c : Dev nD) : V m c main_v2 = shapeCast S1x1536 (show S1536.Idx → EReal from m ((c : Thread nD τ).loc main_arg4)) shapeCasts_S1536_S1x1536 := by
  unfold_abbrev_sides
  after_results
  rfl

/-- A row vector made a one-row matrix keeps its numbers. -/
theorem cast_at (v : S1536.Idx → EReal) (y : S1x1536.Idx) : shapeCast S1x1536 v shapeCasts_S1536_S1x1536 y = rdN v ![(y 1).val] := by
  refine (Eq.trans ?_ (rdN_eq v ![(y 1).val] (ix1 (y 1)) fun a => by fin_cases a; rfl).symm)
  pointwise

/-- The block of the input at a point. -/
theorem blk0 (c : Dev nD) (t : Fin cfg0.N) (y : S2x128x1536.Idx) : iblk m c 0 t y = (inM m c).x (2 * t.val + (y 0).val) (y 1).val (y 2).val := by
  have i := (idxs t).1
  show V m c main_arg0 (((cfg0.win 0).blk t).view.emb y) = rdN _ _
  rw [V_main_arg0]
  refine (rdN_eq _ _ _ fun a => ?_).symm
  fin_cases a <;> blk_simp [i] <;> first | rfl | exact congrArg (· + (y 0).val) (Nat.mul_comm _ _)

/-- The block of the weights' codes at a point. -/
theorem blk1 (c : Dev nD) (t : Fin cfg0.N) (y : S1536x4608.Idx) : iblk m c 1 t y = (inM m c).w (y 0).val (y 1).val := by
  have i := (idxs t).2.1
  show V m c main_arg1 (((cfg0.win 1).blk t).view.emb y) = rdN _ _
  rw [V_main_arg1]
  refine (rdN_eq _ _ _ fun a => ?_).symm
  fin_cases a <;> blk_simp [i] <;> first | rfl | exact congrArg (· + (y 0).val) (Nat.mul_comm _ _)

/-- The block of the weights' scales at a point. -/
theorem blk2 (c : Dev nD) (t : Fin cfg0.N) (y : S1x1536.Idx) : iblk m c 2 t y = (inM m c).ws (y 1).val := by
  have i := (idxs t).2.2.1
  show V m c main_v0 (((cfg0.win 2).blk t).view.emb y) = rdN _ _
  rw [V_v0, cast_at]
  congr 2
  blk_simp [i]

/-- The block of the forget gate's cell weights at a point. -/
theorem blk3 (c : Dev nD) (t : Fin cfg0.N) (y : S1x1536.Idx) : iblk m c 3 t y = (inM m c).vf (y 1).val := by
  have i := (idxs t).2.2.2.1
  show V m c main_v1 (((cfg0.win 3).blk t).view.emb y) = rdN _ _
  rw [V_v1, cast_at]
  congr 2
  blk_simp [i]

/-- The block of the reset gate's cell weights at a point. -/
theorem blk4 (c : Dev nD) (t : Fin cfg0.N) (y : S1x1536.Idx) : iblk m c 4 t y = (inM m c).vr (y 1).val := by
  have i := (idxs t).2.2.2.2.1
  show V m c main_v2 (((cfg0.win 4).blk t).view.emb y) = rdN _ _
  rw [V_v2, cast_at]
  congr 2
  blk_simp [i]

/-- The block of the biases at a point. -/
theorem blk5 (c : Dev nD) (t : Fin cfg0.N) (y : S2x1536.Idx) : iblk m c 5 t y = (inM m c).b (y 0).val (y 1).val := by
  have i := (idxs t).2.2.2.2.2.1
  show V m c main_arg5 (((cfg0.win 5).blk t).view.emb y) = rdN _ _
  rw [V_main_arg5]
  refine (rdN_eq _ _ _ fun a => ?_).symm
  fin_cases a <;> blk_simp [i] <;> first | rfl | exact congrArg (· + (y 0).val) (Nat.mul_comm _ _)

/-- The block of the projections at a point. -/
theorem blk6 (c : Dev nD) (t : Fin cfg0.N) (y : S2x128x4608.Idx) : iblk m c 6 t y = (inM m c).u (2 * t.val + (y 0).val) (y 1).val (y 2).val := by
  have i := (idxs t).2.2.2.2.2.2.1
  show V m c main_arg6 (((cfg0.win 6).blk t).view.emb y) = rdN _ _
  rw [V_main_arg6]
  refine (rdN_eq _ _ _ fun a => ?_).symm
  fin_cases a <;> blk_simp [i] <;> first | rfl | exact congrArg (· + (y 0).val) (Nat.mul_comm _ _)

/-- The block of the states at a point. -/
theorem blk7 (c : Dev nD) (t : Fin cfg0.N) (y : S2x128x1536.Idx) : iblk m c 7 t y = (inM m c).c (2 * t.val + (y 0).val) (y 1).val (y 2).val := by
  have i := (idxs t).2.2.2.2.2.2.2.1
  show V m c main_arg7 (((cfg0.win 7).blk t).view.emb y) = rdN _ _
  rw [V_main_arg7]
  refine (rdN_eq _ _ _ fun a => ?_).symm
  fin_cases a <;> blk_simp [i] <;> first | rfl | exact congrArg (· + (y 0).val) (Nat.mul_comm _ _)

/-- The block of the first states at a point. -/
theorem blk8 (c : Dev nD) (t : Fin cfg0.N) (y : S12x1536.Idx) : iblk m c 8 t y = (inM m c).c0 (y 0).val (y 1).val := by
  have i := (idxs t).2.2.2.2.2.2.2.2.1
  show V m c main_arg8 (((cfg0.win 8).blk t).view.emb y) = rdN _ _
  rw [V_main_arg8]
  refine (rdN_eq _ _ _ fun a => ?_).symm
  fin_cases a <;> blk_simp [i] <;> first | rfl | exact congrArg (· + (y 0).val) (Nat.mul_comm _ _)

/-- The block of the incoming gradient's codes at a point. -/
theorem blk9 (c : Dev nD) (t : Fin cfg0.N) (y : S2x128x1536.Idx) : iblk m c 9 t y = (inM m c).dh (2 * t.val + (y 0).val) (y 1).val (y 2).val := by
  have i := (idxs t).2.2.2.2.2.2.2.2.2.1
  show V m c main_arg9 (((cfg0.win 9).blk t).view.emb y) = rdN _ _
  rw [V_main_arg9]
  refine (rdN_eq _ _ _ fun a => ?_).symm
  fin_cases a <;> blk_simp [i] <;> first | rfl | exact congrArg (· + (y 0).val) (Nat.mul_comm _ _)

/-- The block of the incoming gradient's scales at a point. -/
theorem blk10 (c : Dev nD) (t : Fin cfg0.N) (y : S12x128.Idx) : iblk m c 10 t y = (inM m c).dhs (y 0).val (y 1).val := by
  have i := (idxs t).2.2.2.2.2.2.2.2.2.2.1
  show V m c main_arg10 (((cfg0.win 10).blk t).view.emb y) = rdN _ _
  rw [V_main_arg10]
  refine (rdN_eq _ _ _ fun a => ?_).symm
  fin_cases a <;> blk_simp [i] <;> first | rfl | exact congrArg (· + (y 0).val) (Nat.mul_comm _ _)

/-- The block of the last states' gradient at a point. -/
theorem blk11 (c : Dev nD) (t : Fin cfg0.N) (y : S12x1536.Idx) : iblk m c 11 t y = (inM m c).dcl (y 0).val (y 1).val := by
  have i := (idxs t).2.2.2.2.2.2.2.2.2.2.2.1
  show V m c main_arg11 (((cfg0.win 11).blk t).view.emb y) = rdN _ _
  rw [V_main_arg11]
  refine (rdN_eq _ _ _ fun a => ?_).symm
  fin_cases a <;> blk_simp [i] <;> first | rfl | exact congrArg (· + (y 0).val) (Nat.mul_comm _ _)

/-- A point's blocks are the arguments'. -/
theorem kin_of {c : Dev nD} {t : Fin cfg0.N} {s : SI} (h : InpOK m c t s) : Kin (inM m c) t.val s := by
  obtain ⟨h0, h1, h2, h3, h4, h5, h6, h7, h8, h9, h10, h11⟩ := h
  exact ⟨fun y => (congrFun h0 y).trans (blk0 m c t y), fun y => (congrFun h1 y).trans (blk1 m c t y), fun y => (congrFun h2 y).trans (blk2 m c t y), fun y => (congrFun h3 y).trans (blk3 m c t y),
    fun y => (congrFun h4 y).trans (blk4 m c t y), fun y => (congrFun h5 y).trans (blk5 m c t y), fun y => (congrFun h6 y).trans (blk6 m c t y), fun y => (congrFun h7 y).trans (blk7 m c t y),
    fun y => (congrFun h8 y).trans (blk8 m c t y), fun y => (congrFun h9 y).trans (blk9 m c t y), fun y => (congrFun h10 y).trans (blk10 m c t y), fun y => (congrFun h11 y).trans (blk11 m c t y)⟩

/-- What the scratch buffers hold before a point. -/
theorem pass_of (c : Dev nD) : ∀ (n : ℕ) (z : SI), Inv m c n z → n ≠ 0 → Pass (inM m c) n z
  | 0, _, _, h => absurd rfl h
  | n + 1, z, ⟨ht, s, h1, h2, h3⟩, _ => by
    have p := (body_P (I := inM m c) (p := n) (pt ⟨n, ht⟩).1 (pt ⟨n, ht⟩).2 (kin_of m h1) (fun hn => pass_of c n s h2 hn) (R := fun _ => False) (fun _ h => h.elim)).pass
    exact ⟨fun y => (congrFun (h3 .a31 rfl) y).trans (p.c0 y), p.acc.keep (h3 .a33 rfl), fun y => (congrFun (h3 .a32 rfl) y).trans (p.car y)⟩

/-- The body at a point that finds its inputs and what the points before passed on. -/
theorem post_of {c : Dev nD} {t : Fin cfg0.N} {s : SI} (h1 : InpOK m c t s) (h2 : Inv m c t.val s) {R : ℕ → Prop} (hs : ∀ y : S12x128.Idx, R (y 0).val → s .a19 y = (inM m c).scale (y 0).val (y 1).val) :
    Post (inM m c) t.val R (ev (body (grid0.coords t)) s).2 :=
  body_P (I := inM m c) (p := t.val) (pt t).1 (pt t).2 (kin_of m h1) (fun hn => pass_of m c t.val s h2 hn) hs

/-- What a window's block holds after a point. -/
theorem leaves_post {c : Dev nD} {w : Fin cfg0.W} {t : Fin cfg0.N} {X} (h : (rdat m c).Leaves w t X) : ∃ s : SI, X = pick s w ∧ Post (inM m c) t.val (fun _ => False) s := by
  obtain ⟨Y, -, s, h1, h2, -, rfl⟩ := h
  exact ⟨_, rfl, post_of m h1 h2 fun _ h => h.elim⟩

/-- The scales' buffer fills row by row. -/
theorem leaves_scale (c : Dev nD) : ∀ (n : ℕ) (hn : n < cfg0.N) (X : S12x128.Idx → EReal), (rdat m c).Leaves 18 ⟨n, hn⟩ X → ∀ y : S12x128.Idx, (y 0).val < 2 * n + 2 → X y = (inM m c).scale (y 0).val (y 1).val
  | n, hn, X, h, y, hy => by
    obtain ⟨Y, hf, s, h1, h2, e, rfl⟩ := h
    have hs : ∀ y : S12x128.Idx, (y 0).val < 2 * n → s .a19 y = (inM m c).scale (y 0).val (y 1).val := fun y hy => by
      match n, hn, hf, hy with
      | 0, _, _, hy => omega
      | n + 1, hn, hf, hy =>
        have h6 : n + 1 < 6 := (pt ⟨n + 1, hn⟩).2
        rw [Pipeline.RDat.finds_of_pos _ rfl (Nat.succ_ne_zero n)] at hf
        rcases hf with hf | hf
        · have := (flush0_18 _).1 hf
          have e : (n + 1 - 1) % 6 = 5 := this
          omega
        · exact (congrFun e.symm y).trans (leaves_scale c n _ Y hf y (by omega))
    exact (post_of m h1 h2 (R := fun k => k < 2 * n) hs).sc y (by show _ < 2 * n ∨ _ = 2 * n + 0 ∨ _ = 2 * n + 1; omega)

open Pipeline (Dat RDat)

/-- The seven results, by the specification. -/
structure Res (I : In) (r0 : S12x128x1536.Idx → EReal) (r1 : S12x1536.Idx → EReal) (r2 r3 : S1x1536.Idx → EReal) (r4 : S2x1536.Idx → EReal) (r5 : S12x128x4608.Idx → EReal) (r6 : S12x128.Idx → EReal) : Prop where
  dx : ∀ y, r0 y = I.dx (y 0).val (y 1).val (y 2).val
  d : ∀ y, r1 y = I.dc (y 0).val (y 1).val 128
  vf : ∀ y, r2 y = tot I 0 (y 1).val
  vr : ∀ y, r3 y = tot I 1 (y 1).val
  b : ∀ y, r4 y = tot I (2 + (y 0).val) (y 1).val
  code : ∀ y, r5 y = I.code (y 0).val (y 1).val (y 2).val
  sc : ∀ y, r6 y = I.scale (y 0).val (y 1).val

section
variable {m} {r : PUnit × MemSt nD τ sig (Elt Ideal)} (h : RDat.FramePost cfg0 (rdat m) (V m) r) (c : Dev nD)
include h

/-- The result array of the input's gradient. -/
theorem arr12 : r.2.mem ((c.tc : Thread nD τ).loc main_v3_0) = fun y : S12x128x1536.Idx => (inM m c).dx (y 0).val (y 1).val (y 2).val := by
  obtain ⟨after, hL, hA⟩ := Pipeline.RDat.FramePost.exists_exact h c
  refine (hA 12).trans (Dat.arrAt_eq_of_covers _ 12 _ (by decide +kernel) fun t hf y => ?_)
  obtain ⟨s, e, p⟩ := leaves_post m (hL 12 t hf)
  have i := (idxs t).2.2.2.2.2.2.2.2.2.2.2.2.1
  refine (congrFun e y).trans ((p.dx y).trans ?_)
  have e0 : ((((cfg0.win 12).blk t).view.emb y) 0).val = 2 * t.val + (y 0).val := by blk_simp [i]; exact congrArg (· + (y 0).val) (Nat.mul_comm _ _)
  have e1 : ((((cfg0.win 12).blk t).view.emb y) 1).val = (y 1).val := by blk_simp [i]
  have e2 : ((((cfg0.win 12).blk t).view.emb y) 2).val = (y 2).val := by blk_simp [i]
  show _ = (inM m c).dx ((((cfg0.win 12).blk t).view.emb y) 0).val ((((cfg0.win 12).blk t).view.emb y) 1).val ((((cfg0.win 12).blk t).view.emb y) 2).val
  rw [e0, e1, e2]

/-- The result array of the codes. -/
theorem arr17 : r.2.mem ((c.tc : Thread nD τ).loc main_v3_5) = fun y : S12x128x4608.Idx => (inM m c).code (y 0).val (y 1).val (y 2).val := by
  obtain ⟨after, hL, hA⟩ := Pipeline.RDat.FramePost.exists_exact h c
  refine (hA 17).trans (Dat.arrAt_eq_of_covers _ 17 _ (by decide +kernel) fun t hf y => ?_)
  obtain ⟨s, e, p⟩ := leaves_post m (hL 17 t hf)
  have i := (idxs t).2.2.2.2.2.2.2.2.2.2.2.2.2.2.2.2.2.1
  refine (congrFun e y).trans ((p.code y).trans ?_)
  have e0 : ((((cfg0.win 17).blk t).view.emb y) 0).val = 2 * t.val + (y 0).val := by blk_simp [i]; exact congrArg (· + (y 0).val) (Nat.mul_comm _ _)
  have e1 : ((((cfg0.win 17).blk t).view.emb y) 1).val = (y 1).val := by blk_simp [i]
  have e2 : ((((cfg0.win 17).blk t).view.emb y) 2).val = (y 2).val := by blk_simp [i]
  show _ = (inM m c).code ((((cfg0.win 17).blk t).view.emb y) 0).val ((((cfg0.win 17).blk t).view.emb y) 1).val ((((cfg0.win 17).blk t).view.emb y) 2).val
  rw [e0, e1, e2]

/-- The result array of the first states' gradient. -/
theorem arr13 : r.2.mem ((c.tc : Thread nD τ).loc main_v3_1) = fun y : S12x1536.Idx => (inM m c).dc (y 0).val (y 1).val 128 := by
  obtain ⟨after, hL, hA⟩ := Pipeline.RDat.FramePost.exists_exact h c
  have hw : (cfg0.win 13).WholeAt t0_5 := by decide +kernel
  obtain ⟨s, e, p⟩ := leaves_post m (hL 13 t0_5 hw.1)
  refine (hA 13).trans (Dat.arrAt_eq_of_after_last _ 13 t0_5 hw _ fun j => ?_)
  exact (congrFun e j).trans ((p.fin rfl).d j)

/-- The result array of the gradient of the forget gate's cell weights. -/
theorem arr14 : r.2.mem ((c.tc : Thread nD τ).loc main_v3_2) = fun y : S1x1536.Idx => tot (inM m c) 0 (y 1).val := by
  obtain ⟨after, hL, hA⟩ := Pipeline.RDat.FramePost.exists_exact h c
  have hw : (cfg0.win 14).WholeAt t0_5 := by decide +kernel
  obtain ⟨s, e, p⟩ := leaves_post m (hL 14 t0_5 hw.1)
  refine (hA 14).trans (Dat.arrAt_eq_of_after_last _ 14 t0_5 hw _ fun j => ?_)
  exact (congrFun e j).trans ((p.fin rfl).vf j)

/-- The result array of the gradient of the reset gate's cell weights. -/
theorem arr15 : r.2.mem ((c.tc : Thread nD τ).loc main_v3_3) = fun y : S1x1536.Idx => tot (inM m c) 1 (y 1).val := by
  obtain ⟨after, hL, hA⟩ := Pipeline.RDat.FramePost.exists_exact h c
  have hw : (cfg0.win 15).WholeAt t0_5 := by decide +kernel
  obtain ⟨s, e, p⟩ := leaves_post m (hL 15 t0_5 hw.1)
  refine (hA 15).trans (Dat.arrAt_eq_of_after_last _ 15 t0_5 hw _ fun j => ?_)
  exact (congrFun e j).trans ((p.fin rfl).vr j)

/-- The result array of the biases' gradient. -/
theorem arr16 : r.2.mem ((c.tc : Thread nD τ).loc main_v3_4) = fun y : S2x1536.Idx => tot (inM m c) (2 + (y 0).val) (y 1).val := by
  obtain ⟨after, hL, hA⟩ := Pipeline.RDat.FramePost.exists_exact h c
  have hw : (cfg0.win 16).WholeAt t0_5 := by decide +kernel
  obtain ⟨s, e, p⟩ := leaves_post m (hL 16 t0_5 hw.1)
  refine (hA 16).trans (Dat.arrAt_eq_of_after_last _ 16 t0_5 hw _ fun j => ?_)
  exact (congrFun e j).trans ((p.fin rfl).b j)

/-- The result array of the scales. -/
theorem arr18 : r.2.mem ((c.tc : Thread nD τ).loc main_v3_6) = fun y : S12x128.Idx => (inM m c).scale (y 0).val (y 1).val := by
  obtain ⟨after, hL, hA⟩ := Pipeline.RDat.FramePost.exists_exact h c
  have hw : (cfg0.win 18).WholeAt t0_5 := by decide +kernel
  refine (hA 18).trans (Dat.arrAt_eq_of_after_last _ 18 t0_5 hw _ fun j => ?_)
  exact leaves_scale m c 5 t0_5.2 _ (hL 18 t0_5 hw.1) j (j 0).2

end

end Cert.Body
-- ==== Proof.RefPay.lean ====
/- The reference's operations at an index. -/
module

public import proofs.«01_k».proof.Proof.RefBody
public import proofs.«01_k».proof.Proof.Val
public import proofs.«01_k».proof.Proof.Spec

@[expose] public section
noncomputable section

namespace Cert.Ref
open Cert.Mem hiding Cmd ld st PR
open Cert.Spec Cert.ReferenceIdeal Cert.ReferenceIdeal.Gen Idealize.ShloMosaic Idealize.SL.Sem

variable {I : In}

/-- An array by its three coordinates. -/
abbrev Is3 (v : S12x128x1536.Idx → EReal) (G : ℕ → ℕ → ℕ → EReal) : Prop := ∀ y : S12x128x1536.Idx, v y = G (y 0).val (y 1).val (y 2).val
/-- A step's rows by their two coordinates. -/
abbrev IsR (v : S12x1x1536.Idx → EReal) (G : ℕ → ℕ → EReal) : Prop := ∀ y : S12x1x1536.Idx, v y = G (y 0).val (y 2).val
/-- The same without the step's axis. -/
abbrev Is2 (v : S12x1536.Idx → EReal) (G : ℕ → ℕ → EReal) : Prop := ∀ y : S12x1536.Idx, v y = G (y 0).val (y 1).val
/-- A row vector by its coordinate. -/
abbrev Is1 (v : S1536.Idx → EReal) (G : ℕ → EReal) : Prop := ∀ y : S1536.Idx, v y = G (y 0).val
/-- The projections by their three coordinates. -/
abbrev IsU (v : S12x128x4608.Idx → EReal) (G : ℕ → ℕ → ℕ → EReal) : Prop := ∀ y : S12x128x4608.Idx, v y = G (y 0).val (y 1).val (y 2).val
/-- A number per token. -/
abbrev IsT (v : S12x128.Idx → EReal) (G : ℕ → ℕ → EReal) : Prop := ∀ y : S12x128.Idx, v y = G (y 0).val (y 1).val

theorem pay3_at {v6 : Vec Ideal S12x128x1536 .fp8e5m2} {v8 : Vec Ideal S12x128 .f32} (h6 : Is3 v6 I.dh) (h8 : IsT v8 I.dhs) : Is3 (k0_pay3 v6 v8) I.g := by
  intro y; unfold k0_pay3 In.g
  pointwise [h6, h8]

theorem pay5_at {v12 : Vec Ideal S12x128x4608 .bf16} (h : IsU v12 I.u) : Is3 (k0_pay5 v12) I.u := by
  intro y; unfold k0_pay5 k0_pay4
  pointwise [h]

theorem pay6_at {v4 : Vec Ideal S12x128x1536 .f32} {v5 : Vec Ideal S12x1536 .f32} (h4 : Is3 v4 I.c) (h5 : Is2 v5 I.c0) : Is3 (k0_pay6 v4 v5) I.cx := by
  intro y; unfold k0_pay6 In.cx
  pointwise [h4, h5]
  split_ifs <;> first | rfl | omega

theorem pay7_at {v1 : Vec Ideal S1536 .f32} {v3 : Vec Ideal S2x1536 .f32} {v4 : Vec Ideal S12x128x1536 .f32} {v5 : Vec Ideal S12x1536 .f32} {v12 : Vec Ideal S12x128x4608 .bf16}
    (h1 : Is1 v1 I.vf) (h3 : ∀ y : S2x1536.Idx, v3 y = I.b (y 0).val (y 1).val) (h4 : Is3 v4 I.c) (h5 : Is2 v5 I.c0) (h : IsU v12 I.u) : Is3 (k0_pay7 v1 v3 v4 v5 v12) I.f := by
  have h6 := pay6_at h4 h5
  intro y; unfold k0_pay7 In.f k0_pay4
  generalize k0_pay6 v4 v5 = w at *
  pointwise [h1, h3, h6, h]

theorem pay8_at {v1 : Vec Ideal S1536 .f32} {v3 : Vec Ideal S2x1536 .f32} {v4 : Vec Ideal S12x128x1536 .f32} {v5 : Vec Ideal S12x1536 .f32} {v12 : Vec Ideal S12x128x4608 .bf16}
    (h1 : Is1 v1 I.vr) (h3 : ∀ y : S2x1536.Idx, v3 y = I.b (y 0).val (y 1).val) (h4 : Is3 v4 I.c) (h5 : Is2 v5 I.c0) (h : IsU v12 I.u) : Is3 (k0_pay8 v1 v3 v4 v5 v12) I.r := by
  have h6 := pay6_at h4 h5
  intro y; unfold k0_pay8 In.r k0_pay4
  generalize k0_pay6 v4 v5 = w at *
  pointwise [h1, h3, h6, h]

theorem pay11_at {v4 v39 v41 : Vec Ideal S12x128x1536 .f32} {v43 : Vec Ideal S12x128x1536 .bf16} (h4 : Is3 v4 I.c) (h39 : Is3 v39 I.r) (h41 : Is3 v41 I.dxh) (h43 : Is3 v43 I.x) : Is3 (k0_pay11 v4 v39 v41 v43) I.dr := by
  intro y; unfold k0_pay11 In.dr In.cx
  rw [if_neg (Nat.succ_ne_zero _), Nat.add_sub_cancel]
  pointwise [h4, h39, h41, h43]

theorem pay12_at {v : FVec Ideal S12x128x1536 .f32} {G : ℕ → ℕ → ℕ → EReal} (h : Is3 v G) : Is3 (k0_pay12 v) G := by
  intro y; unfold k0_pay12
  pointwise [h]

theorem pay13_at {v14 v19 : FVec Ideal S12x128x1536 .f32} (h14 : Is3 v14 I.u) (h19 : Is3 v19 I.cx) : Is3 (k0_pay13 v14 v19) fun b t d => I.cx b t d - I.u b t d := by
  intro y; unfold k0_pay13
  pointwise [h14, h19]

theorem pay14_at {v29 : FVec Ideal S12x128x1536 .f32} (h : Is3 v29 I.f) : Is3 (k0_pay14 v29) fun b t d => I.f b t d * I.om b t d := by
  intro y; unfold k0_pay14 In.om
  pointwise [h]

theorem pay15_at {v1 : Vec Ideal S1536 .f32} {v14 v19 v29 : FVec Ideal S12x128x1536 .f32} (h1 : Is1 v1 I.vf) (h14 : Is3 v14 I.u) (h19 : Is3 v19 I.cx) (h29 : Is3 v29 I.f) : Is3 (k0_pay15 v1 v14 v19 v29) I.a := by
  have a := pay13_at h14 h19
  have b := pay14_at h29
  intro y; unfold k0_pay15 In.a In.xf
  generalize k0_pay13 v14 v19 = w at *
  generalize k0_pay14 v29 = w' at *
  rw [← mul_assoc]
  pointwise [h1, h29, a, b]

theorem pay16_at {v2 : Vec Ideal S1536 .f32} {v4 v39 v41 : Vec Ideal S12x128x1536 .f32} {v43 : Vec Ideal S12x128x1536 .bf16} (h2 : Is1 v2 I.vr) (h : Is3 (k0_pay11 v4 v39 v41 v43) I.dr) : Is3 (k0_pay16 v2 v4 v39 v41 v43) I.bt := by
  intro y; unfold k0_pay16 In.bt
  generalize k0_pay11 v4 v39 v41 v43 = w at *
  pointwise [h2, h]

theorem pay18_at {dc : Vec Ideal S12x1536 .f32} {g : Vec Ideal S12x1x1536 .f32} {G H : ℕ → ℕ → EReal} (hd : Is2 dc G) (hg : IsR g H) : IsR (k0_pay18 dc g) fun b d => H b d + G b d := by
  intro y; unfold k0_pay18 k0_pay17
  pointwise [hd, hg]

theorem pay19_at {dc : Vec Ideal S12x1536 .f32} {g a b : Vec Ideal S12x1x1536 .f32} {G H A B : ℕ → ℕ → EReal} (hd : Is2 dc G) (hg : IsR g H) (ha : IsR a A) (hb : IsR b B) :
    Is2 (k0_pay19 dc g a b) fun b d => (H b d + G b d) * A b d + B b d := by
  intro y; unfold k0_pay19 k0_pay17
  pointwise [hd, hg, ha, hb]

theorem pay20_at {v50 v53 v72 : FVec Ideal S12x128x1536 .f32} (h50 : Is3 v50 fun b t d => I.cx b t d - I.u b t d) (h53 : Is3 v53 fun b t d => I.f b t d * I.om b t d) (h72 : Is3 v72 I.dct) : Is3 (k0_pay20 v50 v53 v72) I.df := by
  intro y; unfold k0_pay20 In.df In.xf
  rw [← mul_assoc]
  pointwise [h50, h53, h72]

theorem cat3 (A B C : ℕ → EReal) (e : ℕ) : (if h : e < 1536 then A e else if h : e - 1536 < 1536 then B (e - 1536) else C (e - 1536 - 1536)) = if e < 1536 then A e else if e < 3072 then B (e - 1536) else C (e - 3072) := by
  by_cases h1 : e < 1536
  · rw [dif_pos h1, if_pos h1]
  · rw [dif_neg h1, if_neg h1]
    by_cases h2 : e < 3072
    · rw [dif_pos (by omega), if_pos h2]
    · rw [dif_neg (by omega), if_neg h2, Nat.sub_sub]

theorem pay21_at {v29 v46 v50 v53 v72 : FVec Ideal S12x128x1536 .f32} (h29 : Is3 v29 I.f) (h46 : Is3 v46 I.dr) (h : Is3 (k0_pay20 v50 v53 v72) I.df) (h72 : Is3 v72 I.dct) :
    IsU (k0_pay21 v29 v46 v50 v53 v72 (Scalar.ofBits .f32 0x3F800000#32)) I.dU := by
  intro y; unfold k0_pay21 In.dU In.dxt In.om
  generalize k0_pay20 v50 v53 v72 = w at *
  pointwise [h29, h46, h, h72]
  exact cat3 (fun e => I.dct (y 0).val (y 1).val e * (1 - I.f (y 0).val (y 1).val e)) (I.df (y 0).val (y 1).val) (I.dr (y 0).val (y 1).val) (y 2).val

/-- A sum over the two outer axes. -/
theorem red01 (h : S12x128x1536.Reduces [0, 1] S1536) (v : S12x128x1536.Idx → EReal) (j : S1536.Idx) : Ideal.reduceAdd h v j = ∑ b : Fin 12, ∑ t : Fin 128, v (ix3 b t (j 0)) := by
  refine (Finset.sum_filter_eq_sum_of_fiber _ (fun k : Fin 12 × Fin 128 => (ix3 k.1 k.2 (j 0) : S12x128x1536.Idx)) (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

theorem pay22_at {v19 v50 v53 v72 : FVec Ideal S12x128x1536 .f32} (h19 : Is3 v19 I.cx) (h : Is3 (k0_pay20 v50 v53 v72) I.df) (y : S1x1536.Idx) :
    k0_pay22 v19 v50 v53 v72 y = ∑ b : Fin 12, ∑ t : Fin 128, I.term 0 b.val t.val (y 1).val := by
  unfold k0_pay22 In.term
  generalize k0_pay20 v50 v53 v72 = w at *
  pointwise [h19, h, red01]

theorem pay23_at {v19 v46 : FVec Ideal S12x128x1536 .f32} (h19 : Is3 v19 I.cx) (h : Is3 v46 I.dr) (y : S1x1536.Idx) :
    k0_pay23 v19 v46 y = ∑ b : Fin 12, ∑ t : Fin 128, I.term 1 b.val t.val (y 1).val := by
  unfold k0_pay23 In.term
  pointwise [h19, h, red01]

theorem term23 (d n : ℕ) (hn : n < 2) : (if h : n < 1 then ∑ b : Fin 12, ∑ t : Fin 128, I.df b.val t.val d else ∑ b : Fin 12, ∑ t : Fin 128, I.dr b.val t.val d) = ∑ b : Fin 12, ∑ t : Fin 128, I.term (2 + n) b.val t.val d := by
  have e0 (b t : ℕ) : I.term (2 + 0) b t d = I.df b t d := rfl
  have e1 (b t : ℕ) : I.term (2 + 1) b t d = I.dr b t d := rfl
  obtain rfl | rfl : n = 0 ∨ n = 1 := by omega
  · rw [dif_pos (by decide)]; simp only [e0]
  · rw [dif_neg (by decide)]; simp only [e1]

theorem pay24_at {v46 v50 v53 v72 : FVec Ideal S12x128x1536 .f32} (h46 : Is3 v46 I.dr) (h : Is3 (k0_pay20 v50 v53 v72) I.df) (y : S2x1536.Idx) :
    k0_pay24 v46 v50 v53 v72 y = ∑ b : Fin 12, ∑ t : Fin 128, I.term (2 + (y 0).val) b.val t.val (y 1).val := by
  have y0 : (y 0).val < 2 := (y 0).2
  unfold k0_pay24
  generalize k0_pay20 v50 v53 v72 = w at *
  pointwise [h46, h, red01]
  exact term23 (y 1).val (y 0).val y0

theorem pay1_at {v78 : FVec Ideal S12x128x4608 .f32} {v112 : FVec Ideal S12x128 .f32} (h : IsU v78 I.dU) (h' : IsT v112 I.inv) : IsU (k0_pay1 v78 v112) I.code := by
  intro y; unfold k0_pay1 In.code
  pointwise [h, h']

theorem pay2_at {v0 : Vec Ideal S1536 .f32} {v41 : FVec Ideal S12x128x1536 .f32} {v78 : FVec Ideal S12x128x4608 .f32} {v109 v112 : FVec Ideal S12x128 .f32} {v124 : Vec Ideal S1536x4608 .fp8e4m3}
    (h0 : Is1 v0 I.ws) (h41 : Is3 v41 I.dxh) (h : IsU (k0_pay1 v78 v112) I.code) (h109 : IsT v109 I.scale) (h124 : ∀ y : S1536x4608.Idx, v124 y = I.w (y 0).val (y 1).val) : Is3 (k0_pay2 v0 v41 v78 v109 v112 v124) I.dx := by
  intro y; unfold k0_pay2 In.dx
  generalize k0_pay1 v78 v112 = w at *
  pointwise [h0, h41, h, h109, h124]

end Cert.Ref
-- ==== Proof.RefScale.lean ====
/- The reference's scales. -/
module

public import proofs.«01_k».proof.Proof.RefPay

@[expose] public section
noncomputable section

namespace Cert.Ref
open Cert.Mem hiding Cmd ld st PR
open Cert.Spec Cert.ReferenceIdeal Cert.ReferenceIdeal.Gen Idealize.ShloMosaic Idealize.SL.Sem

variable {I : In}

/-- The maximum's start is the least extended real. -/
theorem ninf : Ideal.ofBits .f32 0xFF800000#32 = ⊥ := by simp [Ideal.ofBits, Ideal.ieee]

/-- The largest magnitude over the 4608 gradients is the largest over the columns of the largest of the three. -/
theorem amax_eq (I : In) (b t : ℕ) : Finset.univ.fold max (Ideal.ofBits .f32 0xFF800000#32) (fun l : Fin 4608 => I.dU b t l.val ⊔ -I.dU b t l.val) = I.amax b t := by
  rw [ninf]
  refine le_antisymm ((Finset.fold_max_le _).2 ⟨bot_le, fun l _ => ?_⟩) (Finset.sup_le fun d hd => ?_)
  · have hl := l.2
    unfold In.dU
    split_ifs with h1 h2
    · exact le_trans (le_trans (le_max_left _ _) (le_max_left _ _)) (Finset.le_sup (f := I.mx b t) (Finset.mem_range.2 h1))
    · exact le_trans (le_trans (le_max_right _ _) (le_max_left _ _)) (Finset.le_sup (f := I.mx b t) (Finset.mem_range.2 (by omega : l.val - 1536 < 1536)))
    · exact le_trans (le_max_right _ _) (Finset.le_sup (f := I.mx b t) (Finset.mem_range.2 (by omega : l.val - 3072 < 1536)))
  · have hd := Finset.mem_range.1 hd
    have e (l : ℕ) (hl : l < 4608) : I.dU b t l ⊔ -I.dU b t l ≤ Finset.univ.fold max ⊥ (fun l : Fin 4608 => I.dU b t l.val ⊔ -I.dU b t l.val) :=
      (Finset.le_fold_max _).2 (.inr ⟨⟨l, hl⟩, Finset.mem_univ _, le_rfl⟩)
    refine max_le (max_le ?_ ?_) ?_
    · have := e d (by omega)
      rwa [show I.dU b t d = I.dxt b t d by rw [In.dU, if_pos hd]] at this
    · have := e (1536 + d) (by omega)
      rwa [show I.dU b t (1536 + d) = I.df b t d by rw [In.dU, if_neg (by omega), if_pos (by omega), show 1536 + d - 1536 = d by omega]] at this
    · have := e (3072 + d) (by omega)
      rwa [show I.dU b t (3072 + d) = I.dr b t d by rw [In.dU, if_neg (by omega), if_neg (by omega), show 3072 + d - 3072 = d by omega]] at this

/-- The largest magnitudes, times the scale's constant. -/
def mag (v : FVec Ideal S12x128x4608 .f32) : FVec Ideal S12x128 .f32 :=
  mulf (multiReduction .maximumf [2] S12x128 (absf v) 0xFF800000#32 reduces_S12x128x4608_S12x128 (.inl rfl) rfl) (broadcast S12x128 (Scalar.ofBits .f32 0x37924925#32))

/-- The exponents. -/
def expo (z : FVec Ideal S12x128 .f32) : FVec Ideal S12x128 .f32 :=
  select (cmpf .oeq z (broadcast S12x128 (Scalar.ofBits .f32 0x00000000#32))) (broadcast S12x128 (Scalar.ofBits .f32 0x00000000#32))
    (addf (floor (mulf (log z) (broadcast S12x128 (Scalar.ofBits .f32 0x3FB8AA3B#32)))) (broadcast S12x128 (Scalar.ofBits .f32 0x3F800000#32)))

/-- The scale's constant multiplies at each place. -/
theorem scaled_at (a : FVec Ideal S12x128 .f32) (y : S12x128.Idx) : mulf a (broadcast S12x128 (Scalar.ofBits .f32 0x37924925#32)) y = a y * Ideal.ofBits .f32 0x37924925#32 := rfl

/-- A magnitude at a place along the row of a token. -/
theorem abs_at {v : FVec Ideal S12x128x4608 .f32} {G : ℕ → ℕ → ℕ → EReal} (h : IsU v G) (y : S12x128.Idx) (l : Fin 4608) : absf v (Shape.Reduces.lift reduces_S12x128x4608_S12x128 y l) = G (y 0).val (y 1).val l.val ⊔ -G (y 0).val (y 1).val l.val :=
  congrArg (fun a : EReal => a ⊔ -a) (h _)

/-- The largest magnitudes times the constant, from the largest magnitudes. -/
theorem mag_at {v : FVec Ideal S12x128x4608 .f32} {G : ℕ → ℕ → ℕ → EReal} {H : ℕ → ℕ → EReal} (hH : ∀ b t, Finset.univ.fold max (Ideal.ofBits .f32 0xFF800000#32) (fun l : Fin 4608 => G b t l.val ⊔ -G b t l.val) = H b t)
    (h : IsU v G) : IsT (mag v) fun b t => H b t * Ideal.ofBits .f32 0x37924925#32 := by
  intro y
  have e := Ideal.multiReduction_maximumf_single (absf v) 0xFF800000#32 reduces_S12x128x4608_S12x128 (.inl rfl) rfl y
  have e' : absf v ∘ Shape.Reduces.lift reduces_S12x128x4608_S12x128 y = fun l : Fin 4608 => G (y 0).val (y 1).val l.val ⊔ -G (y 0).val (y 1).val l.val := funext (abs_at h y)
  rw [e'] at e
  have e2 := e.trans (hH (y 0).val (y 1).val)
  unfold mag
  rw [scaled_at]
  exact congrArg (fun a : EReal => a * Ideal.ofBits .f32 0x37924925#32) e2

/-- The exponent of the largest magnitude. -/
theorem expo_at {z : FVec Ideal S12x128 .f32} {H : ℕ → ℕ → EReal} (h : IsT z fun b t => H b t * Ideal.ofBits .f32 0x37924925#32) : IsT (expo z) fun b t => In.ex (H b t) := by
  intro y
  have h := h y
  dsimp only at h ⊢
  generalize H (y 0).val (y 1).val = a at h ⊢
  unfold expo
  pointwise
  rw [h]; rfl

/-- A power of two at a place. -/
theorem exp2_at {e : FVec Ideal S12x128 .f32} {E : ℕ → ℕ → EReal} (h : IsT e E) (y : S12x128.Idx) : exp2 e y = Ideal.exp2 (E (y 0).val (y 1).val) := by
  pointwise [h]
  rfl

/-- A power of two with the exponent negated, at a place. -/
theorem exp2n_at {e : FVec Ideal S12x128 .f32} {E : ℕ → ℕ → EReal} (h : IsT e E) (y : S12x128.Idx) : exp2 (subf (broadcast S12x128 (Scalar.ofBits .f32 0x00000000#32)) e) y = Ideal.exp2 (0 - E (y 0).val (y 1).val) := by
  pointwise [h]
  rfl

/-- The exponents are those of the three gradients side by side. -/
theorem pay25_eq (v29 v46 v50 v53 v72 : FVec Ideal S12x128x1536 .f32) (one : Ideal .f32) : k0_pay25 v29 v46 v50 v53 v72 one = expo (mag (k0_pay21 v29 v46 v50 v53 v72 one)) := rfl

/-- Each token's exponent. -/
theorem pay25_at {v29 v46 v50 v53 v72 : FVec Ideal S12x128x1536 .f32} {one : Ideal .f32} (h : IsU (k0_pay21 v29 v46 v50 v53 v72 one) I.dU) : IsT (k0_pay25 v29 v46 v50 v53 v72 one) fun b t => In.ex (I.amax b t) := by
  rw [pay25_eq]
  generalize k0_pay21 v29 v46 v50 v53 v72 one = v at *
  exact expo_at (mag_at (amax_eq I) h)

/-- The scale by the exponent. -/
theorem scale_eq (b t : ℕ) : I.scale b t = Ideal.exp2 (In.ex (I.amax b t)) := by unfold In.scale; rfl
/-- The inverse scale by the exponent. -/
theorem inv_eq (b t : ℕ) : I.inv b t = Ideal.exp2 (0 - In.ex (I.amax b t)) := by unfold In.inv; rfl

/-- Each token's scale. -/
theorem pay26_at {v29 v46 v50 v53 v72 : FVec Ideal S12x128x1536 .f32} {one : Ideal .f32} (h : IsU (k0_pay21 v29 v46 v50 v53 v72 one) I.dU) : IsT (k0_pay26 v29 v46 v50 v53 v72 one) I.scale := by
  have h' := pay25_at h
  intro y; unfold k0_pay26
  generalize k0_pay25 v29 v46 v50 v53 v72 one = w at *
  rw [scale_eq]
  exact exp2_at h' y

/-- Each token's inverse scale. -/
theorem pay27_at {v29 v46 v50 v53 v72 : FVec Ideal S12x128x1536 .f32} {one : Ideal .f32} (h : IsU (k0_pay21 v29 v46 v50 v53 v72 one) I.dU) : IsT (k0_pay27 v29 v46 v50 v53 v72 one) I.inv := by
  have h' := pay25_at h
  intro y; unfold k0_pay27
  generalize k0_pay25 v29 v46 v50 v53 v72 one = w at *
  rw [inv_eq]
  exact exp2n_at h' y

end Cert.Ref
-- ==== Proof.RefVal.lean ====
/- What the reference's body leaves. -/
module

public import proofs.«01_k».proof.Proof.RefScale

@[expose] public section
noncomputable section

namespace Cert.Ref
open Cert.Mem hiding Cmd ld st St PR
open Cert.Spec Cert.ReferenceIdeal Cert.ReferenceIdeal.Gen Idealize.ShloMosaic Idealize.SL.Sem

variable {I : In}

/-- The gradient's part through the state. -/
theorem pay9_at {v2 : Vec Ideal S1536 .f32} {v3 : Vec Ideal S2x1536 .f32} {v4 : Vec Ideal S12x128x1536 .f32} {v5 : Vec Ideal S12x1536 .f32} {v6 : Vec Ideal S12x128x1536 .fp8e5m2} {v8 : Vec Ideal S12x128 .f32} {v12 : Vec Ideal S12x128x4608 .bf16}
    (h3 : Is3 (k0_pay3 v6 v8) I.g) (h8 : Is3 (k0_pay8 v2 v3 v4 v5 v12) I.r) : Is3 (k0_pay9 v2 v3 v4 v5 v6 v8 v12) I.gr := by
  intro y; unfold k0_pay9 In.gr
  generalize k0_pay3 v6 v8 = w at *
  generalize k0_pay8 v2 v3 v4 v5 v12 = w' at *
  pointwise [h3, h8]

/-- The gradient's highway part. -/
theorem pay10_at {v2 : Vec Ideal S1536 .f32} {v3 : Vec Ideal S2x1536 .f32} {v4 : Vec Ideal S12x128x1536 .f32} {v5 : Vec Ideal S12x1536 .f32} {v6 : Vec Ideal S12x128x1536 .fp8e5m2} {v8 : Vec Ideal S12x128 .f32} {v12 : Vec Ideal S12x128x4608 .bf16}
    (h3 : Is3 (k0_pay3 v6 v8) I.g) (h9 : Is3 (k0_pay9 v2 v3 v4 v5 v6 v8 v12) I.gr) : Is3 (k0_pay10 v2 v3 v4 v5 v6 v8 v12) I.dxh := by
  intro y; unfold k0_pay10 In.dxh
  generalize k0_pay3 v6 v8 = w at *
  generalize k0_pay9 v2 v3 v4 v5 v6 v8 v12 = w' at *
  pointwise [h3, h9]

section
variable {s : Shape} {α : Type} {off : Fin s.rank → ℕ}

/-- The whole rectangle moves no index. -/
theorem whole_emb (h0 : ∀ a, off a = 0) (h) (y : s.Idx) : (Rect.unit (s := s) off s.size h).emb y = y :=
  funext fun a => Fin.ext (by show off a + 1 * (y a).val = (y a).val; rw [h0]; omega)

/-- A load through a rectangle that is the whole buffer. -/
theorem whole_ld (h0 : ∀ a, off a = 0) (h) (X : s.Idx → α) : (fun x => X ((Rect.unit (s := s) off s.size h).toLoadRect.idx x)) = X :=
  funext fun y => congrArg X (funext fun a => Fin.ext (by show off a + 1 * (y a).val = (y a).val; rw [h0]; omega))

/-- A store through it. -/
theorem whole_st (h0 : ∀ a, off a = 0) (h) (X v : s.Idx → α) : upd X (Rect.unit (s := s) off s.size h) v = v :=
  funext fun y => by
    have := upd_emb X (Rect.unit (s := s) off s.size h) v y
    rwa [whole_emb h0] at this
end

/-- The whole rectangle starts at zero, with one axis. -/
theorem z1 : ∀ a, (![0] : Fin 1 → ℕ) a = 0 := by decide
/-- The same with two axes. -/
theorem z2 : ∀ a, (![0, 0] : Fin 2 → ℕ) a = 0 := by decide
/-- The same with three axes. -/
theorem z3 : ∀ a, (![0, 0, 0] : Fin 3 → ℕ) a = 0 := by decide

/-- The arguments are in place. -/
structure RIn (I : In) (s : St Ideal) : Prop where
  x : Is3 (s .b0) I.x
  w : ∀ y : S1536x4608.Idx, s .b1 y = I.w (y 0).val (y 1).val
  ws : Is1 (s .b2) I.ws
  vf : Is1 (s .b3) I.vf
  vr : Is1 (s .b4) I.vr
  b : ∀ y : S2x1536.Idx, s .b5 y = I.b (y 0).val (y 1).val
  u : IsU (s .b6) I.u
  c : Is3 (s .b7) I.c
  c0 : Is2 (s .b8) I.c0
  dh : Is3 (s .b9) I.dh
  dhs : IsT (s .b10) I.dhs
  dcl : Is2 (s .b11) I.dcl

variable {s : St Ideal}

/-- What the first part loads and passes on. -/
theorem p1_ev (s : St Ideal) : ev p1 s = (⟨s .b2, s .b3, s .b4, s .b7, k0_pay5 (s .b6), k0_pay6 (s .b7) (s .b8), k0_pay7 (s .b3) (s .b5) (s .b7) (s .b8) (s .b6), k0_pay8 (s .b4) (s .b5) (s .b7) (s .b8) (s .b6),
    k0_pay9 (s .b4) (s .b5) (s .b7) (s .b8) (s .b9) (s .b10) (s .b6), k0_pay10 (s .b4) (s .b5) (s .b7) (s .b8) (s .b9) (s .b10) (s .b6)⟩, s) := by
  have e : ∀ v0 v1 v2 v3 v4 v5 v6 v8 v12,
      (fun x => s .b2 ((Rect.unit (s := S1536) ![0] S1536.size inb_S1536_S1536_0).toLoadRect.idx x)) = v0 →
      (fun x => s .b3 ((Rect.unit (s := S1536) ![0] S1536.size inb_S1536_S1536_0).toLoadRect.idx x)) = v1 →
      (fun x => s .b4 ((Rect.unit (s := S1536) ![0] S1536.size inb_S1536_S1536_0).toLoadRect.idx x)) = v2 →
      (fun x => s .b5 ((Rect.unit (s := S2x1536) ![0, 0] S2x1536.size inb_S2x1536_S2x1536_0_0).toLoadRect.idx x)) = v3 →
      (fun x => s .b7 ((Rect.unit (s := S12x128x1536) ![0, 0, 0] S12x128x1536.size inb_S12x128x1536_S12x128x1536_0_0_0).toLoadRect.idx x)) = v4 →
      (fun x => s .b8 ((Rect.unit (s := S12x1536) ![0, 0] S12x1536.size inb_S12x1536_S12x1536_0_0).toLoadRect.idx x)) = v5 →
      (fun x => s .b9 ((Rect.unit (s := S12x128x1536) ![0, 0, 0] S12x128x1536.size inb_S12x128x1536_S12x128x1536_0_0_0).toLoadRect.idx x)) = v6 →
      (fun x => s .b10 ((Rect.unit (s := S12x128) ![0, 0] S12x128.size inb_S12x128_S12x128_0_0).toLoadRect.idx x)) = v8 →
      (fun x => s .b6 ((Rect.unit (s := S12x128x4608) ![0, 0, 0] S12x128x4608.size inb_S12x128x4608_S12x128x4608_0_0_0).toLoadRect.idx x)) = v12 →
      ev p1 s = (⟨v0, v1, v2, v4, k0_pay5 v12, k0_pay6 v4 v5, k0_pay7 v1 v3 v4 v5 v12, k0_pay8 v2 v3 v4 v5 v12, k0_pay9 v2 v3 v4 v5 v6 v8 v12, k0_pay10 v2 v3 v4 v5 v6 v8 v12⟩, s) := by
    intro v0 v1 v2 v3 v4 v5 v6 v8 v12 e0 e1 e2 e3 e4 e5 e6 e8 e12
    subst e0 e1 e2 e3 e4 e5 e6 e8 e12
    rfl
  exact e _ _ _ _ _ _ _ _ _ (whole_ld z1 _ _) (whole_ld z1 _ _) (whole_ld z1 _ _) (whole_ld z2 _ _) (whole_ld z3 _ _) (whole_ld z2 _ _) (whole_ld z3 _ _) (whole_ld z2 _ _) (whole_ld z3 _ _)

/-- What the first part passes on, by the specification. -/
theorem p1_P (h : RIn I s) : ∃ v0 v1 v2 v4 v14 v19 v29 v39 v40 v41, ev p1 s = (⟨v0, v1, v2, v4, v14, v19, v29, v39, v40, v41⟩, s) ∧ Is1 v0 I.ws ∧ Is1 v1 I.vf ∧ Is1 v2 I.vr ∧ Is3 v4 I.c
    ∧ Is3 v14 I.u ∧ Is3 v19 I.cx ∧ Is3 v29 I.f ∧ Is3 v39 I.r ∧ Is3 v40 I.gr ∧ Is3 v41 I.dxh := by
  have h3 := pay3_at h.dh h.dhs
  have h8 := pay8_at h.vr h.b h.c h.c0 h.u
  have h9 := pay9_at h3 h8
  exact ⟨_, _, _, _, _, _, _, _, _, _, p1_ev s, h.ws, h.vf, h.vr, h.c, pay5_at h.u, pay6_at h.c h.c0, pay7_at h.vf h.b h.c h.c0 h.u, h8, h9, pay10_at h3 h9⟩

end Cert.Ref
-- ==== Proof.RefScan.lean ====
/- The reference's scan. -/
module

public import proofs.«01_k».proof.Proof.RefVal

@[expose] public section
noncomputable section

namespace Cert.Ref
open Cert.Mem hiding Cmd ld st St PR
open Cert.Spec Cert.ReferenceIdeal Cert.ReferenceIdeal.Gen Idealize.ShloMosaic Idealize.SL.Sem

variable {I : In} {s : St Ideal}

/-- One step's rows of an array. -/
theorem row_ld (t : Fin k0_t1_loop.trips) {X : S12x128x1536.Idx → EReal} {G : ℕ → ℕ → ℕ → EReal} (h : Is3 X G) : IsR (fun x => X ((rT t).toLoadRect.idx x)) fun b d => G b (127 - t.val) d := by
  intro y
  refine (h _).trans ?_
  show G (k0_off1 t 0 + 1 * (y 0).val) (k0_off1 t 1 + 1 * (y 1).val) (k0_off1 t 2 + 1 * (y 2).val) = G (y 0).val (127 - t.val) (y 2).val
  rw [k0_off1_eq]
  show G (0 + 1 * (y 0).val) (127 - t.val + 1 * (y 1).val) (0 + 1 * (y 2).val) = G (y 0).val (127 - t.val) (y 2).val
  have y1 : (y 1).val < 1 := (y 1).2
  congr 1 <;> omega

/-- What one step of the scan returns and stores. -/
theorem trip_ev (t : Fin k0_t1_loop.trips) (dc : Vec Ideal S12x1536 .f32) (s : St Ideal) : ev (trip t dc) s
    = (k0_pay19 dc (fun x => s .b19 ((rT t).toLoadRect.idx x)) (fun x => s .b20 ((rT t).toLoadRect.idx x)) (fun x => s .b21 ((rT t).toLoadRect.idx x)),
      Function.update s .b22 (upd (s .b22) (rT t) (k0_pay18 dc (fun x => s .b19 ((rT t).toLoadRect.idx x))))) := rfl

/-- The scan has 128 steps. -/
theorem trips128 : k0_t1_loop.trips = 128 := by decide +kernel

/-- What the scan keeps: after `n` steps the carry and the rows of the state's gradient from the end. -/
def J (I : In) (s : St Ideal) (n : ℕ) (dc : Vec Ideal S12x1536 .f32) (s' : St Ideal) : Prop :=
  Is2 dc (fun b d => I.dc b d n) ∧ (∀ y : S12x128x1536.Idx, 128 - n ≤ (y 1).val → s' .b22 y = I.dct (y 0).val (y 1).val (y 2).val) ∧ ∀ b, b ≠ Bf.b22 → s' b = s b

/-- A step's rows come on top of the later ones'. -/
theorem store_P (t : Fin k0_t1_loop.trips) {X : S12x128x1536.Idx → EReal} {w : S12x1x1536.Idx → EReal} (hr : ∀ y : S12x128x1536.Idx, 128 - t.val ≤ (y 1).val → X y = I.dct (y 0).val (y 1).val (y 2).val)
    (hw : IsR w fun b d => I.gr b (127 - t.val) d + I.dc b d t.val) (y : S12x128x1536.Idx) (hy : 128 - (t.val + 1) ≤ (y 1).val) : upd X (rT t) w y = I.dct (y 0).val (y 1).val (y 2).val := by
  have ht : t.val < 128 := lt_of_lt_of_eq t.2 trips128
  refine upd_ag (W := fun y : S12x128x1536.Idx => 128 - t.val ≤ (y 1).val) (f := fun y : S12x128x1536.Idx => I.dct (y 0).val (y 1).val (y 2).val) hr ?_ y ?_
  · intro x
    refine (hw x).trans ?_
    show _ = I.dct (k0_off1 t 0 + 1 * (x 0).val) (k0_off1 t 1 + 1 * (x 1).val) (k0_off1 t 2 + 1 * (x 2).val)
    rw [k0_off1_eq]
    show _ = I.dct (0 + 1 * (x 0).val) (127 - t.val + 1 * (x 1).val) (0 + 1 * (x 2).val)
    have x1 : (x 1).val < 1 := (x 1).2
    rw [show 0 + 1 * (x 0).val = (x 0).val by omega, show 127 - t.val + 1 * (x 1).val = 127 - t.val by omega, show 0 + 1 * (x 2).val = (x 2).val by omega]
    unfold In.dct
    rw [show 127 - (127 - t.val) = t.val by omega]
  · by_cases hc : 128 - t.val ≤ (y 1).val
    · exact .inl hc
    · refine .inr (mem_rect _ _ fun a => ?_)
      have e := k0_off1_eq t
      match a with
      | ⟨0, _⟩ => exact ⟨(y 0).val, (y 0).2, by show (y 0).val = k0_off1 t 0 + 1 * (y 0).val; rw [e]; show (y 0).val = 0 + 1 * (y 0).val; omega⟩
      | ⟨1, _⟩ => exact ⟨0, Nat.one_pos, by show (y 1).val = k0_off1 t 1 + 1 * 0; rw [e]; show (y 1).val = 127 - t.val + 1 * 0; omega⟩
      | ⟨2, _⟩ => exact ⟨(y 2).val, (y 2).2, by show (y 2).val = k0_off1 t 2 + 1 * (y 2).val; rw [e]; show (y 2).val = 0 + 1 * (y 2).val; omega⟩

/-- What a step must give to keep what the scan keeps. -/
theorem trip_J (t : ℕ) (w : S12x128x1536.Idx → EReal) (dc : Vec Ideal S12x1536 .f32) (s' : St Ideal) (hb : Is2 dc fun b d => I.dc b d (t + 1)) (hk : ∀ b, b ≠ Bf.b22 → s' b = s b)
    (hw : ∀ y : S12x128x1536.Idx, 128 - (t + 1) ≤ (y 1).val → w y = I.dct (y 0).val (y 1).val (y 2).val) : J I s (t + 1) dc (Function.update s' Bf.b22 w) :=
  ⟨hb, fun y hy => (congrFun (Function.update_self (β := fun b : Bf => b.sh.Idx → Elt Ideal b.et) Bf.b22 w s') y).trans (hw y hy), fun b hb => (Function.update_of_ne hb _ _).trans (hk b hb)⟩

/-- One step of the scan. -/
theorem trip_P (h19 : Is3 (s .b19) I.gr) (h20 : Is3 (s .b20) I.a) (h21 : Is3 (s .b21) I.bt) (t : Fin k0_t1_loop.trips) (dc : Vec Ideal S12x1536 .f32) (s' : St Ideal) (h : J I s t.val dc s') :
    J I s (t.val + 1) (ev (trip t dc) s').1 (ev (trip t dc) s').2 := by
  obtain ⟨hd, hr, hk⟩ := h
  rw [trip_ev, hk .b19 (by decide), hk .b20 (by decide), hk .b21 (by decide)]
  have g := row_ld t h19
  exact trip_J t.val _ _ s' (pay19_at hd g (row_ld t h20) (row_ld t h21)) hk (store_P t hr (pay18_at hd g))

/-- After the scan. -/
theorem scan_P (h19 : Is3 (s .b19) I.gr) (h20 : Is3 (s .b20) I.a) (h21 : Is3 (s .b21) I.bt) {dc : Vec Ideal S12x1536 .f32} (hd : Is2 dc I.dcl) :
    J I s 128 (ev (Scf.Loop.for k0_t1_loop k0_t1_ok dc trip) s).1 (ev (Scf.Loop.for k0_t1_loop k0_t1_ok dc trip) s).2 := by
  have := ev_for (ok := k0_t1_ok) (u := dc) (f := trip) (J I s) (fun t x s' h => trip_P h19 h20 h21 t x s' h) s ⟨hd, fun y hy => absurd (y 1).2 (by have : 128 ≤ (y 1).val := hy; show ¬ (y 1).val < 128; omega), fun _ _ => rfl⟩
  rwa [trips128] at this

end Cert.Ref
-- ==== Proof.RefOut.lean ====
/- What the reference's body leaves: the results. -/
module

public import proofs.«01_k».proof.Proof.RefVal

@[expose] public section
noncomputable section

namespace Cert.Ref
open Cert.Mem hiding Cmd ld st St PR
open Cert.Spec Cert.ReferenceIdeal Cert.ReferenceIdeal.Gen Idealize.ShloMosaic Idealize.SL.Sem

variable {I : In} {s : St Ideal}

/-- The reference's results, by the specification. -/
structure ROut (I : In) (s : St Ideal) : Prop where
  dx : Is3 (s .b12) I.dx
  d : Is2 (s .b13) fun b d => I.dc b d 128
  vf : ∀ y : S1x1536.Idx, s .b14 y = ∑ b : Fin 12, ∑ t : Fin 128, I.term 0 b.val t.val (y 1).val
  vr : ∀ y : S1x1536.Idx, s .b15 y = ∑ b : Fin 12, ∑ t : Fin 128, I.term 1 b.val t.val (y 1).val
  b : ∀ y : S2x1536.Idx, s .b16 y = ∑ b : Fin 12, ∑ t : Fin 128, I.term (2 + (y 0).val) b.val t.val (y 1).val
  code : IsU (s .b17) I.code
  sc : IsT (s .b18) I.scale

/-- What the third part stores and passes on. -/
theorem p3_ev (v19 v29 v46 v50 v53 v72 : FVec Ideal S12x128x1536 .f32) (one : Ideal .f32) (s : St Ideal) : ev (p3 v19 v29 v46 v50 v53 v72 one) s
    = (⟨k0_pay21 v29 v46 v50 v53 v72 one, k0_pay26 v29 v46 v50 v53 v72 one, k0_pay27 v29 v46 v50 v53 v72 one⟩,
      Function.update (Function.update (Function.update s .b14 (k0_pay22 v19 v50 v53 v72)) .b15 (k0_pay23 v19 v46)) .b16 (k0_pay24 v46 v50 v53 v72)) := by
  have e : ∀ w14 w15 w16,
      upd (s .b14) (Rect.unit (s := S1x1536) ![0, 0] S1x1536.size inb_S1x1536_S1x1536_0_0) (k0_pay22 v19 v50 v53 v72) = w14 →
      upd (s .b15) (Rect.unit (s := S1x1536) ![0, 0] S1x1536.size inb_S1x1536_S1x1536_0_0) (k0_pay23 v19 v46) = w15 →
      upd (s .b16) (Rect.unit (s := S2x1536) ![0, 0] S2x1536.size inb_S2x1536_S2x1536_0_0) (k0_pay24 v46 v50 v53 v72) = w16 →
      ev (p3 v19 v29 v46 v50 v53 v72 one) s = (⟨k0_pay21 v29 v46 v50 v53 v72 one, k0_pay26 v29 v46 v50 v53 v72 one, k0_pay27 v29 v46 v50 v53 v72 one⟩, Function.update (Function.update (Function.update s .b14 w14) .b15 w15) .b16 w16) := by
    intro w14 w15 w16 e1 e2 e3
    subst e1 e2 e3
    rfl
  exact e _ _ _ (whole_st z2 _ _ _) (whole_st z2 _ _ _) (whole_st z2 _ _ _)

/-- What the last part stores. -/
theorem p4_ev (v0 : Vec Ideal S1536 .f32) (v41 : FVec Ideal S12x128x1536 .f32) (v78 : FVec Ideal S12x128x4608 .f32) (v109 v112 : FVec Ideal S12x128 .f32) (s : St Ideal) : ev (p4 v0 v41 v78 v109 v112) s
    = (⟨⟩, Function.update (Function.update (Function.update s .b17 (k0_pay1 v78 v112)) .b18 v109) .b12 (k0_pay2 v0 v41 v78 v109 v112 (s .b1))) := by
  have e : ∀ w1 w17 w18 w12,
      (fun x => s .b1 ((Rect.unit (s := S1536x4608) ![0, 0] S1536x4608.size inb_S1536x4608_S1536x4608_0_0).toLoadRect.idx x)) = w1 →
      upd (s .b17) (Rect.unit (s := S12x128x4608) ![0, 0, 0] S12x128x4608.size inb_S12x128x4608_S12x128x4608_0_0_0) (k0_pay1 v78 v112) = w17 →
      upd (s .b18) (Rect.unit (s := S12x128) ![0, 0] S12x128.size inb_S12x128_S12x128_0_0) v109 = w18 →
      upd (s .b12) (Rect.unit (s := S12x128x1536) ![0, 0, 0] S12x128x1536.size inb_S12x128x1536_S12x128x1536_0_0_0) (k0_pay2 v0 v41 v78 v109 v112 w1) = w12 →
      ev (p4 v0 v41 v78 v109 v112) s = (⟨⟩, Function.update (Function.update (Function.update s .b17 w17) .b18 w18) .b12 w12) := by
    intro w1 w17 w18 w12 e1 e2 e3 e4
    subst e1 e2 e3 e4
    rfl
  exact e _ _ _ _ (whole_ld z2 _ _) (whole_st z3 _ _ _) (whole_st z2 _ _ _) (whole_st z3 _ _ _)

/-- Updated contents at the updated buffer and at another. -/
theorem up_self (b : Bf) (v : b.sh.Idx → Elt Ideal b.et) (s : St Ideal) : Function.update s b v b = v := Function.update_self ..
/-- Updated contents at a buffer that is not the updated one. -/
theorem up_ne (b b' : Bf) (hb : b' ≠ b) (v : b.sh.Idx → Elt Ideal b.et) (s : St Ideal) : Function.update s b v b' = s b' := Function.update_of_ne hb ..

/-- The last two parts. -/
theorem p34_P {v0 : Vec Ideal S1536 .f32} {v19 v29 v41 v46 v50 v53 v72 : FVec Ideal S12x128x1536 .f32} (h0 : Is1 v0 I.ws) (h19 : Is3 v19 I.cx) (h29 : Is3 v29 I.f) (h41 : Is3 v41 I.dxh)
    (h46 : Is3 v46 I.dr) (h50 : Is3 v50 fun b t d => I.cx b t d - I.u b t d) (h53 : Is3 v53 fun b t d => I.f b t d * I.om b t d) (h72 : Is3 v72 I.dct)
    (hw : ∀ y : S1536x4608.Idx, s .b1 y = I.w (y 0).val (y 1).val) (hd : Is2 (s .b13) fun b d => I.dc b d 128) :
    ROut I (ev ((p3 v19 v29 v46 v50 v53 v72 (Scalar.ofBits .f32 0x3F800000#32)).bind fun ⟨v78, v109, v112⟩ => p4 v0 v41 v78 v109 v112) s).2 := by
  have h20 := pay20_at h50 h53 h72
  have h21 := pay21_at h29 h46 h20 h72
  have h22 := pay22_at h19 h20
  have h23 := pay23_at h19 h46
  have h24 := pay24_at h46 h20
  have h26 := pay26_at h21
  have h27 := pay27_at h21
  rw [ev_bind, p3_ev]
  generalize k0_pay21 v29 v46 v50 v53 v72 _ = v78 at *
  generalize k0_pay26 v29 v46 v50 v53 v72 _ = v109 at *
  generalize k0_pay27 v29 v46 v50 v53 v72 _ = v112 at *
  generalize k0_pay22 v19 v50 v53 v72 = w14 at *
  generalize k0_pay23 v19 v46 = w15 at *
  generalize k0_pay24 v46 v50 v53 v72 = w16 at *
  show ROut I (ev (p4 v0 v41 v78 v109 v112) (Function.update (Function.update (Function.update s .b14 w14) .b15 w15) .b16 w16)).2
  have h1 := pay1_at h21 h27
  have h2 := pay2_at h0 h41 h1 h26 hw
  rw [p4_ev, up_ne .b16 .b1 (by decide), up_ne .b15 .b1 (by decide), up_ne .b14 .b1 (by decide)]
  generalize k0_pay1 v78 v112 = w17 at *
  generalize k0_pay2 v0 v41 v78 v109 v112 (s .b1) = w12 at *
  constructor <;> dsimp only
  · rw [up_self]; exact h2
  · rw [up_ne .b12 .b13 (by decide), up_ne .b18 .b13 (by decide), up_ne .b17 .b13 (by decide), up_ne .b16 .b13 (by decide), up_ne .b15 .b13 (by decide), up_ne .b14 .b13 (by decide)]; exact hd
  · rw [up_ne .b12 .b14 (by decide), up_ne .b18 .b14 (by decide), up_ne .b17 .b14 (by decide), up_ne .b16 .b14 (by decide), up_ne .b15 .b14 (by decide), up_self]; exact h22
  · rw [up_ne .b12 .b15 (by decide), up_ne .b18 .b15 (by decide), up_ne .b17 .b15 (by decide), up_ne .b16 .b15 (by decide), up_self]; exact h23
  · rw [up_ne .b12 .b16 (by decide), up_ne .b18 .b16 (by decide), up_ne .b17 .b16 (by decide), up_self]; exact h24
  · rw [up_ne .b12 .b17 (by decide), up_ne .b18 .b17 (by decide), up_self]; exact h1
  · rw [up_ne .b12 .b18 (by decide), up_self]; exact h26

end Cert.Ref
-- ==== Proof.RefFin.lean ====
/- The reference's result arrays. -/
module

public import proofs.«01_k».proof.Proof.RefScan
public import proofs.«01_k».proof.Proof.RefOut
public import proofs.«01_k».proof.Proof.RefRun
public import proofs.«01_k».proof.Proof.KerVal
public import Idealize.ShloMosaic.Lib.Pipeline.ValueKit
public import Idealize.ShloMosaic.Lib.Claim
public import Idealize.ShloMosaic.Lib.Pipeline.ArrRel

@[expose] public section
noncomputable section

namespace Cert.Ref
open Cert.Mem hiding Cmd ld st St PR
open Cert.Spec Cert.ReferenceIdeal Cert.ReferenceIdeal.Gen Idealize.ShloMosaic Idealize.ShloMosaic.TcCoe Idealize.SL.Sem

variable {I : In} {s : St Ideal}

/-- What the second part stores before the scan, and what it passes on. -/
theorem p2a_ev (v1 v2 : Vec Ideal S1536 .f32) (v4 v14 v19 v29 v39 v40 v41 : FVec Ideal S12x128x1536 .f32) (s : St Ideal) : ev (p2a v1 v2 v4 v14 v19 v29 v39 v40 v41) s
    = (⟨s .b0, s .b11⟩, Function.update (Function.update (Function.update s .b19 (k0_pay12 v40)) .b20 (k0_pay15 v1 v14 v19 v29)) .b21 (k0_pay16 v2 v4 v39 v41 (s .b0))) := by
  have e : ∀ w0 w11 w19 w20 w21,
      (fun x => s .b0 ((Rect.unit (s := S12x128x1536) ![0, 0, 0] S12x128x1536.size inb_S12x128x1536_S12x128x1536_0_0_0).toLoadRect.idx x)) = w0 →
      (fun x => s .b11 ((Rect.unit (s := S12x1536) ![0, 0] S12x1536.size inb_S12x1536_S12x1536_0_0).toLoadRect.idx x)) = w11 →
      upd (s .b19) (Rect.unit (s := S12x128x1536) ![0, 0, 0] S12x128x1536.size inb_S12x128x1536_S12x128x1536_0_0_0) (k0_pay12 v40) = w19 →
      upd (s .b20) (Rect.unit (s := S12x128x1536) ![0, 0, 0] S12x128x1536.size inb_S12x128x1536_S12x128x1536_0_0_0) (k0_pay15 v1 v14 v19 v29) = w20 →
      upd (s .b21) (Rect.unit (s := S12x128x1536) ![0, 0, 0] S12x128x1536.size inb_S12x128x1536_S12x128x1536_0_0_0) (k0_pay16 v2 v4 v39 v41 w0) = w21 →
      ev (p2a v1 v2 v4 v14 v19 v29 v39 v40 v41) s = (⟨w0, w11⟩, Function.update (Function.update (Function.update s .b19 w19) .b20 w20) .b21 w21) := by
    intro w0 w11 w19 w20 w21 e1 e2 e3 e4 e5
    subst e1 e2 e3 e4 e5
    rfl
  exact e _ _ _ _ _ (whole_ld z3 _ _) (whole_ld z2 _ _) (whole_st z3 _ _ _) (whole_st z3 _ _ _) (whole_st z3 _ _ _)

/-- What the second part stores after the scan, and what it passes on. -/
theorem p2b_ev (v4 v14 v19 v29 v39 v41 : FVec Ideal S12x128x1536 .f32) (v43 : Vec Ideal S12x128x1536 .bf16) (v70 : Vec Ideal S12x1536 .f32) (s : St Ideal) : ev (p2b v4 v14 v19 v29 v39 v41 v43 v70) s
    = (⟨k0_pay11 v4 v39 v41 v43, k0_pay13 v14 v19, k0_pay14 v29, s .b22, Scalar.ofBits .f32 0x3F800000#32⟩, Function.update s .b13 v70) := by
  have e : ∀ w22 w13,
      (fun x => s .b22 ((Rect.unit (s := S12x128x1536) ![0, 0, 0] S12x128x1536.size inb_S12x128x1536_S12x128x1536_0_0_0).toLoadRect.idx x)) = w22 →
      upd (s .b13) (Rect.unit (s := S12x1536) ![0, 0] S12x1536.size inb_S12x1536_S12x1536_0_0) v70 = w13 →
      ev (p2b v4 v14 v19 v29 v39 v41 v43 v70) s = (⟨k0_pay11 v4 v39 v41 v43, k0_pay13 v14 v19, k0_pay14 v29, w22, Scalar.ofBits .f32 0x3F800000#32⟩, Function.update s .b13 w13) := by
    intro w22 w13 e1 e2
    subst e1 e2
    rfl
  exact e _ _ (whole_ld z3 _ _) (whole_st z2 _ _ _)

/-- The second part. -/
theorem p2_P (h : RIn I s) {v1 v2 : Vec Ideal S1536 .f32} {v4 v14 v19 v29 v39 v40 v41 : FVec Ideal S12x128x1536 .f32} (h1 : Is1 v1 I.vf) (h2 : Is1 v2 I.vr) (h4 : Is3 v4 I.c) (h14 : Is3 v14 I.u) (h19 : Is3 v19 I.cx)
    (h29 : Is3 v29 I.f) (h39 : Is3 v39 I.r) (h40 : Is3 v40 I.gr) (h41 : Is3 v41 I.dxh) : ∃ v46 v50 v53 v72 s', ev (p2 v1 v2 v4 v14 v19 v29 v39 v40 v41) s = (⟨v46, v50, v53, v72, Scalar.ofBits .f32 0x3F800000#32⟩, s')
      ∧ Is3 v46 I.dr ∧ (Is3 v50 fun b t d => I.cx b t d - I.u b t d) ∧ (Is3 v53 fun b t d => I.f b t d * I.om b t d) ∧ Is3 v72 I.dct ∧ (∀ y : S1536x4608.Idx, s' .b1 y = I.w (y 0).val (y 1).val) ∧ Is2 (s' .b13) fun b d => I.dc b d 128 := by
  have p11 := pay11_at h4 h39 h41 h.x
  have p12 := pay12_at h40
  have p15 := pay15_at h1 h14 h19 h29
  have p16 := pay16_at h2 p11
  unfold p2
  rw [ev_bind, p2a_ev, ev_bind, p2b_ev]
  dsimp only
  generalize k0_pay12 v40 = w19 at *
  generalize k0_pay15 v1 v14 v19 v29 = w20 at *
  generalize k0_pay16 v2 v4 v39 v41 (s .b0) = w21 at *
  have sc := scan_P (I := I) (s := Function.update (Function.update (Function.update s Bf.b19 w19) Bf.b20 w20) Bf.b21 w21) (dc := s .b11)
    (by rw [up_ne .b21 .b19 (by decide), up_ne .b20 .b19 (by decide), up_self]; exact p12) (by rw [up_ne .b21 .b20 (by decide), up_self]; exact p15) (by rw [up_self]; exact p16) h.dcl
  refine ⟨_, _, _, _, _, rfl, p11, pay13_at h14 h19, pay14_at h29, fun y => sc.2.1 y (by omega), fun y => ?_, fun y => ?_⟩
  · rw [up_ne .b13 .b1 (by decide), sc.2.2 .b1 (by decide), up_ne .b21 .b1 (by decide), up_ne .b20 .b1 (by decide), up_ne .b19 .b1 (by decide)]; exact h.w y
  · rw [up_self]; exact sc.1 y

/-- What the body leaves. -/
theorem body_P (h : RIn I s) : ROut I (ev body s).2 := by
  obtain ⟨v0, v1, v2, v4, v14, v19, v29, v39, v40, v41, e, h0, h1, h2, h4, h14, h19, h29, h39, h40, h41⟩ := p1_P h
  unfold body
  rw [ev_bind, e]
  dsimp only
  obtain ⟨v46, v50, v53, v72, s', e', h46, h50, h53, h72, hw, hd⟩ := p2_P h h1 h2 h4 h14 h19 h29 h39 h40 h41
  rw [ev_bind, e']
  exact p34_P h0 h19 h29 h41 h46 h50 h53 h72 hw hd

end Cert.Ref
-- ==== Proof.RefArr.lean ====
/- The reference's result arrays. -/
module

public import proofs.«01_k».proof.Proof.RefFin
public import proofs.«01_k».proof.Proof.RefRun
public import proofs.«01_k».proof.Proof.KerVal
public import Idealize.ShloMosaic.Lib.Pipeline.ValueKit
public import Idealize.ShloMosaic.Lib.Claim
public import Idealize.ShloMosaic.Lib.Pipeline.ArrRel

@[expose] public section
noncomputable section

namespace Cert.Ref
open Cert.Mem hiding Cmd ld st St PR
open Cert.Body (rdN rdN_eq inOf)
open Cert.Spec Cert.ReferenceIdeal Cert.ReferenceIdeal.Gen Idealize.ShloMosaic Idealize.ShloMosaic.TcCoe Idealize.SL.Sem

variable (m : (ℓ : Loc nD τ sig) → Buf (Elt Ideal) ℓ)

/-- The launch's arguments on a core. -/
def inM (c : Dev nD) : In := inOf (m ((c : Thread nD τ).loc main_arg0)) (m ((c : Thread nD τ).loc main_arg1)) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Every window is the whole array. -/
theorem idxs : ∀ t : Fin cfg0.N, win0_0.index t = ![0, 0, 0] ∧ win0_1.index t = ![0, 0] ∧ win0_2.index t = ![0] ∧ win0_3.index t = ![0] ∧ win0_4.index t = ![0] ∧ win0_5.index t = ![0, 0] ∧ win0_6.index t = ![0, 0, 0] ∧ win0_7.index t = ![0, 0, 0] ∧ win0_8.index t = ![0, 0] ∧ win0_9.index t = ![0, 0, 0] ∧ win0_10.index t = ![0, 0] ∧ win0_11.index t = ![0, 0] := by decide +kernel

/-- The block of the input at a point. -/
theorem blk0 (c : Dev nD) (t : Fin cfg0.N) (y : S12x128x1536.Idx) : iblk m c 0 t y = (inM m c).x (y 0).val (y 1).val (y 2).val := by
  have i := (idxs t).1
  show V m c main_arg0 (((cfg0.win 0).blk t).view.emb y) = rdN _ _
  rw [V_main_arg0]
  refine (rdN_eq _ _ _ fun a => ?_).symm
  fin_cases a <;> blk_simp [i] <;> rfl

/-- The block of the weights' codes at a point. -/
theorem blk1 (c : Dev nD) (t : Fin cfg0.N) (y : S1536x4608.Idx) : iblk m c 1 t y = (inM m c).w (y 0).val (y 1).val := by
  have i := (idxs t).2.1
  show V m c main_arg1 (((cfg0.win 1).blk t).view.emb y) = rdN _ _
  rw [V_main_arg1]
  refine (rdN_eq _ _ _ fun a => ?_).symm
  fin_cases a <;> blk_simp [i] <;> rfl

/-- The block of the weights' scales at a point. -/
theorem blk2 (c : Dev nD) (t : Fin cfg0.N) (y : S1536.Idx) : iblk m c 2 t y = (inM m c).ws (y 0).val := by
  have i := (idxs t).2.2.1
  show V m c main_arg2 (((cfg0.win 2).blk t).view.emb y) = rdN _ _
  rw [V_main_arg2]
  refine (rdN_eq _ _ _ fun a => ?_).symm
  fin_cases a <;> blk_simp [i] <;> rfl

/-- The block of the forget gate's cell weights at a point. -/
theorem blk3 (c : Dev nD) (t : Fin cfg0.N) (y : S1536.Idx) : iblk m c 3 t y = (inM m c).vf (y 0).val := by
  have i := (idxs t).2.2.2.1
  show V m c main_arg3 (((cfg0.win 3).blk t).view.emb y) = rdN _ _
  rw [V_main_arg3]
  refine (rdN_eq _ _ _ fun a => ?_).symm
  fin_cases a <;> blk_simp [i] <;> rfl

/-- The block of the reset gate's cell weights at a point. -/
theorem blk4 (c : Dev nD) (t : Fin cfg0.N) (y : S1536.Idx) : iblk m c 4 t y = (inM m c).vr (y 0).val := by
  have i := (idxs t).2.2.2.2.1
  show V m c main_arg4 (((cfg0.win 4).blk t).view.emb y) = rdN _ _
  rw [V_main_arg4]
  refine (rdN_eq _ _ _ fun a => ?_).symm
  fin_cases a <;> blk_simp [i] <;> rfl

/-- The block of the biases at a point. -/
theorem blk5 (c : Dev nD) (t : Fin cfg0.N) (y : S2x1536.Idx) : iblk m c 5 t y = (inM m c).b (y 0).val (y 1).val := by
  have i := (idxs t).2.2.2.2.2.1
  show V m c main_arg5 (((cfg0.win 5).blk t).view.emb y) = rdN _ _
  rw [V_main_arg5]
  refine (rdN_eq _ _ _ fun a => ?_).symm
  fin_cases a <;> blk_simp [i] <;> rfl

/-- The block of the projections at a point. -/
theorem blk6 (c : Dev nD) (t : Fin cfg0.N) (y : S12x128x4608.Idx) : iblk m c 6 t y = (inM m c).u (y 0).val (y 1).val (y 2).val := by
  have i := (idxs t).2.2.2.2.2.2.1
  show V m c main_arg6 (((cfg0.win 6).blk t).view.emb y) = rdN _ _
  rw [V_main_arg6]
  refine (rdN_eq _ _ _ fun a => ?_).symm
  fin_cases a <;> blk_simp [i] <;> rfl

/-- The block of the states at a point. -/
theorem blk7 (c : Dev nD) (t : Fin cfg0.N) (y : S12x128x1536.Idx) : iblk m c 7 t y = (inM m c).c (y 0).val (y 1).val (y 2).val := by
  have i := (idxs t).2.2.2.2.2.2.2.1
  show V m c main_arg7 (((cfg0.win 7).blk t).view.emb y) = rdN _ _
  rw [V_main_arg7]
  refine (rdN_eq _ _ _ fun a => ?_).symm
  fin_cases a <;> blk_simp [i] <;> rfl

/-- The block of the first states at a point. -/
theorem blk8 (c : Dev nD) (t : Fin cfg0.N) (y : S12x1536.Idx) : iblk m c 8 t y = (inM m c).c0 (y 0).val (y 1).val := by
  have i := (idxs t).2.2.2.2.2.2.2.2.1
  show V m c main_arg8 (((cfg0.win 8).blk t).view.emb y) = rdN _ _
  rw [V_main_arg8]
  refine (rdN_eq _ _ _ fun a => ?_).symm
  fin_cases a <;> blk_simp [i] <;> rfl

/-- The block of the incoming gradient's codes at a point. -/
theorem blk9 (c : Dev nD) (t : Fin cfg0.N) (y : S12x128x1536.Idx) : iblk m c 9 t y = (inM m c).dh (y 0).val (y 1).val (y 2).val := by
  have i := (idxs t).2.2.2.2.2.2.2.2.2.1
  show V m c main_arg9 (((cfg0.win 9).blk t).view.emb y) = rdN _ _
  rw [V_main_arg9]
  refine (rdN_eq _ _ _ fun a => ?_).symm
  fin_cases a <;> blk_simp [i] <;> rfl

/-- The block of the incoming gradient's scales at a point. -/
theorem blk10 (c : Dev nD) (t : Fin cfg0.N) (y : S12x128.Idx) : iblk m c 10 t y = (inM m c).dhs (y 0).val (y 1).val := by
  have i := (idxs t).2.2.2.2.2.2.2.2.2.2.1
  show V m c main_arg10 (((cfg0.win 10).blk t).view.emb y) = rdN _ _
  rw [V_main_arg10]
  refine (rdN_eq _ _ _ fun a => ?_).symm
  fin_cases a <;> blk_simp [i] <;> rfl

/-- The block of the last states' gradient at a point. -/
theorem blk11 (c : Dev nD) (t : Fin cfg0.N) (y : S12x1536.Idx) : iblk m c 11 t y = (inM m c).dcl (y 0).val (y 1).val := by
  have i := (idxs t).2.2.2.2.2.2.2.2.2.2.2
  show V m c main_arg11 (((cfg0.win 11).blk t).view.emb y) = rdN _ _
  rw [V_main_arg11]
  refine (rdN_eq _ _ _ fun a => ?_).symm
  fin_cases a <;> blk_simp [i] <;> rfl

/-- The point's blocks are the arguments. -/
theorem rin_of {c : Dev nD} {t : Fin cfg0.N} {s : St Ideal} (h : InpOK m c t s) : RIn (inM m c) s := by
  obtain ⟨h0, h1, h2, h3, h4, h5, h6, h7, h8, h9, h10, h11⟩ := h
  exact ⟨fun y => (congrFun h0 y).trans (blk0 m c t y), fun y => (congrFun h1 y).trans (blk1 m c t y), fun y => (congrFun h2 y).trans (blk2 m c t y), fun y => (congrFun h3 y).trans (blk3 m c t y), fun y => (congrFun h4 y).trans (blk4 m c t y), fun y => (congrFun h5 y).trans (blk5 m c t y), fun y => (congrFun h6 y).trans (blk6 m c t y), fun y => (congrFun h7 y).trans (blk7 m c t y), fun y => (congrFun h8 y).trans (blk8 m c t y), fun y => (congrFun h9 y).trans (blk9 m c t y), fun y => (congrFun h10 y).trans (blk10 m c t y), fun y => (congrFun h11 y).trans (blk11 m c t y)⟩

open Pipeline (Dat RDat)

/-- What a window's block holds after the body. -/
theorem leaves_out {c : Dev nD} {w : Fin cfg0.W} {t : Fin cfg0.N} {X} (h : (rdat m c).Leaves w t X) : ∃ s : St Ideal, X = pick s w ∧ ROut (inM m c) s := by
  obtain ⟨Y, -, s, h1, -, rfl⟩ := h
  exact ⟨_, rfl, body_P (rin_of m h1)⟩

section
variable {m} {r : PUnit × MemSt nD τ sig (Elt Ideal)} (h : RDat.FramePost cfg0 (rdat m) (V m) r) (c : Dev nD)
include h

/-- The result array of the input's gradient. -/
theorem arr12 : r.2.mem ((c.tc : Thread nD τ).loc main_v0_0) = fun y : S12x128x1536.Idx => (inM m c).dx (y 0).val (y 1).val (y 2).val := by
  obtain ⟨after, hL, hA⟩ := Pipeline.RDat.FramePost.exists_exact h c
  have hw : (cfg0.win 12).WholeAt t0_0 := by decide +kernel
  obtain ⟨s, e, p⟩ := leaves_out m (hL 12 t0_0 hw.1)
  refine (hA 12).trans (Dat.arrAt_eq_of_after_last _ 12 t0_0 hw _ fun j => ?_)
  exact (congrFun e j).trans (p.dx j)

/-- The result array of the first states' gradient. -/
theorem arr13 : r.2.mem ((c.tc : Thread nD τ).loc main_v0_1) = fun y : S12x1536.Idx => (inM m c).dc (y 0).val (y 1).val 128 := by
  obtain ⟨after, hL, hA⟩ := Pipeline.RDat.FramePost.exists_exact h c
  have hw : (cfg0.win 13).WholeAt t0_0 := by decide +kernel
  obtain ⟨s, e, p⟩ := leaves_out m (hL 13 t0_0 hw.1)
  refine (hA 13).trans (Dat.arrAt_eq_of_after_last _ 13 t0_0 hw _ fun j => ?_)
  exact (congrFun e j).trans (p.d j)

/-- The result array of the gradient of the forget gate's cell weights. -/
theorem arr14 : r.2.mem ((c.tc : Thread nD τ).loc main_v0_2) = fun y : S1x1536.Idx => ∑ b : Fin 12, ∑ t : Fin 128, (inM m c).term 0 b.val t.val (y 1).val := by
  obtain ⟨after, hL, hA⟩ := Pipeline.RDat.FramePost.exists_exact h c
  have hw : (cfg0.win 14).WholeAt t0_0 := by decide +kernel
  obtain ⟨s, e, p⟩ := leaves_out m (hL 14 t0_0 hw.1)
  refine (hA 14).trans (Dat.arrAt_eq_of_after_last _ 14 t0_0 hw _ fun j => ?_)
  exact (congrFun e j).trans (p.vf j)

/-- The result array of the gradient of the reset gate's cell weights. -/
theorem arr15 : r.2.mem ((c.tc : Thread nD τ).loc main_v0_3) = fun y : S1x1536.Idx => ∑ b : Fin 12, ∑ t : Fin 128, (inM m c).term 1 b.val t.val (y 1).val := by
  obtain ⟨after, hL, hA⟩ := Pipeline.RDat.FramePost.exists_exact h c
  have hw : (cfg0.win 15).WholeAt t0_0 := by decide +kernel
  obtain ⟨s, e, p⟩ := leaves_out m (hL 15 t0_0 hw.1)
  refine (hA 15).trans (Dat.arrAt_eq_of_after_last _ 15 t0_0 hw _ fun j => ?_)
  exact (congrFun e j).trans (p.vr j)

/-- The result array of the biases' gradient. -/
theorem arr16 : r.2.mem ((c.tc : Thread nD τ).loc main_v0_4) = fun y : S2x1536.Idx => ∑ b : Fin 12, ∑ t : Fin 128, (inM m c).term (2 + (y 0).val) b.val t.val (y 1).val := by
  obtain ⟨after, hL, hA⟩ := Pipeline.RDat.FramePost.exists_exact h c
  have hw : (cfg0.win 16).WholeAt t0_0 := by decide +kernel
  obtain ⟨s, e, p⟩ := leaves_out m (hL 16 t0_0 hw.1)
  refine (hA 16).trans (Dat.arrAt_eq_of_after_last _ 16 t0_0 hw _ fun j => ?_)
  exact (congrFun e j).trans (p.b j)

/-- The result array of the codes. -/
theorem arr17 : r.2.mem ((c.tc : Thread nD τ).loc main_v0_5) = fun y : S12x128x4608.Idx => (inM m c).code (y 0).val (y 1).val (y 2).val := by
  obtain ⟨after, hL, hA⟩ := Pipeline.RDat.FramePost.exists_exact h c
  have hw : (cfg0.win 17).WholeAt t0_0 := by decide +kernel
  obtain ⟨s, e, p⟩ := leaves_out m (hL 17 t0_0 hw.1)
  refine (hA 17).trans (Dat.arrAt_eq_of_after_last _ 17 t0_0 hw _ fun j => ?_)
  exact (congrFun e j).trans (p.code j)

/-- The result array of the scales. -/
theorem arr18 : r.2.mem ((c.tc : Thread nD τ).loc main_v0_6) = fun y : S12x128.Idx => (inM m c).scale (y 0).val (y 1).val := by
  obtain ⟨after, hL, hA⟩ := Pipeline.RDat.FramePost.exists_exact h c
  have hw : (cfg0.win 18).WholeAt t0_0 := by decide +kernel
  obtain ⟨s, e, p⟩ := leaves_out m (hL 18 t0_0 hw.1)
  refine (hA 18).trans (Dat.arrAt_eq_of_after_last _ 18 t0_0 hw _ fun j => ?_)
  exact (congrFun e j).trans (p.sc j)

end

end Cert.Ref
-- ==== Proof.Sums.lean ====
/- The chunked sums are the sums over the batches and the times. -/
module

public import proofs.«01_k».proof.Proof.FinP

@[expose] public section
noncomputable section

namespace Cert.Spec

variable {I : In}

/-- The running sum after `n` steps is the sum of the steps. -/
theorem acc_eq (I : In) (q i d n : ℕ) : I.acc q i d n = ∑ m ∈ Finset.range n, ∑ j : Fin 4, I.term q (2 * (m / 8) + m % 2) (96 - 32 * (m % 8 / 2) + (j.val * 8 + i)) d := by
  induction n with
  | zero => simp [In.acc]
  | succ n ih => rw [Finset.sum_range_succ, ← ih]; rfl

/-- The kernel's order of the terms covers each batch and time once. -/
theorem tot_eq (I : In) (q d : ℕ) : Cert.Body.tot I q d = ∑ b : Fin 12, ∑ t : Fin 128, I.term q b.val t.val d := by
  unfold Cert.Body.tot
  simp only [acc_eq, Finset.sum_range]
  rw [← Fintype.sum_prod_type', ← Fintype.sum_prod_type']
  simp only [← Finset.sum_product', Finset.univ_product_univ]
  refine Fintype.sum_equiv
    { toFun := fun p => (⟨2 * (p.1.2.val / 8) + p.1.2.val % 2, by have := p.1.2.2; omega⟩, ⟨96 - 32 * (p.1.2.val % 8 / 2) + (p.2.val * 8 + p.1.1.val), by have := p.1.1.2; have := p.2.2; omega⟩)
      invFun := fun p => ((⟨p.2.val % 8, by omega⟩, ⟨p.1.val / 2 * 8 + 2 * (3 - p.2.val / 32) + p.1.val % 2, by have := p.1.2; have := p.2.2; omega⟩), ⟨p.2.val % 32 / 8, by omega⟩)
      left_inv := fun p => ?_
      right_inv := fun p => ?_ } _ _ fun p => ?_
  rotate_left 2
  · simp only [Equiv.coe_fn_mk]
  · obtain ⟨⟨⟨i, hi⟩, ⟨m, hm⟩⟩, ⟨j, hj⟩⟩ := p
    simp only [Prod.mk.injEq, Fin.mk.injEq]
    omega
  · obtain ⟨⟨b, hb⟩, ⟨t, ht⟩⟩ := p
    simp only [Prod.mk.injEq, Fin.mk.injEq]
    omega

end Cert.Spec
-- ==== Proof.Value.lean ====
/- The kernel and the reference leave the same results. -/
module

public import proofs.«01_k».proof.Defs
public import proofs.«01_k».proof.Proof.KerVal
public import proofs.«01_k».proof.Proof.RefArr
public import proofs.«01_k».proof.Proof.Sums
public import proofs.«01_k».proof.Proof.Gen.KernelIdeal
public import proofs.«01_k».proof.Proof.Gen.ReferenceIdeal

@[expose] public section
noncomputable section

namespace Cert.Value
open Idealize.ShloMosaic Idealize.SL.Sem Cert.Spec
open Cert.Body (inOf tot)
open Cert.KernelIdeal (S12x128x1536 S12x1536 S1x1536 S2x1536 S12x128x4608 S12x128)

/-- Equal arguments are the same numbers. -/
theorem inOf_congr {x x' : S12x128x1536.Idx → EReal} {w w' : Cert.KernelIdeal.S1536x4608.Idx → EReal} {ws ws' : Cert.KernelIdeal.S1536.Idx → EReal} {vf vf' : Cert.KernelIdeal.S1536.Idx → EReal} {vr vr' : Cert.KernelIdeal.S1536.Idx → EReal} {b b' : S2x1536.Idx → EReal} {u u' : S12x128x4608.Idx → EReal} {c c' : S12x128x1536.Idx → EReal} {c0 c0' : S12x1536.Idx → EReal} {dh dh' : S12x128x1536.Idx → EReal} {dhs dhs' : S12x128.Idx → EReal} {dcl dcl' : S12x1536.Idx → EReal}
    (h0 : x' = x) (h1 : w' = w) (h2 : ws' = ws) (h3 : vf' = vf) (h4 : vr' = vr) (h5 : b' = b) (h6 : u' = u) (h7 : c' = c) (h8 : c0' = c0) (h9 : dh' = dh) (h10 : dhs' = dhs) (h11 : dcl' = dcl) :
    inOf x' w' ws' vf' vr' b' u' c' c0' dh' dhs' dcl' = inOf x w ws vf vr b u c c0 dh dhs dcl := by
  rw [h0, h1, h2, h3, h4, h5, h6, h7, h8, h9, h10, h11]

/-- The kernel's results and the reference's are the same functions of the arguments. -/
theorem algebraic : Cert.algebraic_KernelIdeal_ReferenceIdeal (hKernelIdeal := Cert.KernelIdeal.Gen.facts) (hReferenceIdeal := Cert.ReferenceIdeal.Gen.facts) := by
  intro m g m' g' _ hin
  have e : ∀ c, Cert.Ref.inM m' c = Cert.Body.inM m c := fun c => by
    obtain ⟨h0, h1, h2, h3, h4, h5, h6, h7, h8, h9, h10, h11⟩ := hin c
    exact inOf_congr h0 h1 h2 h3 h4 h5 h6 h7 h8 h9 h10 h11
  refine ⟨fun c => fun y : S12x128x1536.Idx => (Cert.Body.inM m c).dx (y 0).val (y 1).val (y 2).val, fun c => fun y : S12x1536.Idx => (Cert.Body.inM m c).dc (y 0).val (y 1).val 128,
    fun c => fun y : S1x1536.Idx => tot (Cert.Body.inM m c) 0 (y 1).val, fun c => fun y : S1x1536.Idx => tot (Cert.Body.inM m c) 1 (y 1).val,
    fun c => fun y : S2x1536.Idx => tot (Cert.Body.inM m c) (2 + (y 0).val) (y 1).val, fun c => fun y : S12x128x4608.Idx => (Cert.Body.inM m c).code (y 0).val (y 1).val (y 2).val,
    fun c => fun y : S12x128.Idx => (Cert.Body.inM m c).scale (y 0).val (y 1).val, ?_, ?_⟩
  · refine (θ_run _ _ _).mono (fun r h c => ?_) (Cert.Body.run m g)
    exact ⟨Cert.Body.arr12 h.1 c, Cert.Body.arr13 h.1 c, Cert.Body.arr14 h.1 c, Cert.Body.arr15 h.1 c, Cert.Body.arr16 h.1 c, Cert.Body.arr17 h.1 c, Cert.Body.arr18 h.1 c, Cert.Body.args_of m h.1 c⟩
  · refine (θ_run _ _ _).mono (fun r h c => ?_) (Cert.Ref.run m' g')
    have h12 := Cert.Ref.arr12 h.1 c
    have h13 := Cert.Ref.arr13 h.1 c
    have h14 := Cert.Ref.arr14 h.1 c
    have h15 := Cert.Ref.arr15 h.1 c
    have h16 := Cert.Ref.arr16 h.1 c
    have h17 := Cert.Ref.arr17 h.1 c
    have h18 := Cert.Ref.arr18 h.1 c
    rw [e] at h12 h13 h14 h15 h16 h17 h18
    exact ⟨h12, h13, h14.trans (funext fun y => (tot_eq _ _ _).symm), h15.trans (funext fun y => (tot_eq _ _ _).symm), h16.trans (funext fun y => (tot_eq _ _ _).symm), h17, h18, Cert.Ref.args_of m' h.1 c⟩

end Cert.Value
-- ==== Proof.lean ====
module

public import proofs.«01_k».proof.Defs
public import proofs.«01_k».proof.Proof.KerFrame
public import proofs.«01_k».proof.Proof.Run
public import proofs.«01_k».proof.Proof.RefRun
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Cert.KerFrame.frame, fun m g _ => Cert.Body.frame_run m g, fun m g _ => Cert.Ref.frame_run m g, trivial, Cert.Value.algebraic⟩

end Cert.Proof

end
